-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite [hPre_finite : Cert.Pre_finite.Facts] (m : (ℓ : Loc Cert.ScanIdeal.nD Cert.ScanIdeal.τ Cert.ScanIdeal.sig) → Buf (Elt Ideal) ℓ) : Prop :=
  ∀ c : Dev Cert.ScanIdeal.nD,
    (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7))) = (fun _ => 1#1)

def Pre_ScanReferenceIdeal (m : (ℓ : Loc Cert.ScanReferenceIdeal.nD Cert.ScanReferenceIdeal.τ Cert.ScanReferenceIdeal.sig) → Buf (Elt Ideal) ℓ) : Prop :=
  True

def Pre_ScanReferenceIdeal_finite [hPre_finite : Cert.Pre_finite.Facts] (m : (ℓ : Loc Cert.ScanReferenceIdeal.nD Cert.ScanReferenceIdeal.τ Cert.ScanReferenceIdeal.sig) → Buf (Elt Ideal) ℓ) : Prop :=
  ∀ c : Dev Cert.ScanReferenceIdeal.nD,
    (Cert.Pre_finite.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4)) (m ((c.tc : Thread Cert.ScanReferenceIdeal.nD Cert.ScanReferenceIdeal.τ).loc Cert.ScanReferenceIdeal.main_arg5)) (m ((c.tc : Thread Cert.ScanReferenceIdeal.nD Cert.ScanReferenceIdeal.τ).loc Cert.ScanReferenceIdeal.main_arg6)) (m ((c.tc : Thread Cert.ScanReferenceIdeal.nD Cert.ScanReferenceIdeal.τ).loc Cert.ScanReferenceIdeal.main_arg7))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Closing (m : (ℓ : Loc Cert.Closing.nD Cert.Closing.τ Cert.Closing.sig) → Buf (Elt Bits) ℓ) : Prop :=
  True

def Pre_ClosingIdeal (m : (ℓ : Loc Cert.ClosingIdeal.nD Cert.ClosingIdeal.τ Cert.ClosingIdeal.sig) → Buf (Elt Ideal) ℓ) : Prop :=
  True

def Pre_ClosingReferenceIdeal (m : (ℓ : Loc Cert.ClosingReferenceIdeal.nD Cert.ClosingReferenceIdeal.τ Cert.ClosingReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13)
      ∧ r.2.mem ((c.tc : Thread Cert.MixerReferenceIdeal.nD Cert.MixerReferenceIdeal.τ).loc Cert.MixerReferenceIdeal.main_arg14) = m ((c.tc : Thread Cert.MixerReferenceIdeal.nD Cert.MixerReferenceIdeal.τ).loc Cert.MixerReferenceIdeal.main_arg14)
      ∧ r.2.mem ((c.tc : Thread Cert.MixerReferenceIdeal.nD Cert.MixerReferenceIdeal.τ).loc Cert.MixerReferenceIdeal.main_arg15) = m ((c.tc : Thread Cert.MixerReferenceIdeal.nD Cert.MixerReferenceIdeal.τ).loc Cert.MixerReferenceIdeal.main_arg15))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ r.2.sem = fun _ => 0)

def quiescent_ScanIdeal_pre_finite [hScanIdeal : Cert.ScanIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7))
      ∧ r.2.sem = fun _ => 0)

def quiescent_ScanReferenceIdeal_pre_finite [hScanReferenceIdeal : Cert.ScanReferenceIdeal.Facts] [hPre_finite : Cert.Pre_finite.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal_finite m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Closing [hClosing : Cert.Closing.Facts] : Prop :=
  ∀ (m : (ℓ : Loc Cert.Closing.nD Cert.Closing.τ Cert.Closing.sig) → Buf (Elt Bits) ℓ) (g : Dev Cert.Closing.nD → PrngReg), Pre_Closing m →
    θ_run (Cert.Closing.defs (F := Bits)) (onTc (τ := Cert.Closing.τ) (Cert.Closing.main (F := Bits))) ⟨m, fun _ => 0, g⟩ (fun r => (∀ c : Dev Cert.Closing.nD,
      r.2.mem ((c.tc : Thread Cert.Closing.nD Cert.Closing.τ).loc Cert.Closing.main_arg0) = m ((c.tc : Thread Cert.Closing.nD Cert.Closing.τ).loc Cert.Closing.main_arg0)
      ∧ r.2.mem ((c.tc : Thread Cert.Closing.nD Cert.Closing.τ).loc Cert.Closing.main_arg1) = m ((c.tc : Thread Cert.Closing.nD Cert.Closing.τ).loc Cert.Closing.main_arg1)
      ∧ r.2.mem ((c.tc : Thread Cert.Closing.nD Cert.Closing.τ).loc Cert.Closing.main_arg2) = m ((c.tc : Thread Cert.Closing.nD Cert.Closing.τ).loc Cert.Closing.main_arg2)
      ∧ r.2.mem ((c.tc : Thread Cert.Closing.nD Cert.Closing.τ).loc Cert.Closing.main_arg3) = m ((c.tc : Thread Cert.Closing.nD Cert.Closing.τ).loc Cert.Closing.main_arg3)
      ∧ r.2.mem ((c.tc : Thread Cert.Closing.nD Cert.Closing.τ).loc Cert.Closing.main_arg4) = m ((c.tc : Thread Cert.Closing.nD Cert.Closing.τ).loc Cert.Closing.main_arg4)
      ∧ r.2.mem ((c.tc : Thread Cert.Closing.nD Cert.Closing.τ).loc Cert.Closing.main_arg5) = m ((c.tc : Thread Cert.Closing.nD Cert.Closing.τ).loc Cert.Closing.main_arg5)
      ∧ r.2.mem ((c.tc : Thread Cert.Closing.nD Cert.Closing.τ).loc Cert.Closing.main_arg6) = m ((c.tc : Thread Cert.Closing.nD Cert.Closing.τ).loc Cert.Closing.main_arg6))
      ∧ r.2.sem = fun _ => 0)

def quiescent_ClosingIdeal [hClosingIdeal : Cert.ClosingIdeal.Facts] : Prop :=
  ∀ (m : (ℓ : Loc Cert.ClosingIdeal.nD Cert.ClosingIdeal.τ Cert.ClosingIdeal.sig) → Buf (Elt Ideal) ℓ) (g : Dev Cert.ClosingIdeal.nD → PrngReg), Pre_ClosingIdeal m →
    θ_run (Cert.ClosingIdeal.defs (F := Ideal)) (onTc (τ := Cert.ClosingIdeal.τ) (Cert.ClosingIdeal.main (F := Ideal))) ⟨m, fun _ => 0, g⟩ (fun r => (∀ c : Dev Cert.ClosingIdeal.nD,
      r.2.mem ((c.tc : Thread Cert.ClosingIdeal.nD Cert.ClosingIdeal.τ).loc Cert.ClosingIdeal.main_arg0) = m ((c.tc : Thread Cert.ClosingIdeal.nD Cert.ClosingIdeal.τ).loc Cert.ClosingIdeal.main_arg0)
      ∧ r.2.mem ((c.tc : Thread Cert.ClosingIdeal.nD Cert.ClosingIdeal.τ).loc Cert.ClosingIdeal.main_arg1) = m ((c.tc : Thread Cert.ClosingIdeal.nD Cert.ClosingIdeal.τ).loc Cert.ClosingIdeal.main_arg1)
      ∧ r.2.mem ((c.tc : Thread Cert.ClosingIdeal.nD Cert.ClosingIdeal.τ).loc Cert.ClosingIdeal.main_arg2) = m ((c.tc : Thread Cert.ClosingIdeal.nD Cert.ClosingIdeal.τ).loc Cert.ClosingIdeal.main_arg2)
      ∧ r.2.mem ((c.tc : Thread Cert.ClosingIdeal.nD Cert.ClosingIdeal.τ).loc Cert.ClosingIdeal.main_arg3) = m ((c.tc : Thread Cert.ClosingIdeal.nD Cert.ClosingIdeal.τ).loc Cert.ClosingIdeal.main_arg3)
      ∧ r.2.mem ((c.tc : Thread Cert.ClosingIdeal.nD Cert.ClosingIdeal.τ).loc Cert.ClosingIdeal.main_arg4) = m ((c.tc : Thread Cert.ClosingIdeal.nD Cert.ClosingIdeal.τ).loc Cert.ClosingIdeal.main_arg4)
      ∧ r.2.mem ((c.tc : Thread Cert.ClosingIdeal.nD Cert.ClosingIdeal.τ).loc Cert.ClosingIdeal.main_arg5) = m ((c.tc : Thread Cert.ClosingIdeal.nD Cert.ClosingIdeal.τ).loc Cert.ClosingIdeal.main_arg5)
      ∧ r.2.mem ((c.tc : Thread Cert.ClosingIdeal.nD Cert.ClosingIdeal.τ).loc Cert.ClosingIdeal.main_arg6) = m ((c.tc : Thread Cert.ClosingIdeal.nD Cert.ClosingIdeal.τ).loc Cert.ClosingIdeal.main_arg6))
      ∧ r.2.sem = fun _ => 0)

def quiescent_ClosingReferenceIdeal [hClosingReferenceIdeal : Cert.ClosingReferenceIdeal.Facts] : Prop :=
  ∀ (m : (ℓ : Loc Cert.ClosingReferenceIdeal.nD Cert.ClosingReferenceIdeal.τ Cert.ClosingReferenceIdeal.sig) → Buf (Elt Ideal) ℓ) (g : Dev Cert.ClosingReferenceIdeal.nD → PrngReg), Pre_ClosingReferenceIdeal m →
    θ_run (Cert.ClosingReferenceIdeal.defs (F := Ideal)) (onTc (τ := Cert.ClosingReferenceIdeal.τ) (Cert.ClosingReferenceIdeal.main (F := Ideal))) ⟨m, fun _ => 0, g⟩ (fun r => (∀ c : Dev Cert.ClosingReferenceIdeal.nD,
      r.2.mem ((c.tc : Thread Cert.ClosingReferenceIdeal.nD Cert.ClosingReferenceIdeal.τ).loc Cert.ClosingReferenceIdeal.main_arg0) = m ((c.tc : Thread Cert.ClosingReferenceIdeal.nD Cert.ClosingReferenceIdeal.τ).loc Cert.ClosingReferenceIdeal.main_arg0)
      ∧ r.2.mem ((c.tc : Thread Cert.ClosingReferenceIdeal.nD Cert.ClosingReferenceIdeal.τ).loc Cert.ClosingReferenceIdeal.main_arg1) = m ((c.tc : Thread Cert.ClosingReferenceIdeal.nD Cert.ClosingReferenceIdeal.τ).loc Cert.ClosingReferenceIdeal.main_arg1)
      ∧ r.2.mem ((c.tc : Thread Cert.ClosingReferenceIdeal.nD Cert.ClosingReferenceIdeal.τ).loc Cert.ClosingReferenceIdeal.main_arg2) = m ((c.tc : Thread Cert.ClosingReferenceIdeal.nD Cert.ClosingReferenceIdeal.τ).loc Cert.ClosingReferenceIdeal.main_arg2)
      ∧ r.2.mem ((c.tc : Thread Cert.ClosingReferenceIdeal.nD Cert.ClosingReferenceIdeal.τ).loc Cert.ClosingReferenceIdeal.main_arg3) = m ((c.tc : Thread Cert.ClosingReferenceIdeal.nD Cert.ClosingReferenceIdeal.τ).loc Cert.ClosingReferenceIdeal.main_arg3)
      ∧ r.2.mem ((c.tc : Thread Cert.ClosingReferenceIdeal.nD Cert.ClosingReferenceIdeal.τ).loc Cert.ClosingReferenceIdeal.main_arg4) = m ((c.tc : Thread Cert.ClosingReferenceIdeal.nD Cert.ClosingReferenceIdeal.τ).loc Cert.ClosingReferenceIdeal.main_arg4)
      ∧ r.2.mem ((c.tc : Thread Cert.ClosingReferenceIdeal.nD Cert.ClosingReferenceIdeal.τ).loc Cert.ClosingReferenceIdeal.main_arg5) = m ((c.tc : Thread Cert.ClosingReferenceIdeal.nD Cert.ClosingReferenceIdeal.τ).loc Cert.ClosingReferenceIdeal.main_arg5)
      ∧ r.2.mem ((c.tc : Thread Cert.ClosingReferenceIdeal.nD Cert.ClosingReferenceIdeal.τ).loc Cert.ClosingReferenceIdeal.main_arg6) = m ((c.tc : Thread Cert.ClosingReferenceIdeal.nD Cert.ClosingReferenceIdeal.τ).loc Cert.ClosingReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v102)) (v2 : (c : Dev Cert.KernelIdeal.nD) → Buf (Elt Ideal) ((c.tc : Thread Cert.KernelIdeal.nD Cert.KernelIdeal.τ).loc Cert.KernelIdeal.main_v79_0)) (v3 : (c : Dev Cert.KernelIdeal.nD) → Buf (Elt Ideal) ((c.tc : Thread Cert.KernelIdeal.nD Cert.KernelIdeal.τ).loc Cert.KernelIdeal.main_v80_0)) (v4 : (c : Dev Cert.KernelIdeal.nD) → Buf (Elt Ideal) ((c.tc : Thread Cert.KernelIdeal.nD Cert.KernelIdeal.τ).loc Cert.KernelIdeal.main_v82)) (v5 : (c : Dev Cert.KernelIdeal.nD) → Buf (Elt Ideal) ((c.tc : Thread Cert.KernelIdeal.nD Cert.KernelIdeal.τ).loc Cert.KernelIdeal.main_v90)) (v6 : (c : Dev Cert.KernelIdeal.nD) → Buf (Elt Ideal) ((c.tc : Thread Cert.KernelIdeal.nD Cert.KernelIdeal.τ).loc Cert.KernelIdeal.main_v91)) (v7 : (c : Dev Cert.KernelIdeal.nD) → Buf (Elt Ideal) ((c.tc : Thread Cert.KernelIdeal.nD Cert.KernelIdeal.τ).loc Cert.KernelIdeal.main_v93)) (v8 : (c : Dev Cert.KernelIdeal.nD) → Buf (Elt Ideal) ((c.tc : Thread Cert.KernelIdeal.nD Cert.KernelIdeal.τ).loc Cert.KernelIdeal.main_v79_3)) (v9 : (c : Dev Cert.KernelIdeal.nD) → Buf (Elt Ideal) ((c.tc : Thread Cert.KernelIdeal.nD Cert.KernelIdeal.τ).loc Cert.KernelIdeal.main_v79_4)) (v10 : (c : Dev Cert.KernelIdeal.nD) → Buf (Elt Ideal) ((c.tc : Thread Cert.KernelIdeal.nD Cert.KernelIdeal.τ).loc Cert.KernelIdeal.main_v80_1)) (v11 : (c : Dev Cert.KernelIdeal.nD) → Buf (Elt Ideal) ((c.tc : Thread Cert.KernelIdeal.nD Cert.KernelIdeal.τ).loc Cert.KernelIdeal.main_v80_2)) (v12 : (c : Dev Cert.KernelIdeal.nD) → Buf (Elt Ideal) ((c.tc : Thread Cert.KernelIdeal.nD Cert.KernelIdeal.τ).loc Cert.KernelIdeal.main_v80_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v102) = v1 c
          ∧ r.2.mem ((c.tc : Thread Cert.KernelIdeal.nD Cert.KernelIdeal.τ).loc Cert.KernelIdeal.main_v79_0) = v2 c
          ∧ r.2.mem ((c.tc : Thread Cert.KernelIdeal.nD Cert.KernelIdeal.τ).loc Cert.KernelIdeal.main_v80_0) = v3 c
          ∧ r.2.mem ((c.tc : Thread Cert.KernelIdeal.nD Cert.KernelIdeal.τ).loc Cert.KernelIdeal.main_v82) = v4 c
          ∧ r.2.mem ((c.tc : Thread Cert.KernelIdeal.nD Cert.KernelIdeal.τ).loc Cert.KernelIdeal.main_v90) = v5 c
          ∧ r.2.mem ((c.tc : Thread Cert.KernelIdeal.nD Cert.KernelIdeal.τ).loc Cert.KernelIdeal.main_v91) = v6 c
          ∧ r.2.mem ((c.tc : Thread Cert.KernelIdeal.nD Cert.KernelIdeal.τ).loc Cert.KernelIdeal.main_v93) = v7 c
          ∧ r.2.mem ((c.tc : Thread Cert.KernelIdeal.nD Cert.KernelIdeal.τ).loc Cert.KernelIdeal.main_v79_3) = v8 c
          ∧ r.2.mem ((c.tc : Thread Cert.KernelIdeal.nD Cert.KernelIdeal.τ).loc Cert.KernelIdeal.main_v79_4) = v9 c
          ∧ r.2.mem ((c.tc : Thread Cert.KernelIdeal.nD Cert.KernelIdeal.τ).loc Cert.KernelIdeal.main_v80_1) = v10 c
          ∧ r.2.mem ((c.tc : Thread Cert.KernelIdeal.nD Cert.KernelIdeal.τ).loc Cert.KernelIdeal.main_v80_2) = v11 c
          ∧ r.2.mem ((c.tc : Thread Cert.KernelIdeal.nD Cert.KernelIdeal.τ).loc Cert.KernelIdeal.main_v80_3) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v108) = v6 c
          ∧ r.2.mem ((c.tc : Thread Cert.ReferenceIdeal.nD Cert.ReferenceIdeal.τ).loc Cert.ReferenceIdeal.main_v110) = v7 c
          ∧ r.2.mem ((c.tc : Thread Cert.ReferenceIdeal.nD Cert.ReferenceIdeal.τ).loc Cert.ReferenceIdeal.main_v112) = v8 c
          ∧ r.2.mem ((c.tc : Thread Cert.ReferenceIdeal.nD Cert.ReferenceIdeal.τ).loc Cert.ReferenceIdeal.main_v114) = v9 c
          ∧ r.2.mem ((c.tc : Thread Cert.ReferenceIdeal.nD Cert.ReferenceIdeal.τ).loc Cert.ReferenceIdeal.main_v116) = v10 c
          ∧ r.2.mem ((c.tc : Thread Cert.ReferenceIdeal.nD Cert.ReferenceIdeal.τ).loc Cert.ReferenceIdeal.main_v118) = v11 c
          ∧ r.2.mem ((c.tc : Thread Cert.ReferenceIdeal.nD Cert.ReferenceIdeal.τ).loc Cert.ReferenceIdeal.main_v120) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)
      ∧ m' ((c.tc : Thread Cert.MixerReferenceIdeal.nD Cert.MixerReferenceIdeal.τ).loc Cert.MixerReferenceIdeal.main_arg9) = m ((c.tc : Thread Cert.MixerIdeal.nD Cert.MixerIdeal.τ).loc Cert.MixerIdeal.main_arg9)
      ∧ m' ((c.tc : Thread Cert.MixerReferenceIdeal.nD Cert.MixerReferenceIdeal.τ).loc Cert.MixerReferenceIdeal.main_arg10) = m ((c.tc : Thread Cert.MixerIdeal.nD Cert.MixerIdeal.τ).loc Cert.MixerIdeal.main_arg10)
      ∧ m' ((c.tc : Thread Cert.MixerReferenceIdeal.nD Cert.MixerReferenceIdeal.τ).loc Cert.MixerReferenceIdeal.main_arg11) = m ((c.tc : Thread Cert.MixerIdeal.nD Cert.MixerIdeal.τ).loc Cert.MixerIdeal.main_arg11)
      ∧ m' ((c.tc : Thread Cert.MixerReferenceIdeal.nD Cert.MixerReferenceIdeal.τ).loc Cert.MixerReferenceIdeal.main_arg12) = m ((c.tc : Thread Cert.MixerIdeal.nD Cert.MixerIdeal.τ).loc Cert.MixerIdeal.main_arg12)
      ∧ m' ((c.tc : Thread Cert.MixerReferenceIdeal.nD Cert.MixerReferenceIdeal.τ).loc Cert.MixerReferenceIdeal.main_arg13) = m ((c.tc : Thread Cert.MixerIdeal.nD Cert.MixerIdeal.τ).loc Cert.MixerIdeal.main_arg13)
      ∧ m' ((c.tc : Thread Cert.MixerReferenceIdeal.nD Cert.MixerReferenceIdeal.τ).loc Cert.MixerReferenceIdeal.main_arg14) = m ((c.tc : Thread Cert.MixerIdeal.nD Cert.MixerIdeal.τ).loc Cert.MixerIdeal.main_arg14)
      ∧ m' ((c.tc : Thread Cert.MixerReferenceIdeal.nD Cert.MixerReferenceIdeal.τ).loc Cert.MixerReferenceIdeal.main_arg15) = m ((c.tc : Thread Cert.MixerIdeal.nD Cert.MixerIdeal.τ).loc Cert.MixerIdeal.main_arg15)) →
    ∃ (v0 : (c : Dev Cert.MixerIdeal.nD) → Buf (Elt Ideal) ((c.tc : Thread Cert.MixerIdeal.nD Cert.MixerIdeal.τ).loc Cert.MixerIdeal.main_v63)) (v1 : (c : Dev Cert.MixerIdeal.nD) → Buf (Elt Ideal) ((c.tc : Thread Cert.MixerIdeal.nD Cert.MixerIdeal.τ).loc Cert.MixerIdeal.main_v65)) (v2 : (c : Dev Cert.MixerIdeal.nD) → Buf (Elt Ideal) ((c.tc : Thread Cert.MixerIdeal.nD Cert.MixerIdeal.τ).loc Cert.MixerIdeal.main_v66)) (v3 : (c : Dev Cert.MixerIdeal.nD) → Buf (Elt Ideal) ((c.tc : Thread Cert.MixerIdeal.nD Cert.MixerIdeal.τ).loc Cert.MixerIdeal.main_v69)) (v4 : (c : Dev Cert.MixerIdeal.nD) → Buf (Elt Ideal) ((c.tc : Thread Cert.MixerIdeal.nD Cert.MixerIdeal.τ).loc Cert.MixerIdeal.main_v71)) (v5 : (c : Dev Cert.MixerIdeal.nD) → Buf (Elt Ideal) ((c.tc : Thread Cert.MixerIdeal.nD Cert.MixerIdeal.τ).loc Cert.MixerIdeal.main_v72)) (v6 : (c : Dev Cert.MixerIdeal.nD) → Buf (Elt Ideal) ((c.tc : Thread Cert.MixerIdeal.nD Cert.MixerIdeal.τ).loc Cert.MixerIdeal.main_v61_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v63) = v0 c
          ∧ r.2.mem ((c.tc : Thread Cert.MixerIdeal.nD Cert.MixerIdeal.τ).loc Cert.MixerIdeal.main_v65) = v1 c
          ∧ r.2.mem ((c.tc : Thread Cert.MixerIdeal.nD Cert.MixerIdeal.τ).loc Cert.MixerIdeal.main_v66) = v2 c
          ∧ r.2.mem ((c.tc : Thread Cert.MixerIdeal.nD Cert.MixerIdeal.τ).loc Cert.MixerIdeal.main_v69) = v3 c
          ∧ r.2.mem ((c.tc : Thread Cert.MixerIdeal.nD Cert.MixerIdeal.τ).loc Cert.MixerIdeal.main_v71) = v4 c
          ∧ r.2.mem ((c.tc : Thread Cert.MixerIdeal.nD Cert.MixerIdeal.τ).loc Cert.MixerIdeal.main_v72) = v5 c
          ∧ r.2.mem ((c.tc : Thread Cert.MixerIdeal.nD Cert.MixerIdeal.τ).loc Cert.MixerIdeal.main_v61_1) = v6 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v127) = v0 c
          ∧ r.2.mem ((c.tc : Thread Cert.MixerReferenceIdeal.nD Cert.MixerReferenceIdeal.τ).loc Cert.MixerReferenceIdeal.main_v129) = v1 c
          ∧ r.2.mem ((c.tc : Thread Cert.MixerReferenceIdeal.nD Cert.MixerReferenceIdeal.τ).loc Cert.MixerReferenceIdeal.main_v130) = v2 c
          ∧ r.2.mem ((c.tc : Thread Cert.MixerReferenceIdeal.nD Cert.MixerReferenceIdeal.τ).loc Cert.MixerReferenceIdeal.main_v132) = v3 c
          ∧ r.2.mem ((c.tc : Thread Cert.MixerReferenceIdeal.nD Cert.MixerReferenceIdeal.τ).loc Cert.MixerReferenceIdeal.main_v135) = v4 c
          ∧ r.2.mem ((c.tc : Thread Cert.MixerReferenceIdeal.nD Cert.MixerReferenceIdeal.τ).loc Cert.MixerReferenceIdeal.main_v137) = v5 c
          ∧ r.2.mem ((c.tc : Thread Cert.MixerReferenceIdeal.nD Cert.MixerReferenceIdeal.τ).loc Cert.MixerReferenceIdeal.main_v139) = v6 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10)
          ∧ r.2.mem ((c.tc : Thread Cert.MixerReferenceIdeal.nD Cert.MixerReferenceIdeal.τ).loc Cert.MixerReferenceIdeal.main_arg11) = m' ((c.tc : Thread Cert.MixerReferenceIdeal.nD Cert.MixerReferenceIdeal.τ).loc Cert.MixerReferenceIdeal.main_arg11)
          ∧ r.2.mem ((c.tc : Thread Cert.MixerReferenceIdeal.nD Cert.MixerReferenceIdeal.τ).loc Cert.MixerReferenceIdeal.main_arg12) = m' ((c.tc : Thread Cert.MixerReferenceIdeal.nD Cert.MixerReferenceIdeal.τ).loc Cert.MixerReferenceIdeal.main_arg12)
          ∧ r.2.mem ((c.tc : Thread Cert.MixerReferenceIdeal.nD Cert.MixerReferenceIdeal.τ).loc Cert.MixerReferenceIdeal.main_arg13) = m' ((c.tc : Thread Cert.MixerReferenceIdeal.nD Cert.MixerReferenceIdeal.τ).loc Cert.MixerReferenceIdeal.main_arg13)
          ∧ r.2.mem ((c.tc : Thread Cert.MixerReferenceIdeal.nD Cert.MixerReferenceIdeal.τ).loc Cert.MixerReferenceIdeal.main_arg14) = m' ((c.tc : Thread Cert.MixerReferenceIdeal.nD Cert.MixerReferenceIdeal.τ).loc Cert.MixerReferenceIdeal.main_arg14)
          ∧ r.2.mem ((c.tc : Thread Cert.MixerReferenceIdeal.nD Cert.MixerReferenceIdeal.τ).loc Cert.MixerReferenceIdeal.main_arg15) = m' ((c.tc : Thread Cert.MixerReferenceIdeal.nD Cert.MixerReferenceIdeal.τ).loc Cert.MixerReferenceIdeal.main_arg15))

def preserves_Scan_ScanIdeal : Prop :=
  True

def algebraic_ScanIdeal_ScanReferenceIdeal_pre_finite [hScanIdeal : Cert.ScanIdeal.Facts] [hScanReferenceIdeal : Cert.ScanReferenceIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal_finite m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)
      ∧ m' ((c.tc : Thread Cert.ScanReferenceIdeal.nD Cert.ScanReferenceIdeal.τ).loc Cert.ScanReferenceIdeal.main_arg5) = m ((c.tc : Thread Cert.ScanIdeal.nD Cert.ScanIdeal.τ).loc Cert.ScanIdeal.main_arg5)
      ∧ m' ((c.tc : Thread Cert.ScanReferenceIdeal.nD Cert.ScanReferenceIdeal.τ).loc Cert.ScanReferenceIdeal.main_arg6) = m ((c.tc : Thread Cert.ScanIdeal.nD Cert.ScanIdeal.τ).loc Cert.ScanIdeal.main_arg6)
      ∧ m' ((c.tc : Thread Cert.ScanReferenceIdeal.nD Cert.ScanReferenceIdeal.τ).loc Cert.ScanReferenceIdeal.main_arg7) = m ((c.tc : Thread Cert.ScanIdeal.nD Cert.ScanIdeal.τ).loc Cert.ScanIdeal.main_arg7)) →
    ∃ (v0 : (c : Dev Cert.ScanIdeal.nD) → Buf (Elt Ideal) ((c.tc : Thread Cert.ScanIdeal.nD Cert.ScanIdeal.τ).loc Cert.ScanIdeal.main_v49)) (v1 : (c : Dev Cert.ScanIdeal.nD) → Buf (Elt Ideal) ((c.tc : Thread Cert.ScanIdeal.nD Cert.ScanIdeal.τ).loc Cert.ScanIdeal.main_v51)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v49) = v0 c
          ∧ r.2.mem ((c.tc : Thread Cert.ScanIdeal.nD Cert.ScanIdeal.τ).loc Cert.ScanIdeal.main_v51) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v192) = v0 c
          ∧ r.2.mem ((c.tc : Thread Cert.ScanReferenceIdeal.nD Cert.ScanReferenceIdeal.τ).loc Cert.ScanReferenceIdeal.main_v193) = v1 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5)
          ∧ r.2.mem ((c.tc : Thread Cert.ScanReferenceIdeal.nD Cert.ScanReferenceIdeal.τ).loc Cert.ScanReferenceIdeal.main_arg6) = m' ((c.tc : Thread Cert.ScanReferenceIdeal.nD Cert.ScanReferenceIdeal.τ).loc Cert.ScanReferenceIdeal.main_arg6)
          ∧ r.2.mem ((c.tc : Thread Cert.ScanReferenceIdeal.nD Cert.ScanReferenceIdeal.τ).loc Cert.ScanReferenceIdeal.main_arg7) = m' ((c.tc : Thread Cert.ScanReferenceIdeal.nD Cert.ScanReferenceIdeal.τ).loc Cert.ScanReferenceIdeal.main_arg7))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v19) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Closing_ClosingIdeal : Prop :=
  True

def algebraic_ClosingIdeal_ClosingReferenceIdeal [hClosingIdeal : Cert.ClosingIdeal.Facts] [hClosingReferenceIdeal : Cert.ClosingReferenceIdeal.Facts] : Prop :=
  ∀ (m : (ℓ : Loc Cert.ClosingIdeal.nD Cert.ClosingIdeal.τ Cert.ClosingIdeal.sig) → Buf (Elt Ideal) ℓ) (g : Dev Cert.ClosingIdeal.nD → PrngReg)
    (m' : (ℓ : Loc Cert.ClosingReferenceIdeal.nD Cert.ClosingReferenceIdeal.τ Cert.ClosingReferenceIdeal.sig) → Buf (Elt Ideal) ℓ) (g' : Dev Cert.ClosingReferenceIdeal.nD → PrngReg), Pre_ClosingIdeal m →
    (∀ c : Dev Cert.ClosingIdeal.nD,
      m' ((c.tc : Thread Cert.ClosingReferenceIdeal.nD Cert.ClosingReferenceIdeal.τ).loc Cert.ClosingReferenceIdeal.main_arg0) = m ((c.tc : Thread Cert.ClosingIdeal.nD Cert.ClosingIdeal.τ).loc Cert.ClosingIdeal.main_arg0)
      ∧ m' ((c.tc : Thread Cert.ClosingReferenceIdeal.nD Cert.ClosingReferenceIdeal.τ).loc Cert.ClosingReferenceIdeal.main_arg1) = m ((c.tc : Thread Cert.ClosingIdeal.nD Cert.ClosingIdeal.τ).loc Cert.ClosingIdeal.main_arg1)
      ∧ m' ((c.tc : Thread Cert.ClosingReferenceIdeal.nD Cert.ClosingReferenceIdeal.τ).loc Cert.ClosingReferenceIdeal.main_arg2) = m ((c.tc : Thread Cert.ClosingIdeal.nD Cert.ClosingIdeal.τ).loc Cert.ClosingIdeal.main_arg2)
      ∧ m' ((c.tc : Thread Cert.ClosingReferenceIdeal.nD Cert.ClosingReferenceIdeal.τ).loc Cert.ClosingReferenceIdeal.main_arg3) = m ((c.tc : Thread Cert.ClosingIdeal.nD Cert.ClosingIdeal.τ).loc Cert.ClosingIdeal.main_arg3)
      ∧ m' ((c.tc : Thread Cert.ClosingReferenceIdeal.nD Cert.ClosingReferenceIdeal.τ).loc Cert.ClosingReferenceIdeal.main_arg4) = m ((c.tc : Thread Cert.ClosingIdeal.nD Cert.ClosingIdeal.τ).loc Cert.ClosingIdeal.main_arg4)
      ∧ m' ((c.tc : Thread Cert.ClosingReferenceIdeal.nD Cert.ClosingReferenceIdeal.τ).loc Cert.ClosingReferenceIdeal.main_arg5) = m ((c.tc : Thread Cert.ClosingIdeal.nD Cert.ClosingIdeal.τ).loc Cert.ClosingIdeal.main_arg5)
      ∧ m' ((c.tc : Thread Cert.ClosingReferenceIdeal.nD Cert.ClosingReferenceIdeal.τ).loc Cert.ClosingReferenceIdeal.main_arg6) = m ((c.tc : Thread Cert.ClosingIdeal.nD Cert.ClosingIdeal.τ).loc Cert.ClosingIdeal.main_arg6)) →
    ∃ (v0 : (c : Dev Cert.ClosingIdeal.nD) → Buf (Elt Ideal) ((c.tc : Thread Cert.ClosingIdeal.nD Cert.ClosingIdeal.τ).loc Cert.ClosingIdeal.main_v60)) (v1 : (c : Dev Cert.ClosingIdeal.nD) → Buf (Elt Ideal) ((c.tc : Thread Cert.ClosingIdeal.nD Cert.ClosingIdeal.τ).loc Cert.ClosingIdeal.main_v62)),
      θ_run (Cert.ClosingIdeal.defs (F := Ideal)) (onTc (τ := Cert.ClosingIdeal.τ) (Cert.ClosingIdeal.main (F := Ideal))) ⟨m, fun _ => 0, g⟩ (fun r => ∀ c : Dev Cert.ClosingIdeal.nD,
          r.2.mem ((c.tc : Thread Cert.ClosingIdeal.nD Cert.ClosingIdeal.τ).loc Cert.ClosingIdeal.main_v60) = v0 c
          ∧ r.2.mem ((c.tc : Thread Cert.ClosingIdeal.nD Cert.ClosingIdeal.τ).loc Cert.ClosingIdeal.main_v62) = v1 c
          ∧ r.2.mem ((c.tc : Thread Cert.ClosingIdeal.nD Cert.ClosingIdeal.τ).loc Cert.ClosingIdeal.main_arg0) = m ((c.tc : Thread Cert.ClosingIdeal.nD Cert.ClosingIdeal.τ).loc Cert.ClosingIdeal.main_arg0)
          ∧ r.2.mem ((c.tc : Thread Cert.ClosingIdeal.nD Cert.ClosingIdeal.τ).loc Cert.ClosingIdeal.main_arg1) = m ((c.tc : Thread Cert.ClosingIdeal.nD Cert.ClosingIdeal.τ).loc Cert.ClosingIdeal.main_arg1)
          ∧ r.2.mem ((c.tc : Thread Cert.ClosingIdeal.nD Cert.ClosingIdeal.τ).loc Cert.ClosingIdeal.main_arg2) = m ((c.tc : Thread Cert.ClosingIdeal.nD Cert.ClosingIdeal.τ).loc Cert.ClosingIdeal.main_arg2)
          ∧ r.2.mem ((c.tc : Thread Cert.ClosingIdeal.nD Cert.ClosingIdeal.τ).loc Cert.ClosingIdeal.main_arg3) = m ((c.tc : Thread Cert.ClosingIdeal.nD Cert.ClosingIdeal.τ).loc Cert.ClosingIdeal.main_arg3)
          ∧ r.2.mem ((c.tc : Thread Cert.ClosingIdeal.nD Cert.ClosingIdeal.τ).loc Cert.ClosingIdeal.main_arg4) = m ((c.tc : Thread Cert.ClosingIdeal.nD Cert.ClosingIdeal.τ).loc Cert.ClosingIdeal.main_arg4)
          ∧ r.2.mem ((c.tc : Thread Cert.ClosingIdeal.nD Cert.ClosingIdeal.τ).loc Cert.ClosingIdeal.main_arg5) = m ((c.tc : Thread Cert.ClosingIdeal.nD Cert.ClosingIdeal.τ).loc Cert.ClosingIdeal.main_arg5)
          ∧ r.2.mem ((c.tc : Thread Cert.ClosingIdeal.nD Cert.ClosingIdeal.τ).loc Cert.ClosingIdeal.main_arg6) = m ((c.tc : Thread Cert.ClosingIdeal.nD Cert.ClosingIdeal.τ).loc Cert.ClosingIdeal.main_arg6))
      ∧ θ_run (Cert.ClosingReferenceIdeal.defs (F := Ideal)) (onTc (τ := Cert.ClosingReferenceIdeal.τ) (Cert.ClosingReferenceIdeal.main (F := Ideal))) ⟨m', fun _ => 0, g'⟩ (fun r => ∀ c : Dev Cert.ClosingReferenceIdeal.nD,
          r.2.mem ((c.tc : Thread Cert.ClosingReferenceIdeal.nD Cert.ClosingReferenceIdeal.τ).loc Cert.ClosingReferenceIdeal.main_v24) = v0 c
          ∧ r.2.mem ((c.tc : Thread Cert.ClosingReferenceIdeal.nD Cert.ClosingReferenceIdeal.τ).loc Cert.ClosingReferenceIdeal.main_v51) = v1 c
          ∧ r.2.mem ((c.tc : Thread Cert.ClosingReferenceIdeal.nD Cert.ClosingReferenceIdeal.τ).loc Cert.ClosingReferenceIdeal.main_arg0) = m' ((c.tc : Thread Cert.ClosingReferenceIdeal.nD Cert.ClosingReferenceIdeal.τ).loc Cert.ClosingReferenceIdeal.main_arg0)
          ∧ r.2.mem ((c.tc : Thread Cert.ClosingReferenceIdeal.nD Cert.ClosingReferenceIdeal.τ).loc Cert.ClosingReferenceIdeal.main_arg1) = m' ((c.tc : Thread Cert.ClosingReferenceIdeal.nD Cert.ClosingReferenceIdeal.τ).loc Cert.ClosingReferenceIdeal.main_arg1)
          ∧ r.2.mem ((c.tc : Thread Cert.ClosingReferenceIdeal.nD Cert.ClosingReferenceIdeal.τ).loc Cert.ClosingReferenceIdeal.main_arg2) = m' ((c.tc : Thread Cert.ClosingReferenceIdeal.nD Cert.ClosingReferenceIdeal.τ).loc Cert.ClosingReferenceIdeal.main_arg2)
          ∧ r.2.mem ((c.tc : Thread Cert.ClosingReferenceIdeal.nD Cert.ClosingReferenceIdeal.τ).loc Cert.ClosingReferenceIdeal.main_arg3) = m' ((c.tc : Thread Cert.ClosingReferenceIdeal.nD Cert.ClosingReferenceIdeal.τ).loc Cert.ClosingReferenceIdeal.main_arg3)
          ∧ r.2.mem ((c.tc : Thread Cert.ClosingReferenceIdeal.nD Cert.ClosingReferenceIdeal.τ).loc Cert.ClosingReferenceIdeal.main_arg4) = m' ((c.tc : Thread Cert.ClosingReferenceIdeal.nD Cert.ClosingReferenceIdeal.τ).loc Cert.ClosingReferenceIdeal.main_arg4)
          ∧ r.2.mem ((c.tc : Thread Cert.ClosingReferenceIdeal.nD Cert.ClosingReferenceIdeal.τ).loc Cert.ClosingReferenceIdeal.main_arg5) = m' ((c.tc : Thread Cert.ClosingReferenceIdeal.nD Cert.ClosingReferenceIdeal.τ).loc Cert.ClosingReferenceIdeal.main_arg5)
          ∧ r.2.mem ((c.tc : Thread Cert.ClosingReferenceIdeal.nD Cert.ClosingReferenceIdeal.τ).loc Cert.ClosingReferenceIdeal.main_arg6) = m' ((c.tc : Thread Cert.ClosingReferenceIdeal.nD Cert.ClosingReferenceIdeal.τ).loc Cert.ClosingReferenceIdeal.main_arg6))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerReferenceIdeal : Cert.MixerReferenceIdeal.Facts) (hScan : Cert.Scan.Facts) (hScanIdeal : Cert.ScanIdeal.Facts) (hScanReferenceIdeal : Cert.ScanReferenceIdeal.Facts) (hGate : Cert.Gate.Facts) (hGateIdeal : Cert.GateIdeal.Facts) (hGateReferenceIdeal : Cert.GateReferenceIdeal.Facts) (hClosing : Cert.Closing.Facts) (hClosingIdeal : Cert.ClosingIdeal.Facts) (hClosingReferenceIdeal : Cert.ClosingReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Scan (hScan := hScan)
    ∧ quiescent_ScanIdeal (hScanIdeal := hScanIdeal)
    ∧ quiescent_ScanIdeal_pre_finite (hScanIdeal := hScanIdeal) (hPre_finite := hPre_finite)
    ∧ quiescent_ScanReferenceIdeal (hScanReferenceIdeal := hScanReferenceIdeal)
    ∧ quiescent_ScanReferenceIdeal_pre_finite (hScanReferenceIdeal := hScanReferenceIdeal) (hPre_finite := hPre_finite)
    ∧ quiescent_Gate (hGate := hGate)
    ∧ quiescent_GateIdeal (hGateIdeal := hGateIdeal)
    ∧ quiescent_GateReferenceIdeal (hGateReferenceIdeal := hGateReferenceIdeal)
    ∧ quiescent_Closing (hClosing := hClosing)
    ∧ quiescent_ClosingIdeal (hClosingIdeal := hClosingIdeal)
    ∧ quiescent_ClosingReferenceIdeal (hClosingReferenceIdeal := hClosingReferenceIdeal)
    ∧ preserves_Kernel_KernelIdeal
    ∧ algebraic_KernelIdeal_ReferenceIdeal (hKernelIdeal := hKernelIdeal) (hReferenceIdeal := hReferenceIdeal)
    ∧ preserves_Mixer_MixerIdeal
    ∧ algebraic_MixerIdeal_MixerReferenceIdeal (hMixerIdeal := hMixerIdeal) (hMixerReferenceIdeal := hMixerReferenceIdeal)
    ∧ preserves_Scan_ScanIdeal
    ∧ algebraic_ScanIdeal_ScanReferenceIdeal_pre_finite (hScanIdeal := hScanIdeal) (hScanReferenceIdeal := hScanReferenceIdeal) (hPre_finite := hPre_finite)
    ∧ preserves_Gate_GateIdeal
    ∧ algebraic_GateIdeal_GateReferenceIdeal (hGateIdeal := hGateIdeal) (hGateReferenceIdeal := hGateReferenceIdeal)
    ∧ preserves_Closing_ClosingIdeal
    ∧ algebraic_ClosingIdeal_ClosingReferenceIdeal (hClosingIdeal := hClosingIdeal) (hClosingReferenceIdeal := hClosingReferenceIdeal)
-- ==== Pre_finite.lean ====
abbrev S512x18432 : Shape := ⟨2, ![512, 18432]⟩
abbrev S512x128 : Shape := ⟨2, ![512, 128]⟩
abbrev S1x128x128x64x128 : Shape := ⟨5, ![1, 128, 128, 64, 128]⟩
abbrev S1x128x3x10240 : Shape := ⟨4, ![1, 128, 3, 10240]⟩
abbrev S1x4x10240 : Shape := ⟨3, ![1, 4, 10240]⟩
abbrev S1x10240 : Shape := ⟨2, ![1, 10240]⟩
abbrev S1x128 : Shape := ⟨2, ![1, 128]⟩
abbrev S512x10240 : Shape := ⟨2, ![512, 10240]⟩
abbrev S_ : Shape := ⟨0, ![]⟩

class Facts : Prop where
  slices_S512x18432_S512x10240_0_8192 : S512x18432.Slices ![0, 8192] S512x10240
  bitsLt_bf16_f32 : FTy.bits .bf16 < FTy.bits .f32
  bcast_S_S512x10240 : S_.BroadcastsInDim S512x10240 (![] : Fin 0 → Fin S512x10240.rank)
  reducesTo_S512x10240_S_d0_1 : S512x10240.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1x128x3x10240 : S_.BroadcastsInDim S1x128x3x10240 (![] : Fin 0 → Fin S1x128x3x10240.rank)
  reducesTo_S1x128x3x10240_S_d0_1_2_3 : S1x128x3x10240.ReducesTo [0, 1, 2, 3] S_
  bcast_S_S1x4x10240 : S_.BroadcastsInDim S1x4x10240 (![] : Fin 0 → Fin S1x4x10240.rank)
  reducesTo_S1x4x10240_S_d0_1_2 : S1x4x10240.ReducesTo [0, 1, 2] S_
  bcast_S_S1x10240 : S_.BroadcastsInDim S1x10240 (![] : Fin 0 → Fin S1x10240.rank)
  reducesTo_S1x10240_S_d0_1 : S1x10240.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg5 : FVec F S1x10240 .f32) (main_arg6 : FVec F S1x128 .f32) (main_v15 : IVec S_ 1) (main_v16 : FVec F S1x4x10240 .f32) (main_cst_4 : FVec F S_ .f32) : IVec S_ 1 :=
  let main_v17 : FVec F S1x4x10240 .f32 := broadcastInDim S1x4x10240 ![] bcast_S_S1x4x10240 main_cst_4
  let main_v18 : IVec S1x4x10240 1 := cmpf .olt main_v16 main_v17
  let main_c_5 : IVec S_ 1 := constantI S_ 1 1#1
  let main_v19 : IVec S_ 1 := (fun x v => Host.reduce IntOp.andi x v reducesTo_S1x4x10240_S_d0_1_2 h_S_) main_v18 main_c_5
  let main_v20 : IVec S_ 1 := andi main_v15 main_v19
  let main_v21 : FVec F S1x10240 .f32 := Host.absf main_arg5
  let main_cst_6 : FVec F S_ .f32 := constant S_ .f32 0x7F800000#32
  let main_v22 : FVec F S1x10240 .f32 := broadcastInDim S1x10240 ![] bcast_S_S1x10240 main_cst_6
  let main_v23 : IVec S1x10240 1 := cmpf .olt main_v21 main_v22
  let main_c_7 : IVec S_ 1 := constantI S_ 1 1#1
  let main_v24 : IVec S_ 1 := (fun x v => Host.reduce IntOp.andi x v reducesTo_S1x10240_S_d0_1 h_S_) main_v23 main_c_7
  let main_v25 : IVec S_ 1 := andi main_v20 main_v24
  let main_v26 : FVec F S1x128 .f32 := Host.absf main_arg6
  let main_cst_8 : FVec F S_ .f32 := constant S_ .f32 0x7F800000#32
  let main_v27 : FVec F S1x128 .f32 := broadcastInDim S1x128 ![] bcast_S_S1x128 main_cst_8
  let main_v28 : IVec S1x128 1 := cmpf .olt main_v26 main_v27
  let main_c_9 : IVec S_ 1 := constantI S_ 1 1#1
  let main_v29 : IVec S_ 1 := (fun x v => Host.reduce IntOp.andi x v reducesTo_S1x128_S_d0_1 h_S_) main_v28 main_c_9
  let main_v30 : IVec S_ 1 := andi main_v25 main_v29
  main_v30

def fn {F : FTy → Type} [FloatOps F] (main_arg0 : FVec F S512x18432 .bf16) (main_arg1 : FVec F S512x128 .f32) (main_arg2 : FVec F S1x128x128x64x128 .f32) (main_arg3 : FVec F S1x128x3x10240 .f32) (main_arg4 : FVec F S1x4x10240 .f32) (main_arg5 : FVec F S1x10240 .f32) (main_arg6 : FVec F S1x128 .f32) (main_arg7 : FVec F S1x128 .f32) : IVec S_ 1 :=
  let main_v0 : FVec F S512x10240 .bf16 := (extractStridedSlice S512x10240 ![0, 8192] · slices_S512x18432_S512x10240_0_8192) main_arg0
  let main_v1 : FVec F S512x10240 .f32 := (extf .f32 · bitsLt_bf16_f32) main_v0
  let main_v2 : FVec F S512x10240 .f32 := Host.absf main_v1
  let main_cst : FVec F S_ .f32 := constant S_ .f32 0x7F800000#32
  let main_v3 : FVec F S512x10240 .f32 := broadcastInDim S512x10240 ![] bcast_S_S512x10240 main_cst
  let main_v4 : IVec S512x10240 1 := cmpf .olt main_v2 main_v3
  let main_c : IVec S_ 1 := constantI S_ 1 1#1
  let main_v5 : IVec S_ 1 := (fun x v => Host.reduce IntOp.andi x v reducesTo_S512x10240_S_d0_1 h_S_) main_v4 main_c
  let main_v6 : FVec F S512x128 .f32 := Host.absf main_arg1
  let main_cst_0 : FVec F S_ .f32 := constant S_ .f32 0x7F800000#32
  let main_v7 : FVec F S512x128 .f32 := broadcastInDim S512x128 ![] bcast_S_S512x128 main_cst_0
  let main_v8 : IVec S512x128 1 := cmpf .olt main_v6 main_v7
  let main_c_1 : IVec S_ 1 := constantI S_ 1 1#1
  let main_v9 : IVec S_ 1 := (fun x v => Host.reduce IntOp.andi x v reducesTo_S512x128_S_d0_1 h_S_) main_v8 main_c_1
  let main_v10 : IVec S_ 1 := andi main_v5 main_v9
  let main_v11 : FVec F S1x128x3x10240 .f32 := Host.absf main_arg3
  let main_cst_2 : FVec F S_ .f32 := constant S_ .f32 0x7F800000#32
  let main_v12 : FVec F S1x128x3x10240 .f32 := broadcastInDim S1x128x3x10240 ![] bcast_S_S1x128x3x10240 main_cst_2
  let main_v13 : IVec S1x128x3x10240 1 := cmpf .olt main_v11 main_v12
  let main_c_3 : IVec S_ 1 := constantI S_ 1 1#1
  let main_v14 : IVec S_ 1 := (fun x v => Host.reduce IntOp.andi x v reducesTo_S1x128x3x10240_S_d0_1_2_3 h_S_) main_v13 main_c_3
  let main_v15 : IVec S_ 1 := andi main_v10 main_v14
  let main_v16 : FVec F S1x4x10240 .f32 := Host.absf main_arg4
  let main_cst_4 : FVec F S_ .f32 := constant S_ .f32 0x7F800000#32
  fn_part1 (F := F) main_arg5 main_arg6 main_v15 main_v16 main_cst_4
-- ==== Kernel.lean ====
abbrev S4x2048x4096 : Shape := ⟨3, ![4, 2048, 4096]⟩
abbrev S128x4x4096 : Shape := ⟨3, ![128, 4, 4096]⟩
abbrev S4x4096 : Shape := ⟨2, ![4, 4096]⟩
abbrev S128x4096 : Shape := ⟨2, ![128, 4096]⟩
abbrev S1x128x3x10240 : Shape := ⟨4, ![1, 128, 3, 10240]⟩
abbrev S1x4096x24576 : Shape := ⟨3, ![1, 4096, 24576]⟩
abbrev S1x24576 : Shape := ⟨2, ![1, 24576]⟩
abbrev S1x4096 : Shape := ⟨2, ![1, 4096]⟩
abbrev S1x4096x34944 : Shape := ⟨3, ![1, 4096, 34944]⟩
abbrev S1x128 : Shape := ⟨2, ![1, 128]⟩
abbrev S1x8192x4096 : Shape := ⟨3, ![1, 8192, 4096]⟩
abbrev S1x4096x4096 : Shape := ⟨3, ![1, 4096, 4096]⟩
abbrev S1x4096x2048 : Shape := ⟨3, ![1, 4096, 2048]⟩
abbrev S1x16384x4096 : Shape := ⟨3, ![1, 16384, 4096]⟩
abbrev S8192x4096 : Shape := ⟨2, ![8192, 4096]⟩
abbrev S4x128x4096 : Shape := ⟨3, ![4, 128, 4096]⟩
abbrev S512x4096 : Shape := ⟨2, ![512, 4096]⟩
abbrev S132x4096 : Shape := ⟨2, ![132, 4096]⟩
abbrev S_ : Shape := ⟨0, ![]⟩
abbrev S136x4096 : Shape := ⟨2, ![136, 4096]⟩
abbrev S4096x24576 : Shape := ⟨2, ![4096, 24576]⟩
abbrev S24576 : Shape := ⟨1, ![24576]⟩
abbrev S136x24576 : Shape := ⟨2, ![136, 24576]⟩
abbrev S4096x1024 : Shape := ⟨2, ![4096, 1024]⟩
abbrev S1x1024 : Shape := ⟨2, ![1, 1024]⟩
abbrev S136x1024 : Shape := ⟨2, ![136, 1024]⟩
abbrev S4x24576 : Shape := ⟨2, ![4, 24576]⟩
abbrev S4x6x4096 : Shape := ⟨3, ![4, 6, 4096]⟩
abbrev S128x24576 : Shape := ⟨2, ![128, 24576]⟩
abbrev S128x6x4096 : Shape := ⟨3, ![128, 6, 4096]⟩
abbrev S4x1x4096 : Shape := ⟨3, ![4, 1, 4096]⟩
abbrev S128x1x4096 : Shape := ⟨3, ![128, 1, 4096]⟩
abbrev S1x128x1x4096 : Shape := ⟨4, ![1, 128, 1, 4096]⟩
abbrev S4x128x1x4096 : Shape := ⟨4, ![4, 128, 1, 4096]⟩
abbrev S1x512x4096 : Shape := ⟨3, ![1, 512, 4096]⟩
abbrev S4096x34944 : Shape := ⟨2, ![4096, 34944]⟩
abbrev S4096 : Shape := ⟨1, ![4096]⟩
abbrev S4096x18432 : Shape := ⟨2, ![4096, 18432]⟩
abbrev S128 : Shape := ⟨1, ![128]⟩
abbrev S4096x4096 : Shape := ⟨2, ![4096, 4096]⟩
abbrev S4096x2048 : Shape := ⟨2, ![4096, 2048]⟩
abbrev S16384x4096 : Shape := ⟨2, ![16384, 4096]⟩
abbrev S1x1x4096 : Shape := ⟨3, ![1, 1, 4096]⟩
abbrev S512 : Shape := ⟨1, ![512]⟩
abbrev S512x1 : Shape := ⟨2, ![512, 1]⟩
abbrev S8192x18432 : Shape := ⟨2, ![8192, 18432]⟩
abbrev S4096x16384 : Shape := ⟨2, ![4096, 16384]⟩
abbrev S4096x128 : Shape := ⟨2, ![4096, 128]⟩
abbrev S1024x4096 : Shape := ⟨2, ![1024, 4096]⟩
abbrev S32x16384 : Shape := ⟨2, ![32, 16384]⟩
abbrev S32x128 : Shape := ⟨2, ![32, 128]⟩
abbrev S64x4096 : Shape := ⟨2, ![64, 4096]⟩
abbrev S32x4096 : Shape := ⟨2, ![32, 4096]⟩
abbrev S1024x1024 : Shape := ⟨2, ![1024, 1024]⟩
abbrev S8192x16384 : Shape := ⟨2, ![8192, 16384]⟩
abbrev S32x2048 : Shape := ⟨2, ![32, 2048]⟩
abbrev S8192x128 : Shape := ⟨2, ![8192, 128]⟩
abbrev S1024x128 : Shape := ⟨2, ![1024, 128]⟩
abbrev S4x2048x18432 : Shape := ⟨3, ![4, 2048, 18432]⟩
abbrev S4x3x10240 : Shape := ⟨3, ![4, 3, 10240]⟩
abbrev S4x0x10240 : Shape := ⟨3, ![4, 0, 10240]⟩
abbrev S512x18432 : Shape := ⟨2, ![512, 18432]⟩
abbrev S512x1024 : Shape := ⟨2, ![512, 1024]⟩
abbrev S512x16384 : Shape := ⟨2, ![512, 16384]⟩
abbrev S512x128 : Shape := ⟨2, ![512, 128]⟩
abbrev S4x128x18432 : Shape := ⟨3, ![4, 128, 18432]⟩
abbrev S3x128x10240 : Shape := ⟨3, ![3, 128, 10240]⟩
abbrev S128x3x10240 : Shape := ⟨3, ![128, 3, 10240]⟩
abbrev S128x0x10240 : Shape := ⟨3, ![128, 0, 10240]⟩
abbrev S1x4x3x10240 : Shape := ⟨4, ![1, 4, 3, 10240]⟩

abbrev nBuf : Space → Nat
  | .hbm => 128
  | .vmem => 81
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S4x4096, .f32⟩
  | .hbm, ⟨3, _⟩ => ⟨S128x4096, .f32⟩
  | .hbm, ⟨4, _⟩ => ⟨S1x128x3x10240, .f32⟩
  | .hbm, ⟨5, _⟩ => ⟨S1x4096x24576, .f32⟩
  | .hbm, ⟨6, _⟩ => ⟨S1x24576, .f32⟩
  | .hbm, ⟨7, _⟩ => ⟨S1x4096, .f32⟩
  | .hbm, ⟨8, _⟩ => ⟨S1x4096x34944, .f32⟩
  | .hbm, ⟨9, _⟩ => ⟨S1x128, .f32⟩
  | .hbm, ⟨10, _⟩ => ⟨S1x8192x4096, .f32⟩
  | .hbm, ⟨11, _⟩ => ⟨S1x4096x4096, .f32⟩
  | .hbm, ⟨12, _⟩ => ⟨S1x4096x4096, .f32⟩
  | .hbm, ⟨13, _⟩ => ⟨S1x4096x2048, .f32⟩
  | .hbm, ⟨14, _⟩ => ⟨S1x16384x4096, .f32⟩
  | .hbm, ⟨15, _⟩ => ⟨S8192x4096, .f32⟩
  | .hbm, ⟨16, _⟩ => ⟨S4x128x4096, .f32⟩
  | .hbm, ⟨17, _⟩ => ⟨S512x4096, .f32⟩
  | .hbm, ⟨18, _⟩ => ⟨S132x4096, .f32⟩
  | .hbm, ⟨19, _⟩ => ⟨S_, .i32⟩
  | .hbm, ⟨20, _⟩ => ⟨S_, .f32⟩
  | .hbm, ⟨21, _⟩ => ⟨S136x4096, .f32⟩
  | .hbm, ⟨22, _⟩ => ⟨S4096x24576, .f32⟩
  | .hbm, ⟨23, _⟩ => ⟨S24576, .f32⟩
  | .hbm, ⟨24, _⟩ => ⟨S1x24576, .f32⟩
  | .hbm, ⟨25, _⟩ => ⟨S136x24576, .f32⟩
  | .hbm, ⟨26, _⟩ => ⟨S4x24576, .f32⟩
  | .hbm, ⟨27, _⟩ => ⟨S4x6x4096, .f32⟩
  | .hbm, ⟨28, _⟩ => ⟨S128x24576, .f32⟩
  | .hbm, ⟨29, _⟩ => ⟨S128x6x4096, .f32⟩
  | .hbm, ⟨30, _⟩ => ⟨S4x1x4096, .f32⟩
  | .hbm, ⟨31, _⟩ => ⟨S4x4096, .f32⟩
  | .hbm, ⟨32, _⟩ => ⟨S4x1x4096, .f32⟩
  | .hbm, ⟨33, _⟩ => ⟨S4x1x4096, .f32⟩
  | .hbm, ⟨34, _⟩ => ⟨S4x4096, .f32⟩
  | .hbm, ⟨35, _⟩ => ⟨S4x1x4096, .f32⟩
  | .hbm, ⟨36, _⟩ => ⟨S4x1x4096, .f32⟩
  | .hbm, ⟨37, _⟩ => ⟨S4x4096, .f32⟩
  | .hbm, ⟨38, _⟩ => ⟨S4x1x4096, .f32⟩
  | .hbm, ⟨39, _⟩ => ⟨S4x1x4096, .f32⟩
  | .hbm, ⟨40, _⟩ => ⟨S4x4096, .f32⟩
  | .hbm, ⟨41, _⟩ => ⟨S4x1x4096, .f32⟩
  | .hbm, ⟨42, _⟩ => ⟨S4x1x4096, .f32⟩
  | .hbm, ⟨43, _⟩ => ⟨S4x4096, .f32⟩
  | .hbm, ⟨44, _⟩ => ⟨S4x1x4096, .f32⟩
  | .hbm, ⟨45, _⟩ => ⟨S4x1x4096, .f32⟩
  | .hbm, ⟨46, _⟩ => ⟨S4x4096, .f32⟩
  | .hbm, ⟨47, _⟩ => ⟨S4x1x4096, .f32⟩
  | .hbm, ⟨48, _⟩ => ⟨S128x1x4096, .f32⟩
  | .hbm, ⟨49, _⟩ => ⟨S128x4096, .f32⟩
  | .hbm, ⟨50, _⟩ => ⟨S1x128x1x4096, .f32⟩
  | .hbm, ⟨51, _⟩ => ⟨S4x128x1x4096, .f32⟩
  | .hbm, ⟨52, _⟩ => ⟨S512x4096, .f32⟩
  | .hbm, ⟨53, _⟩ => ⟨S1x512x4096, .f32⟩
  | .hbm, ⟨54, _⟩ => ⟨S128x1x4096, .f32⟩
  | .hbm, ⟨55, _⟩ => ⟨S128x4096, .f32⟩
  | .hbm, ⟨56, _⟩ => ⟨S1x128x1x4096, .f32⟩
  | .hbm, ⟨57, _⟩ => ⟨S4x128x1x4096, .f32⟩
  | .hbm, ⟨58, _⟩ => ⟨S512x4096, .f32⟩
  | .hbm, ⟨59, _⟩ => ⟨S1x512x4096, .f32⟩
  | .hbm, ⟨60, _⟩ => ⟨S128x1x4096, .f32⟩
  | .hbm, ⟨61, _⟩ => ⟨S128x4096, .f32⟩
  | .hbm, ⟨62, _⟩ => ⟨S1x128x1x4096, .f32⟩
  | .hbm, ⟨63, _⟩ => ⟨S4x128x1x4096, .f32⟩
  | .hbm, ⟨64, _⟩ => ⟨S512x4096, .f32⟩
  | .hbm, ⟨65, _⟩ => ⟨S1x512x4096, .f32⟩
  | .hbm, ⟨66, _⟩ => ⟨S128x1x4096, .f32⟩
  | .hbm, ⟨67, _⟩ => ⟨S128x4096, .f32⟩
  | .hbm, ⟨68, _⟩ => ⟨S1x128x1x4096, .f32⟩
  | .hbm, ⟨69, _⟩ => ⟨S4x128x1x4096, .f32⟩
  | .hbm, ⟨70, _⟩ => ⟨S512x4096, .f32⟩
  | .hbm, ⟨71, _⟩ => ⟨S1x512x4096, .f32⟩
  | .hbm, ⟨72, _⟩ => ⟨S128x1x4096, .f32⟩
  | .hbm, ⟨73, _⟩ => ⟨S128x4096, .f32⟩
  | .hbm, ⟨74, _⟩ => ⟨S1x128x1x4096, .f32⟩
  | .hbm, ⟨75, _⟩ => ⟨S4x128x1x4096, .f32⟩
  | .hbm, ⟨76, _⟩ => ⟨S512x4096, .f32⟩
  | .hbm, ⟨77, _⟩ => ⟨S1x512x4096, .f32⟩
  | .hbm, ⟨78, _⟩ => ⟨S128x1x4096, .f32⟩
  | .hbm, ⟨79, _⟩ => ⟨S128x4096, .f32⟩
  | .hbm, ⟨80, _⟩ => ⟨S1x128x1x4096, .f32⟩
  | .hbm, ⟨81, _⟩ => ⟨S4x128x1x4096, .f32⟩
  | .hbm, ⟨82, _⟩ => ⟨S512x4096, .f32⟩
  | .hbm, ⟨83, _⟩ => ⟨S1x512x4096, .f32⟩
  | .hbm, ⟨84, _⟩ => ⟨S4096x34944, .f32⟩
  | .hbm, ⟨85, _⟩ => ⟨S4096, .f32⟩
  | .hbm, ⟨86, _⟩ => ⟨S4096x18432, .f32⟩
  | .hbm, ⟨87, _⟩ => ⟨S4096x18432, .bf16⟩
  | .hbm, ⟨88, _⟩ => ⟨S128, .f32⟩
  | .hbm, ⟨89, _⟩ => ⟨S8192x4096, .f32⟩
  | .hbm, ⟨90, _⟩ => ⟨S4096x4096, .f32⟩
  | .hbm, ⟨91, _⟩ => ⟨S4096x4096, .f32⟩
  | .hbm, ⟨92, _⟩ => ⟨S4096x2048, .f32⟩
  | .hbm, ⟨93, _⟩ => ⟨S16384x4096, .f32⟩
  | .hbm, ⟨94, _⟩ => ⟨S1x4096, .f32⟩
  | .hbm, ⟨95, _⟩ => ⟨S8192x4096, .bf16⟩
  | .hbm, ⟨96, _⟩ => ⟨S8192x18432, .bf16⟩
  | .hbm, ⟨97, _⟩ => ⟨S4096x16384, .bf16⟩
  | .hbm, ⟨98, _⟩ => ⟨S4096x128, .bf16⟩
  | .hbm, ⟨99, _⟩ => ⟨S8192x4096, .bf16⟩
  | .hbm, ⟨100, _⟩ => ⟨S4096x4096, .bf16⟩
  | .hbm, ⟨101, _⟩ => ⟨S8192x16384, .bf16⟩
  | .hbm, ⟨102, _⟩ => ⟨S16384x4096, .bf16⟩
  | .hbm, ⟨103, _⟩ => ⟨S4096x4096, .bf16⟩
  | .hbm, ⟨104, _⟩ => ⟨S4096x2048, .bf16⟩
  | .hbm, ⟨105, _⟩ => ⟨S1x128, .f32⟩
  | .hbm, ⟨106, _⟩ => ⟨S8192x128, .f32⟩
  | .hbm, ⟨107, _⟩ => ⟨S4x2048x18432, .bf16⟩
  | .hbm, ⟨108, _⟩ => ⟨S4x3x10240, .bf16⟩
  | .hbm, ⟨109, _⟩ => ⟨S4x3x10240, .f32⟩
  | .hbm, ⟨110, _⟩ => ⟨S_, .f32⟩
  | .hbm, ⟨111, _⟩ => ⟨S4x0x10240, .f32⟩
  | .hbm, ⟨112, _⟩ => ⟨S4x3x10240, .f32⟩
  | .hbm, ⟨113, _⟩ => ⟨S1x4096, .f32⟩
  | .hbm, ⟨114, _⟩ => ⟨S512x4096, .bf16⟩
  | .hbm, ⟨115, _⟩ => ⟨S512x18432, .bf16⟩
  | .hbm, ⟨116, _⟩ => ⟨S512x16384, .bf16⟩
  | .hbm, ⟨117, _⟩ => ⟨S1x128, .f32⟩
  | .hbm, ⟨118, _⟩ => ⟨S512x128, .f32⟩
  | .hbm, ⟨119, _⟩ => ⟨S4x128x18432, .bf16⟩
  | .hbm, ⟨120, _⟩ => ⟨S3x128x10240, .bf16⟩
  | .hbm, ⟨121, _⟩ => ⟨S3x128x10240, .f32⟩
  | .hbm, ⟨122, _⟩ => ⟨S128x3x10240, .f32⟩
  | .hbm, ⟨123, _⟩ => ⟨S128x3x10240, .f32⟩
  | .hbm, ⟨124, _⟩ => ⟨S128x0x10240, .f32⟩
  | .hbm, ⟨125, _⟩ => ⟨S128x3x10240, .f32⟩
  | .hbm, ⟨126, _⟩ => ⟨S1x4x3x10240, .f32⟩
  | .hbm, ⟨127, _⟩ => ⟨S1x128x3x10240, .f32⟩
  | .local _ .vmem, ⟨0, _⟩ => ⟨S136x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S512x4096, .f32⟩
  | .local _ .vmem, ⟨8, _⟩ => ⟨S512x4096, .f32⟩
  | .local _ .vmem, ⟨9, _⟩ => ⟨S1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S512x4096, .bf16⟩
  | .local _ .vmem, ⟨15, _⟩ => ⟨S512x4096, .bf16⟩
  | .local _ .vmem, ⟨16, _⟩ => ⟨S1024x4096, .bf16⟩
  | .local _ .vmem, ⟨17, _⟩ => ⟨S1024x4096, .bf16⟩
  | .local _ .vmem, ⟨18, _⟩ => ⟨S4096x1024, .bf16⟩
  | .local _ .vmem, ⟨19, _⟩ => ⟨S4096x1024, .bf16⟩
  | .local _ .vmem, ⟨20, _⟩ => ⟨S32x16384, .f32⟩
  | .local _ .vmem, ⟨21, _⟩ => ⟨S32x16384, .f32⟩
  | .local _ .vmem, ⟨22, _⟩ => ⟨S32x128, .f32⟩
  | .local _ .vmem, ⟨23, _⟩ => ⟨S32x128, .f32⟩
  | .local _ .vmem, ⟨24, _⟩ => ⟨S64x4096, .f32⟩
  | .local _ .vmem, ⟨25, _⟩ => ⟨S64x4096, .f32⟩
  | .local _ .vmem, ⟨26, _⟩ => ⟨S32x4096, .f32⟩
  | .local _ .vmem, ⟨27, _⟩ => ⟨S32x4096, .f32⟩
  | .local _ .vmem, ⟨28, _⟩ => ⟨S1024x1024, .bf16⟩
  | .local _ .vmem, ⟨29, _⟩ => ⟨S1024x1024, .bf16⟩
  | .local _ .vmem, ⟨30, _⟩ => ⟨S32x16384, .bf16⟩
  | .local _ .vmem, ⟨31, _⟩ => ⟨S32x16384, .bf16⟩
  | .local _ .vmem, ⟨32, _⟩ => ⟨S32x128, .bf16⟩
  | .local _ .vmem, ⟨33, _⟩ => ⟨S32x128, .bf16⟩
  | .local _ .vmem, ⟨34, _⟩ => ⟨S64x4096, .bf16⟩
  | .local _ .vmem, ⟨35, _⟩ => ⟨S64x4096, .bf16⟩
  | .local _ .vmem, ⟨36, _⟩ => ⟨S32x4096, .bf16⟩
  | .local _ .vmem, ⟨37, _⟩ => ⟨S32x4096, .bf16⟩
  | .local _ .vmem, ⟨38, _⟩ => ⟨S1024x4096, .bf16⟩
  | .local _ .vmem, ⟨39, _⟩ => ⟨S1024x4096, .bf16⟩
  | .local _ .vmem, ⟨40, _⟩ => ⟨S4096x1024, .bf16⟩
  | .local _ .vmem, ⟨41, _⟩ => ⟨S4096x1024, .bf16⟩
  | .local _ .vmem, ⟨42, _⟩ => ⟨S128x4096, .f32⟩
  | .local _ .vmem, ⟨43, _⟩ => ⟨S128x4096, .f32⟩
  | .local _ .vmem, ⟨44, _⟩ => ⟨S32x4096, .f32⟩
  | .local _ .vmem, ⟨45, _⟩ => ⟨S32x4096, .f32⟩
  | .local _ .vmem, ⟨46, _⟩ => ⟨S32x2048, .f32⟩
  | .local _ .vmem, ⟨47, _⟩ => ⟨S32x2048, .f32⟩
  | .local _ .vmem, ⟨48, _⟩ => ⟨S1024x1024, .bf16⟩
  | .local _ .vmem, ⟨49, _⟩ => ⟨S1024x1024, .bf16⟩
  | .local _ .vmem, ⟨50, _⟩ => ⟨S128x4096, .bf16⟩
  | .local _ .vmem, ⟨51, _⟩ => ⟨S128x4096, .bf16⟩
  | .local _ .vmem, ⟨52, _⟩ => ⟨S32x4096, .bf16⟩
  | .local _ .vmem, ⟨53, _⟩ => ⟨S32x4096, .bf16⟩
  | .local _ .vmem, ⟨54, _⟩ => ⟨S32x2048, .bf16⟩
  | .local _ .vmem, ⟨55, _⟩ => ⟨S32x2048, .bf16⟩
  | .local _ .vmem, ⟨56, _⟩ => ⟨S1024x4096, .bf16⟩
  | .local _ .vmem, ⟨57, _⟩ => ⟨S1024x4096, .bf16⟩
  | .local _ .vmem, ⟨58, _⟩ => ⟨S4096x128, .bf16⟩
  | .local _ .vmem, ⟨59, _⟩ => ⟨S1x128, .f32⟩
  | .local _ .vmem, ⟨60, _⟩ => ⟨S1024x128, .f32⟩
  | .local _ .vmem, ⟨61, _⟩ => ⟨S1024x128, .f32⟩
  | .local _ .vmem, ⟨62, _⟩ => ⟨S512x4096, .f32⟩
  | .local _ .vmem, ⟨63, _⟩ => ⟨S1x4096, .f32⟩
  | .local _ .vmem, ⟨64, _⟩ => ⟨S1x512x4096, .f32⟩
  | .local _ .vmem, ⟨65, _⟩ => ⟨S1x512x4096, .f32⟩
  | .local _ .vmem, ⟨66, _⟩ => ⟨S512x4096, .bf16⟩
  | .local _ .vmem, ⟨67, _⟩ => ⟨S512x4096, .bf16⟩
  | .local _ .vmem, ⟨68, _⟩ => ⟨S4096x1024, .bf16⟩
  | .local _ .vmem, ⟨69, _⟩ => ⟨S4096x1024, .bf16⟩
  | .local _ .vmem, ⟨70, _⟩ => ⟨S512x1024, .bf16⟩
  | .local _ .vmem, ⟨71, _⟩ => ⟨S512x1024, .bf16⟩
  | .local _ .vmem, ⟨72, _⟩ => ⟨S512x4096, .bf16⟩
  | .local _ .vmem, ⟨73, _⟩ => ⟨S4096x1024, .bf16⟩
  | .local _ .vmem, ⟨74, _⟩ => ⟨S4096x1024, .bf16⟩
  | .local _ .vmem, ⟨75, _⟩ => ⟨S512x1024, .bf16⟩
  | .local _ .vmem, ⟨76, _⟩ => ⟨S512x1024, .bf16⟩
  | .local _ .vmem, ⟨77, _⟩ => ⟨S512x4096, .bf16⟩
  | .local _ .vmem, ⟨78, _⟩ => ⟨S4096x128, .bf16⟩
  | .local _ .vmem, ⟨79, _⟩ => ⟨S1x128, .f32⟩
  | .local _ .vmem, ⟨80, _⟩ => ⟨S512x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79_0 : Ref sig .tc := ⟨.hbm, 96, rfl⟩
abbrev main_v79_1 : Ref sig .tc := ⟨.hbm, 97, rfl⟩
abbrev main_v79_2 : Ref sig .tc := ⟨.hbm, 98, rfl⟩
abbrev main_v79_3 : Ref sig .tc := ⟨.hbm, 99, rfl⟩
abbrev main_v79_4 : Ref sig .tc := ⟨.hbm, 100, rfl⟩
abbrev main_v80_0 : Ref sig .tc := ⟨.hbm, 101, rfl⟩
abbrev main_v80_1 : Ref sig .tc := ⟨.hbm, 102, rfl⟩
abbrev main_v80_2 : Ref sig .tc := ⟨.hbm, 103, rfl⟩
abbrev main_v80_3 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg8_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg3_1 : Ref sig .tc := ⟨.vmem, 61, rfl⟩
abbrev cc5_stg0_0 : Ref sig .tc := ⟨.vmem, 62, rfl⟩
abbrev cc5_stg1_0 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc6_stg0_0 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc7_stg0_0 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc8_stg0_0 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc2_sem10_0 : DmaSem sig := 36
abbrev cc2_sem10_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc3_sem5_0 : DmaSem sig := 48
abbrev cc3_sem5_1 : DmaSem sig := 49
abbrev cc3_sem6_0 : DmaSem sig := 50
abbrev cc3_sem6_1 : DmaSem sig := 51
abbrev cc3_sem7_0 : DmaSem sig := 52
abbrev cc3_sem7_1 : DmaSem sig := 53
abbrev cc3_sem8_0 : DmaSem sig := 54
abbrev cc3_sem8_1 : DmaSem sig := 55
abbrev cc4_sem0_0 : DmaSem sig := 56
abbrev cc4_sem0_1 : DmaSem sig := 57
abbrev cc4_sem1_0 : DmaSem sig := 58
abbrev cc4_sem2_0 : DmaSem sig := 59
abbrev cc4_sem3_0 : DmaSem sig := 60
abbrev cc4_sem3_1 : DmaSem sig := 61
abbrev cc5_sem0_0 : DmaSem sig := 62
abbrev cc5_sem1_0 : DmaSem sig := 63
abbrev cc5_sem2_0 : DmaSem sig := 64
abbrev cc5_sem3_0 : DmaSem sig := 65
abbrev cc5_sem4_0 : DmaSem sig := 66
abbrev cc6_sem0_0 : DmaSem sig := 67
abbrev cc6_sem1_0 : DmaSem sig := 68
abbrev cc6_sem1_1 : DmaSem sig := 69
abbrev cc6_sem2_0 : DmaSem sig := 70
abbrev cc6_sem2_1 : DmaSem sig := 71
abbrev cc7_sem0_0 : DmaSem sig := 72
abbrev cc7_sem1_0 : DmaSem sig := 73
abbrev cc7_sem1_1 : DmaSem sig := 74
abbrev cc7_sem2_0 : DmaSem sig := 75
abbrev cc7_sem2_1 : DmaSem sig := 76
abbrev cc8_sem0_0 : DmaSem sig := 77
abbrev cc8_sem1_0 : DmaSem sig := 78
abbrev cc8_sem2_0 : DmaSem sig := 79
abbrev cc8_sem3_0 : DmaSem sig := 80

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 18], ![false, false]⟩

def k2_mult1 (i : grid2.Coords) : BitVec 32 :=
  let arg0 : BitVec 32 := BitVec.ofNat 32 (i 0).val
  let c18_i32 : BitVec 32 := 18#32
  let v0 : BitVec 32 := Scalar.muli arg0 c18_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  v3
def k2_mult2 (i : grid2.Coords) : BitVec 32 :=
  let arg0 : BitVec 32 := BitVec.ofNat 32 (i 0).val
  let c18_i32 : BitVec 32 := 18#32
  let v0 : BitVec 32 := Scalar.muli arg0 c18_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  v3
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := v3
  let c18560_i32 : BitVec 32 := 18560#32
  let c0_i32 : BitVec 32 := 0#32
  ![v4.toNat, c18560_i32.toNat]

def cc2_transform_3 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := v3
  let c18432_i32 : BitVec 32 := 18432#32
  let c0_i32 : BitVec 32 := 0#32
  ![v4.toNat, c18432_i32.toNat]

def cc2_transform_4 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc2_transform_5 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc2_transform_8 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc2_transform_9 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc2_transform_10 (i : grid2.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S32x16384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S32x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S64x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S32x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1024x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S32x16384 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S32x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S64x4096 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S32x4096 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨2, ![8, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc3_transform_3 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc3_transform_4 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc3_transform_7 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc3_transform_8 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S128x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S32x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S32x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S128x4096 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S32x4096 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S32x2048 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 1 → Memref sig .tc .vmem S512x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x512x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev stage5_3 : Fin 1 → Memref sig .tc .vmem S1x512x4096 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, true]

abbrev stage5_4 : Fin 1 → Memref sig .tc .vmem S512x4096 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true, false]

abbrev grid6 : Pipeline.Grid := ⟨2, ![1, 18], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S512x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 16], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S512x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S512x4096 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 1 → Memref sig .tc .vmem S4096x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true]

abbrev stage8_3 : Fin 1 → Memref sig .tc .vmem S512x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true, true]
-- ==== ReferenceIdeal.lean ====
abbrev S4x2048x4096 : Shape := ⟨3, ![4, 2048, 4096]⟩
abbrev S128x4x4096 : Shape := ⟨3, ![128, 4, 4096]⟩
abbrev S4x4096 : Shape := ⟨2, ![4, 4096]⟩
abbrev S128x4096 : Shape := ⟨2, ![128, 4096]⟩
abbrev S1x128x3x10240 : Shape := ⟨4, ![1, 128, 3, 10240]⟩
abbrev S1x4096x24576 : Shape := ⟨3, ![1, 4096, 24576]⟩
abbrev S1x24576 : Shape := ⟨2, ![1, 24576]⟩
abbrev S1x4096 : Shape := ⟨2, ![1, 4096]⟩
abbrev S1x4096x34944 : Shape := ⟨3, ![1, 4096, 34944]⟩
abbrev S1x128 : Shape := ⟨2, ![1, 128]⟩
abbrev S1x8192x4096 : Shape := ⟨3, ![1, 8192, 4096]⟩
abbrev S1x4096x4096 : Shape := ⟨3, ![1, 4096, 4096]⟩
abbrev S1x4096x2048 : Shape := ⟨3, ![1, 4096, 2048]⟩
abbrev S1x16384x4096 : Shape := ⟨3, ![1, 16384, 4096]⟩
abbrev S_ : Shape := ⟨0, ![]⟩
abbrev S4x3x10240 : Shape := ⟨3, ![4, 3, 10240]⟩
abbrev S4096x24576 : Shape := ⟨2, ![4096, 24576]⟩
abbrev S4x24576 : Shape := ⟨2, ![4, 24576]⟩
abbrev S24576 : Shape := ⟨1, ![24576]⟩
abbrev S4x1x24576 : Shape := ⟨3, ![4, 1, 24576]⟩
abbrev S4x1x4096 : Shape := ⟨3, ![4, 1, 4096]⟩
abbrev S4096 : Shape := ⟨1, ![4096]⟩
abbrev S4x2048 : Shape := ⟨2, ![4, 2048]⟩
abbrev S4x2048x1 : Shape := ⟨3, ![4, 2048, 1]⟩
abbrev S1x1x4096 : Shape := ⟨3, ![1, 1, 4096]⟩
abbrev S4096x34944 : Shape := ⟨2, ![4096, 34944]⟩
abbrev S4x2048x34944 : Shape := ⟨3, ![4, 2048, 34944]⟩
abbrev S4x2048x18432 : Shape := ⟨3, ![4, 2048, 18432]⟩
abbrev S4x2048x128 : Shape := ⟨3, ![4, 2048, 128]⟩
abbrev S4x2048x16384 : Shape := ⟨3, ![4, 2048, 16384]⟩
abbrev S4x2048x10240 : Shape := ⟨3, ![4, 2048, 10240]⟩
abbrev S4x2051x10240 : Shape := ⟨3, ![4, 2051, 10240]⟩
abbrev S128 : Shape := ⟨1, ![128]⟩
abbrev S1x1x128 : Shape := ⟨3, ![1, 1, 128]⟩
abbrev S128x3x10240 : Shape := ⟨3, ![128, 3, 10240]⟩
abbrev S128x24576 : Shape := ⟨2, ![128, 24576]⟩
abbrev S128x1x24576 : Shape := ⟨3, ![128, 1, 24576]⟩
abbrev S128x1x4096 : Shape := ⟨3, ![128, 1, 4096]⟩
abbrev S128x4 : Shape := ⟨2, ![128, 4]⟩
abbrev S128x4x1 : Shape := ⟨3, ![128, 4, 1]⟩
abbrev S128x4x34944 : Shape := ⟨3, ![128, 4, 34944]⟩
abbrev S128x4x18432 : Shape := ⟨3, ![128, 4, 18432]⟩
abbrev S128x4x128 : Shape := ⟨3, ![128, 4, 128]⟩
abbrev S128x4x16384 : Shape := ⟨3, ![128, 4, 16384]⟩
abbrev S128x4x10240 : Shape := ⟨3, ![128, 4, 10240]⟩
abbrev S128x7x10240 : Shape := ⟨3, ![128, 7, 10240]⟩
abbrev S1x4x3x10240 : Shape := ⟨4, ![1, 4, 3, 10240]⟩
abbrev S8192x18432 : Shape := ⟨2, ![8192, 18432]⟩
abbrev S8192x16384 : Shape := ⟨2, ![8192, 16384]⟩
abbrev S8192x128 : Shape := ⟨2, ![8192, 128]⟩
abbrev S4x128x18432 : Shape := ⟨3, ![4, 128, 18432]⟩
abbrev S512x18432 : Shape := ⟨2, ![512, 18432]⟩
abbrev S4x128x16384 : Shape := ⟨3, ![4, 128, 16384]⟩
abbrev S512x16384 : Shape := ⟨2, ![512, 16384]⟩
abbrev S4x128x128 : Shape := ⟨3, ![4, 128, 128]⟩
abbrev S512x128 : Shape := ⟨2, ![512, 128]⟩
abbrev S8192x4096 : Shape := ⟨2, ![8192, 4096]⟩
abbrev S4096x4096 : Shape := ⟨2, ![4096, 4096]⟩
abbrev S16384x4096 : Shape := ⟨2, ![16384, 4096]⟩
abbrev S4096x2048 : Shape := ⟨2, ![4096, 2048]⟩

abbrev nBuf : Space → Nat
  | .hbm => 187
  | .vmem => 0
  | .smem => 0
  | _ => 0

abbrev hbmTy0_0 (i : Nat) : BufTy := match i % 128 with
  | 0 => ⟨S4x2048x4096, .f32⟩
  | 1 => ⟨S128x4x4096, .f32⟩
  | 2 => ⟨S4x4096, .f32⟩
  | 3 => ⟨S128x4096, .f32⟩
  | 4 => ⟨S1x128x3x10240, .f32⟩
  | 5 => ⟨S1x4096x24576, .f32⟩
  | 6 => ⟨S1x24576, .f32⟩
  | 7 => ⟨S1x4096, .f32⟩
  | 8 => ⟨S1x4096x34944, .f32⟩
  | 9 => ⟨S1x128, .f32⟩
  | 10 => ⟨S1x8192x4096, .f32⟩
  | 11 => ⟨S1x4096x4096, .f32⟩
  | 12 => ⟨S1x4096x4096, .f32⟩
  | 13 => ⟨S1x4096x2048, .f32⟩
  | 14 => ⟨S1x16384x4096, .f32⟩
  | 15 => ⟨S_, .f32⟩
  | 16 => ⟨S4x3x10240, .f32⟩
  | 17 => ⟨S4x4096, .f32⟩
  | 18 => ⟨S4x4096, .f32⟩
  | 19 => ⟨S_, .f32⟩
  | 20 => ⟨S4x4096, .f32⟩
  | 21 => ⟨S4x4096, .f32⟩
  | 22 => ⟨S_, .f32⟩
  | 23 => ⟨S4x4096, .f32⟩
  | 24 => ⟨S4x4096, .f32⟩
  | 25 => ⟨S4x4096, .f32⟩
  | 26 => ⟨S4096x24576, .f32⟩
  | 27 => ⟨S4x24576, .f32⟩
  | 28 => ⟨S24576, .f32⟩
  | 29 => ⟨S1x24576, .f32⟩
  | 30 => ⟨S4x24576, .f32⟩
  | 31 => ⟨S4x24576, .f32⟩
  | 32 => ⟨S4x1x24576, .f32⟩
  | 33 => ⟨S4x1x4096, .f32⟩
  | 34 => ⟨S4x1x4096, .f32⟩
  | 35 => ⟨S4x1x4096, .f32⟩
  | 36 => ⟨S4x1x4096, .f32⟩
  | 37 => ⟨S4x1x4096, .f32⟩
  | 38 => ⟨S4x1x4096, .f32⟩
  | 39 => ⟨S4096, .f32⟩
  | 40 => ⟨S4x2048x4096, .f32⟩
  | 41 => ⟨S_, .f32⟩
  | 42 => ⟨S4x2048, .f32⟩
  | 43 => ⟨S4x2048x1, .f32⟩
  | 44 => ⟨S_, .f32⟩
  | 45 => ⟨S4x2048x1, .f32⟩
  | 46 => ⟨S4x2048x1, .f32⟩
  | 47 => ⟨S_, .f32⟩
  | 48 => ⟨S4x2048x1, .f32⟩
  | 49 => ⟨S4x2048x1, .f32⟩
  | 50 => ⟨S4x2048x1, .f32⟩
  | 51 => ⟨S4x2048x4096, .f32⟩
  | 52 => ⟨S4x2048x4096, .f32⟩
  | 53 => ⟨S1x1x4096, .f32⟩
  | 54 => ⟨S4x2048x4096, .f32⟩
  | 55 => ⟨S4x2048x4096, .f32⟩
  | 56 => ⟨S_, .f32⟩
  | 57 => ⟨S4x1x4096, .f32⟩
  | 58 => ⟨S4x1x4096, .f32⟩
  | 59 => ⟨S4x2048x4096, .f32⟩
  | 60 => ⟨S4x2048x4096, .f32⟩
  | 61 => ⟨S4x2048x4096, .f32⟩
  | 62 => ⟨S4x2048x4096, .f32⟩
  | 63 => ⟨S4096x34944, .f32⟩
  | 64 => ⟨S4x2048x34944, .f32⟩
  | 65 => ⟨S4x2048x18432, .f32⟩
  | 66 => ⟨S4x2048x128, .f32⟩
  | 67 => ⟨S4x2048x16384, .f32⟩
  | 68 => ⟨S4x2048x10240, .f32⟩
  | 69 => ⟨S4x2051x10240, .f32⟩
  | 70 => ⟨S4x3x10240, .f32⟩
  | 71 => ⟨S128, .f32⟩
  | 72 => ⟨S1x1x128, .f32⟩
  | 73 => ⟨S4x2048x128, .f32⟩
  | 74 => ⟨S4x2048x128, .f32⟩
  | 75 => ⟨S_, .f32⟩
  | 76 => ⟨S4x2048x128, .f32⟩
  | 77 => ⟨S4x2048x128, .f32⟩
  | 78 => ⟨S4x2048x128, .f32⟩
  | 79 => ⟨S4x2048x128, .f32⟩
  | 80 => ⟨S4x2048x128, .i1⟩
  | 81 => ⟨S4x2048x128, .f32⟩
  | 82 => ⟨S4x2048x128, .f32⟩
  | 83 => ⟨S4x2048x128, .f32⟩
  | 84 => ⟨S4x2048x128, .f32⟩
  | 85 => ⟨S4x2048x128, .f32⟩
  | 86 => ⟨S4x2048x128, .f32⟩
  | 87 => ⟨S4x2048x128, .f32⟩
  | 88 => ⟨S4x2048x128, .f32⟩
  | 89 => ⟨S128x3x10240, .f32⟩
  | 90 => ⟨S128x4096, .f32⟩
  | 91 => ⟨S128x4096, .f32⟩
  | 92 => ⟨S_, .f32⟩
  | 93 => ⟨S128x4096, .f32⟩
  | 94 => ⟨S128x4096, .f32⟩
  | 95 => ⟨S_, .f32⟩
  | 96 => ⟨S128x4096, .f32⟩
  | 97 => ⟨S128x4096, .f32⟩
  | 98 => ⟨S128x4096, .f32⟩
  | 99 => ⟨S4096x24576, .f32⟩
  | 100 => ⟨S128x24576, .f32⟩
  | 101 => ⟨S24576, .f32⟩
  | 102 => ⟨S1x24576, .f32⟩
  | 103 => ⟨S128x24576, .f32⟩
  | 104 => ⟨S128x24576, .f32⟩
  | 105 => ⟨S128x1x24576, .f32⟩
  | 106 => ⟨S128x1x4096, .f32⟩
  | 107 => ⟨S128x1x4096, .f32⟩
  | 108 => ⟨S128x1x4096, .f32⟩
  | 109 => ⟨S128x1x4096, .f32⟩
  | 110 => ⟨S128x1x4096, .f32⟩
  | 111 => ⟨S128x1x4096, .f32⟩
  | 112 => ⟨S4096, .f32⟩
  | 113 => ⟨S128x4x4096, .f32⟩
  | 114 => ⟨S_, .f32⟩
  | 115 => ⟨S128x4, .f32⟩
  | 116 => ⟨S128x4x1, .f32⟩
  | 117 => ⟨S_, .f32⟩
  | 118 => ⟨S128x4x1, .f32⟩
  | 119 => ⟨S128x4x1, .f32⟩
  | 120 => ⟨S_, .f32⟩
  | 121 => ⟨S128x4x1, .f32⟩
  | 122 => ⟨S128x4x1, .f32⟩
  | 123 => ⟨S128x4x1, .f32⟩
  | 124 => ⟨S128x4x4096, .f32⟩
  | 125 => ⟨S128x4x4096, .f32⟩
  | 126 => ⟨S1x1x4096, .f32⟩
  | 127 => ⟨S128x4x4096, .f32⟩
  | _ => ⟨S4x2048x4096, .f32⟩

abbrev hbmTy0_1 (i : Nat) : BufTy := match i % 128 with
  | 0 => ⟨S128x4x4096, .f32⟩
  | 1 => ⟨S_, .f32⟩
  | 2 => ⟨S128x1x4096, .f32⟩
  | 3 => ⟨S128x1x4096, .f32⟩
  | 4 => ⟨S128x4x4096, .f32⟩
  | 5 => ⟨S128x4x4096, .f32⟩
  | 6 => ⟨S128x4x4096, .f32⟩
  | 7 => ⟨S128x4x4096, .f32⟩
  | 8 => ⟨S4096x34944, .f32⟩
  | 9 => ⟨S128x4x34944, .f32⟩
  | 10 => ⟨S128x4x18432, .f32⟩
  | 11 => ⟨S128x4x128, .f32⟩
  | 12 => ⟨S128x4x16384, .f32⟩
  | 13 => ⟨S128x4x10240, .f32⟩
  | 14 => ⟨S128x7x10240, .f32⟩
  | 15 => ⟨S128x3x10240, .f32⟩
  | 16 => ⟨S128, .f32⟩
  | 17 => ⟨S1x1x128, .f32⟩
  | 18 => ⟨S128x4x128, .f32⟩
  | 19 => ⟨S128x4x128, .f32⟩
  | 20 => ⟨S_, .f32⟩
  | 21 => ⟨S128x4x128, .f32⟩
  | 22 => ⟨S128x4x128, .f32⟩
  | 23 => ⟨S128x4x128, .f32⟩
  | 24 => ⟨S128x4x128, .f32⟩
  | 25 => ⟨S128x4x128, .i1⟩
  | 26 => ⟨S128x4x128, .f32⟩
  | 27 => ⟨S128x4x128, .f32⟩
  | 28 => ⟨S128x4x128, .f32⟩
  | 29 => ⟨S128x4x128, .f32⟩
  | 30 => ⟨S128x4x128, .f32⟩
  | 31 => ⟨S128x4x128, .f32⟩
  | 32 => ⟨S128x4x128, .f32⟩
  | 33 => ⟨S128x4x128, .f32⟩
  | 34 => ⟨S1x4x3x10240, .f32⟩
  | 35 => ⟨S1x128x3x10240, .f32⟩
  | 36 => ⟨S8192x18432, .f32⟩
  | 37 => ⟨S8192x18432, .bf16⟩
  | 38 => ⟨S8192x16384, .f32⟩
  | 39 => ⟨S8192x16384, .bf16⟩
  | 40 => ⟨S8192x128, .f32⟩
  | 41 => ⟨S4x128x18432, .f32⟩
  | 42 => ⟨S512x18432, .f32⟩
  | 43 => ⟨S512x18432, .bf16⟩
  | 44 => ⟨S4x128x16384, .f32⟩
  | 45 => ⟨S512x16384, .f32⟩
  | 46 => ⟨S512x16384, .bf16⟩
  | 47 => ⟨S4x128x128, .f32⟩
  | 48 => ⟨S512x128, .f32⟩
  | 49 => ⟨S8192x4096, .f32⟩
  | 50 => ⟨S8192x4096, .bf16⟩
  | 51 => ⟨S4096x4096, .f32⟩
  | 52 => ⟨S4096x4096, .bf16⟩
  | 53 => ⟨S16384x4096, .f32⟩
  | 54 => ⟨S16384x4096, .bf16⟩
  | 55 => ⟨S4096x4096, .f32⟩
  | 56 => ⟨S4096x4096, .bf16⟩
  | 57 => ⟨S4096x2048, .f32⟩
  | 58 => ⟨S4096x2048, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v47 : Ref sig .tc := ⟨.hbm, 88, rfl⟩
abbrev main_v48 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_4 : Ref sig .tc := ⟨.hbm, 114, rfl⟩
abbrev main_v65 : Ref sig .tc := ⟨.hbm, 115, rfl⟩
abbrev main_v66 : Ref sig .tc := ⟨.hbm, 116, rfl⟩
abbrev main_cst_5 : Ref sig .tc := ⟨.hbm, 117, rfl⟩
abbrev main_v67 : Ref sig .tc := ⟨.hbm, 118, rfl⟩
abbrev main_v68 : Ref sig .tc := ⟨.hbm, 119, rfl⟩
abbrev main_cst_6 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_7 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩

abbrev nD : Nat := 1
abbrev τ : Topo := Topo.v7x

variable {F : FTy → Type} [FloatOps F]
-- ==== Mixer.lean ====
abbrev S4x2048x4096 : Shape := ⟨3, ![4, 2048, 4096]⟩
abbrev S128x4x4096 : Shape := ⟨3, ![128, 4, 4096]⟩
abbrev S8192x8192 : Shape := ⟨2, ![8192, 8192]⟩
abbrev S512x8192 : Shape := ⟨2, ![512, 8192]⟩
abbrev S8192x16384 : Shape := ⟨2, ![8192, 16384]⟩
abbrev S512x16384 : Shape := ⟨2, ![512, 16384]⟩
abbrev S8192x4096 : Shape := ⟨2, ![8192, 4096]⟩
abbrev S512x4096 : Shape := ⟨2, ![512, 4096]⟩
abbrev S4x24576 : Shape := ⟨2, ![4, 24576]⟩
abbrev S128x24576 : Shape := ⟨2, ![128, 24576]⟩
abbrev S4096x4096 : Shape := ⟨2, ![4096, 4096]⟩
abbrev S1x4096 : Shape := ⟨2, ![1, 4096]⟩
abbrev S4096x2048 : Shape := ⟨2, ![4096, 2048]⟩
abbrev S1x16384x4096 : Shape := ⟨3, ![1, 16384, 4096]⟩
abbrev S4x128x4096 : Shape := ⟨3, ![4, 128, 4096]⟩
abbrev S4x6x4096 : Shape := ⟨3, ![4, 6, 4096]⟩
abbrev S128x6x4096 : Shape := ⟨3, ![128, 6, 4096]⟩
abbrev S4x1x4096 : Shape := ⟨3, ![4, 1, 4096]⟩
abbrev S4x4096 : Shape := ⟨2, ![4, 4096]⟩
abbrev S128x1x4096 : Shape := ⟨3, ![128, 1, 4096]⟩
abbrev S128x4096 : Shape := ⟨2, ![128, 4096]⟩
abbrev S1x128x1x4096 : Shape := ⟨4, ![1, 128, 1, 4096]⟩
abbrev S4x128x1x4096 : Shape := ⟨4, ![4, 128, 1, 4096]⟩
abbrev S1x512x4096 : Shape := ⟨3, ![1, 512, 4096]⟩
abbrev S4096 : Shape := ⟨1, ![4096]⟩
abbrev S16384x4096 : Shape := ⟨2, ![16384, 4096]⟩
abbrev S8192x512 : Shape := ⟨2, ![8192, 512]⟩
abbrev S512x512 : Shape := ⟨2, ![512, 512]⟩
abbrev S1024x4096 : Shape := ⟨2, ![1024, 4096]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩
abbrev S1x1x4096 : Shape := ⟨3, ![1, 1, 4096]⟩
abbrev S512 : Shape := ⟨1, ![512]⟩
abbrev S512x1 : Shape := ⟨2, ![512, 1]⟩
abbrev S8192x2048 : Shape := ⟨2, ![8192, 2048]⟩
abbrev S512x1024 : Shape := ⟨2, ![512, 1024]⟩
abbrev S1x512x512 : Shape := ⟨3, ![1, 512, 512]⟩
abbrev S512x2048 : Shape := ⟨2, ![512, 2048]⟩

abbrev nBuf : Space → Nat
  | .hbm => 90
  | .vmem => 82
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S8192x8192, .bf16⟩
  | .hbm, ⟨3, _⟩ => ⟨S512x8192, .bf16⟩
  | .hbm, ⟨4, _⟩ => ⟨S8192x16384, .bf16⟩
  | .hbm, ⟨5, _⟩ => ⟨S512x16384, .bf16⟩
  | .hbm, ⟨6, _⟩ => ⟨S8192x4096, .bf16⟩
  | .hbm, ⟨7, _⟩ => ⟨S512x4096, .bf16⟩
  | .hbm, ⟨8, _⟩ => ⟨S4x24576, .f32⟩
  | .hbm, ⟨9, _⟩ => ⟨S128x24576, .f32⟩
  | .hbm, ⟨10, _⟩ => ⟨S8192x4096, .bf16⟩
  | .hbm, ⟨11, _⟩ => ⟨S4096x4096, .bf16⟩
  | .hbm, ⟨12, _⟩ => ⟨S4096x4096, .bf16⟩
  | .hbm, ⟨13, _⟩ => ⟨S1x4096, .f32⟩
  | .hbm, ⟨14, _⟩ => ⟨S4096x2048, .bf16⟩
  | .hbm, ⟨15, _⟩ => ⟨S1x16384x4096, .f32⟩
  | .hbm, ⟨16, _⟩ => ⟨S8192x4096, .f32⟩
  | .hbm, ⟨17, _⟩ => ⟨S4x128x4096, .f32⟩
  | .hbm, ⟨18, _⟩ => ⟨S512x4096, .f32⟩
  | .hbm, ⟨19, _⟩ => ⟨S4x6x4096, .f32⟩
  | .hbm, ⟨20, _⟩ => ⟨S128x6x4096, .f32⟩
  | .hbm, ⟨21, _⟩ => ⟨S4x1x4096, .f32⟩
  | .hbm, ⟨22, _⟩ => ⟨S4x4096, .f32⟩
  | .hbm, ⟨23, _⟩ => ⟨S4x1x4096, .f32⟩
  | .hbm, ⟨24, _⟩ => ⟨S4x1x4096, .f32⟩
  | .hbm, ⟨25, _⟩ => ⟨S4x4096, .f32⟩
  | .hbm, ⟨26, _⟩ => ⟨S4x1x4096, .f32⟩
  | .hbm, ⟨27, _⟩ => ⟨S4x1x4096, .f32⟩
  | .hbm, ⟨28, _⟩ => ⟨S4x4096, .f32⟩
  | .hbm, ⟨29, _⟩ => ⟨S4x1x4096, .f32⟩
  | .hbm, ⟨30, _⟩ => ⟨S4x1x4096, .f32⟩
  | .hbm, ⟨31, _⟩ => ⟨S4x4096, .f32⟩
  | .hbm, ⟨32, _⟩ => ⟨S4x1x4096, .f32⟩
  | .hbm, ⟨33, _⟩ => ⟨S4x1x4096, .f32⟩
  | .hbm, ⟨34, _⟩ => ⟨S4x4096, .f32⟩
  | .hbm, ⟨35, _⟩ => ⟨S4x1x4096, .f32⟩
  | .hbm, ⟨36, _⟩ => ⟨S4x1x4096, .f32⟩
  | .hbm, ⟨37, _⟩ => ⟨S4x4096, .f32⟩
  | .hbm, ⟨38, _⟩ => ⟨S4x1x4096, .f32⟩
  | .hbm, ⟨39, _⟩ => ⟨S128x1x4096, .f32⟩
  | .hbm, ⟨40, _⟩ => ⟨S128x4096, .f32⟩
  | .hbm, ⟨41, _⟩ => ⟨S1x128x1x4096, .f32⟩
  | .hbm, ⟨42, _⟩ => ⟨S4x128x1x4096, .f32⟩
  | .hbm, ⟨43, _⟩ => ⟨S512x4096, .f32⟩
  | .hbm, ⟨44, _⟩ => ⟨S1x512x4096, .f32⟩
  | .hbm, ⟨45, _⟩ => ⟨S128x1x4096, .f32⟩
  | .hbm, ⟨46, _⟩ => ⟨S128x4096, .f32⟩
  | .hbm, ⟨47, _⟩ => ⟨S1x128x1x4096, .f32⟩
  | .hbm, ⟨48, _⟩ => ⟨S4x128x1x4096, .f32⟩
  | .hbm, ⟨49, _⟩ => ⟨S512x4096, .f32⟩
  | .hbm, ⟨50, _⟩ => ⟨S1x512x4096, .f32⟩
  | .hbm, ⟨51, _⟩ => ⟨S128x1x4096, .f32⟩
  | .hbm, ⟨52, _⟩ => ⟨S128x4096, .f32⟩
  | .hbm, ⟨53, _⟩ => ⟨S1x128x1x4096, .f32⟩
  | .hbm, ⟨54, _⟩ => ⟨S4x128x1x4096, .f32⟩
  | .hbm, ⟨55, _⟩ => ⟨S512x4096, .f32⟩
  | .hbm, ⟨56, _⟩ => ⟨S1x512x4096, .f32⟩
  | .hbm, ⟨57, _⟩ => ⟨S128x1x4096, .f32⟩
  | .hbm, ⟨58, _⟩ => ⟨S128x4096, .f32⟩
  | .hbm, ⟨59, _⟩ => ⟨S1x128x1x4096, .f32⟩
  | .hbm, ⟨60, _⟩ => ⟨S4x128x1x4096, .f32⟩
  | .hbm, ⟨61, _⟩ => ⟨S512x4096, .f32⟩
  | .hbm, ⟨62, _⟩ => ⟨S1x512x4096, .f32⟩
  | .hbm, ⟨63, _⟩ => ⟨S128x1x4096, .f32⟩
  | .hbm, ⟨64, _⟩ => ⟨S128x4096, .f32⟩
  | .hbm, ⟨65, _⟩ => ⟨S1x128x1x4096, .f32⟩
  | .hbm, ⟨66, _⟩ => ⟨S4x128x1x4096, .f32⟩
  | .hbm, ⟨67, _⟩ => ⟨S512x4096, .f32⟩
  | .hbm, ⟨68, _⟩ => ⟨S1x512x4096, .f32⟩
  | .hbm, ⟨69, _⟩ => ⟨S128x1x4096, .f32⟩
  | .hbm, ⟨70, _⟩ => ⟨S128x4096, .f32⟩
  | .hbm, ⟨71, _⟩ => ⟨S1x128x1x4096, .f32⟩
  | .hbm, ⟨72, _⟩ => ⟨S4x128x1x4096, .f32⟩
  | .hbm, ⟨73, _⟩ => ⟨S512x4096, .f32⟩
  | .hbm, ⟨74, _⟩ => ⟨S1x512x4096, .f32⟩
  | .hbm, ⟨75, _⟩ => ⟨S4096, .f32⟩
  | .hbm, ⟨76, _⟩ => ⟨S16384x4096, .f32⟩
  | .hbm, ⟨77, _⟩ => ⟨S8192x4096, .bf16⟩
  | .hbm, ⟨78, _⟩ => ⟨S16384x4096, .bf16⟩
  | .hbm, ⟨79, _⟩ => ⟨S8192x4096, .bf16⟩
  | .hbm, ⟨80, _⟩ => ⟨S8192x4096, .f32⟩
  | .hbm, ⟨81, _⟩ => ⟨S1x4096, .f32⟩
  | .hbm, ⟨82, _⟩ => ⟨S8192x4096, .bf16⟩
  | .hbm, ⟨83, _⟩ => ⟨S8192x2048, .f32⟩
  | .hbm, ⟨84, _⟩ => ⟨S512x4096, .bf16⟩
  | .hbm, ⟨85, _⟩ => ⟨S512x4096, .bf16⟩
  | .hbm, ⟨86, _⟩ => ⟨S512x4096, .f32⟩
  | .hbm, ⟨87, _⟩ => ⟨S1x4096, .f32⟩
  | .hbm, ⟨88, _⟩ => ⟨S512x4096, .bf16⟩
  | .hbm, ⟨89, _⟩ => ⟨S512x2048, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | .local _ .vmem, ⟨6, _⟩ => ⟨S128x4096, .f32⟩
  | .local _ .vmem, ⟨7, _⟩ => ⟨S128x4096, .f32⟩
  | .local _ .vmem, ⟨8, _⟩ => ⟨S512x512, .bf16⟩
  | .local _ .vmem, ⟨9, _⟩ => ⟨S512x512, .bf16⟩
  | .local _ .vmem, ⟨10, _⟩ => ⟨S128x4096, .bf16⟩
  | .local _ .vmem, ⟨11, _⟩ => ⟨S128x4096, .bf16⟩
  | .local _ .vmem, ⟨12, _⟩ => ⟨S1024x4096, .bf16⟩
  | .local _ .vmem, ⟨13, _⟩ => ⟨S1024x4096, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x4096, .bf16⟩
  | .local _ .vmem, ⟨23, _⟩ => ⟨S1024x4096, .bf16⟩
  | .local _ .vmem, ⟨24, _⟩ => ⟨S4096x512, .bf16⟩
  | .local _ .vmem, ⟨25, _⟩ => ⟨S4096x512, .bf16⟩
  | .local _ .vmem, ⟨26, _⟩ => ⟨S1024x512, .f32⟩
  | .local _ .vmem, ⟨27, _⟩ => ⟨S1024x512, .f32⟩
  | .local _ .vmem, ⟨28, _⟩ => ⟨S1x1x512, .f32⟩
  | .local _ .vmem, ⟨29, _⟩ => ⟨S1x1x512, .f32⟩
  | .local _ .vmem, ⟨30, _⟩ => ⟨S1024x512, .f32⟩
  | .local _ .vmem, ⟨31, _⟩ => ⟨S1024x512, .f32⟩
  | .local _ .vmem, ⟨32, _⟩ => ⟨S512x4096, .f32⟩
  | .local _ .vmem, ⟨33, _⟩ => ⟨S512x4096, .f32⟩
  | .local _ .vmem, ⟨34, _⟩ => ⟨S1x4096, .f32⟩
  | .local _ .vmem, ⟨35, _⟩ => ⟨S1x1x4096, .f32⟩
  | .local _ .vmem, ⟨36, _⟩ => ⟨S1x1x4096, .f32⟩
  | .local _ .vmem, ⟨37, _⟩ => ⟨S1x1x4096, .f32⟩
  | .local _ .vmem, ⟨38, _⟩ => ⟨S1x1x4096, .f32⟩
  | .local _ .vmem, ⟨39, _⟩ => ⟨S512x4096, .bf16⟩
  | .local _ .vmem, ⟨40, _⟩ => ⟨S512x4096, .bf16⟩
  | .local _ .vmem, ⟨41, _⟩ => ⟨S1024x4096, .bf16⟩
  | .local _ .vmem, ⟨42, _⟩ => ⟨S1024x4096, .bf16⟩
  | .local _ .vmem, ⟨43, _⟩ => ⟨S4096x1024, .bf16⟩
  | .local _ .vmem, ⟨44, _⟩ => ⟨S4096x1024, .bf16⟩
  | .local _ .vmem, ⟨45, _⟩ => ⟨S1024x1024, .f32⟩
  | .local _ .vmem, ⟨46, _⟩ => ⟨S1024x1024, .f32⟩
  | .local _ .vmem, ⟨47, _⟩ => ⟨S512x8192, .bf16⟩
  | .local _ .vmem, ⟨48, _⟩ => ⟨S8192x512, .bf16⟩
  | .local _ .vmem, ⟨49, _⟩ => ⟨S8192x512, .bf16⟩
  | .local _ .vmem, ⟨50, _⟩ => ⟨S512x512, .bf16⟩
  | .local _ .vmem, ⟨51, _⟩ => ⟨S512x512, .bf16⟩
  | .local _ .vmem, ⟨52, _⟩ => ⟨S512x512, .bf16⟩
  | .local _ .vmem, ⟨53, _⟩ => ⟨S512x512, .bf16⟩
  | .local _ .vmem, ⟨54, _⟩ => ⟨S512x4096, .bf16⟩
  | .local _ .vmem, ⟨55, _⟩ => ⟨S4096x1024, .bf16⟩
  | .local _ .vmem, ⟨56, _⟩ => ⟨S4096x1024, .bf16⟩
  | .local _ .vmem, ⟨57, _⟩ => ⟨S512x1024, .bf16⟩
  | .local _ .vmem, ⟨58, _⟩ => ⟨S512x1024, .bf16⟩
  | .local _ .vmem, ⟨59, _⟩ => ⟨S512x1024, .bf16⟩
  | .local _ .vmem, ⟨60, _⟩ => ⟨S512x1024, .bf16⟩
  | .local _ .vmem, ⟨61, _⟩ => ⟨S512x1024, .bf16⟩
  | .local _ .vmem, ⟨62, _⟩ => ⟨S512x1024, .bf16⟩
  | .local _ .vmem, ⟨63, _⟩ => ⟨S512x4096, .bf16⟩
  | .local _ .vmem, ⟨64, _⟩ => ⟨S4096x512, .bf16⟩
  | .local _ .vmem, ⟨65, _⟩ => ⟨S4096x512, .bf16⟩
  | .local _ .vmem, ⟨66, _⟩ => ⟨S512x512, .f32⟩
  | .local _ .vmem, ⟨67, _⟩ => ⟨S512x512, .f32⟩
  | .local _ .vmem, ⟨68, _⟩ => ⟨S1x512x512, .f32⟩
  | .local _ .vmem, ⟨69, _⟩ => ⟨S1x512x512, .f32⟩
  | .local _ .vmem, ⟨70, _⟩ => ⟨S512x512, .f32⟩
  | .local _ .vmem, ⟨71, _⟩ => ⟨S512x512, .f32⟩
  | .local _ .vmem, ⟨72, _⟩ => ⟨S512x4096, .f32⟩
  | .local _ .vmem, ⟨73, _⟩ => ⟨S1x4096, .f32⟩
  | .local _ .vmem, ⟨74, _⟩ => ⟨S1x512x4096, .f32⟩
  | .local _ .vmem, ⟨75, _⟩ => ⟨S1x512x4096, .f32⟩
  | .local _ .vmem, ⟨76, _⟩ => ⟨S512x4096, .bf16⟩
  | .local _ .vmem, ⟨77, _⟩ => ⟨S512x4096, .bf16⟩
  | .local _ .vmem, ⟨78, _⟩ => ⟨S4096x1024, .bf16⟩
  | .local _ .vmem, ⟨79, _⟩ => ⟨S4096x1024, .bf16⟩
  | .local _ .vmem, ⟨80, _⟩ => ⟨S512x1024, .f32⟩
  | .local _ .vmem, ⟨81, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61_0 : Ref sig .tc := ⟨.hbm, 77, rfl⟩
abbrev main_v61_1 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc5_stg0_0 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg3_1 : Ref sig .tc := ⟨.vmem, 60, rfl⟩
abbrev cc6_stg4_0 : Ref sig .tc := ⟨.vmem, 61, rfl⟩
abbrev cc6_stg4_1 : Ref sig .tc := ⟨.vmem, 62, rfl⟩
abbrev cc7_stg0_0 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_stg4_0 : Ref sig .tc := ⟨.vmem, 70, rfl⟩
abbrev cc7_stg4_1 : Ref sig .tc := ⟨.vmem, 71, rfl⟩
abbrev cc8_stg0_0 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc9_stg0_0 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg2_1 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc5_sem0_0 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem3_1 : DmaSem sig := 53
abbrev cc6_sem0_0 : DmaSem sig := 54
abbrev cc6_sem1_0 : DmaSem sig := 55
abbrev cc6_sem1_1 : DmaSem sig := 56
abbrev cc6_sem2_0 : DmaSem sig := 57
abbrev cc6_sem2_1 : DmaSem sig := 58
abbrev cc6_sem3_0 : DmaSem sig := 59
abbrev cc6_sem3_1 : DmaSem sig := 60
abbrev cc6_sem4_0 : DmaSem sig := 61
abbrev cc6_sem4_1 : DmaSem sig := 62
abbrev cc7_sem0_0 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem3_1 : DmaSem sig := 69
abbrev cc7_sem4_0 : DmaSem sig := 70
abbrev cc7_sem4_1 : DmaSem sig := 71
abbrev cc8_sem0_0 : DmaSem sig := 72
abbrev cc8_sem1_0 : DmaSem sig := 73
abbrev cc8_sem2_0 : DmaSem sig := 74
abbrev cc8_sem3_0 : DmaSem sig := 75
abbrev cc8_sem4_0 : DmaSem sig := 76
abbrev cc9_sem0_0 : DmaSem sig := 77
abbrev cc9_sem1_0 : DmaSem sig := 78
abbrev cc9_sem1_1 : DmaSem sig := 79
abbrev cc9_sem2_0 : DmaSem sig := 80
abbrev cc9_sem2_1 : DmaSem sig := 81

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc2_transform_3 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc3_transform_3 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x4096 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S512x8192 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S8192x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc6_transform_3 (i : grid6.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S512x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S512x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S512x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![1, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S512x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x512x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S512x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨2, ![1, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 1 → Memref sig .tc .vmem S512x4096 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 1 → Memref sig .tc .vmem S1x4096 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 1 → Memref sig .tc .vmem S1x512x4096 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true]

abbrev stage8_3 : Fin 1 → Memref sig .tc .vmem S1x512x4096 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true, true]

abbrev stage8_4 : Fin 1 → Memref sig .tc .vmem S512x4096 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true, false]

abbrev grid9 : Pipeline.Grid := ⟨2, ![1, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S512x4096 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 2 → Memref sig .tc .vmem S4096x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]
-- ==== MixerReferenceIdeal.lean ====
abbrev S4x2048x4096 : Shape := ⟨3, ![4, 2048, 4096]⟩
abbrev S128x4x4096 : Shape := ⟨3, ![128, 4, 4096]⟩
abbrev S8192x8192 : Shape := ⟨2, ![8192, 8192]⟩
abbrev S512x8192 : Shape := ⟨2, ![512, 8192]⟩
abbrev S8192x16384 : Shape := ⟨2, ![8192, 16384]⟩
abbrev S512x16384 : Shape := ⟨2, ![512, 16384]⟩
abbrev S8192x4096 : Shape := ⟨2, ![8192, 4096]⟩
abbrev S512x4096 : Shape := ⟨2, ![512, 4096]⟩
abbrev S4x24576 : Shape := ⟨2, ![4, 24576]⟩
abbrev S128x24576 : Shape := ⟨2, ![128, 24576]⟩
abbrev S4096x4096 : Shape := ⟨2, ![4096, 4096]⟩
abbrev S1x4096 : Shape := ⟨2, ![1, 4096]⟩
abbrev S4096x2048 : Shape := ⟨2, ![4096, 2048]⟩
abbrev S1x16384x4096 : Shape := ⟨3, ![1, 16384, 4096]⟩
abbrev S4x2048x8192 : Shape := ⟨3, ![4, 2048, 8192]⟩
abbrev S4x2048x16384 : Shape := ⟨3, ![4, 2048, 16384]⟩
abbrev S4x1x24576 : Shape := ⟨3, ![4, 1, 24576]⟩
abbrev S4x1x4096 : Shape := ⟨3, ![4, 1, 4096]⟩
abbrev S_ : Shape := ⟨0, ![]⟩
abbrev S4096 : Shape := ⟨1, ![4096]⟩
abbrev S4x2048 : Shape := ⟨2, ![4, 2048]⟩
abbrev S4x2048x1 : Shape := ⟨3, ![4, 2048, 1]⟩
abbrev S1x1x4096 : Shape := ⟨3, ![1, 1, 4096]⟩
abbrev S4x2048x2048 : Shape := ⟨3, ![4, 2048, 2048]⟩
abbrev S4x128x8192 : Shape := ⟨3, ![4, 128, 8192]⟩
abbrev S128x4x8192 : Shape := ⟨3, ![128, 4, 8192]⟩
abbrev S4x128x16384 : Shape := ⟨3, ![4, 128, 16384]⟩
abbrev S128x4x16384 : Shape := ⟨3, ![128, 4, 16384]⟩
abbrev S4x128x4096 : Shape := ⟨3, ![4, 128, 4096]⟩
abbrev S128x1x24576 : Shape := ⟨3, ![128, 1, 24576]⟩
abbrev S128x1x4096 : Shape := ⟨3, ![128, 1, 4096]⟩
abbrev S128x4 : Shape := ⟨2, ![128, 4]⟩
abbrev S128x4x1 : Shape := ⟨3, ![128, 4, 1]⟩
abbrev S128x4x2048 : Shape := ⟨3, ![128, 4, 2048]⟩
abbrev S8192x2048 : Shape := ⟨2, ![8192, 2048]⟩
abbrev S4x128x2048 : Shape := ⟨3, ![4, 128, 2048]⟩
abbrev S512x2048 : Shape := ⟨2, ![512, 2048]⟩
abbrev S16384x4096 : Shape := ⟨2, ![16384, 4096]⟩

abbrev nBuf : Space → Nat
  | .hbm => 172
  | .vmem => 0
  | .smem => 0
  | _ => 0

abbrev hbmTy0_0 (i : Nat) : BufTy := match i % 128 with
  | 0 => ⟨S4x2048x4096, .f32⟩
  | 1 => ⟨S128x4x4096, .f32⟩
  | 2 => ⟨S8192x8192, .bf16⟩
  | 3 => ⟨S512x8192, .bf16⟩
  | 4 => ⟨S8192x16384, .bf16⟩
  | 5 => ⟨S512x16384, .bf16⟩
  | 6 => ⟨S8192x4096, .bf16⟩
  | 7 => ⟨S512x4096, .bf16⟩
  | 8 => ⟨S4x24576, .f32⟩
  | 9 => ⟨S128x24576, .f32⟩
  | 10 => ⟨S8192x4096, .bf16⟩
  | 11 => ⟨S4096x4096, .bf16⟩
  | 12 => ⟨S4096x4096, .bf16⟩
  | 13 => ⟨S1x4096, .f32⟩
  | 14 => ⟨S4096x2048, .bf16⟩
  | 15 => ⟨S1x16384x4096, .f32⟩
  | 16 => ⟨S4x2048x8192, .bf16⟩
  | 17 => ⟨S4x2048x8192, .f32⟩
  | 18 => ⟨S4x2048x16384, .bf16⟩
  | 19 => ⟨S4x2048x16384, .f32⟩
  | 20 => ⟨S4x2048x4096, .bf16⟩
  | 21 => ⟨S4x2048x4096, .f32⟩
  | 22 => ⟨S4x1x24576, .f32⟩
  | 23 => ⟨S4x1x4096, .f32⟩
  | 24 => ⟨S4x1x4096, .f32⟩
  | 25 => ⟨S4x1x4096, .f32⟩
  | 26 => ⟨S4x1x4096, .f32⟩
  | 27 => ⟨S4x1x4096, .f32⟩
  | 28 => ⟨S4x1x4096, .f32⟩
  | 29 => ⟨S4x2048x8192, .f32⟩
  | 30 => ⟨S4x2048x4096, .f32⟩
  | 31 => ⟨S4x2048x4096, .f32⟩
  | 32 => ⟨S8192x4096, .f32⟩
  | 33 => ⟨S4x2048x4096, .f32⟩
  | 34 => ⟨S4096x4096, .f32⟩
  | 35 => ⟨S4x2048x4096, .f32⟩
  | 36 => ⟨S4x2048x4096, .f32⟩
  | 37 => ⟨S4x2048x4096, .f32⟩
  | 38 => ⟨S_, .f32⟩
  | 39 => ⟨S4x2048x4096, .f32⟩
  | 40 => ⟨S4x2048x4096, .f32⟩
  | 41 => ⟨S_, .f32⟩
  | 42 => ⟨S4x2048x4096, .f32⟩
  | 43 => ⟨S4x2048x4096, .f32⟩
  | 44 => ⟨S4x2048x4096, .f32⟩
  | 45 => ⟨S4x2048x4096, .f32⟩
  | 46 => ⟨S4x2048x4096, .f32⟩
  | 47 => ⟨S_, .f32⟩
  | 48 => ⟨S4x2048x4096, .f32⟩
  | 49 => ⟨S4x2048x4096, .f32⟩
  | 50 => ⟨S_, .f32⟩
  | 51 => ⟨S4x2048x4096, .f32⟩
  | 52 => ⟨S4x2048x4096, .f32⟩
  | 53 => ⟨S4x2048x4096, .f32⟩
  | 54 => ⟨S4x2048x4096, .f32⟩
  | 55 => ⟨S4096x4096, .f32⟩
  | 56 => ⟨S4x2048x4096, .f32⟩
  | 57 => ⟨S4x2048x4096, .f32⟩
  | 58 => ⟨S4x2048x4096, .f32⟩
  | 59 => ⟨S4x2048x4096, .f32⟩
  | 60 => ⟨S4096, .f32⟩
  | 61 => ⟨S4x2048x4096, .f32⟩
  | 62 => ⟨S_, .f32⟩
  | 63 => ⟨S4x2048, .f32⟩
  | 64 => ⟨S4x2048x1, .f32⟩
  | 65 => ⟨S_, .f32⟩
  | 66 => ⟨S4x2048x1, .f32⟩
  | 67 => ⟨S4x2048x1, .f32⟩
  | 68 => ⟨S_, .f32⟩
  | 69 => ⟨S4x2048x1, .f32⟩
  | 70 => ⟨S4x2048x1, .f32⟩
  | 71 => ⟨S4x2048x1, .f32⟩
  | 72 => ⟨S4x2048x4096, .f32⟩
  | 73 => ⟨S4x2048x4096, .f32⟩
  | 74 => ⟨S1x1x4096, .f32⟩
  | 75 => ⟨S4x2048x4096, .f32⟩
  | 76 => ⟨S4x2048x4096, .f32⟩
  | 77 => ⟨S_, .f32⟩
  | 78 => ⟨S4x1x4096, .f32⟩
  | 79 => ⟨S4x1x4096, .f32⟩
  | 80 => ⟨S4x2048x4096, .f32⟩
  | 81 => ⟨S4x2048x4096, .f32⟩
  | 82 => ⟨S4x2048x4096, .f32⟩
  | 83 => ⟨S4x2048x4096, .f32⟩
  | 84 => ⟨S4096x2048, .f32⟩
  | 85 => ⟨S4x2048x2048, .f32⟩
  | 86 => ⟨S4x128x8192, .bf16⟩
  | 87 => ⟨S128x4x8192, .bf16⟩
  | 88 => ⟨S128x4x8192, .f32⟩
  | 89 => ⟨S4x128x16384, .bf16⟩
  | 90 => ⟨S128x4x16384, .bf16⟩
  | 91 => ⟨S128x4x16384, .f32⟩
  | 92 => ⟨S4x128x4096, .bf16⟩
  | 93 => ⟨S128x4x4096, .bf16⟩
  | 94 => ⟨S128x4x4096, .f32⟩
  | 95 => ⟨S128x1x24576, .f32⟩
  | 96 => ⟨S128x1x4096, .f32⟩
  | 97 => ⟨S128x1x4096, .f32⟩
  | 98 => ⟨S128x1x4096, .f32⟩
  | 99 => ⟨S128x1x4096, .f32⟩
  | 100 => ⟨S128x1x4096, .f32⟩
  | 101 => ⟨S128x1x4096, .f32⟩
  | 102 => ⟨S128x4x8192, .f32⟩
  | 103 => ⟨S128x4x4096, .f32⟩
  | 104 => ⟨S128x4x4096, .f32⟩
  | 105 => ⟨S8192x4096, .f32⟩
  | 106 => ⟨S128x4x4096, .f32⟩
  | 107 => ⟨S4096x4096, .f32⟩
  | 108 => ⟨S128x4x4096, .f32⟩
  | 109 => ⟨S128x4x4096, .f32⟩
  | 110 => ⟨S128x4x4096, .f32⟩
  | 111 => ⟨S_, .f32⟩
  | 112 => ⟨S128x4x4096, .f32⟩
  | 113 => ⟨S128x4x4096, .f32⟩
  | 114 => ⟨S_, .f32⟩
  | 115 => ⟨S128x4x4096, .f32⟩
  | 116 => ⟨S128x4x4096, .f32⟩
  | 117 => ⟨S128x4x4096, .f32⟩
  | 118 => ⟨S128x4x4096, .f32⟩
  | 119 => ⟨S128x4x4096, .f32⟩
  | 120 => ⟨S_, .f32⟩
  | 121 => ⟨S128x4x4096, .f32⟩
  | 122 => ⟨S128x4x4096, .f32⟩
  | 123 => ⟨S_, .f32⟩
  | 124 => ⟨S128x4x4096, .f32⟩
  | 125 => ⟨S128x4x4096, .f32⟩
  | 126 => ⟨S128x4x4096, .f32⟩
  | 127 => ⟨S128x4x4096, .f32⟩
  | _ => ⟨S4x2048x4096, .f32⟩

abbrev hbmTy0_1 (i : Nat) : BufTy := match i % 128 with
  | 0 => ⟨S4096x4096, .f32⟩
  | 1 => ⟨S128x4x4096, .f32⟩
  | 2 => ⟨S128x4x4096, .f32⟩
  | 3 => ⟨S128x4x4096, .f32⟩
  | 4 => ⟨S128x4x4096, .f32⟩
  | 5 => ⟨S4096, .f32⟩
  | 6 => ⟨S128x4x4096, .f32⟩
  | 7 => ⟨S_, .f32⟩
  | 8 => ⟨S128x4, .f32⟩
  | 9 => ⟨S128x4x1, .f32⟩
  | 10 => ⟨S_, .f32⟩
  | 11 => ⟨S128x4x1, .f32⟩
  | 12 => ⟨S128x4x1, .f32⟩
  | 13 => ⟨S_, .f32⟩
  | 14 => ⟨S128x4x1, .f32⟩
  | 15 => ⟨S128x4x1, .f32⟩
  | 16 => ⟨S128x4x1, .f32⟩
  | 17 => ⟨S128x4x4096, .f32⟩
  | 18 => ⟨S128x4x4096, .f32⟩
  | 19 => ⟨S1x1x4096, .f32⟩
  | 20 => ⟨S128x4x4096, .f32⟩
  | 21 => ⟨S128x4x4096, .f32⟩
  | 22 => ⟨S_, .f32⟩
  | 23 => ⟨S128x1x4096, .f32⟩
  | 24 => ⟨S128x1x4096, .f32⟩
  | 25 => ⟨S128x4x4096, .f32⟩
  | 26 => ⟨S128x4x4096, .f32⟩
  | 27 => ⟨S128x4x4096, .f32⟩
  | 28 => ⟨S128x4x4096, .f32⟩
  | 29 => ⟨S4096x2048, .f32⟩
  | 30 => ⟨S128x4x2048, .f32⟩
  | 31 => ⟨S8192x4096, .f32⟩
  | 32 => ⟨S8192x4096, .f32⟩
  | 33 => ⟨S8192x4096, .bf16⟩
  | 34 => ⟨S8192x2048, .f32⟩
  | 35 => ⟨S4x128x4096, .f32⟩
  | 36 => ⟨S512x4096, .f32⟩
  | 37 => ⟨S4x128x4096, .f32⟩
  | 38 => ⟨S512x4096, .f32⟩
  | 39 => ⟨S512x4096, .bf16⟩
  | 40 => ⟨S4x128x2048, .f32⟩
  | 41 => ⟨S512x2048, .f32⟩
  | 42 => ⟨S16384x4096, .f32⟩
  | 43 => ⟨S16384x4096, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_7 : Ref sig .tc := ⟨.hbm, 111, rfl⟩
abbrev main_v87 : Ref sig .tc := ⟨.hbm, 112, rfl⟩
abbrev main_v88 : Ref sig .tc := ⟨.hbm, 113, rfl⟩
abbrev main_cst_8 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_9 : Ref sig .tc := ⟨.hbm, 120, rfl⟩
abbrev main_v94 : Ref sig .tc := ⟨.hbm, 121, rfl⟩
abbrev main_v95 : Ref sig .tc := ⟨.hbm, 122, rfl⟩
abbrev main_cst_10 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_11 : Ref sig .tc := ⟨.hbm, 135, rfl⟩
abbrev main_v107 : Ref sig .tc := ⟨.hbm, 136, rfl⟩
abbrev main_v108 : Ref sig .tc := ⟨.hbm, 137, rfl⟩
abbrev main_cst_12 : Ref sig .tc := ⟨.hbm, 138, rfl⟩
abbrev main_v109 : Ref sig .tc := ⟨.hbm, 139, rfl⟩
abbrev main_v110 : Ref sig .tc := ⟨.hbm, 140, rfl⟩
abbrev main_cst_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_14 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩

abbrev nD : Nat := 1
abbrev τ : Topo := Topo.v7x

variable {F : FTy → Type} [FloatOps F]
-- ==== Scan.lean ====
abbrev S512x18432 : Shape := ⟨2, ![512, 18432]⟩
abbrev S512x128 : Shape := ⟨2, ![512, 128]⟩
abbrev S1x128x128x64x128 : Shape := ⟨5, ![1, 128, 128, 64, 128]⟩
abbrev S1x128x3x10240 : Shape := ⟨4, ![1, 128, 3, 10240]⟩
abbrev S1x4x10240 : Shape := ⟨3, ![1, 4, 10240]⟩
abbrev S1x10240 : Shape := ⟨2, ![1, 10240]⟩
abbrev S1x128 : Shape := ⟨2, ![1, 128]⟩
abbrev S128x3x10240 : Shape := ⟨3, ![128, 3, 10240]⟩
abbrev S128x128x64x128 : Shape := ⟨4, ![128, 128, 64, 128]⟩
abbrev S128x8192x128 : Shape := ⟨3, ![128, 8192, 128]⟩
abbrev S4x128x18432 : Shape := ⟨3, ![4, 128, 18432]⟩
abbrev S3x128x10240 : Shape := ⟨3, ![3, 128, 10240]⟩
abbrev S4x10240 : Shape := ⟨2, ![4, 10240]⟩
abbrev S10240 : Shape := ⟨1, ![10240]⟩
abbrev S4x128x10240 : Shape := ⟨3, ![4, 128, 10240]⟩
abbrev S4x128x512 : Shape := ⟨3, ![4, 128, 512]⟩
abbrev S3x128x512 : Shape := ⟨3, ![3, 128, 512]⟩
abbrev S4x512 : Shape := ⟨2, ![4, 512]⟩
abbrev S1x512 : Shape := ⟨2, ![1, 512]⟩
abbrev S1x128x512 : Shape := ⟨3, ![1, 128, 512]⟩
abbrev S128x512 : Shape := ⟨2, ![128, 512]⟩
abbrev S512x10240 : Shape := ⟨2, ![512, 10240]⟩
abbrev S128 : Shape := ⟨1, ![128]⟩
abbrev S8x1x16 : Shape := ⟨3, ![8, 1, 16]⟩
abbrev S4x128x8x16 : Shape := ⟨4, ![4, 128, 8, 16]⟩
abbrev S8x4x128x16 : Shape := ⟨4, ![8, 4, 128, 16]⟩
abbrev S128x64 : Shape := ⟨2, ![128, 64]⟩
abbrev S8192 : Shape := ⟨1, ![8192]⟩
abbrev S8x1x1024 : Shape := ⟨3, ![8, 1, 1024]⟩
abbrev S1024 : Shape := ⟨1, ![1024]⟩
abbrev S1x1024 : Shape := ⟨2, ![1, 1024]⟩
abbrev S_ : Shape := ⟨0, ![]⟩
abbrev S16 : Shape := ⟨1, ![16]⟩
abbrev S16x1 : Shape := ⟨2, ![16, 1]⟩
abbrev S16x1024 : Shape := ⟨2, ![16, 1024]⟩
abbrev S4x128x8192 : Shape := ⟨3, ![4, 128, 8192]⟩
abbrev S8x128x16 : Shape := ⟨3, ![8, 128, 16]⟩
abbrev S4x128x1024 : Shape := ⟨3, ![4, 128, 1024]⟩
abbrev S4x128x128 : Shape := ⟨3, ![4, 128, 128]⟩
abbrev S1x4x128x16 : Shape := ⟨4, ![1, 4, 128, 16]⟩
abbrev S1x1x16 : Shape := ⟨3, ![1, 1, 16]⟩
abbrev S1x1x1024 : Shape := ⟨3, ![1, 1, 1024]⟩
abbrev S1x128x16 : Shape := ⟨3, ![1, 128, 16]⟩
abbrev S1x16 : Shape := ⟨2, ![1, 16]⟩
abbrev S1x1x128x16 : Shape := ⟨4, ![1, 1, 128, 16]⟩
abbrev S128x16 : Shape := ⟨2, ![128, 16]⟩
abbrev S1x128x1024 : Shape := ⟨3, ![1, 128, 1024]⟩
abbrev S128x1024 : Shape := ⟨2, ![128, 1024]⟩
abbrev S1x128x128 : Shape := ⟨3, ![1, 128, 128]⟩
abbrev S128x128 : Shape := ⟨2, ![128, 128]⟩
abbrev S128x1 : Shape := ⟨2, ![128, 1]⟩
abbrev S128x4x1024 : Shape := ⟨3, ![128, 4, 1024]⟩
abbrev S128x16x1024 : Shape := ⟨3, ![128, 16, 1024]⟩
abbrev S128x8x16 : Shape := ⟨3, ![128, 8, 16]⟩
abbrev S128x128x1 : Shape := ⟨3, ![128, 128, 1]⟩
abbrev S128x4x8192 : Shape := ⟨3, ![128, 4, 8192]⟩
abbrev S128x16x8192 : Shape := ⟨3, ![128, 16, 8192]⟩
abbrev S128x8x8192 : Shape := ⟨3, ![128, 8, 8192]⟩
abbrev S1x8192x128 : Shape := ⟨3, ![1, 8192, 128]⟩
abbrev S1x16x1024 : Shape := ⟨3, ![1, 16, 1024]⟩
abbrev S1x16x8192 : Shape := ⟨3, ![1, 16, 8192]⟩
abbrev S1x8x8192 : Shape := ⟨3, ![1, 8, 8192]⟩
abbrev S1x128x1 : Shape := ⟨3, ![1, 128, 1]⟩
abbrev S1x1024x128 : Shape := ⟨3, ![1, 1024, 128]⟩
abbrev S1024x128 : Shape := ⟨2, ![1024, 128]⟩
abbrev S1x16x128 : Shape := ⟨3, ![1, 16, 128]⟩
abbrev S16x128 : Shape := ⟨2, ![16, 128]⟩
abbrev S1x8x1024 : Shape := ⟨3, ![1, 8, 1024]⟩
abbrev S8x1024 : Shape := ⟨2, ![8, 1024]⟩
abbrev S64x128 : Shape := ⟨2, ![64, 128]⟩
abbrev S512x8192 : Shape := ⟨2, ![512, 8192]⟩

abbrev nBuf : Space → Nat
  | .hbm => 91
  | .vmem => 49
  | .smem => 0
  | _ => 0

abbrev bufTy : (tb : Table) → Fin (tcTables nBuf tb) → BufTy
  | .hbm, ⟨0, _⟩ => ⟨S512x18432, .bf16⟩
  | .hbm, ⟨1, _⟩ => ⟨S512x128, .f32⟩
  | .hbm, ⟨2, _⟩ => ⟨S1x128x128x64x128, .f32⟩
  | .hbm, ⟨3, _⟩ => ⟨S1x128x3x10240, .f32⟩
  | .hbm, ⟨4, _⟩ => ⟨S1x4x10240, .f32⟩
  | .hbm, ⟨5, _⟩ => ⟨S1x10240, .f32⟩
  | .hbm, ⟨6, _⟩ => ⟨S1x128, .f32⟩
  | .hbm, ⟨7, _⟩ => ⟨S1x128, .f32⟩
  | .hbm, ⟨8, _⟩ => ⟨S128x3x10240, .f32⟩
  | .hbm, ⟨9, _⟩ => ⟨S128x128x64x128, .f32⟩
  | .hbm, ⟨10, _⟩ => ⟨S128x8192x128, .f32⟩
  | .hbm, ⟨11, _⟩ => ⟨S4x128x18432, .bf16⟩
  | .hbm, ⟨12, _⟩ => ⟨S3x128x10240, .f32⟩
  | .hbm, ⟨13, _⟩ => ⟨S4x10240, .f32⟩
  | .hbm, ⟨14, _⟩ => ⟨S10240, .f32⟩
  | .hbm, ⟨15, _⟩ => ⟨S1x10240, .f32⟩
  | .hbm, ⟨16, _⟩ => ⟨S4x128x10240, .bf16⟩
  | .hbm, ⟨17, _⟩ => ⟨S512x10240, .bf16⟩
  | .hbm, ⟨18, _⟩ => ⟨S4x128x10240, .bf16⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S8x1x16, .f32⟩
  | .hbm, ⟨23, _⟩ => ⟨S8x1x16, .f32⟩
  | .hbm, ⟨24, _⟩ => ⟨S4x128x8x16, .f32⟩
  | .hbm, ⟨25, _⟩ => ⟨S8x4x128x16, .f32⟩
  | .hbm, ⟨26, _⟩ => ⟨S128x64, .f32⟩
  | .hbm, ⟨27, _⟩ => ⟨S8192, .f32⟩
  | .hbm, ⟨28, _⟩ => ⟨S8x1x1024, .f32⟩
  | .hbm, ⟨29, _⟩ => ⟨S1024, .i32⟩
  | .hbm, ⟨30, _⟩ => ⟨S1x1024, .i32⟩
  | .hbm, ⟨31, _⟩ => ⟨S_, .i32⟩
  | .hbm, ⟨32, _⟩ => ⟨S_, .i32⟩
  | .hbm, ⟨33, _⟩ => ⟨S1x1024, .i32⟩
  | .hbm, ⟨34, _⟩ => ⟨S1x1024, .i32⟩
  | .hbm, ⟨35, _⟩ => ⟨S1x1024, .i32⟩
  | .hbm, ⟨36, _⟩ => ⟨S_, .i32⟩
  | .hbm, ⟨37, _⟩ => ⟨S1x1024, .i32⟩
  | .hbm, ⟨38, _⟩ => ⟨S1x1024, .i1⟩
  | .hbm, ⟨39, _⟩ => ⟨S1x1024, .i32⟩
  | .hbm, ⟨40, _⟩ => ⟨S1x1024, .i32⟩
  | .hbm, ⟨41, _⟩ => ⟨S_, .i32⟩
  | .hbm, ⟨42, _⟩ => ⟨S1x1024, .i32⟩
  | .hbm, ⟨43, _⟩ => ⟨S1x1024, .i1⟩
  | .hbm, ⟨44, _⟩ => ⟨S1x1024, .i1⟩
  | .hbm, ⟨45, _⟩ => ⟨S_, .i32⟩
  | .hbm, ⟨46, _⟩ => ⟨S1x1024, .i32⟩
  | .hbm, ⟨47, _⟩ => ⟨S1x1024, .i32⟩
  | .hbm, ⟨48, _⟩ => ⟨S1x1024, .i32⟩
  | .hbm, ⟨49, _⟩ => ⟨S16, .i32⟩
  | .hbm, ⟨50, _⟩ => ⟨S16x1, .i32⟩
  | .hbm, ⟨51, _⟩ => ⟨S16x1024, .i32⟩
  | .hbm, ⟨52, _⟩ => ⟨S16x1024, .i32⟩
  | .hbm, ⟨53, _⟩ => ⟨S16x1024, .i1⟩
  | .hbm, ⟨54, _⟩ => ⟨S16x1024, .bf16⟩
  | .hbm, ⟨55, _⟩ => ⟨S4x128x8192, .f32⟩
  | .hbm, ⟨56, _⟩ => ⟨S4x128x8192, .f32⟩
  | .hbm, ⟨57, _⟩ => ⟨S4x128x8192, .bf16⟩
  | .hbm, ⟨58, _⟩ => ⟨S8x128x16, .f32⟩
  | .hbm, ⟨59, _⟩ => ⟨S4x128x1024, .bf16⟩
  | .hbm, ⟨60, _⟩ => ⟨S128x4x1024, .bf16⟩
  | .hbm, ⟨61, _⟩ => ⟨S_, .i32⟩
  | .hbm, ⟨62, _⟩ => ⟨S_, .bf16⟩
  | .hbm, ⟨63, _⟩ => ⟨S128x16x1024, .bf16⟩
  | .hbm, ⟨64, _⟩ => ⟨S4x128x1024, .bf16⟩
  | .hbm, ⟨65, _⟩ => ⟨S128x4x1024, .bf16⟩
  | .hbm, ⟨66, _⟩ => ⟨S_, .i32⟩
  | .hbm, ⟨67, _⟩ => ⟨S_, .bf16⟩
  | .hbm, ⟨68, _⟩ => ⟨S128x16x1024, .bf16⟩
  | .hbm, ⟨69, _⟩ => ⟨S128x8x16, .f32⟩
  | .hbm, ⟨70, _⟩ => ⟨S128x128x1, .f32⟩
  | .hbm, ⟨71, _⟩ => ⟨S128x4x8192, .bf16⟩
  | .hbm, ⟨72, _⟩ => ⟨S_, .i32⟩
  | .hbm, ⟨73, _⟩ => ⟨S_, .bf16⟩
  | .hbm, ⟨74, _⟩ => ⟨S128x16x8192, .bf16⟩
  | .hbm, ⟨75, _⟩ => ⟨S128x4x8192, .f32⟩
  | .hbm, ⟨76, _⟩ => ⟨S_, .i32⟩
  | .hbm, ⟨77, _⟩ => ⟨S_, .f32⟩
  | .hbm, ⟨78, _⟩ => ⟨S128x8x8192, .f32⟩
  | .hbm, ⟨79, _⟩ => ⟨S128x4x8192, .f32⟩
  | .hbm, ⟨80, _⟩ => ⟨S_, .i32⟩
  | .hbm, ⟨81, _⟩ => ⟨S_, .f32⟩
  | .hbm, ⟨82, _⟩ => ⟨S128x8x8192, .f32⟩
  | .hbm, ⟨83, _⟩ => ⟨S128x8x8192, .f32⟩
  | .hbm, ⟨84, _⟩ => ⟨S128x8192x128, .f32⟩
  | .hbm, ⟨85, _⟩ => ⟨S128x4x8192, .f32⟩
  | .hbm, ⟨86, _⟩ => ⟨S4x128x8192, .f32⟩
  | .hbm, ⟨87, _⟩ => ⟨S512x8192, .f32⟩
  | .hbm, ⟨88, _⟩ => ⟨S512x8192, .bf16⟩
  | .hbm, ⟨89, _⟩ => ⟨S128x128x64x128, .f32⟩
  | .hbm, ⟨90, _⟩ => ⟨S1x128x128x64x128, .f32⟩
  | .local _ .vmem, ⟨0, _⟩ => ⟨S4x128x512, .bf16⟩
  | .local _ .vmem, ⟨1, _⟩ => ⟨S4x128x512, .bf16⟩
  | .local _ .vmem, ⟨2, _⟩ => ⟨S3x128x512, .f32⟩
  | .local _ .vmem, ⟨3, _⟩ => ⟨S3x128x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S4x128x512, .bf16⟩
  | .local _ .vmem, ⟨9, _⟩ => ⟨S4x128x512, .bf16⟩
  | .local _ .vmem, ⟨10, _⟩ => ⟨S4x128x1024, .bf16⟩
  | .local _ .vmem, ⟨11, _⟩ => ⟨S4x128x1024, .bf16⟩
  | .local _ .vmem, ⟨12, _⟩ => ⟨S4x128x128, .bf16⟩
  | .local _ .vmem, ⟨13, _⟩ => ⟨S4x128x128, .bf16⟩
  | .local _ .vmem, ⟨14, _⟩ => ⟨S4x128x128, .bf16⟩
  | .local _ .vmem, ⟨15, _⟩ => ⟨S4x128x128, .bf16⟩
  | .local _ .vmem, ⟨16, _⟩ => ⟨S1x4x128x16, .f32⟩
  | .local _ .vmem, ⟨17, _⟩ => ⟨S1x4x128x16, .f32⟩
  | .local _ .vmem, ⟨18, _⟩ => ⟨S1x1x16, .f32⟩
  | .local _ .vmem, ⟨19, _⟩ => ⟨S1x1x16, .f32⟩
  | .local _ .vmem, ⟨20, _⟩ => ⟨S1x1x1024, .f32⟩
  | .local _ .vmem, ⟨21, _⟩ => ⟨S1x1x1024, .f32⟩
  | .local _ .vmem, ⟨22, _⟩ => ⟨S16x1024, .bf16⟩
  | .local _ .vmem, ⟨23, _⟩ => ⟨S4x128x1024, .f32⟩
  | .local _ .vmem, ⟨24, _⟩ => ⟨S4x128x1024, .f32⟩
  | .local _ .vmem, ⟨25, _⟩ => ⟨S4x128x1024, .f32⟩
  | .local _ .vmem, ⟨26, _⟩ => ⟨S4x128x1024, .f32⟩
  | .local _ .vmem, ⟨27, _⟩ => ⟨S4x128x1024, .bf16⟩
  | .local _ .vmem, ⟨28, _⟩ => ⟨S4x128x1024, .bf16⟩
  | .local _ .vmem, ⟨29, _⟩ => ⟨S1x128x16, .f32⟩
  | .local _ .vmem, ⟨30, _⟩ => ⟨S1x128x16, .f32⟩
  | .local _ .vmem, ⟨31, _⟩ => ⟨S1x8192x128, .f32⟩
  | .local _ .vmem, ⟨32, _⟩ => ⟨S1x8192x128, .f32⟩
  | .local _ .vmem, ⟨33, _⟩ => ⟨S1x16x1024, .bf16⟩
  | .local _ .vmem, ⟨34, _⟩ => ⟨S1x16x1024, .bf16⟩
  | .local _ .vmem, ⟨35, _⟩ => ⟨S1x16x1024, .bf16⟩
  | .local _ .vmem, ⟨36, _⟩ => ⟨S1x16x1024, .bf16⟩
  | .local _ .vmem, ⟨37, _⟩ => ⟨S1x16x8192, .bf16⟩
  | .local _ .vmem, ⟨38, _⟩ => ⟨S1x16x8192, .bf16⟩
  | .local _ .vmem, ⟨39, _⟩ => ⟨S1x8x8192, .f32⟩
  | .local _ .vmem, ⟨40, _⟩ => ⟨S1x8x8192, .f32⟩
  | .local _ .vmem, ⟨41, _⟩ => ⟨S1x8x8192, .f32⟩
  | .local _ .vmem, ⟨42, _⟩ => ⟨S1x8x8192, .f32⟩
  | .local _ .vmem, ⟨43, _⟩ => ⟨S1x128x1, .f32⟩
  | .local _ .vmem, ⟨44, _⟩ => ⟨S1x128x1, .f32⟩
  | .local _ .vmem, ⟨45, _⟩ => ⟨S1x8x8192, .f32⟩
  | .local _ .vmem, ⟨46, _⟩ => ⟨S1x8x8192, .f32⟩
  | .local _ .vmem, ⟨47, _⟩ => ⟨S1x8192x128, .f32⟩
  | .local _ .vmem, ⟨48, _⟩ => ⟨S1x8192x128, .f32⟩
  | _, _ => ⟨S512x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_v30_3 : Ref sig .tc := ⟨.hbm, 58, rfl⟩
abbrev main_v31 : Ref sig .tc := ⟨.hbm, 59, rfl⟩
abbrev main_v32 : Ref sig .tc := ⟨.hbm, 60, rfl⟩
abbrev main_c_0 : Ref sig .tc := ⟨.hbm, 61, rfl⟩
abbrev main_call1_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_1 : Ref sig .tc := ⟨.hbm, 66, rfl⟩
abbrev main_call2_v0 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_2 : Ref sig .tc := ⟨.hbm, 72, rfl⟩
abbrev main_call3_v0 : Ref sig .tc := ⟨.hbm, 73, rfl⟩
abbrev main_v40 : Ref sig .tc := ⟨.hbm, 74, rfl⟩
abbrev main_v41 : Ref sig .tc := ⟨.hbm, 75, rfl⟩
abbrev main_c_3 : Ref sig .tc := ⟨.hbm, 76, rfl⟩
abbrev main_call4_v0 : Ref sig .tc := ⟨.hbm, 77, rfl⟩
abbrev main_v42 : Ref sig .tc := ⟨.hbm, 78, rfl⟩
abbrev main_v43 : Ref sig .tc := ⟨.hbm, 79, rfl⟩
abbrev main_c_4 : Ref sig .tc := ⟨.hbm, 80, rfl⟩
abbrev main_call5_v0 : Ref sig .tc := ⟨.hbm, 81, rfl⟩
abbrev main_v44 : Ref sig .tc := ⟨.hbm, 82, rfl⟩
abbrev main_v45_0 : Ref sig .tc := ⟨.hbm, 83, rfl⟩
abbrev main_v45_1 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg4_1 : Ref sig .tc := ⟨.vmem, 40, rfl⟩
abbrev cc2_stg5_0 : Ref sig .tc := ⟨.vmem, 41, rfl⟩
abbrev cc2_stg5_1 : Ref sig .tc := ⟨.vmem, 42, rfl⟩
abbrev cc2_stg6_0 : Ref sig .tc := ⟨.vmem, 43, rfl⟩
abbrev cc2_stg6_1 : Ref sig .tc := ⟨.vmem, 44, rfl⟩
abbrev cc2_stg7_0 : Ref sig .tc := ⟨.vmem, 45, rfl⟩
abbrev cc2_stg7_1 : Ref sig .tc := ⟨.vmem, 46, rfl⟩
abbrev cc2_stg8_0 : Ref sig .tc := ⟨.vmem, 47, rfl⟩
abbrev cc2_stg8_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem4_1 : DmaSem sig := 40
abbrev cc2_sem5_0 : DmaSem sig := 41
abbrev cc2_sem5_1 : DmaSem sig := 42
abbrev cc2_sem6_0 : DmaSem sig := 43
abbrev cc2_sem6_1 : DmaSem sig := 44
abbrev cc2_sem7_0 : DmaSem sig := 45
abbrev cc2_sem7_1 : DmaSem sig := 46
abbrev cc2_sem8_0 : DmaSem sig := 47
abbrev cc2_sem8_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, c0_i32_0.toNat, v0.toNat]

def cc1_transform_2 (i : grid1.Coords) : Fin 3 → Nat :=
  let arg0 : BitVec 32 := BitVec.ofNat 32 (i 0).val
  let c72_i32 : BitVec 32 := 72#32
  let v0 : BitVec 32 := Scalar.addi c72_i32 arg0
  let c0_i32 : BitVec 32 := 0#32
  let c0_i32_0 : BitVec 32 := 0#32
  let c0_i32_1 : BitVec 32 := 0#32
  ![c0_i32.toNat, c0_i32_0.toNat, v0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4x128x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S16x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4x128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x128x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x16x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x16x8192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x8192 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8192x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ScanReferenceIdeal.lean ====
abbrev S512x18432 : Shape := ⟨2, ![512, 18432]⟩
abbrev S512x128 : Shape := ⟨2, ![512, 128]⟩
abbrev S1x128x128x64x128 : Shape := ⟨5, ![1, 128, 128, 64, 128]⟩
abbrev S1x128x3x10240 : Shape := ⟨4, ![1, 128, 3, 10240]⟩
abbrev S1x4x10240 : Shape := ⟨3, ![1, 4, 10240]⟩
abbrev S1x10240 : Shape := ⟨2, ![1, 10240]⟩
abbrev S1x128 : Shape := ⟨2, ![1, 128]⟩
abbrev S128x3x10240 : Shape := ⟨3, ![128, 3, 10240]⟩
abbrev S4x128x18432 : Shape := ⟨3, ![4, 128, 18432]⟩
abbrev S128x4x18432 : Shape := ⟨3, ![128, 4, 18432]⟩
abbrev S128x4x10240 : Shape := ⟨3, ![128, 4, 10240]⟩
abbrev S128x7x10240 : Shape := ⟨3, ![128, 7, 10240]⟩
abbrev S1x1x10240 : Shape := ⟨3, ![1, 1, 10240]⟩
abbrev S10240 : Shape := ⟨1, ![10240]⟩
abbrev S_ : Shape := ⟨0, ![]⟩
abbrev S128x4x8192 : Shape := ⟨3, ![128, 4, 8192]⟩
abbrev S128x4x1024 : Shape := ⟨3, ![128, 4, 1024]⟩
abbrev S128x4x128x64 : Shape := ⟨4, ![128, 4, 128, 64]⟩
abbrev S128x4x8x128 : Shape := ⟨4, ![128, 4, 8, 128]⟩
abbrev S128 : Shape := ⟨1, ![128]⟩
abbrev S4x128x128 : Shape := ⟨3, ![4, 128, 128]⟩
abbrev S128x4x128 : Shape := ⟨3, ![128, 4, 128]⟩
abbrev S128x128x64x128 : Shape := ⟨4, ![128, 128, 64, 128]⟩
abbrev S128x4x8x16x64 : Shape := ⟨5, ![128, 4, 8, 16, 64]⟩
abbrev S128x4x8x16 : Shape := ⟨4, ![128, 4, 8, 16]⟩
abbrev S8x16 : Shape := ⟨2, ![8, 16]⟩
abbrev S128x8x16x64x128 : Shape := ⟨5, ![128, 8, 16, 64, 128]⟩
abbrev S128x1x8x16 : Shape := ⟨4, ![128, 1, 8, 16]⟩
abbrev S128x8x16 : Shape := ⟨3, ![128, 8, 16]⟩
abbrev S128x8x16x1 : Shape := ⟨4, ![128, 8, 16, 1]⟩
abbrev S128x1x8x16x64 : Shape := ⟨5, ![128, 1, 8, 16, 64]⟩
abbrev S128x8x16x64 : Shape := ⟨4, ![128, 8, 16, 64]⟩
abbrev S128x8x16x64x1 : Shape := ⟨5, ![128, 8, 16, 64, 1]⟩
abbrev S128x1x8x128 : Shape := ⟨4, ![128, 1, 8, 128]⟩
abbrev S128x8x128 : Shape := ⟨3, ![128, 8, 128]⟩
abbrev S128x8x1x1x128 : Shape := ⟨5, ![128, 8, 1, 1, 128]⟩
abbrev S1x8x16 : Shape := ⟨3, ![1, 8, 16]⟩
abbrev S128x8x16x1x1 : Shape := ⟨5, ![128, 8, 16, 1, 1]⟩
abbrev S128x1 : Shape := ⟨2, ![128, 1]⟩
abbrev S1x1x128x1 : Shape := ⟨4, ![1, 1, 128, 1]⟩
abbrev S4x128x8192 : Shape := ⟨3, ![4, 128, 8192]⟩
abbrev S512x8192 : Shape := ⟨2, ![512, 8192]⟩

abbrev nBuf : Space → Nat
  | .hbm => 215
  | .vmem => 0
  | .smem => 0
  | _ => 0

abbrev hbmTy0_0 (i : Nat) : BufTy := match i % 128 with
  | 0 => ⟨S512x18432, .bf16⟩
  | 1 => ⟨S512x128, .f32⟩
  | 2 => ⟨S1x128x128x64x128, .f32⟩
  | 3 => ⟨S1x128x3x10240, .f32⟩
  | 4 => ⟨S1x4x10240, .f32⟩
  | 5 => ⟨S1x10240, .f32⟩
  | 6 => ⟨S1x128, .f32⟩
  | 7 => ⟨S1x128, .f32⟩
  | 8 => ⟨S128x3x10240, .f32⟩
  | 9 => ⟨S4x128x18432, .bf16⟩
  | 10 => ⟨S128x4x18432, .bf16⟩
  | 11 => ⟨S128x4x18432, .f32⟩
  | 12 => ⟨S128x4x10240, .f32⟩
  | 13 => ⟨S128x7x10240, .f32⟩
  | 14 => ⟨S128x4x10240, .f32⟩
  | 15 => ⟨S1x1x10240, .f32⟩
  | 16 => ⟨S10240, .f32⟩
  | 17 => ⟨S1x1x10240, .f32⟩
  | 18 => ⟨S128x4x10240, .f32⟩
  | 19 => ⟨S128x4x10240, .f32⟩
  | 20 => ⟨S_, .f32⟩
  | 21 => ⟨S128x4x10240, .f32⟩
  | 22 => ⟨S128x4x10240, .f32⟩
  | 23 => ⟨S128x4x10240, .f32⟩
  | 24 => ⟨S1x1x10240, .f32⟩
  | 25 => ⟨S10240, .f32⟩
  | 26 => ⟨S1x1x10240, .f32⟩
  | 27 => ⟨S128x4x10240, .f32⟩
  | 28 => ⟨S128x4x10240, .f32⟩
  | 29 => ⟨S128x4x10240, .f32⟩
  | 30 => ⟨S128x4x10240, .f32⟩
  | 31 => ⟨S1x1x10240, .f32⟩
  | 32 => ⟨S10240, .f32⟩
  | 33 => ⟨S1x1x10240, .f32⟩
  | 34 => ⟨S128x4x10240, .f32⟩
  | 35 => ⟨S128x4x10240, .f32⟩
  | 36 => ⟨S128x4x10240, .f32⟩
  | 37 => ⟨S128x4x10240, .f32⟩
  | 38 => ⟨S1x1x10240, .f32⟩
  | 39 => ⟨S10240, .f32⟩
  | 40 => ⟨S1x1x10240, .f32⟩
  | 41 => ⟨S128x4x10240, .f32⟩
  | 42 => ⟨S128x4x10240, .f32⟩
  | 43 => ⟨S128x4x10240, .f32⟩
  | 44 => ⟨S10240, .f32⟩
  | 45 => ⟨S1x1x10240, .f32⟩
  | 46 => ⟨S128x4x10240, .f32⟩
  | 47 => ⟨S128x4x10240, .f32⟩
  | 48 => ⟨S128x4x10240, .f32⟩
  | 49 => ⟨S128x4x10240, .f32⟩
  | 50 => ⟨S_, .f32⟩
  | 51 => ⟨S128x4x10240, .f32⟩
  | 52 => ⟨S128x4x10240, .f32⟩
  | 53 => ⟨S_, .f32⟩
  | 54 => ⟨S128x4x10240, .f32⟩
  | 55 => ⟨S128x4x10240, .f32⟩
  | 56 => ⟨S128x4x10240, .f32⟩
  | 57 => ⟨S128x4x8192, .f32⟩
  | 58 => ⟨S128x4x1024, .f32⟩
  | 59 => ⟨S128x4x1024, .f32⟩
  | 60 => ⟨S128x4x128x64, .f32⟩
  | 61 => ⟨S128x4x8x128, .f32⟩
  | 62 => ⟨S128x4x8x128, .f32⟩
  | 63 => ⟨S128, .f32⟩
  | 64 => ⟨S128, .f32⟩
  | 65 => ⟨S128, .f32⟩
  | 66 => ⟨S4x128x128, .f32⟩
  | 67 => ⟨S128x4x128, .f32⟩
  | 68 => ⟨S128x128x64x128, .f32⟩
  | 69 => ⟨S128x4x8x16x64, .f32⟩
  | 70 => ⟨S128x4x8x16, .f32⟩
  | 71 => ⟨S8x16, .f32⟩
  | 72 => ⟨S128x8x16x64x128, .f32⟩
  | 73 => ⟨S128x1x8x16, .f32⟩
  | 74 => ⟨S128x8x16, .f32⟩
  | 75 => ⟨S128x8x16x1, .f32⟩
  | 76 => ⟨S128x1x8x16x64, .f32⟩
  | 77 => ⟨S128x8x16x64, .f32⟩
  | 78 => ⟨S128x8x16x64, .f32⟩
  | 79 => ⟨S128x8x16x64, .f32⟩
  | 80 => ⟨S128x8x16x64x1, .f32⟩
  | 81 => ⟨S128x1x8x128, .f32⟩
  | 82 => ⟨S128x8x128, .f32⟩
  | 83 => ⟨S128x8x1x1x128, .f32⟩
  | 84 => ⟨S128x8x16x64x128, .f32⟩
  | 85 => ⟨S128x8x16x64x128, .f32⟩
  | 86 => ⟨S128x8x16x64x128, .f32⟩
  | 87 => ⟨S128x1x8x16, .f32⟩
  | 88 => ⟨S128x8x16, .f32⟩
  | 89 => ⟨S1x8x16, .f32⟩
  | 90 => ⟨S128x8x16, .f32⟩
  | 91 => ⟨S128x8x16, .f32⟩
  | 92 => ⟨S128x8x16, .f32⟩
  | 93 => ⟨S128x8x16x1x1, .f32⟩
  | 94 => ⟨S128x8x16x64x128, .f32⟩
  | 95 => ⟨S128x8x16x64x128, .f32⟩
  | 96 => ⟨S128x8x16x64x128, .f32⟩
  | 97 => ⟨S128x1x8x128, .f32⟩
  | 98 => ⟨S128x8x128, .f32⟩
  | 99 => ⟨S128x8x1x1x128, .f32⟩
  | 100 => ⟨S128x8x16x64x128, .f32⟩
  | 101 => ⟨S128x8x16x64x128, .f32⟩
  | 102 => ⟨S_, .f32⟩
  | 103 => ⟨S128x8x16x64, .f32⟩
  | 104 => ⟨S128x1x8x16, .f32⟩
  | 105 => ⟨S128x8x16, .f32⟩
  | 106 => ⟨S128x8x16x1, .f32⟩
  | 107 => ⟨S128x1x8x16x64, .f32⟩
  | 108 => ⟨S128x8x16x64, .f32⟩
  | 109 => ⟨S128x8x16x64, .f32⟩
  | 110 => ⟨S128x8x16x64, .f32⟩
  | 111 => ⟨S128x8x16x64x1, .f32⟩
  | 112 => ⟨S128x1x8x128, .f32⟩
  | 113 => ⟨S128x8x128, .f32⟩
  | 114 => ⟨S128x8x1x1x128, .f32⟩
  | 115 => ⟨S128x8x16x64x128, .f32⟩
  | 116 => ⟨S128x8x16x64x128, .f32⟩
  | 117 => ⟨S128x8x16x64x128, .f32⟩
  | 118 => ⟨S128x1x8x16, .f32⟩
  | 119 => ⟨S128x8x16, .f32⟩
  | 120 => ⟨S1x8x16, .f32⟩
  | 121 => ⟨S128x8x16, .f32⟩
  | 122 => ⟨S128x8x16, .f32⟩
  | 123 => ⟨S128x8x16, .f32⟩
  | 124 => ⟨S128x8x16x1x1, .f32⟩
  | 125 => ⟨S128x8x16x64x128, .f32⟩
  | 126 => ⟨S128x8x16x64x128, .f32⟩
  | 127 => ⟨S128x8x16x64x128, .f32⟩
  | _ => ⟨S512x18432, .bf16⟩

abbrev hbmTy0_1 (i : Nat) : BufTy := match i % 128 with
  | 0 => ⟨S128x1x8x128, .f32⟩
  | 1 => ⟨S128x8x128, .f32⟩
  | 2 => ⟨S128x8x1x1x128, .f32⟩
  | 3 => ⟨S128x8x16x64x128, .f32⟩
  | 4 => ⟨S128x8x16x64x128, .f32⟩
  | 5 => ⟨S_, .f32⟩
  | 6 => ⟨S128x8x16x64, .f32⟩
  | 7 => ⟨S128x1x8x16, .f32⟩
  | 8 => ⟨S128x8x16, .f32⟩
  | 9 => ⟨S128x8x16x1, .f32⟩
  | 10 => ⟨S128x1x8x16x64, .f32⟩
  | 11 => ⟨S128x8x16x64, .f32⟩
  | 12 => ⟨S128x8x16x64, .f32⟩
  | 13 => ⟨S128x8x16x64, .f32⟩
  | 14 => ⟨S128x8x16x64x1, .f32⟩
  | 15 => ⟨S128x1x8x128, .f32⟩
  | 16 => ⟨S128x8x128, .f32⟩
  | 17 => ⟨S128x8x1x1x128, .f32⟩
  | 18 => ⟨S128x8x16x64x128, .f32⟩
  | 19 => ⟨S128x8x16x64x128, .f32⟩
  | 20 => ⟨S128x8x16x64x128, .f32⟩
  | 21 => ⟨S128x1x8x16, .f32⟩
  | 22 => ⟨S128x8x16, .f32⟩
  | 23 => ⟨S1x8x16, .f32⟩
  | 24 => ⟨S128x8x16, .f32⟩
  | 25 => ⟨S128x8x16, .f32⟩
  | 26 => ⟨S128x8x16, .f32⟩
  | 27 => ⟨S128x8x16x1x1, .f32⟩
  | 28 => ⟨S128x8x16x64x128, .f32⟩
  | 29 => ⟨S128x8x16x64x128, .f32⟩
  | 30 => ⟨S128x8x16x64x128, .f32⟩
  | 31 => ⟨S128x1x8x128, .f32⟩
  | 32 => ⟨S128x8x128, .f32⟩
  | 33 => ⟨S128x8x1x1x128, .f32⟩
  | 34 => ⟨S128x8x16x64x128, .f32⟩
  | 35 => ⟨S128x8x16x64x128, .f32⟩
  | 36 => ⟨S_, .f32⟩
  | 37 => ⟨S128x8x16x64, .f32⟩
  | 38 => ⟨S128x1x8x16, .f32⟩
  | 39 => ⟨S128x8x16, .f32⟩
  | 40 => ⟨S128x8x16x1, .f32⟩
  | 41 => ⟨S128x1x8x16x64, .f32⟩
  | 42 => ⟨S128x8x16x64, .f32⟩
  | 43 => ⟨S128x8x16x64, .f32⟩
  | 44 => ⟨S128x8x16x64, .f32⟩
  | 45 => ⟨S128x8x16x64x1, .f32⟩
  | 46 => ⟨S128x1x8x128, .f32⟩
  | 47 => ⟨S128x8x128, .f32⟩
  | 48 => ⟨S128x8x1x1x128, .f32⟩
  | 49 => ⟨S128x8x16x64x128, .f32⟩
  | 50 => ⟨S128x8x16x64x128, .f32⟩
  | 51 => ⟨S128x8x16x64x128, .f32⟩
  | 52 => ⟨S128x1x8x16, .f32⟩
  | 53 => ⟨S128x8x16, .f32⟩
  | 54 => ⟨S1x8x16, .f32⟩
  | 55 => ⟨S128x8x16, .f32⟩
  | 56 => ⟨S128x8x16, .f32⟩
  | 57 => ⟨S128x8x16, .f32⟩
  | 58 => ⟨S128x8x16x1x1, .f32⟩
  | 59 => ⟨S128x8x16x64x128, .f32⟩
  | 60 => ⟨S128x8x16x64x128, .f32⟩
  | 61 => ⟨S128x8x16x64x128, .f32⟩
  | 62 => ⟨S128x1x8x128, .f32⟩
  | 63 => ⟨S128x8x128, .f32⟩
  | 64 => ⟨S128x8x1x1x128, .f32⟩
  | 65 => ⟨S128x8x16x64x128, .f32⟩
  | 66 => ⟨S128x8x16x64x128, .f32⟩
  | 67 => ⟨S_, .f32⟩
  | 68 => ⟨S128x8x16x64, .f32⟩
  | 69 => ⟨S128x1x8x16x64, .f32⟩
  | 70 => ⟨S128x1x8x16x64, .f32⟩
  | 71 => ⟨S128x1x8x16x64, .f32⟩
  | 72 => ⟨S128x1x8x16x64, .f32⟩
  | 73 => ⟨S128x4x8x16x64, .f32⟩
  | 74 => ⟨S128x4x128x64, .f32⟩
  | 75 => ⟨S128x128x64x128, .f32⟩
  | 76 => ⟨S128, .f32⟩
  | 77 => ⟨S128x1, .f32⟩
  | 78 => ⟨S1x1x128x1, .f32⟩
  | 79 => ⟨S128x4x128x64, .f32⟩
  | 80 => ⟨S128x4x128x64, .f32⟩
  | 81 => ⟨S128x4x128x64, .f32⟩
  | 82 => ⟨S128x4x8192, .f32⟩
  | 83 => ⟨S4x128x8192, .f32⟩
  | 84 => ⟨S512x8192, .f32⟩
  | 85 => ⟨S512x8192, .bf16⟩
  | 86 => ⟨S1x128x128x64x128, .f32⟩
  | _ => ⟨S512x18432, .bf16⟩

abbrev hbmTy (i : Nat) : BufTy := match i / 128 with
  | 0 => hbmTy0_0 i
  | 1 => hbmTy0_1 i
  | _ => ⟨S512x18432, .bf16⟩

abbrev bufTy : (tb : Table) → Fin (tcTables nBuf tb) → BufTy
  | .hbm, ⟨i, _⟩ => hbmTy i
  | _, _ => ⟨S512x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_0 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_1 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_2 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_cst_3 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩

abbrev nD : Nat := 1
abbrev τ : Topo := Topo.v7x

variable {F : FTy → Type} [FloatOps F]
-- ==== Gate.lean ====
abbrev S512x8192 : Shape := ⟨2, ![512, 8192]⟩
abbrev S512x18432 : Shape := ⟨2, ![512, 18432]⟩
abbrev S1x8192 : Shape := ⟨2, ![1, 8192]⟩
abbrev S8192 : Shape := ⟨1, ![8192]⟩
abbrev S256x8192 : Shape := ⟨2, ![256, 8192]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S512x8192, .bf16⟩
  | .hbm, ⟨1, _⟩ => ⟨S512x18432, .bf16⟩
  | .hbm, ⟨2, _⟩ => ⟨S1x8192, .f32⟩
  | .hbm, ⟨3, _⟩ => ⟨S8192, .f32⟩
  | .hbm, ⟨4, _⟩ => ⟨S1x8192, .f32⟩
  | .hbm, ⟨5, _⟩ => ⟨S512x8192, .bf16⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S1x8192, .f32⟩
  | .local _ .vmem, ⟨5, _⟩ => ⟨S256x8192, .bf16⟩
  | .local _ .vmem, ⟨6, _⟩ => ⟨S256x8192, .bf16⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateReferenceIdeal.lean ====
abbrev S512x8192 : Shape := ⟨2, ![512, 8192]⟩
abbrev S512x18432 : Shape := ⟨2, ![512, 18432]⟩
abbrev S1x8192 : Shape := ⟨2, ![1, 8192]⟩
abbrev S_ : Shape := ⟨0, ![]⟩
abbrev S8192 : Shape := ⟨1, ![8192]⟩
abbrev S512 : Shape := ⟨1, ![512]⟩
abbrev S512x1 : Shape := ⟨2, ![512, 1]⟩

abbrev nBuf : Space → Nat
  | .hbm => 34
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S512x18432, .bf16⟩
  | .hbm, ⟨2, _⟩ => ⟨S1x8192, .f32⟩
  | .hbm, ⟨3, _⟩ => ⟨S512x8192, .bf16⟩
  | .hbm, ⟨4, _⟩ => ⟨S512x8192, .f32⟩
  | .hbm, ⟨5, _⟩ => ⟨S512x8192, .f32⟩
  | .hbm, ⟨6, _⟩ => ⟨S512x8192, .f32⟩
  | .hbm, ⟨7, _⟩ => ⟨S512x8192, .f32⟩
  | .hbm, ⟨8, _⟩ => ⟨S_, .f32⟩
  | .hbm, ⟨9, _⟩ => ⟨S512x8192, .f32⟩
  | .hbm, ⟨10, _⟩ => ⟨S512x8192, .f32⟩
  | .hbm, ⟨11, _⟩ => ⟨S_, .f32⟩
  | .hbm, ⟨12, _⟩ => ⟨S512x8192, .f32⟩
  | .hbm, ⟨13, _⟩ => ⟨S512x8192, .f32⟩
  | .hbm, ⟨14, _⟩ => ⟨S512x8192, .f32⟩
  | .hbm, ⟨15, _⟩ => ⟨S512x8192, .f32⟩
  | .hbm, ⟨16, _⟩ => ⟨S8192, .f32⟩
  | .hbm, ⟨17, _⟩ => ⟨S512x8192, .f32⟩
  | .hbm, ⟨18, _⟩ => ⟨S_, .f32⟩
  | .hbm, ⟨19, _⟩ => ⟨S512, .f32⟩
  | .hbm, ⟨20, _⟩ => ⟨S512x1, .f32⟩
  | .hbm, ⟨21, _⟩ => ⟨S_, .f32⟩
  | .hbm, ⟨22, _⟩ => ⟨S512x1, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x8192, .f32⟩
  | .hbm, ⟨29, _⟩ => ⟨S512x8192, .f32⟩
  | .hbm, ⟨30, _⟩ => ⟨S1x8192, .f32⟩
  | .hbm, ⟨31, _⟩ => ⟨S512x8192, .f32⟩
  | .hbm, ⟨32, _⟩ => ⟨S512x8192, .f32⟩
  | .hbm, ⟨33, _⟩ => ⟨S512x8192, .bf16⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Closing.lean ====
abbrev S8192x4096 : Shape := ⟨2, ![8192, 4096]⟩
abbrev S512x4096 : Shape := ⟨2, ![512, 4096]⟩
abbrev S4x24576 : Shape := ⟨2, ![4, 24576]⟩
abbrev S128x24576 : Shape := ⟨2, ![128, 24576]⟩
abbrev S4096 : Shape := ⟨1, ![4096]⟩
abbrev S4x6x4096 : Shape := ⟨3, ![4, 6, 4096]⟩
abbrev S128x6x4096 : Shape := ⟨3, ![128, 6, 4096]⟩
abbrev S4x1x4096 : Shape := ⟨3, ![4, 1, 4096]⟩
abbrev S4x4096 : Shape := ⟨2, ![4, 4096]⟩
abbrev S128x1x4096 : Shape := ⟨3, ![128, 1, 4096]⟩
abbrev S128x4096 : Shape := ⟨2, ![128, 4096]⟩
abbrev S1x128x1x4096 : Shape := ⟨4, ![1, 128, 1, 4096]⟩
abbrev S4x128x1x4096 : Shape := ⟨4, ![4, 128, 1, 4096]⟩
abbrev S1x512x4096 : Shape := ⟨3, ![1, 512, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x256x4096 : Shape := ⟨3, ![1, 256, 4096]⟩
abbrev S4x2048x4096 : Shape := ⟨3, ![4, 2048, 4096]⟩
abbrev S4x128x4096 : Shape := ⟨3, ![4, 128, 4096]⟩
abbrev S128x4x4096 : Shape := ⟨3, ![128, 4, 4096]⟩

abbrev nBuf : Space → Nat
  | .hbm => 70
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S8192x4096, .f32⟩
  | .hbm, ⟨3, _⟩ => ⟨S512x4096, .f32⟩
  | .hbm, ⟨4, _⟩ => ⟨S4x24576, .f32⟩
  | .hbm, ⟨5, _⟩ => ⟨S128x24576, .f32⟩
  | .hbm, ⟨6, _⟩ => ⟨S4096, .f32⟩
  | .hbm, ⟨7, _⟩ => ⟨S4x6x4096, .f32⟩
  | .hbm, ⟨8, _⟩ => ⟨S128x6x4096, .f32⟩
  | .hbm, ⟨9, _⟩ => ⟨S4x1x4096, .f32⟩
  | .hbm, ⟨10, _⟩ => ⟨S4x4096, .f32⟩
  | .hbm, ⟨11, _⟩ => ⟨S4x1x4096, .f32⟩
  | .hbm, ⟨12, _⟩ => ⟨S4x1x4096, .f32⟩
  | .hbm, ⟨13, _⟩ => ⟨S4x4096, .f32⟩
  | .hbm, ⟨14, _⟩ => ⟨S4x1x4096, .f32⟩
  | .hbm, ⟨15, _⟩ => ⟨S4x1x4096, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S4x4096, .f32⟩
  | .hbm, ⟨20, _⟩ => ⟨S4x1x4096, .f32⟩
  | .hbm, ⟨21, _⟩ => ⟨S4x1x4096, .f32⟩
  | .hbm, ⟨22, _⟩ => ⟨S4x4096, .f32⟩
  | .hbm, ⟨23, _⟩ => ⟨S4x1x4096, .f32⟩
  | .hbm, ⟨24, _⟩ => ⟨S4x1x4096, .f32⟩
  | .hbm, ⟨25, _⟩ => ⟨S4x4096, .f32⟩
  | .hbm, ⟨26, _⟩ => ⟨S4x1x4096, .f32⟩
  | .hbm, ⟨27, _⟩ => ⟨S128x1x4096, .f32⟩
  | .hbm, ⟨28, _⟩ => ⟨S128x4096, .f32⟩
  | .hbm, ⟨29, _⟩ => ⟨S1x128x1x4096, .f32⟩
  | .hbm, ⟨30, _⟩ => ⟨S4x128x1x4096, .f32⟩
  | .hbm, ⟨31, _⟩ => ⟨S512x4096, .f32⟩
  | .hbm, ⟨32, _⟩ => ⟨S1x512x4096, .f32⟩
  | .hbm, ⟨33, _⟩ => ⟨S128x1x4096, .f32⟩
  | .hbm, ⟨34, _⟩ => ⟨S128x4096, .f32⟩
  | .hbm, ⟨35, _⟩ => ⟨S1x128x1x4096, .f32⟩
  | .hbm, ⟨36, _⟩ => ⟨S4x128x1x4096, .f32⟩
  | .hbm, ⟨37, _⟩ => ⟨S512x4096, .f32⟩
  | .hbm, ⟨38, _⟩ => ⟨S1x512x4096, .f32⟩
  | .hbm, ⟨39, _⟩ => ⟨S128x1x4096, .f32⟩
  | .hbm, ⟨40, _⟩ => ⟨S128x4096, .f32⟩
  | .hbm, ⟨41, _⟩ => ⟨S1x128x1x4096, .f32⟩
  | .hbm, ⟨42, _⟩ => ⟨S4x128x1x4096, .f32⟩
  | .hbm, ⟨43, _⟩ => ⟨S512x4096, .f32⟩
  | .hbm, ⟨44, _⟩ => ⟨S1x512x4096, .f32⟩
  | .hbm, ⟨45, _⟩ => ⟨S128x1x4096, .f32⟩
  | .hbm, ⟨46, _⟩ => ⟨S128x4096, .f32⟩
  | .hbm, ⟨47, _⟩ => ⟨S1x128x1x4096, .f32⟩
  | .hbm, ⟨48, _⟩ => ⟨S4x128x1x4096, .f32⟩
  | .hbm, ⟨49, _⟩ => ⟨S512x4096, .f32⟩
  | .hbm, ⟨50, _⟩ => ⟨S1x512x4096, .f32⟩
  | .hbm, ⟨51, _⟩ => ⟨S128x1x4096, .f32⟩
  | .hbm, ⟨52, _⟩ => ⟨S128x4096, .f32⟩
  | .hbm, ⟨53, _⟩ => ⟨S1x128x1x4096, .f32⟩
  | .hbm, ⟨54, _⟩ => ⟨S4x128x1x4096, .f32⟩
  | .hbm, ⟨55, _⟩ => ⟨S512x4096, .f32⟩
  | .hbm, ⟨56, _⟩ => ⟨S1x512x4096, .f32⟩
  | .hbm, ⟨57, _⟩ => ⟨S128x1x4096, .f32⟩
  | .hbm, ⟨58, _⟩ => ⟨S128x4096, .f32⟩
  | .hbm, ⟨59, _⟩ => ⟨S1x128x1x4096, .f32⟩
  | .hbm, ⟨60, _⟩ => ⟨S4x128x1x4096, .f32⟩
  | .hbm, ⟨61, _⟩ => ⟨S512x4096, .f32⟩
  | .hbm, ⟨62, _⟩ => ⟨S1x512x4096, .f32⟩
  | .hbm, ⟨63, _⟩ => ⟨S1x4096, .f32⟩
  | .hbm, ⟨64, _⟩ => ⟨S8192x4096, .f32⟩
  | .hbm, ⟨65, _⟩ => ⟨S1x4096, .f32⟩
  | .hbm, ⟨66, _⟩ => ⟨S512x4096, .f32⟩
  | .hbm, ⟨67, _⟩ => ⟨S4x2048x4096, .f32⟩
  | .hbm, ⟨68, _⟩ => ⟨S4x128x4096, .f32⟩
  | .hbm, ⟨69, _⟩ => ⟨S128x4x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S1x256x4096, .f32⟩
  | .local _ .vmem, ⟨14, _⟩ => ⟨S1x256x4096, .f32⟩
  | .local _ .vmem, ⟨15, _⟩ => ⟨S1x4096, .f32⟩
  | .local _ .vmem, ⟨16, _⟩ => ⟨S256x4096, .f32⟩
  | .local _ .vmem, ⟨17, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ClosingReferenceIdeal.lean ====
abbrev S8192x4096 : Shape := ⟨2, ![8192, 4096]⟩
abbrev S512x4096 : Shape := ⟨2, ![512, 4096]⟩
abbrev S4x24576 : Shape := ⟨2, ![4, 24576]⟩
abbrev S128x24576 : Shape := ⟨2, ![128, 24576]⟩
abbrev S4096 : Shape := ⟨1, ![4096]⟩
abbrev S4x2048x4096 : Shape := ⟨3, ![4, 2048, 4096]⟩
abbrev S4x1x24576 : Shape := ⟨3, ![4, 1, 24576]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x128x4096 : Shape := ⟨3, ![4, 128, 4096]⟩
abbrev S128x4x4096 : Shape := ⟨3, ![128, 4, 4096]⟩
abbrev S128x1x24576 : Shape := ⟨3, ![128, 1, 24576]⟩
abbrev S128x1x4096 : Shape := ⟨3, ![128, 1, 4096]⟩
abbrev S128x4 : Shape := ⟨2, ![128, 4]⟩
abbrev S128x4x1 : Shape := ⟨3, ![128, 4, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S8192x4096, .f32⟩
  | .hbm, ⟨3, _⟩ => ⟨S512x4096, .f32⟩
  | .hbm, ⟨4, _⟩ => ⟨S4x24576, .f32⟩
  | .hbm, ⟨5, _⟩ => ⟨S128x24576, .f32⟩
  | .hbm, ⟨6, _⟩ => ⟨S4096, .f32⟩
  | .hbm, ⟨7, _⟩ => ⟨S4x2048x4096, .f32⟩
  | .hbm, ⟨8, _⟩ => ⟨S4x2048x4096, .f32⟩
  | .hbm, ⟨9, _⟩ => ⟨S4x1x24576, .f32⟩
  | .hbm, ⟨10, _⟩ => ⟨S4x1x4096, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x1x4096, .f32⟩
  | .hbm, ⟨15, _⟩ => ⟨S4x1x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x4096, .f32⟩
  | .hbm, ⟨31, _⟩ => ⟨S4x2048x4096, .f32⟩
  | .hbm, ⟨32, _⟩ => ⟨S1x1x4096, .f32⟩
  | .hbm, ⟨33, _⟩ => ⟨S4x2048x4096, .f32⟩
  | .hbm, ⟨34, _⟩ => ⟨S4x2048x4096, .f32⟩
  | .hbm, ⟨35, _⟩ => ⟨S4x128x4096, .f32⟩
  | .hbm, ⟨36, _⟩ => ⟨S128x4x4096, .f32⟩
  | .hbm, ⟨37, _⟩ => ⟨S4x128x4096, .f32⟩
  | .hbm, ⟨38, _⟩ => ⟨S128x4x4096, .f32⟩
  | .hbm, ⟨39, _⟩ => ⟨S128x1x24576, .f32⟩
  | .hbm, ⟨40, _⟩ => ⟨S128x1x4096, .f32⟩
  | .hbm, ⟨41, _⟩ => ⟨S128x1x4096, .f32⟩
  | .hbm, ⟨42, _⟩ => ⟨S128x1x4096, .f32⟩
  | .hbm, ⟨43, _⟩ => ⟨S128x1x4096, .f32⟩
  | .hbm, ⟨44, _⟩ => ⟨S128x1x4096, .f32⟩
  | .hbm, ⟨45, _⟩ => ⟨S128x1x4096, .f32⟩
  | .hbm, ⟨46, _⟩ => ⟨S128x4x4096, .f32⟩
  | .hbm, ⟨47, _⟩ => ⟨S128x4x4096, .f32⟩
  | .hbm, ⟨48, _⟩ => ⟨S128x4x4096, .f32⟩
  | .hbm, ⟨49, _⟩ => ⟨S128x4x4096, .f32⟩
  | .hbm, ⟨50, _⟩ => ⟨S_, .f32⟩
  | .hbm, ⟨51, _⟩ => ⟨S128x4, .f32⟩
  | .hbm, ⟨52, _⟩ => ⟨S128x4x1, .f32⟩
  | .hbm, ⟨53, _⟩ => ⟨S_, .f32⟩
  | .hbm, ⟨54, _⟩ => ⟨S128x4x1, .f32⟩
  | .hbm, ⟨55, _⟩ => ⟨S128x4x1, .f32⟩
  | .hbm, ⟨56, _⟩ => ⟨S_, .f32⟩
  | .hbm, ⟨57, _⟩ => ⟨S128x4x1, .f32⟩
  | .hbm, ⟨58, _⟩ => ⟨S128x4x1, .f32⟩
  | .hbm, ⟨59, _⟩ => ⟨S128x4x1, .f32⟩
  | .hbm, ⟨60, _⟩ => ⟨S128x4x4096, .f32⟩
  | .hbm, ⟨61, _⟩ => ⟨S128x4x4096, .f32⟩
  | .hbm, ⟨62, _⟩ => ⟨S1x1x4096, .f32⟩
  | .hbm, ⟨63, _⟩ => ⟨S128x4x4096, .f32⟩
  | .hbm, ⟨64, _⟩ => ⟨S128x4x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Proof.Host.lean ====
/-
  The operations between the calls, read at an index: what each buffer a call or a result reads holds after its stretch,
  in terms of what the stretch found.
-/
module

public import proofs.«01_k».proof.Proof.Gen.KernelIdeal.Frame.Fold0
public import Idealize.ShloMosaic.Lib.Pointwise

@[expose] public section

set_option maxRecDepth 16384
set_option maxHeartbeats 2000000

noncomputable section

namespace Cert.KernelIdeal.Vals

open Idealize.ShloMosaic Idealize.ShloMosaic.TcCoe Idealize.SL.Sem
open Idealize.ShloMosaic.StableHlo
open Idealize.ShloMosaic.Pointwise
open Cert.KernelIdeal Cert.KernelIdeal.Gen

variable (W : Valuation τ sig (Elt Ideal))

/-! ### Before the first call -/

theorem h0_v0 (r : Fin 8192) (k : Fin 4096) : (after hostOps0 W main_v0 : Vec Ideal S8192x4096 .f32) (ix2 r k)
    = (W main_arg0 : Vec Ideal S4x2048x4096 .f32) (ix3 ⟨r.val / 2048, by omega⟩ ⟨r.val % 2048, by omega⟩ k) := by
  after_results_simp
  pointwise

theorem h0_v2 (r : Fin 512) (k : Fin 4096) : (after hostOps0 W main_v2 : Vec Ideal S512x4096 .f32) (ix2 r k)
    = (W main_arg1 : Vec Ideal S128x4x4096 .f32) (ix3 ⟨r.val % 128, by omega⟩ ⟨r.val / 128, by omega⟩ k) := by
  after_results_simp
  pointwise

theorem h0_v3_p (b : Fin 4) (k : Fin 4096) : (after hostOps0 W main_v3 : Vec Ideal S132x4096 .f32) (ix2 ⟨b.val, by omega⟩ k)
    = (W main_arg2 : Vec Ideal S4x4096 .f32) (ix2 b k) := by
  after_results_simp
  pointwise

theorem h0_v3_s (s : Fin 128) (k : Fin 4096) : (after hostOps0 W main_v3 : Vec Ideal S132x4096 .f32) (ix2 ⟨4 + s.val, by omega⟩ k)
    = (W main_arg3 : Vec Ideal S128x4096 .f32) (ix2 s k) := by
  after_results_simp
  pointwise

theorem h01_v4 (r : Fin 132) (k : Fin 4096) : (after hostOps0_1 W main_v4 : Vec Ideal S136x4096 .f32) (ix2 ⟨r.val, by omega⟩ k)
    = (W main_v3 : Vec Ideal S132x4096 .f32) (ix2 r k) := by
  simp only [hostOps0_1, TRef.unary, TRef.binary, TRef.toBuf, TRef.ofBuf, cast_eq]
  after_results_simp
  pointwise

theorem h02_v5 (k : Fin 4096) (n : Fin 24576) : (after hostOps0_2 W main_v5 : Vec Ideal S4096x24576 .f32) (ix2 k n)
    = (W main_arg5 : Vec Ideal S1x4096x24576 .f32) (ix3 0 k n) := by
  after_results_simp
  pointwise

theorem h02_v7 (n : Fin 24576) : (after hostOps0_2 W main_v7 : Vec Ideal S1x24576 .f32) (ix2 0 n)
    = (W main_arg6 : Vec Ideal S1x24576 .f32) (ix2 0 n) := by
  after_results_simp
  pointwise

/-! ### After the modulation -/

theorem h1_v15 (b : Fin 4) (d : Fin 4096) : (after hostOps1 W main_v15 : Vec Ideal S4x1x4096 .f32) (ix3 b 0 d)
    = (W main_v8 : Vec Ideal S136x24576 .f32) (ix2 ⟨b.val, by omega⟩ ⟨d.val, by omega⟩) := by
  after_results_simp
  pointwise

theorem h1_v18 (b : Fin 4) (d : Fin 4096) : (after hostOps1 W main_v18 : Vec Ideal S4x1x4096 .f32) (ix3 b 0 d)
    = (W main_v8 : Vec Ideal S136x24576 .f32) (ix2 ⟨b.val, by omega⟩ ⟨4096 + d.val, by omega⟩) := by
  after_results_simp
  pointwise

theorem h1_v36 (r : Fin 512) (d : Fin 4096) : (after hostOps1 W main_v36 : Vec Ideal S1x512x4096 .f32) (ix3 0 r d)
    = (W main_v8 : Vec Ideal S136x24576 .f32) (ix2 ⟨4 + r.val % 128, by omega⟩ ⟨d.val, by omega⟩) := by
  after_results_simp
  pointwise

theorem h1_v42 (r : Fin 512) (d : Fin 4096) : (after hostOps1 W main_v42 : Vec Ideal S1x512x4096 .f32) (ix3 0 r d)
    = (W main_v8 : Vec Ideal S136x24576 .f32) (ix2 ⟨4 + r.val % 128, by omega⟩ ⟨4096 + d.val, by omega⟩) := by
  after_results_simp
  pointwise

theorem h1_v67 (k : Fin 4096) (n : Fin 34944) : (after hostOps1 W main_v67 : Vec Ideal S4096x34944 .f32) (ix2 k n)
    = (W main_arg8 : Vec Ideal S1x4096x34944 .f32) (ix3 0 k n) := by
  after_results_simp
  pointwise

theorem h1_v70 (k : Fin 4096) (n : Fin 18432) : (after hostOps1 W main_v70 : Vec Ideal S4096x18432 .bf16) (ix2 k n)
    = (W main_arg8 : Vec Ideal S1x4096x34944 .f32) (ix3 0 k ⟨n.val, by omega⟩) := by
  after_results_simp
  pointwise

theorem h1_v68 (d : Fin 4096) : (after hostOps1 W main_v68 : Vec Ideal S4096 .f32) (ix1 d)
    = (W main_arg7 : Vec Ideal S1x4096 .f32) (ix2 0 d) := by
  after_results_simp
  pointwise

theorem h1_v77 (d : Fin 4096) : (after hostOps1 W main_v77 : Vec Ideal S1x4096 .f32) (ix2 0 d)
    = (W main_arg7 : Vec Ideal S1x4096 .f32) (ix2 0 d) := by
  after_results_simp
  pointwise

theorem h1_v71 (n : Fin 128) : (after hostOps1 W main_v71 : Vec Ideal S128 .f32) (ix1 n)
    = (W main_arg9 : Vec Ideal S1x128 .f32) (ix2 0 n) := by
  after_results_simp
  pointwise

theorem h1_v72 (i : S8192x4096.Idx) : (after hostOps1 W main_v72 : Vec Ideal S8192x4096 .f32) i
    = (W main_arg10 : Vec Ideal S1x8192x4096 .f32) (ix3 0 (i 0) (i 1)) := by
  after_results_simp
  pointwise

theorem h1_v73 (i : S4096x4096.Idx) : (after hostOps1 W main_v73 : Vec Ideal S4096x4096 .f32) i
    = (W main_arg11 : Vec Ideal S1x4096x4096 .f32) (ix3 0 (i 0) (i 1)) := by
  after_results_simp
  pointwise

theorem h1_v74 (i : S4096x4096.Idx) : (after hostOps1 W main_v74 : Vec Ideal S4096x4096 .f32) i
    = (W main_arg12 : Vec Ideal S1x4096x4096 .f32) (ix3 0 (i 0) (i 1)) := by
  after_results_simp
  pointwise

theorem h1_v75 (i : S4096x2048.Idx) : (after hostOps1 W main_v75 : Vec Ideal S4096x2048 .f32) i
    = (W main_arg13 : Vec Ideal S1x4096x2048 .f32) (ix3 0 (i 0) (i 1)) := by
  after_results_simp
  pointwise

theorem h1_v76 (i : S16384x4096.Idx) : (after hostOps1 W main_v76 : Vec Ideal S16384x4096 .f32) i
    = (W main_arg14 : Vec Ideal S1x16384x4096 .f32) (ix3 0 (i 0) (i 1)) := by
  after_results_simp
  pointwise

/-! ### After the prompt group's projections, and at the end -/

theorem h4_v81 (n : Fin 128) : (after hostOps4 W main_v81 : Vec Ideal S1x128 .f32) (ix2 0 n)
    = (W main_v71 : Vec Ideal S128 .f32) (ix1 n) := by
  after_results_simp
  pointwise

theorem h5_v87 (b : Fin 4) (j : Fin 3) (d : Fin 10240) : (after hostOps5 W main_v87 : Vec Ideal S4x3x10240 .f32) (ix3 b j d)
    = (W main_v79_0 : Vec Ideal S8192x18432 .bf16) (ix2 ⟨b.val * 2048 + (2045 + j.val), by omega⟩ ⟨8192 + d.val, by omega⟩) := by
  after_results_simp
  pointwise
  exact dif_neg (Nat.not_lt_zero _)

theorem h5_v88 (d : Fin 4096) : (after hostOps5 W main_v88 : Vec Ideal S1x4096 .f32) (ix2 0 d)
    = (W main_v68 : Vec Ideal S4096 .f32) (ix1 d) := by
  after_results_simp
  pointwise

theorem h8_v92 (n : Fin 128) : (after hostOps8 W main_v92 : Vec Ideal S1x128 .f32) (ix2 0 n)
    = (W main_v71 : Vec Ideal S128 .f32) (ix1 n) := by
  after_results_simp
  pointwise

theorem h9_v101 (b : Fin 4) (j : Fin 3) (d : Fin 10240) : (after hostOps9 W main_v101 : Vec Ideal S1x4x3x10240 .f32) (ix4 0 b j d)
    = (W main_v87 : Vec Ideal S4x3x10240 .f32) (ix3 b j d) := by
  after_results_simp
  pointwise

theorem h9_v102 (b : Fin 128) (j : Fin 3) (d : Fin 10240) : (after hostOps9 W main_v102 : Vec Ideal S1x128x3x10240 .f32) (ix4 0 b j d)
    = (W main_v90 : Vec Ideal S512x18432 .bf16) (ix2 ⟨(1 + j.val) * 128 + b.val, by omega⟩ ⟨8192 + d.val, by omega⟩) := by
  after_results_simp
  pointwise
  rw [dif_neg (Nat.not_lt_zero _)]
  after_results_simp
  pointwise

end Cert.KernelIdeal.Vals

end
-- ==== Proof.Spec.lean ====
/-
  What the layer's projections are, in plain formulas over the extended reals: the modulation of a conditioning row, the
  modulated normalization of a token row, its projection, and the softplus of the step sizes. Both programs are read
  against these.
-/
module

public import Idealize.ShloMosaic.Lib.Pointwise

@[expose] public section

noncomputable section

namespace Cert.Spec

open Idealize.ShloMosaic Idealize.ShloMosaic.Pointwise

/-- An array of extended reals of a shape. -/
abbrev Arr (s : Shape) := s.Idx → EReal

/-- Column `n` of the modulation of a conditioning row: its silu times the weights, plus the bias. -/
def modv (c : Fin 4096 → EReal) (w : Arr ⟨3, ![1, 4096, 24576]⟩) (b : Arr ⟨2, ![1, 24576]⟩) (n : Fin 24576) : EReal :=
  ∑ k : Fin 4096, c k * Ideal.logistic (c k) * w (ix3 0 k n) + b (ix2 0 n)

/-- A row normalized by the root of its mean square (4096 columns, epsilon 1e-6), times the gain, scaled and shifted. -/
def normed (x g sc sh : Fin 4096 → EReal) (d : Fin 4096) : EReal :=
  x d * Ideal.rsqrt (Ideal.div (∑ k, x k * x k) (Ideal.ofBits FTy.f32 1166016512#32) + Ideal.ofBits FTy.f32 897988541#32)
    * g d * (1 + sc d) + sh d

/-- A token row `x` under the conditioning row `c`, normalized and modulated: the shift is the modulation's first 4096
    columns, the scale the next. -/
def row (x c : Fin 4096 → EReal) (w : Arr ⟨3, ![1, 4096, 24576]⟩) (b : Arr ⟨2, ![1, 24576]⟩) (g : Arr ⟨2, ![1, 4096]⟩) :
    Fin 4096 → EReal :=
  normed x (fun d => g (ix2 0 d)) (fun d => modv c w b ⟨4096 + d.val, by omega⟩) (fun d => modv c w b ⟨d.val, by omega⟩)

/-- Column `n` of a row's projection. -/
def projv (h : Fin 4096 → EReal) (w : Arr ⟨3, ![1, 4096, 34944]⟩) (n : Fin 34944) : EReal :=
  ∑ k : Fin 4096, h k * w (ix3 0 k n)

/-- The softplus, in the form that is stable for large arguments. -/
def softplus (s : EReal) : EReal :=
  max s 0 + Ideal.log1p (Ideal.exp (0 - FloatOps.absf (F := Ideal) (φ := .f32) s))

/-- Step size `n` of a row. -/
def dtv (h : Fin 4096 → EReal) (w : Arr ⟨3, ![1, 4096, 34944]⟩) (b : Arr ⟨2, ![1, 128]⟩) (n : Fin 128) : EReal :=
  softplus (projv h w ⟨18432 + n.val, by omega⟩ + b (ix2 0 n))

/-- Row `r` of the prompt group, its four sequences of 2048 tokens one after the other. -/
def rowP (x : Arr ⟨3, ![4, 2048, 4096]⟩) (c : Arr ⟨2, ![4, 4096]⟩) (w : Arr ⟨3, ![1, 4096, 24576]⟩) (b : Arr ⟨2, ![1, 24576]⟩)
    (g : Arr ⟨2, ![1, 4096]⟩) (r : Fin 8192) : Fin 4096 → EReal :=
  row (fun k => x (ix3 ⟨r.val / 2048, by omega⟩ ⟨r.val % 2048, by omega⟩ k)) (fun k => c (ix2 ⟨r.val / 2048, by omega⟩ k)) w b g

/-- Row `r` of the sample group, its 128 sequences side by side: four tokens, each of all the sequences. -/
def rowS (x : Arr ⟨3, ![128, 4, 4096]⟩) (c : Arr ⟨2, ![128, 4096]⟩) (w : Arr ⟨3, ![1, 4096, 24576]⟩) (b : Arr ⟨2, ![1, 24576]⟩)
    (g : Arr ⟨2, ![1, 4096]⟩) (r : Fin 512) : Fin 4096 → EReal :=
  row (fun k => x (ix3 ⟨r.val % 128, by omega⟩ ⟨r.val / 128, by omega⟩ k)) (fun k => c (ix2 ⟨r.val % 128, by omega⟩ k)) w b g

/-- The projection of rows `h` to the `n` columns from `o` on. -/
def projs {M n : Nat} (o : Nat) (ho : o + n ≤ 34944) (h : Fin M → Fin 4096 → EReal) (w : Arr ⟨3, ![1, 4096, 34944]⟩) :
    Arr ⟨2, ![M, n]⟩ :=
  fun i => projv (h (i 0)) w ⟨o + (i 1).val, Nat.lt_of_lt_of_le (Nat.add_lt_add_left (i 1).isLt o) ho⟩

/-- The step sizes of rows `h`. -/
def dtsOf {M : Nat} (h : Fin M → Fin 4096 → EReal) (w : Arr ⟨3, ![1, 4096, 34944]⟩) (b : Arr ⟨2, ![1, 128]⟩) : Arr ⟨2, ![M, 128]⟩ :=
  fun i => dtv (h (i 0)) w b (i 1)

/-- The convolution state a group of `B` sequences leaves: the last three tokens' columns 8192 to 18431, `f` saying
    which row a token of a sequence is. -/
def convState {M B : Nat} (f : Fin B → Fin 3 → Fin M) (h : Fin M → Fin 4096 → EReal) (w : Arr ⟨3, ![1, 4096, 34944]⟩) :
    Arr ⟨4, ![1, B, 3, 10240]⟩ :=
  fun i => projv (h (f (i 1) (i 2))) w ⟨8192 + (i 3).val, by have h3 : (i 3).val < 10240 := (i 3).isLt; omega⟩

/-- Where the last three tokens of a prompt sequence are. -/
def lastP (b : Fin 4) (j : Fin 3) : Fin 8192 := ⟨b.val * 2048 + (2045 + j.val), by omega⟩

/-- Where the last three tokens of a sample sequence are. -/
def lastS (b : Fin 128) (j : Fin 3) : Fin 512 := ⟨(1 + j.val) * 128 + b.val, by omega⟩

/-- The only layer's weights. -/
def layer {K N : Nat} (w : Arr ⟨3, ![1, K, N]⟩) : Arr ⟨2, ![K, N]⟩ := fun i => w (ix3 0 (i 0) (i 1))

theorem normed_congr {x g sc sh x' g' sc' sh' : Fin 4096 → EReal} {d d' : Fin 4096} (hd : d = d')
    (hx : ∀ k, x k = x' k) (hg : ∀ k, g k = g' k) (hc : ∀ k, sc k = sc' k) (hs : ∀ k, sh k = sh' k) :
    normed x g sc sh d = normed x' g' sc' sh' d' := by
  rw [funext hx, funext hg, funext hc, funext hs, hd]

theorem ix2_of {a b : Nat} (i : (⟨2, ![a, b]⟩ : Shape).Idx) : i = ix2 (i 0) (i 1) := by
  funext x
  match x with
  | 0 => rfl
  | 1 => rfl

theorem ix4_of {B n2 n3 : Nat} (i : (⟨4, ![1, B, n2, n3]⟩ : Shape).Idx) : i = ix4 0 (i 1) (i 2) (i 3) := by
  funext a
  match a with
  | 0 => exact Fin.ext (Nat.lt_one_iff.mp (i 0).isLt)
  | 1 => rfl
  | 2 => rfl
  | 3 => rfl

end Cert.Spec

end
-- ==== Proof.Blocks.lean ====
/-
  Products, column windows, normalized rows and where a block of a window sits, as plain functions of the index: shared
  by the modules that read the calls of both programs.
-/
module

public import proofs.«01_k».proof.Proof.Spec
public import Idealize.ShloMosaic.Lib.Pipeline.ValueKit
public import Idealize.ShloMosaic.Lib.Pointwise

@[expose] public section

set_option maxRecDepth 16384

noncomputable section

namespace Cert.Spec

open Idealize.ShloMosaic Idealize.ShloMosaic.TcCoe Idealize.SL.Sem
open Idealize.ShloMosaic.Pipeline (Dat)
open Idealize.ShloMosaic.Pointwise
/-- The plain product of an `M × K` array with a `K × N` array, as a function of the index. -/
def prod {M K N : Nat} (x : (⟨2, ![M, K]⟩ : Shape).Idx → EReal) (y : (⟨2, ![K, N]⟩ : Shape).Idx → EReal) :
    (⟨2, ![M, N]⟩ : Shape).Idx → EReal :=
  fun i => ∑ k : Fin K, x (ix2 (i 0) k) * y (ix2 k (i 1))

/-- Two products agree at two indices when the rows and the columns they read agree. -/
theorem prod_congr {M K N M' N' : Nat} {x : (⟨2, ![M, K]⟩ : Shape).Idx → EReal} {y : (⟨2, ![K, N]⟩ : Shape).Idx → EReal}
    {x' : (⟨2, ![M', K]⟩ : Shape).Idx → EReal} {y' : (⟨2, ![K, N']⟩ : Shape).Idx → EReal}
    {i : (⟨2, ![M, N]⟩ : Shape).Idx} {j : (⟨2, ![M', N']⟩ : Shape).Idx}
    (hx : ∀ k, x (ix2 (i 0) k) = x' (ix2 (j 0) k)) (hy : ∀ k, y (ix2 k (i 1)) = y' (ix2 k (j 1))) :
    prod x y i = prod x' y' j :=
  Finset.sum_congr rfl fun k _ => congrArg₂ _ (hx k) (hy k)

/-- The `n` columns of an array from column `o` on. -/
def cols {M C : Nat} (o n : Nat) (h : o + n ≤ C) (x : (⟨2, ![M, C]⟩ : Shape).Idx → EReal) :
    (⟨2, ![M, n]⟩ : Shape).Idx → EReal :=
  fun i => x (ix2 (i 0) ⟨o + (i 1).val, Nat.lt_of_lt_of_le (Nat.add_lt_add_left (i 1).isLt o) h⟩)

/-- The modulated normalization of an array's rows: `f` says which row of the scales and shifts a row takes. -/
def rows {M A B : Nat} (f : Fin M → Fin A × Fin B) (x : (⟨2, ![M, 4096]⟩ : Shape).Idx → EReal)
    (g : (⟨2, ![1, 4096]⟩ : Shape).Idx → EReal) (sc sh : (⟨3, ![A, B, 4096]⟩ : Shape).Idx → EReal) :
    (⟨2, ![M, 4096]⟩ : Shape).Idx → EReal :=
  fun i => normed (fun k => x (ix2 (i 0) k)) (fun d => g (ix2 0 d)) (fun d => sc (ix3 (f (i 0)).1 (f (i 0)).2 d))
    (fun d => sh (ix3 (f (i 0)).1 (f (i 0)).2 d)) (i 1)

theorem rows_congr {M A B M' A' B' : Nat} {f : Fin M → Fin A × Fin B} {x : (⟨2, ![M, 4096]⟩ : Shape).Idx → EReal}
    {g g' : (⟨2, ![1, 4096]⟩ : Shape).Idx → EReal} {sc sh : (⟨3, ![A, B, 4096]⟩ : Shape).Idx → EReal}
    {f' : Fin M' → Fin A' × Fin B'} {x' : (⟨2, ![M', 4096]⟩ : Shape).Idx → EReal}
    {sc' sh' : (⟨3, ![A', B', 4096]⟩ : Shape).Idx → EReal}
    {i : (⟨2, ![M, 4096]⟩ : Shape).Idx} {j : (⟨2, ![M', 4096]⟩ : Shape).Idx} (h : i 1 = j 1)
    (hx : ∀ k, x (ix2 (i 0) k) = x' (ix2 (j 0) k)) (hg : ∀ k, g (ix2 0 k) = g' (ix2 0 k))
    (hc : ∀ d, sc (ix3 (f (i 0)).1 (f (i 0)).2 d) = sc' (ix3 (f' (j 0)).1 (f' (j 0)).2 d))
    (hs : ∀ d, sh (ix3 (f (i 0)).1 (f (i 0)).2 d) = sh' (ix3 (f' (j 0)).1 (f' (j 0)).2 d)) :
    rows f x g sc sh i = rows f' x' g' sc' sh' j :=
  normed_congr h hx hg hc hs

/-- Where a block-indexed window's block sits: at its index times its size, on an axis whose index is known. -/
theorem emb_val {sig : RefSig} {G : Pipeline.Grid} (w : Pipeline.Window sig G) {t : Fin G.N} {f : Fin w.shape.rank → Nat} (h : w.index t = f)
    (hk : w.kind = .blocked) (x : (w.xblock (G.coords t)).Idx) (a : Fin w.shape.rank) :
    ((w.rect t).emb x a : Nat) = f a * w.size a + x a := by
  rw [w.rect_emb_val t x a hk, h]

/-- Where an element-placed window's block sits: at its offset, on an axis whose offset is known. -/
theorem emb_val_elem {sig : RefSig} {G : Pipeline.Grid} (w : Pipeline.Window sig G) {t : Fin G.N} {f : Fin w.shape.rank → Nat} (h : w.index t = f)
    (hk : w.kind = .element) (x : (w.xblock (G.coords t)).Idx) (a : Fin w.shape.rank) :
    ((w.rect t).emb x a : Nat) = f a + x a := by
  rw [w.rect_emb_val_off t x a, hk, h]

/-- A column of an offset window against a column of the whole: the offset between them. -/
theorem shifted {a b o y z n : Nat} (h : a = o + y) (h' : b = z * n + y) (hz : z = 0 := by rfl) : a = o + b := by
  subst hz; omega

/-- A column of a blocked window that runs `q` blocks ahead of another. -/
theorem ahead {a b o q y z n : Nat} (h : a = (q + z) * n + y) (h' : b = z * n + y) (ho : q * n = o) : a = o + b := by
  rw [h, h', Nat.add_mul, ho, Nat.add_assoc]

/-- Two indices of a rank-three array agree when their coordinates do. -/
theorem idx_ext_three {n : Fin 3 → Nat} {x y : (a : Fin 3) → Fin (n a)} (h0 : (x 0 : Nat) = y 0) (h1 : (x 1 : Nat) = y 1)
    (h2 : (x 2 : Nat) = y 2) : x = y := by
  funext a
  match a with
  | 0 => exact Fin.ext h0
  | 1 => exact Fin.ext h1
  | 2 => exact Fin.ext h2

/-- A coordinate of a block that sits at the origin. -/
theorem origin {b y z n : Nat} (h : b = z * n + y) (hz : z = 0 := by rfl) : b = y := by subst hz; omega

end Cert.Spec

end
-- ==== Proof.InProjA.lean ====
/-
  The prompt group's first projection call (`cc2_in_proj_a`, region 2), read: what its five result arrays hold after the
  call, as whole-array functions of the arrays it finds. The main result is the product of the normalized rows with the
  first 18432 columns of the projection weights. Two side results are windows of the full weight array placed by element
  offsets (columns from 18560, 16384 wide, and columns from 18432, 128 wide); two more are the weights of later calls.
  At the extended reals the rounding to bfloat16 is the identity, so every side result is a copy.
-/
module

public import proofs.«01_k».proof.Proof.Gen.KernelIdeal.Frame.Region2
public import proofs.«01_k».proof.Proof.Blocks

@[expose] public section

set_option maxRecDepth 16384

noncomputable section

namespace Cert.KernelIdeal.Vals

open Idealize.ShloMosaic Idealize.ShloMosaic.TcCoe Idealize.SL.Sem
open Idealize.ShloMosaic.Pipeline (Dat)
open Idealize.ShloMosaic.Pointwise
open Cert.KernelIdeal Cert.KernelIdeal.Gen Cert.Spec

variable (V : (c : Dev nD) → (b : Ref sig .tc) → Buf (Elt Ideal) ((c : Thread nD τ).loc b))

theorem idx2_0 : ∀ t : Fin cfg2.N, win2_0.index t = ![t.val / 18, 0] := (by decide +kernel : ∀ t : Fin grid2.N, _)
theorem idx2_1 : ∀ t : Fin cfg2.N, win2_1.index t = ![0, t.val % 18] := (by decide +kernel : ∀ t : Fin grid2.N, _)
theorem idx2_2 : ∀ t : Fin cfg2.N, win2_2.index t = ![min t.val 127 * 32, 18560] := (by decide +kernel : ∀ t : Fin grid2.N, _)
theorem idx2_3 : ∀ t : Fin cfg2.N, win2_3.index t = ![min t.val 127 * 32, 18432] := (by decide +kernel : ∀ t : Fin grid2.N, _)
theorem idx2_4 : ∀ t : Fin cfg2.N, win2_4.index t = ![min t.val 127, 0] := (by decide +kernel : ∀ t : Fin grid2.N, _)
theorem idx2_5 : ∀ t : Fin cfg2.N, win2_5.index t = ![min t.val 127, 0] := (by decide +kernel : ∀ t : Fin grid2.N, _)
theorem idx2_6 : ∀ t : Fin cfg2.N, win2_6.index t = ![t.val / 18, t.val % 18] := (by decide +kernel : ∀ t : Fin grid2.N, _)
theorem idx2_7 : ∀ t : Fin cfg2.N, win2_7.index t = ![min t.val 127, 0] := (by decide +kernel : ∀ t : Fin grid2.N, _)
theorem idx2_8 : ∀ t : Fin cfg2.N, win2_8.index t = ![min t.val 127, 0] := (by decide +kernel : ∀ t : Fin grid2.N, _)
theorem idx2_9 : ∀ t : Fin cfg2.N, win2_9.index t = ![min t.val 127, 0] := (by decide +kernel : ∀ t : Fin grid2.N, _)
theorem idx2_10 : ∀ t : Fin cfg2.N, win2_10.index t = ![min t.val 127, 0] := (by decide +kernel : ∀ t : Fin grid2.N, _)

/-- The main block of a point: the product of its row block with its column block. -/
theorem pay2_5 (x : Vec Ideal S1024x4096 .bf16) (y : Vec Ideal S4096x1024 .bf16) (j : S1024x1024.Idx) :
    k2_pay5 x y j = prod x y j := by
  pointwise [k2_pay5, prod]

/-- The main result: the product. -/
theorem arr2_6 (c : Dev nD) : (dat2 V c).arrAt 6 cfg2.N
    = prod (V c (Pipeline.arrRef spec2 0)) (V c (Pipeline.arrRef spec2 1)) := by
  refine (dat2 V c).arrAt_eq_of_covers 6 _ (by decide +kernel) fun t hf y => ?_
  rw [after2_6]; frame_out [out2_6]
  refine (pay2_5 _ _ y).trans ?_
  have e0 := emb_val win2_0 (idx2_0 t) rfl
  have e1 := emb_val win2_1 (idx2_1 t) rfl
  have e6 := emb_val win2_6 (idx2_6 t) rfl y
  refine prod_congr (fun k => congrArg (V c (Pipeline.arrRef spec2 0)) (Shape.idx_ext₂ ?_ ?_))
    fun k => congrArg (V c (Pipeline.arrRef spec2 1)) (Shape.idx_ext₂ ?_ ?_)
  · exact (e0 _ 0).trans (e6 0).symm
  · exact (e0 _ 1).trans ((congrArg (· + _) (Nat.zero_mul _)).trans (Nat.zero_add _))
  · exact (e1 _ 0).trans ((congrArg (· + _) (Nat.zero_mul _)).trans (Nat.zero_add _))
  · exact (e1 _ 1).trans (e6 1).symm

/-- The weights of the second projection: a window of the full weight array placed by element offsets. -/
theorem arr2_7 (c : Dev nD) : (dat2 V c).arrAt 7 cfg2.N
    = cols 18560 16384 (by norm_num) (V c (Pipeline.arrRef spec2 2)) := by
  refine (dat2 V c).arrAt_eq_of_covers 7 _ (by decide +kernel) fun t hf y => ?_
  rw [after2_7]; frame_out [out2_7]
  refine (show k2_pay1 (iblk2 V c 2 t) y = iblk2 V c 2 t y by pointwise [k2_pay1]).trans ?_
  have e2 := emb_val_elem win2_2 (idx2_2 t) rfl y
  have e7 := emb_val win2_7 (idx2_7 t) rfl y
  refine congrArg (V c (Pipeline.arrRef spec2 2)) (Shape.idx_ext₂ ?_ ?_)
  · exact (e2 0).trans (e7 0).symm
  · exact shifted (o := 18560) (e2 1) (e7 1)

/-- The weights of the step sizes: a second window of the same array. -/
theorem arr2_8 (c : Dev nD) : (dat2 V c).arrAt 8 cfg2.N
    = cols 18432 128 (by norm_num) (V c (Pipeline.arrRef spec2 3)) := by
  refine (dat2 V c).arrAt_eq_of_covers 8 _ (by decide +kernel) fun t hf y => ?_
  rw [after2_8]; frame_out [out2_8]
  refine (show k2_pay2 (iblk2 V c 3 t) y = iblk2 V c 3 t y by pointwise [k2_pay2]).trans ?_
  have e3 := emb_val_elem win2_3 (idx2_3 t) rfl y
  have e8 := emb_val win2_8 (idx2_8 t) rfl y
  refine congrArg (V c (Pipeline.arrRef spec2 3)) (Shape.idx_ext₂ ?_ ?_)
  · exact (e3 0).trans (e8 0).symm
  · exact shifted (o := 18432) (e3 1) (e8 1)

/-- The rounded weights of the scan branch's output projection: a copy. -/
theorem arr2_9 (c : Dev nD) : (dat2 V c).arrAt 9 cfg2.N = V c (Pipeline.arrRef spec2 4) := by
  refine (dat2 V c).arrAt_eq_of_covers 9 _ (by decide +kernel) fun t hf y => ?_
  rw [after2_9]; frame_out [out2_9]
  refine (show k2_pay3 (iblk2 V c 4 t) y = iblk2 V c 4 t y by pointwise [k2_pay3]).trans ?_
  have e4 := emb_val win2_4 (idx2_4 t) rfl y
  have e9 := emb_val win2_9 (idx2_9 t) rfl y
  exact congrArg (V c (Pipeline.arrRef spec2 4)) (Shape.idx_ext₂ ((e4 0).trans (e9 0).symm) ((e4 1).trans (e9 1).symm))

/-- The rounded weights of the layer's output projection: a copy. -/
theorem arr2_10 (c : Dev nD) : (dat2 V c).arrAt 10 cfg2.N = V c (Pipeline.arrRef spec2 5) := by
  refine (dat2 V c).arrAt_eq_of_covers 10 _ (by decide +kernel) fun t hf y => ?_
  rw [after2_10]; frame_out [out2_10]
  refine (show k2_pay4 (iblk2 V c 5 t) y = iblk2 V c 5 t y by pointwise [k2_pay4]).trans ?_
  have e5 := emb_val win2_5 (idx2_5 t) rfl y
  have e10 := emb_val win2_10 (idx2_10 t) rfl y
  exact congrArg (V c (Pipeline.arrRef spec2 5)) (Shape.idx_ext₂ ((e5 0).trans (e10 0).symm) ((e5 1).trans (e10 1).symm))

end Cert.KernelIdeal.Vals

end
-- ==== Proof.InProjB.lean ====
/-
  The prompt group's second projection call (`cc3_in_proj_b`, region 3) with its three side results, and the sample
  group's two projection calls (`cc6_in_proj_a`, `cc7_in_proj_b`), read: what their result arrays hold. Each main result
  is a product; each side result is a copy, since rounding is the identity at the extended reals.
-/
module

public import proofs.«01_k».proof.Proof.Gen.KernelIdeal.Frame.Region3
public import proofs.«01_k».proof.Proof.Gen.KernelIdeal.Frame.Region6
public import proofs.«01_k».proof.Proof.Gen.KernelIdeal.Frame.Region7
public import proofs.«01_k».proof.Proof.Spec
public import proofs.«01_k».proof.Proof.Blocks

@[expose] public section

set_option maxRecDepth 16384

noncomputable section

namespace Cert.KernelIdeal.Vals

open Idealize.ShloMosaic Idealize.ShloMosaic.TcCoe Idealize.SL.Sem
open Idealize.ShloMosaic.Pipeline (Dat)
open Idealize.ShloMosaic.Pointwise
open Cert.KernelIdeal Cert.KernelIdeal.Gen Cert.Spec

variable (V : (c : Dev nD) → (b : Ref sig .tc) → Buf (Elt Ideal) ((c : Thread nD τ).loc b))

theorem idx3_0 : ∀ t : Fin cfg3.N, win3_0.index t = ![t.val / 16, 0] := (by decide +kernel : ∀ t : Fin grid3.N, _)
theorem idx3_1 : ∀ t : Fin cfg3.N, win3_1.index t = ![0, t.val % 16] := (by decide +kernel : ∀ t : Fin grid3.N, _)
theorem idx3_2 : ∀ t : Fin cfg3.N, win3_2.index t = ![min t.val 127, 0] := (by decide +kernel : ∀ t : Fin grid3.N, _)
theorem idx3_3 : ∀ t : Fin cfg3.N, win3_3.index t = ![min t.val 127, 0] := (by decide +kernel : ∀ t : Fin grid3.N, _)
theorem idx3_4 : ∀ t : Fin cfg3.N, win3_4.index t = ![min t.val 127, 0] := (by decide +kernel : ∀ t : Fin grid3.N, _)
theorem idx3_5 : ∀ t : Fin cfg3.N, win3_5.index t = ![t.val / 16, t.val % 16] := (by decide +kernel : ∀ t : Fin grid3.N, _)
theorem idx3_6 : ∀ t : Fin cfg3.N, win3_6.index t = ![min t.val 127, 0] := (by decide +kernel : ∀ t : Fin grid3.N, _)
theorem idx3_7 : ∀ t : Fin cfg3.N, win3_7.index t = ![min t.val 127, 0] := (by decide +kernel : ∀ t : Fin grid3.N, _)
theorem idx3_8 : ∀ t : Fin cfg3.N, win3_8.index t = ![min t.val 127, 0] := (by decide +kernel : ∀ t : Fin grid3.N, _)

theorem idx6_0 : ∀ t : Fin cfg6.N, win6_0.index t = ![0, 0] := (by decide +kernel : ∀ t : Fin grid6.N, _)
theorem idx6_1 : ∀ t : Fin cfg6.N, win6_1.index t = ![0, t.val] := (by decide +kernel : ∀ t : Fin grid6.N, _)
theorem idx6_2 : ∀ t : Fin cfg6.N, win6_2.index t = ![0, t.val] := (by decide +kernel : ∀ t : Fin grid6.N, _)

theorem idx7_0 : ∀ t : Fin cfg7.N, win7_0.index t = ![0, 0] := (by decide +kernel : ∀ t : Fin grid7.N, _)
theorem idx7_1 : ∀ t : Fin cfg7.N, win7_1.index t = ![0, t.val] := (by decide +kernel : ∀ t : Fin grid7.N, _)
theorem idx7_2 : ∀ t : Fin cfg7.N, win7_2.index t = ![0, t.val] := (by decide +kernel : ∀ t : Fin grid7.N, _)

theorem pay3_4 (x : Vec Ideal S1024x4096 .bf16) (y : Vec Ideal S4096x1024 .bf16) (j : S1024x1024.Idx) :
    k3_pay4 x y j = prod x y j := by
  pointwise [k3_pay4, prod]

theorem pay6 (x : Vec Ideal S512x4096 .bf16) (y : Vec Ideal S4096x1024 .bf16) (j : S512x1024.Idx) : k6_pay1 x y j = prod x y j := by
  pointwise [k6_pay1, prod]

theorem pay7 (x : Vec Ideal S512x4096 .bf16) (y : Vec Ideal S4096x1024 .bf16) (j : S512x1024.Idx) : k7_pay1 x y j = prod x y j := by
  pointwise [k7_pay1, prod]

/-- The prompt group's second projection. -/
theorem arr3_5 (c : Dev nD) : (dat3 V c).arrAt 5 cfg3.N
    = prod (V c (Pipeline.arrRef spec3 0)) (V c (Pipeline.arrRef spec3 1)) := by
  refine (dat3 V c).arrAt_eq_of_covers 5 _ (by decide +kernel) fun t hf y => ?_
  rw [after3_5]; frame_out [out3_5]
  refine (pay3_4 _ _ y).trans ?_
  have e0 := emb_val win3_0 (idx3_0 t) rfl
  have e1 := emb_val win3_1 (idx3_1 t) rfl
  have e2 := emb_val win3_5 (idx3_5 t) rfl y
  exact prod_congr
    (fun k => congrArg (V c (Pipeline.arrRef spec3 0)) (Shape.idx_ext₂ ((e0 _ 0).trans (e2 0).symm) (origin (e0 _ 1))))
    (fun k => congrArg (V c (Pipeline.arrRef spec3 1)) (Shape.idx_ext₂ (origin (e1 _ 0)) ((e1 _ 1).trans (e2 1).symm)))

/-- The rounded expert weights: a copy. -/
theorem arr3_6 (c : Dev nD) : (dat3 V c).arrAt 6 cfg3.N = V c (Pipeline.arrRef spec3 2) := by
  refine (dat3 V c).arrAt_eq_of_covers 6 _ (by decide +kernel) fun t hf y => ?_
  rw [after3_6]; frame_out [out3_6]
  refine (show k3_pay1 (iblk3 V c 2 t) y = iblk3 V c 2 t y by pointwise [k3_pay1]).trans ?_
  have e := emb_val win3_2 (idx3_2 t) rfl y
  have e' := emb_val win3_6 (idx3_6 t) rfl y
  exact congrArg (V c (Pipeline.arrRef spec3 2)) (Shape.idx_ext₂ ((e 0).trans (e' 0).symm) ((e 1).trans (e' 1).symm))

/-- The rounded weights of the convolution branch: a copy. -/
theorem arr3_7 (c : Dev nD) : (dat3 V c).arrAt 7 cfg3.N = V c (Pipeline.arrRef spec3 3) := by
  refine (dat3 V c).arrAt_eq_of_covers 7 _ (by decide +kernel) fun t hf y => ?_
  rw [after3_7]; frame_out [out3_7]
  refine (show k3_pay2 (iblk3 V c 3 t) y = iblk3 V c 3 t y by pointwise [k3_pay2]).trans ?_
  have e := emb_val win3_3 (idx3_3 t) rfl y
  have e' := emb_val win3_7 (idx3_7 t) rfl y
  exact congrArg (V c (Pipeline.arrRef spec3 3)) (Shape.idx_ext₂ ((e 0).trans (e' 0).symm) ((e 1).trans (e' 1).symm))

/-- The rounded query weights: a copy. -/
theorem arr3_8 (c : Dev nD) : (dat3 V c).arrAt 8 cfg3.N = V c (Pipeline.arrRef spec3 4) := by
  refine (dat3 V c).arrAt_eq_of_covers 8 _ (by decide +kernel) fun t hf y => ?_
  rw [after3_8]; frame_out [out3_8]
  refine (show k3_pay3 (iblk3 V c 4 t) y = iblk3 V c 4 t y by pointwise [k3_pay3]).trans ?_
  have e := emb_val win3_4 (idx3_4 t) rfl y
  have e' := emb_val win3_8 (idx3_8 t) rfl y
  exact congrArg (V c (Pipeline.arrRef spec3 4)) (Shape.idx_ext₂ ((e 0).trans (e' 0).symm) ((e 1).trans (e' 1).symm))

/-- The sample group's first projection. -/
theorem arr6_2 (c : Dev nD) : (dat6 V c).arrAt 2 cfg6.N
    = prod (V c (Pipeline.arrRef spec6 0)) (V c (Pipeline.arrRef spec6 1)) := by
  refine (dat6 V c).arrAt_eq_of_covers 2 _ (by decide +kernel) fun t hf y => ?_
  rw [after6_2]; frame_out [out6_2]
  refine (pay6 _ _ y).trans ?_
  have e0 := emb_val win6_0 (idx6_0 t) rfl
  have e1 := emb_val win6_1 (idx6_1 t) rfl
  have e2 := emb_val win6_2 (idx6_2 t) rfl y
  exact prod_congr
    (fun k => congrArg (V c (Pipeline.arrRef spec6 0)) (Shape.idx_ext₂ ((e0 _ 0).trans (e2 0).symm) (origin (e0 _ 1))))
    (fun k => congrArg (V c (Pipeline.arrRef spec6 1)) (Shape.idx_ext₂ (origin (e1 _ 0)) ((e1 _ 1).trans (e2 1).symm)))

/-- The sample group's second projection. -/
theorem arr7_2 (c : Dev nD) : (dat7 V c).arrAt 2 cfg7.N
    = prod (V c (Pipeline.arrRef spec7 0)) (V c (Pipeline.arrRef spec7 1)) := by
  refine (dat7 V c).arrAt_eq_of_covers 2 _ (by decide +kernel) fun t hf y => ?_
  rw [after7_2]; frame_out [out7_2]
  refine (pay7 _ _ y).trans ?_
  have e0 := emb_val win7_0 (idx7_0 t) rfl
  have e1 := emb_val win7_1 (idx7_1 t) rfl
  have e2 := emb_val win7_2 (idx7_2 t) rfl y
  exact prod_congr
    (fun k => congrArg (V c (Pipeline.arrRef spec7 0)) (Shape.idx_ext₂ ((e0 _ 0).trans (e2 0).symm) (origin (e0 _ 1))))
    (fun k => congrArg (V c (Pipeline.arrRef spec7 1)) (Shape.idx_ext₂ (origin (e1 _ 0)) ((e1 _ 1).trans (e2 1).symm)))

end Cert.KernelIdeal.Vals

end
-- ==== Proof.AdaNorm.lean ====
/-
  The modulation call (`cc0_adaln`, region 0) and the two normalization calls (`cc1_modnorm` for the prompt group,
  `cc5_modnorm` for the sample group), read: what their result arrays hold.
-/
module

public import proofs.«01_k».proof.Proof.Gen.KernelIdeal.Frame.Region0
public import proofs.«01_k».proof.Proof.Gen.KernelIdeal.Frame.Region1
public import proofs.«01_k».proof.Proof.Gen.KernelIdeal.Frame.Region5
public import proofs.«01_k».proof.Proof.Spec
public import proofs.«01_k».proof.Proof.Blocks

@[expose] public section

set_option maxRecDepth 16384
set_option maxHeartbeats 2000000

noncomputable section

namespace Cert.KernelIdeal.Vals

open Idealize.ShloMosaic Idealize.ShloMosaic.TcCoe Idealize.SL.Sem
open Idealize.ShloMosaic.Pipeline (Dat)
open Idealize.ShloMosaic.Pointwise
open Cert.KernelIdeal Cert.KernelIdeal.Gen

open Cert.Spec

/-- A row of the conditioning under silu, times a column of the weights, plus the bias. -/
def ada {M N : Nat} (x : (⟨2, ![M, 4096]⟩ : Shape).Idx → EReal) (y : (⟨2, ![4096, N]⟩ : Shape).Idx → EReal)
    (b : (⟨2, ![1, N]⟩ : Shape).Idx → EReal) : (⟨2, ![M, N]⟩ : Shape).Idx → EReal :=
  fun i => prod (fun j => x j * Ideal.logistic (x j)) y i + b (ix2 0 (i 1))

theorem ada_congr {M N M' N' : Nat} {x : (⟨2, ![M, 4096]⟩ : Shape).Idx → EReal} {y : (⟨2, ![4096, N]⟩ : Shape).Idx → EReal}
    {b : (⟨2, ![1, N]⟩ : Shape).Idx → EReal} {x' : (⟨2, ![M', 4096]⟩ : Shape).Idx → EReal}
    {y' : (⟨2, ![4096, N']⟩ : Shape).Idx → EReal} {b' : (⟨2, ![1, N']⟩ : Shape).Idx → EReal}
    {i : (⟨2, ![M, N]⟩ : Shape).Idx} {j : (⟨2, ![M', N']⟩ : Shape).Idx}
    (hx : ∀ k, x (ix2 (i 0) k) = x' (ix2 (j 0) k)) (hy : ∀ k, y (ix2 k (i 1)) = y' (ix2 k (j 1)))
    (hb : b (ix2 0 (i 1)) = b' (ix2 0 (j 1))) : ada x y b i = ada x' y' b' j :=
  congrArg₂ _ (prod_congr (fun k => by simp only [hx k]) hy) hb

variable (V : (c : Dev nD) → (b : Ref sig .tc) → Buf (Elt Ideal) ((c : Thread nD τ).loc b))

theorem idx0_0 : ∀ t : Fin cfg0.N, win0_0.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, t.val] := (by decide +kernel : ∀ t : Fin grid0.N, _)

theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val / 4, 0, 0] := (by decide +kernel : ∀ t : Fin grid1.N, _)
theorem idx1_3 : ∀ t : Fin cfg1.N, win1_3.index t = ![t.val / 4, 0, 0] := (by decide +kernel : ∀ t : Fin grid1.N, _)
theorem idx1_4 : ∀ t : Fin cfg1.N, win1_4.index t = ![t.val, 0] := (by decide +kernel : ∀ t : Fin grid1.N, _)

theorem idx5_0 : ∀ t : Fin cfg5.N, win5_0.index t = ![0, 0] := (by decide +kernel : ∀ t : Fin grid5.N, _)
theorem idx5_1 : ∀ t : Fin cfg5.N, win5_1.index t = ![0, 0] := (by decide +kernel : ∀ t : Fin grid5.N, _)
theorem idx5_2 : ∀ t : Fin cfg5.N, win5_2.index t = ![0, 0, 0] := (by decide +kernel : ∀ t : Fin grid5.N, _)
theorem idx5_3 : ∀ t : Fin cfg5.N, win5_3.index t = ![0, 0, 0] := (by decide +kernel : ∀ t : Fin grid5.N, _)
theorem idx5_4 : ∀ t : Fin cfg5.N, win5_4.index t = ![0, 0] := (by decide +kernel : ∀ t : Fin grid5.N, _)

theorem pay0 (x : Vec Ideal S136x4096 .f32) (y : Vec Ideal S4096x1024 .f32) (b : Vec Ideal S1x1024 .f32) (j : S136x1024.Idx) :
    k0_pay1 x y b j = ada x y b j := by
  pointwise [k0_pay1, ada, prod]

theorem pay1 (x : Vec Ideal S512x4096 .f32) (g : Vec Ideal S1x4096 .f32) (sc sh : Vec Ideal S1x1x4096 .f32) (j : S512x4096.Idx) :
    k1_pay1 x g sc sh j = rows (fun _ => (0, 0)) x g sc sh j := by
  pointwise [k1_pay1, rows, normed]

theorem pay5 (x : Vec Ideal S512x4096 .f32) (g : Vec Ideal S1x4096 .f32) (sc sh : Vec Ideal S1x512x4096 .f32) (j : S512x4096.Idx) :
    k5_pay1 x g sc sh j = rows (fun r => (0, r)) x g sc sh j := by
  pointwise [k5_pay1, rows, normed]

/-- The modulation of all conditioning rows. -/
theorem arr0_3 (c : Dev nD) : (dat0 V c).arrAt 3 cfg0.N
    = ada (V c (Pipeline.arrRef spec0 0)) (V c (Pipeline.arrRef spec0 1)) (V c (Pipeline.arrRef spec0 2)) := by
  refine (dat0 V c).arrAt_eq_of_covers 3 _ (by decide +kernel) fun t hf y => ?_
  rw [after0_3]; frame_out [out0_3]
  refine (pay0 _ _ _ y).trans ?_
  have e0 := emb_val win0_0 (idx0_0 t) rfl
  have e1 := emb_val win0_1 (idx0_1 t) rfl
  have e2 := emb_val win0_2 (idx0_2 t) rfl
  have e3 := emb_val win0_3 (idx0_3 t) rfl y
  have ex : ∀ k, (win0_0.rect t).emb (ix2 (y 0) k) = ix2 (((win0_3.rect t).emb y) 0) k := fun k =>
    Shape.idx_ext₂ ((e0 _ 0).trans (e3 0).symm) (origin (e0 _ 1))
  exact ada_congr (fun k => congrArg (V c (Pipeline.arrRef spec0 0)) (ex k))
    (fun k => congrArg (V c (Pipeline.arrRef spec0 1)) (Shape.idx_ext₂ (origin (e1 _ 0)) ((e1 _ 1).trans (e3 1).symm)))
    (congrArg (V c (Pipeline.arrRef spec0 2)) (Shape.idx_ext₂ (origin (e2 _ 0)) ((e2 _ 1).trans (e3 1).symm)))

/-- The prompt group's normalized rows: a row's scale and shift are those of its batch element, 2048 rows each. -/
theorem arr1_4 (c : Dev nD) : (dat1 V c).arrAt 4 cfg1.N
    = rows (fun r : Fin 8192 => (⟨r.val / 2048, Nat.div_lt_of_lt_mul r.isLt⟩, 0)) (V c (Pipeline.arrRef spec1 0))
      (V c (Pipeline.arrRef spec1 1)) (V c (Pipeline.arrRef spec1 2)) (V c (Pipeline.arrRef spec1 3)) := by
  refine (dat1 V c).arrAt_eq_of_covers 4 _ (by decide +kernel) fun t hf y => ?_
  rw [after1_4]; frame_out [out1_4]
  refine (pay1 _ _ _ _ y).trans ?_
  have e0 := emb_val win1_0 (idx1_0 t) rfl
  have e1 := emb_val win1_1 (idx1_1 t) rfl
  have e2 := emb_val win1_2 (idx1_2 t) rfl
  have e3 := emb_val win1_3 (idx1_3 t) rfl
  have e4 := emb_val win1_4 (idx1_4 t) rfl y
  have hb : ∀ z : Nat, z = (t.val / 4) * 1 + 0 → z = (((win1_4.rect t).emb y) 0 : Nat) / 2048 := by
    intro z hz
    have h0 : (((win1_4.rect t).emb y) 0 : Nat) = t.val * 512 + (y 0).val := e4 0
    have hy : (y 0).val < 512 := (y 0).isLt
    omega
  exact rows_congr (Fin.ext (origin (e4 1)).symm)
    (fun k => congrArg (V c (Pipeline.arrRef spec1 0)) (Shape.idx_ext₂ ((e0 _ 0).trans (e4 0).symm) (origin (e0 _ 1))))
    (fun d => congrArg (V c (Pipeline.arrRef spec1 1)) (Shape.idx_ext₂ (origin (e1 _ 0)) (origin (e1 _ 1))))
    (fun d => congrArg (V c (Pipeline.arrRef spec1 2)) (idx_ext_three (hb _ (e2 _ 0)) (origin (e2 _ 1)) (origin (e2 _ 2))))
    (fun d => congrArg (V c (Pipeline.arrRef spec1 3)) (idx_ext_three (hb _ (e3 _ 0)) (origin (e3 _ 1)) (origin (e3 _ 2))))

/-- The sample group's normalized rows: each row has its own scale and shift. -/
theorem arr5_4 (c : Dev nD) : (dat5 V c).arrAt 4 cfg5.N
    = rows (fun r => (0, r)) (V c (Pipeline.arrRef spec5 0)) (V c (Pipeline.arrRef spec5 1)) (V c (Pipeline.arrRef spec5 2))
      (V c (Pipeline.arrRef spec5 3)) := by
  refine (dat5 V c).arrAt_eq_of_covers 4 _ (by decide +kernel) fun t hf y => ?_
  rw [after5_4]; frame_out [out5_4]
  refine (pay5 _ _ _ _ y).trans ?_
  have e0 := emb_val win5_0 (idx5_0 t) rfl
  have e1 := emb_val win5_1 (idx5_1 t) rfl
  have e2 := emb_val win5_2 (idx5_2 t) rfl
  have e3 := emb_val win5_3 (idx5_3 t) rfl
  have e4 := emb_val win5_4 (idx5_4 t) rfl y
  have hr := (origin (e4 0)).symm
  exact rows_congr (Fin.ext (origin (e4 1)).symm)
    (fun k => congrArg (V c (Pipeline.arrRef spec5 0)) (Shape.idx_ext₂ ((origin (e0 _ 0)).trans hr) (origin (e0 _ 1))))
    (fun d => congrArg (V c (Pipeline.arrRef spec5 1)) (Shape.idx_ext₂ (origin (e1 _ 0)) (origin (e1 _ 1))))
    (fun d => congrArg (V c (Pipeline.arrRef spec5 2)) (idx_ext_three (origin (e2 _ 0)) ((origin (e2 _ 1)).trans hr) (origin (e2 _ 2))))
    (fun d => congrArg (V c (Pipeline.arrRef spec5 3)) (idx_ext_three (origin (e3 _ 0)) ((origin (e3 _ 1)).trans hr) (origin (e3 _ 2))))

end Cert.KernelIdeal.Vals

end
-- ==== Proof.Dt.lean ====
/-
  The two step-size calls (`cc4_dt_proj` for the prompt group, `cc8_dt_proj` for the sample group), read: the softplus of a
  product plus a bias.
-/
module

public import proofs.«01_k».proof.Proof.Gen.KernelIdeal.Frame.Region4
public import proofs.«01_k».proof.Proof.Gen.KernelIdeal.Frame.Region8
public import proofs.«01_k».proof.Proof.Spec
public import proofs.«01_k».proof.Proof.Blocks

@[expose] public section

set_option maxRecDepth 16384
set_option maxHeartbeats 2000000

noncomputable section

namespace Cert.KernelIdeal.Vals

open Idealize.ShloMosaic Idealize.ShloMosaic.TcCoe Idealize.SL.Sem
open Idealize.ShloMosaic.Pipeline (Dat)
open Idealize.ShloMosaic.Pointwise
open Cert.KernelIdeal Cert.KernelIdeal.Gen

open Cert.Spec

/-- The softplus of a product plus a bias row. -/
def dts {M : Nat} (x : (⟨2, ![M, 4096]⟩ : Shape).Idx → EReal) (y : (⟨2, ![4096, 128]⟩ : Shape).Idx → EReal)
    (b : (⟨2, ![1, 128]⟩ : Shape).Idx → EReal) : (⟨2, ![M, 128]⟩ : Shape).Idx → EReal :=
  fun i => softplus (prod x y i + b (ix2 0 (i 1)))

theorem dts_congr {M M' : Nat} {x : (⟨2, ![M, 4096]⟩ : Shape).Idx → EReal} {y : (⟨2, ![4096, 128]⟩ : Shape).Idx → EReal}
    {b : (⟨2, ![1, 128]⟩ : Shape).Idx → EReal} {x' : (⟨2, ![M', 4096]⟩ : Shape).Idx → EReal}
    {y' : (⟨2, ![4096, 128]⟩ : Shape).Idx → EReal} {b' : (⟨2, ![1, 128]⟩ : Shape).Idx → EReal}
    {i : (⟨2, ![M, 128]⟩ : Shape).Idx} {j : (⟨2, ![M', 128]⟩ : Shape).Idx}
    (hx : ∀ k, x (ix2 (i 0) k) = x' (ix2 (j 0) k)) (hy : ∀ k, y (ix2 k (i 1)) = y' (ix2 k (j 1)))
    (hb : b (ix2 0 (i 1)) = b' (ix2 0 (j 1))) : dts x y b i = dts x' y' b' j :=
  congrArg softplus (congrArg₂ _ (prod_congr hx hy) hb)

variable (V : (c : Dev nD) → (b : Ref sig .tc) → Buf (Elt Ideal) ((c : Thread nD τ).loc b))

theorem idx4_0 : ∀ t : Fin cfg4.N, win4_0.index t = ![t.val, 0] := (by decide +kernel : ∀ t : Fin grid4.N, _)
theorem idx4_1 : ∀ t : Fin cfg4.N, win4_1.index t = ![0, 0] := (by decide +kernel : ∀ t : Fin grid4.N, _)
theorem idx4_2 : ∀ t : Fin cfg4.N, win4_2.index t = ![0, 0] := (by decide +kernel : ∀ t : Fin grid4.N, _)
theorem idx4_3 : ∀ t : Fin cfg4.N, win4_3.index t = ![t.val, 0] := (by decide +kernel : ∀ t : Fin grid4.N, _)

theorem idx8_0 : ∀ t : Fin cfg8.N, win8_0.index t = ![t.val, 0] := (by decide +kernel : ∀ t : Fin grid8.N, _)
theorem idx8_1 : ∀ t : Fin cfg8.N, win8_1.index t = ![0, 0] := (by decide +kernel : ∀ t : Fin grid8.N, _)
theorem idx8_2 : ∀ t : Fin cfg8.N, win8_2.index t = ![0, 0] := (by decide +kernel : ∀ t : Fin grid8.N, _)
theorem idx8_3 : ∀ t : Fin cfg8.N, win8_3.index t = ![t.val, 0] := (by decide +kernel : ∀ t : Fin grid8.N, _)

theorem pay4 (x : Vec Ideal S1024x4096 .bf16) (y : Vec Ideal S4096x128 .bf16) (b : Vec Ideal S1x128 .f32) (j : S1024x128.Idx) :
    k4_pay1 x y b j = dts x y b j := by
  pointwise [k4_pay1, dts, prod, softplus]

theorem pay8 (x : Vec Ideal S512x4096 .bf16) (y : Vec Ideal S4096x128 .bf16) (b : Vec Ideal S1x128 .f32) (j : S512x128.Idx) :
    k8_pay1 x y b j = dts x y b j := by
  pointwise [k8_pay1, dts, prod, softplus]

/-- The prompt group's step sizes. -/
theorem arr4_3 (c : Dev nD) : (dat4 V c).arrAt 3 cfg4.N
    = dts (V c (Pipeline.arrRef spec4 0)) (V c (Pipeline.arrRef spec4 1)) (V c (Pipeline.arrRef spec4 2)) := by
  refine (dat4 V c).arrAt_eq_of_covers 3 _ (by decide +kernel) fun t hf y => ?_
  rw [after4_3]; frame_out [out4_3]
  refine (pay4 _ _ _ y).trans ?_
  have e0 := emb_val win4_0 (idx4_0 t) rfl
  have e1 := emb_val win4_1 (idx4_1 t) rfl
  have e2 := emb_val win4_2 (idx4_2 t) rfl
  have e3 := emb_val win4_3 (idx4_3 t) rfl y
  exact dts_congr
    (fun k => congrArg (V c (Pipeline.arrRef spec4 0)) (Shape.idx_ext₂ ((e0 _ 0).trans (e3 0).symm) (origin (e0 _ 1))))
    (fun k => congrArg (V c (Pipeline.arrRef spec4 1)) (Shape.idx_ext₂ (origin (e1 _ 0)) ((e1 _ 1).trans (e3 1).symm)))
    (congrArg (V c (Pipeline.arrRef spec4 2)) (Shape.idx_ext₂ (origin (e2 _ 0)) ((e2 _ 1).trans (e3 1).symm)))

/-- The sample group's step sizes. -/
theorem arr8_3 (c : Dev nD) : (dat8 V c).arrAt 3 cfg8.N
    = dts (V c (Pipeline.arrRef spec8 0)) (V c (Pipeline.arrRef spec8 1)) (V c (Pipeline.arrRef spec8 2)) := by
  refine (dat8 V c).arrAt_eq_of_covers 3 _ (by decide +kernel) fun t hf y => ?_
  rw [after8_3]; frame_out [out8_3]
  refine (pay8 _ _ _ y).trans ?_
  have e0 := emb_val win8_0 (idx8_0 t) rfl
  have e1 := emb_val win8_1 (idx8_1 t) rfl
  have e2 := emb_val win8_2 (idx8_2 t) rfl
  have e3 := emb_val win8_3 (idx8_3 t) rfl y
  exact dts_congr
    (fun k => congrArg (V c (Pipeline.arrRef spec8 0)) (Shape.idx_ext₂ ((e0 _ 0).trans (e3 0).symm) (origin (e0 _ 1))))
    (fun k => congrArg (V c (Pipeline.arrRef spec8 1)) (Shape.idx_ext₂ (origin (e1 _ 0)) ((e1 _ 1).trans (e3 1).symm)))
    (congrArg (V c (Pipeline.arrRef spec8 2)) (Shape.idx_ext₂ (origin (e2 _ 0)) ((e2 _ 1).trans (e3 1).symm)))

end Cert.KernelIdeal.Vals

end
-- ==== Proof.Values.lean ====
/-
  What the result buffers hold when the program ends, as functions of the argument arrays: the contents followed from the
  launch through the operations and the calls.
-/
module

public import proofs.«01_k».proof.Proof.Host
public import proofs.«01_k».proof.Proof.InProjA
public import proofs.«01_k».proof.Proof.InProjB
public import proofs.«01_k».proof.Proof.AdaNorm
public import proofs.«01_k».proof.Proof.Dt

@[expose] public section

set_option maxRecDepth 16384
set_option maxHeartbeats 2000000

noncomputable section

namespace Cert.KernelIdeal.Vals

open Idealize.ShloMosaic Idealize.ShloMosaic.TcCoe Idealize.SL.Sem
open Idealize.ShloMosaic.StableHlo
open Idealize.ShloMosaic.Pointwise
open Cert.KernelIdeal Cert.KernelIdeal.Gen Cert.Spec

/-- A product whose left rows are known and whose right columns are the projection weights' from `o` on. -/
theorem prod_projs {M n : Nat} (o : Nat) (ho : o + n ≤ 34944) {x : Arr ⟨2, ![M, 4096]⟩} {y : Arr ⟨2, ![4096, n]⟩}
    {h : Fin M → Fin 4096 → EReal} {w : Arr ⟨3, ![1, 4096, 34944]⟩} (hx : ∀ r k, x (ix2 r k) = h r k)
    (hy : ∀ (k : Fin 4096) (j : Fin n), y (ix2 k j) = w (ix3 0 k ⟨o + j.val, Nat.lt_of_lt_of_le (Nat.add_lt_add_left j.isLt o) ho⟩)) :
    prod x y = projs o ho h w :=
  funext fun i => Finset.sum_congr rfl fun k _ => congrArg₂ _ (hx _ k) (hy k (i 1))

/-- The softplus of such a product plus a bias row. -/
theorem dts_dtsOf {M : Nat} {x : Arr ⟨2, ![M, 4096]⟩} {y : Arr ⟨2, ![4096, 128]⟩} {z b : Arr ⟨2, ![1, 128]⟩}
    {h : Fin M → Fin 4096 → EReal} {w : Arr ⟨3, ![1, 4096, 34944]⟩} (hx : ∀ r k, x (ix2 r k) = h r k)
    (hy : ∀ (k : Fin 4096) (j : Fin 128), y (ix2 k j) = w (ix3 0 k ⟨18432 + j.val, by omega⟩))
    (hz : ∀ j, z (ix2 0 j) = b (ix2 0 j)) : dts x y z = dtsOf h w b :=
  funext fun i => congrArg softplus (congrArg₂ _ (Finset.sum_congr rfl fun k _ => congrArg₂ _ (hx _ k) (hy k (i 1))) (hz (i 1)))

/-- A normalized row, from what its arrays hold. -/
theorem rows_row {M A B : Nat} {f : Fin M → Fin A × Fin B} {x : Arr ⟨2, ![M, 4096]⟩} {g g' : Arr ⟨2, ![1, 4096]⟩}
    {sc sh : Arr ⟨3, ![A, B, 4096]⟩} {x' c : Fin 4096 → EReal} {w : Arr ⟨3, ![1, 4096, 24576]⟩} {b : Arr ⟨2, ![1, 24576]⟩}
    (r : Fin M) (k : Fin 4096) (hx : ∀ k, x (ix2 r k) = x' k) (hg : ∀ k, g (ix2 0 k) = g' (ix2 0 k))
    (hc : ∀ d : Fin 4096, sc (ix3 (f r).1 (f r).2 d) = modv c w b ⟨4096 + d.val, by omega⟩)
    (hs : ∀ d : Fin 4096, sh (ix3 (f r).1 (f r).2 d) = modv c w b ⟨d.val, by omega⟩) :
    rows f x g sc sh (ix2 r k) = row x' c w b g' k :=
  normed_congr rfl hx hg hc hs

variable (m : (ℓ : Loc nD τ sig) → Buf (Elt Ideal) ℓ) (ρ : Dev nD → PrngReg) (c : Dev nD)

/-! ### The modulation -/

/-- A conditioning row's modulation, at the row's place among the padded rows. -/
theorem mod_at (r : Fin 132) (n : Fin 24576) : (W4 m ρ c main_v8 : Vec Ideal S136x24576 .f32) (ix2 ⟨r.val, by omega⟩ n)
    = modv (fun k => (W1 m ρ c main_v3 : Vec Ideal S132x4096 .f32) (ix2 r k)) (m ((c : Thread nD τ).loc main_arg5))
        (m ((c : Thread nD τ).loc main_arg6)) n := by
  have h4 : ∀ k, (W3 m ρ c main_v4 : Vec Ideal S136x4096 .f32) (ix2 ⟨r.val, by omega⟩ k)
      = (W1 m ρ c main_v3 : Vec Ideal S132x4096 .f32) (ix2 r k) := fun k =>
    (congrFun (W3_of m ρ c main_v4 (by decide)) _).trans (h01_v4 (W1 m ρ c) r k)
  have h5 : ∀ k, (W3 m ρ c main_v5 : Vec Ideal S4096x24576 .f32) (ix2 k n)
      = (m ((c : Thread nD τ).loc main_arg5) : Vec Ideal S1x4096x24576 .f32) (ix3 0 k n) := fun k =>
    (h02_v5 (W2 m ρ c) k n).trans (congrFun (W2_args m ρ c main_arg5 (by decide)) _)
  have h7 : (W3 m ρ c main_v7 : Vec Ideal S1x24576 .f32) (ix2 0 n)
      = (m ((c : Thread nD τ).loc main_arg6) : Vec Ideal S1x24576 .f32) (ix2 0 n) :=
    (h02_v7 (W2 m ρ c) n).trans (congrFun (W2_args m ρ c main_arg6 (by decide)) _)
  refine (congrFun ((W4_arr m ρ c 3).trans (arr0_3 (V3 m ρ) c)) _).trans ?_
  refine congrArg₂ (fun a b : EReal => a + b) (Finset.sum_congr rfl fun k _ => congrArg₂ (fun a b : EReal => a * b) ?_ (h5 k)) h7
  exact congrArg (fun a : EReal => a * Ideal.logistic a) (h4 k)

/-- The prompt group's modulation. -/
theorem mod_p (b : Fin 4) (n : Fin 24576) : (W4 m ρ c main_v8 : Vec Ideal S136x24576 .f32) (ix2 ⟨b.val, by omega⟩ n)
    = modv (fun k => (m ((c : Thread nD τ).loc main_arg2) : Vec Ideal S4x4096 .f32) (ix2 b k)) (m ((c : Thread nD τ).loc main_arg5))
        (m ((c : Thread nD τ).loc main_arg6)) n :=
  (mod_at m ρ c ⟨b.val, by omega⟩ n).trans (congrArg (modv · _ _ n) (funext fun k => h0_v3_p (W0 m ρ c) b k))

/-- The sample group's modulation. -/
theorem mod_s (s : Fin 128) (n : Fin 24576) : (W4 m ρ c main_v8 : Vec Ideal S136x24576 .f32) (ix2 ⟨4 + s.val, by omega⟩ n)
    = modv (fun k => (m ((c : Thread nD τ).loc main_arg3) : Vec Ideal S128x4096 .f32) (ix2 s k)) (m ((c : Thread nD τ).loc main_arg5))
        (m ((c : Thread nD τ).loc main_arg6)) n :=
  (mod_at m ρ c ⟨4 + s.val, by omega⟩ n).trans (congrArg (modv · _ _ n) (funext fun k => h0_v3_s (W0 m ρ c) s k))

/-! ### The prompt group -/

/-- The prompt group's rows. -/
abbrev hP : Fin 8192 → Fin 4096 → EReal :=
  rowP (m ((c : Thread nD τ).loc main_arg0)) (m ((c : Thread nD τ).loc main_arg2)) (m ((c : Thread nD τ).loc main_arg5))
    (m ((c : Thread nD τ).loc main_arg6)) (m ((c : Thread nD τ).loc main_arg7))

/-- The sample group's rows. -/
abbrev hS : Fin 512 → Fin 4096 → EReal :=
  rowS (m ((c : Thread nD τ).loc main_arg1)) (m ((c : Thread nD τ).loc main_arg3)) (m ((c : Thread nD τ).loc main_arg5))
    (m ((c : Thread nD τ).loc main_arg6)) (m ((c : Thread nD τ).loc main_arg7))

theorem rows_p (r : Fin 8192) (k : Fin 4096) : (W6 m ρ c main_v78 : Vec Ideal S8192x4096 .bf16) (ix2 r k) = hP m c r k := by
  refine (congrFun ((W6_arr m ρ c 4).trans (arr1_4 (V5 m ρ) c)) _).trans ?_
  refine rows_row r k (fun k => ?_) (fun d => ?_) (fun d => ?_) (fun d => ?_)
  · refine (congrFun (((W5_of m ρ c main_v0 (by decide)).trans (W4_of m ρ c main_v0 (by decide +kernel))).trans
      ((W3_of m ρ c main_v0 (by decide)).trans (W2_of m ρ c main_v0 (by decide)))) _).trans ?_
    exact h0_v0 (W0 m ρ c) r k
  · exact (h1_v77 (W4 m ρ c) d).trans (congrFun (W4_args m ρ c main_arg7 (by decide)) _)
  · exact (h1_v18 (W4 m ρ c) _ d).trans (mod_p m ρ c _ _)
  · exact (h1_v15 (W4 m ρ c) _ d).trans (mod_p m ρ c _ _)

/-- The first 18432 columns of the projection weights, as the calls of both groups read them. -/
theorem w_a (k : Fin 4096) (n : Fin 18432) : (W5 m ρ c main_v70 : Vec Ideal S4096x18432 .bf16) (ix2 k n)
    = (m ((c : Thread nD τ).loc main_arg8) : Vec Ideal S1x4096x34944 .f32) (ix3 0 k ⟨0 + n.val, by omega⟩) :=
  ((h1_v70 (W4 m ρ c) k n).trans (congrFun (W4_args m ρ c main_arg8 (by decide)) _)).trans
    (congrArg (fun j => (m ((c : Thread nD τ).loc main_arg8) : Vec Ideal S1x4096x34944 .f32) (ix3 0 k j)) (Fin.ext (Nat.zero_add _).symm))

theorem w_full (k : Fin 4096) (n : Fin 34944) : (W6 m ρ c main_v67 : Vec Ideal S4096x34944 .f32) (ix2 k n)
    = (m ((c : Thread nD τ).loc main_arg8) : Vec Ideal S1x4096x34944 .f32) (ix3 0 k n) :=
  (congrFun (W6_of m ρ c main_v67 (by decide +kernel)) _).trans
    ((h1_v67 (W4 m ρ c) k n).trans (congrFun (W4_args m ρ c main_arg8 (by decide)) _))

/-- The weights of the second projection, as the first call leaves them. -/
theorem w_b (k : Fin 4096) (n : Fin 16384) : (W7 m ρ c main_v79_1 : Vec Ideal S4096x16384 .bf16) (ix2 k n)
    = (m ((c : Thread nD τ).loc main_arg8) : Vec Ideal S1x4096x34944 .f32) (ix3 0 k ⟨18560 + n.val, by omega⟩) :=
  (congrFun ((W7_arr m ρ c 7).trans (arr2_7 (V6 m ρ) c)) _).trans (w_full m ρ c k _)

/-- The weights of the step sizes, as the first call leaves them. -/
theorem w_dt (k : Fin 4096) (n : Fin 128) : (W7 m ρ c main_v79_2 : Vec Ideal S4096x128 .bf16) (ix2 k n)
    = (m ((c : Thread nD τ).loc main_arg8) : Vec Ideal S1x4096x34944 .f32) (ix3 0 k ⟨18432 + n.val, by omega⟩) :=
  (congrFun ((W7_arr m ρ c 8).trans (arr2_8 (V6 m ρ) c)) _).trans (w_full m ρ c k _)

theorem proj_a_p : (W7 m ρ c main_v79_0 : Vec Ideal S8192x18432 .bf16)
    = projs 0 (by norm_num) (hP m c) (m ((c : Thread nD τ).loc main_arg8)) :=
  ((W7_arr m ρ c 6).trans (arr2_6 (V6 m ρ) c)).trans (prod_projs 0 (by norm_num) (rows_p m ρ c)
    fun k n => (congrFun (W6_of m ρ c main_v70 (by decide +kernel)) _).trans (w_a m ρ c k n))

theorem rows_p7 (r : Fin 8192) (k : Fin 4096) : (W7 m ρ c main_v78 : Vec Ideal S8192x4096 .bf16) (ix2 r k) = hP m c r k :=
  (congrFun (W7_of m ρ c main_v78 (by decide +kernel)) _).trans (rows_p m ρ c r k)

theorem proj_b_p : (W8 m ρ c main_v80_0 : Vec Ideal S8192x16384 .bf16)
    = projs 18560 (by norm_num) (hP m c) (m ((c : Thread nD τ).loc main_arg8)) :=
  ((W8_arr m ρ c 5).trans (arr3_5 (V7 m ρ) c)).trans (prod_projs 18560 (by norm_num) (rows_p7 m ρ c) (w_b m ρ c))

/-- The step sizes' bias, as the flat row both groups' calls reshape. -/
theorem bias (n : Fin 128) : (W5 m ρ c main_v71 : Vec Ideal S128 .f32) (ix1 n)
    = (m ((c : Thread nD τ).loc main_arg9) : Vec Ideal S1x128 .f32) (ix2 0 n) :=
  (h1_v71 (W4 m ρ c) n).trans (congrFun (W4_args m ρ c main_arg9 (by decide)) _)

theorem w8_5 (r : Ref sig .tc) (h6 : ∀ w : Fin cfg1.W, Pipeline.arrRef spec1 w = r → (cfg1.win w).isOut = false)
    (h7 : ∀ w : Fin cfg2.W, Pipeline.arrRef spec2 w = r → (cfg2.win w).isOut = false)
    (h8 : ∀ w : Fin cfg3.W, Pipeline.arrRef spec3 w = r → (cfg3.win w).isOut = false) :
    W8 m ρ c (Proc.devRef .tc r) = W5 m ρ c (Proc.devRef .tc r) :=
  (W8_of m ρ c r h8).trans ((W7_of m ρ c r h7).trans (W6_of m ρ c r h6))

theorem dt_p : (W10 m ρ c main_v82 : Vec Ideal S8192x128 .f32)
    = dtsOf (hP m c) (m ((c : Thread nD τ).loc main_arg8)) (m ((c : Thread nD τ).loc main_arg9)) :=
  ((W10_arr m ρ c 3).trans (arr4_3 (V9 m ρ) c)).trans (dts_dtsOf
    (fun r k => (congrFun ((W9_of m ρ c main_v78 (by decide)).trans (W8_of m ρ c main_v78 (by decide +kernel))) _).trans (rows_p7 m ρ c r k))
    (fun k n => (congrFun ((W9_of m ρ c main_v79_2 (by decide)).trans (W8_of m ρ c main_v79_2 (by decide +kernel))) _).trans (w_dt m ρ c k n))
    fun n => (h4_v81 (W8 m ρ c) n).trans
      ((congrFun (w8_5 m ρ c main_v71 (by decide +kernel) (by decide +kernel) (by decide +kernel)) _).trans (bias m ρ c n)))

/-! ### The sample group -/

/-- From the first projection's end to the sample group's normalization. -/
theorem w11_8 (r : Ref sig .tc) (h9 : r ∉ hostOps4_W) (h10 : ∀ w : Fin cfg4.W, Pipeline.arrRef spec4 w = r → (cfg4.win w).isOut = false)
    (h11 : r ∉ hostOps5_W) : W11 m ρ c (Proc.devRef .tc r) = W8 m ρ c (Proc.devRef .tc r) :=
  (W11_of m ρ c r h11).trans ((W10_of m ρ c r h10).trans (W9_of m ρ c r h9))

theorem rows_s (r : Fin 512) (k : Fin 4096) : (W12 m ρ c main_v89 : Vec Ideal S512x4096 .bf16) (ix2 r k) = hS m c r k := by
  have e (b : Ref sig .tc) (h6 h7 h8 h9 h10 h11) : W11 m ρ c (Proc.devRef .tc b) = W5 m ρ c (Proc.devRef .tc b) :=
    (w11_8 m ρ c b h9 h10 h11).trans (w8_5 m ρ c b h6 h7 h8)
  refine (congrFun ((W12_arr m ρ c 4).trans (arr5_4 (V11 m ρ) c)) _).trans ?_
  refine rows_row r k (fun k => ?_) (fun d => ?_) (fun d => ?_) (fun d => ?_)
  · refine (congrFun ((e main_v2 (by decide +kernel) (by decide +kernel) (by decide +kernel) (by decide) (by decide +kernel) (by decide)).trans
      (((W5_of m ρ c main_v2 (by decide)).trans (W4_of m ρ c main_v2 (by decide +kernel))).trans
      ((W3_of m ρ c main_v2 (by decide)).trans (W2_of m ρ c main_v2 (by decide))))) _).trans ?_
    exact h0_v2 (W0 m ρ c) r k
  · refine (h5_v88 (W10 m ρ c) d).trans ((congrFun (((W10_of m ρ c main_v68 (by decide +kernel)).trans (W9_of m ρ c main_v68 (by decide))).trans
      (w8_5 m ρ c main_v68 (by decide +kernel) (by decide +kernel) (by decide +kernel))) _).trans ?_)
    exact (h1_v68 (W4 m ρ c) d).trans (congrFun (W4_args m ρ c main_arg7 (by decide)) _)
  · exact (congrFun (e main_v42 (by decide +kernel) (by decide +kernel) (by decide +kernel) (by decide) (by decide +kernel) (by decide)) _).trans
      ((h1_v42 (W4 m ρ c) _ d).trans (mod_s m ρ c ⟨r.val % 128, by omega⟩ _))
  · exact (congrFun (e main_v36 (by decide +kernel) (by decide +kernel) (by decide +kernel) (by decide) (by decide +kernel) (by decide)) _).trans
      ((h1_v36 (W4 m ρ c) _ d).trans (mod_s m ρ c ⟨r.val % 128, by omega⟩ _))

theorem proj_a_s : (W13 m ρ c main_v90 : Vec Ideal S512x18432 .bf16)
    = projs 0 (by norm_num) (hS m c) (m ((c : Thread nD τ).loc main_arg8)) :=
  ((W13_arr m ρ c 2).trans (arr6_2 (V12 m ρ) c)).trans (prod_projs 0 (by norm_num) (rows_s m ρ c)
    fun k n => (congrFun ((W12_of m ρ c main_v70 (by decide +kernel)).trans ((w11_8 m ρ c main_v70 (by decide) (by decide +kernel) (by decide)).trans
      (w8_5 m ρ c main_v70 (by decide +kernel) (by decide +kernel) (by decide +kernel)))) _).trans (w_a m ρ c k n))

/-- A buffer the first projection leaves, as the sample group's later calls find it. -/
theorem w13_7 (r : Ref sig .tc) (h8 : ∀ w : Fin cfg3.W, Pipeline.arrRef spec3 w = r → (cfg3.win w).isOut = false)
    (h9 : r ∉ hostOps4_W) (h10 : ∀ w : Fin cfg4.W, Pipeline.arrRef spec4 w = r → (cfg4.win w).isOut = false)
    (h11 : r ∉ hostOps5_W) (h12 : ∀ w : Fin cfg5.W, Pipeline.arrRef spec5 w = r → (cfg5.win w).isOut = false)
    (h13 : ∀ w : Fin cfg6.W, Pipeline.arrRef spec6 w = r → (cfg6.win w).isOut = false) :
    W13 m ρ c (Proc.devRef .tc r) = W7 m ρ c (Proc.devRef .tc r) :=
  (W13_of m ρ c r h13).trans ((W12_of m ρ c r h12).trans ((w11_8 m ρ c r h9 h10 h11).trans (W8_of m ρ c r h8)))

theorem rows_s13 (r : Fin 512) (k : Fin 4096) : (W13 m ρ c main_v89 : Vec Ideal S512x4096 .bf16) (ix2 r k) = hS m c r k :=
  (congrFun (W13_of m ρ c main_v89 (by decide +kernel)) _).trans (rows_s m ρ c r k)

theorem proj_b_s : (W14 m ρ c main_v91 : Vec Ideal S512x16384 .bf16)
    = projs 18560 (by norm_num) (hS m c) (m ((c : Thread nD τ).loc main_arg8)) :=
  ((W14_arr m ρ c 2).trans (arr7_2 (V13 m ρ) c)).trans (prod_projs 18560 (by norm_num) (rows_s13 m ρ c)
    fun k n => (congrFun (w13_7 m ρ c main_v79_1 (by decide +kernel) (by decide) (by decide +kernel) (by decide) (by decide +kernel)
      (by decide +kernel)) _).trans (w_b m ρ c k n))

theorem dt_s : (W16 m ρ c main_v93 : Vec Ideal S512x128 .f32)
    = dtsOf (hS m c) (m ((c : Thread nD τ).loc main_arg8)) (m ((c : Thread nD τ).loc main_arg9)) :=
  ((W16_arr m ρ c 3).trans (arr8_3 (V15 m ρ) c)).trans (dts_dtsOf
    (fun r k => (congrFun ((W15_of m ρ c main_v89 (by decide)).trans (W14_of m ρ c main_v89 (by decide +kernel))) _).trans (rows_s13 m ρ c r k))
    (fun k n => (congrFun ((W15_of m ρ c main_v79_2 (by decide)).trans ((W14_of m ρ c main_v79_2 (by decide +kernel)).trans
      (w13_7 m ρ c main_v79_2 (by decide +kernel) (by decide) (by decide +kernel) (by decide) (by decide +kernel) (by decide +kernel)))) _).trans
      (w_dt m ρ c k n))
    fun n => (h8_v92 (W14 m ρ c) n).trans
      ((congrFun ((W14_of m ρ c main_v71 (by decide +kernel)).trans ((w13_7 m ρ c main_v71 (by decide +kernel) (by decide) (by decide +kernel)
        (by decide) (by decide +kernel) (by decide +kernel)).trans ((W7_of m ρ c main_v71 (by decide +kernel)).trans
        (W6_of m ρ c main_v71 (by decide +kernel))))) _).trans (bias m ρ c n)))

/-! ### The result buffers at the end -/

/-- A buffer that nothing writes after the first region of the prompt group's second projection. -/
theorem w17_8 (r : Ref sig .tc) (h9 : r ∉ hostOps4_W) (h10 : ∀ w : Fin cfg4.W, Pipeline.arrRef spec4 w = r → (cfg4.win w).isOut = false)
    (h11 : r ∉ hostOps5_W) (h12 : ∀ w : Fin cfg5.W, Pipeline.arrRef spec5 w = r → (cfg5.win w).isOut = false)
    (h13 : ∀ w : Fin cfg6.W, Pipeline.arrRef spec6 w = r → (cfg6.win w).isOut = false)
    (h14 : ∀ w : Fin cfg7.W, Pipeline.arrRef spec7 w = r → (cfg7.win w).isOut = false) (h15 : r ∉ hostOps8_W)
    (h16 : ∀ w : Fin cfg8.W, Pipeline.arrRef spec8 w = r → (cfg8.win w).isOut = false) (h17 : r ∉ hostOps9_W) :
    W17 m ρ c (Proc.devRef .tc r) = W8 m ρ c (Proc.devRef .tc r) :=
  (W17_of m ρ c r h17).trans ((W16_of m ρ c r h16).trans ((W15_of m ρ c r h15).trans ((W14_of m ρ c r h14).trans
    ((W13_of m ρ c r h13).trans ((W12_of m ρ c r h12).trans (w11_8 m ρ c r h9 h10 h11))))))

theorem end_proj_a_p : (W17 m ρ c main_v79_0 : Vec Ideal S8192x18432 .bf16)
    = projs 0 (by norm_num) (hP m c) (m ((c : Thread nD τ).loc main_arg8)) :=
  (w17_8 m ρ c main_v79_0 (by decide) (by decide +kernel) (by decide) (by decide +kernel) (by decide +kernel) (by decide +kernel) (by decide)
    (by decide +kernel) (by decide)).trans ((W8_of m ρ c main_v79_0 (by decide +kernel)).trans (proj_a_p m ρ c))

theorem end_proj_b_p : (W17 m ρ c main_v80_0 : Vec Ideal S8192x16384 .bf16)
    = projs 18560 (by norm_num) (hP m c) (m ((c : Thread nD τ).loc main_arg8)) :=
  (w17_8 m ρ c main_v80_0 (by decide) (by decide +kernel) (by decide) (by decide +kernel) (by decide +kernel) (by decide +kernel) (by decide)
    (by decide +kernel) (by decide)).trans (proj_b_p m ρ c)

theorem end_dt_p : (W17 m ρ c main_v82 : Vec Ideal S8192x128 .f32)
    = dtsOf (hP m c) (m ((c : Thread nD τ).loc main_arg8)) (m ((c : Thread nD τ).loc main_arg9)) :=
  ((W17_of m ρ c main_v82 (by decide)).trans ((W16_of m ρ c main_v82 (by decide +kernel)).trans ((W15_of m ρ c main_v82 (by decide)).trans
    ((W14_of m ρ c main_v82 (by decide +kernel)).trans ((W13_of m ρ c main_v82 (by decide +kernel)).trans
    ((W12_of m ρ c main_v82 (by decide +kernel)).trans (W11_of m ρ c main_v82 (by decide)))))))).trans (dt_p m ρ c)

theorem s16 : (W16 m ρ c main_v90 : Vec Ideal S512x18432 .bf16) = projs 0 (by norm_num) (hS m c) (m ((c : Thread nD τ).loc main_arg8)) :=
  ((W16_of m ρ c main_v90 (by decide +kernel)).trans ((W15_of m ρ c main_v90 (by decide)).trans
    (W14_of m ρ c main_v90 (by decide +kernel)))).trans (proj_a_s m ρ c)

theorem end_proj_a_s : (W17 m ρ c main_v90 : Vec Ideal S512x18432 .bf16)
    = projs 0 (by norm_num) (hS m c) (m ((c : Thread nD τ).loc main_arg8)) :=
  (W17_of m ρ c main_v90 (by decide)).trans (s16 m ρ c)

theorem end_proj_b_s : (W17 m ρ c main_v91 : Vec Ideal S512x16384 .bf16)
    = projs 18560 (by norm_num) (hS m c) (m ((c : Thread nD τ).loc main_arg8)) :=
  ((W17_of m ρ c main_v91 (by decide)).trans ((W16_of m ρ c main_v91 (by decide +kernel)).trans
    (W15_of m ρ c main_v91 (by decide)))).trans (proj_b_s m ρ c)

theorem end_dt_s : (W17 m ρ c main_v93 : Vec Ideal S512x128 .f32)
    = dtsOf (hS m c) (m ((c : Thread nD τ).loc main_arg8)) (m ((c : Thread nD τ).loc main_arg9)) :=
  (W17_of m ρ c main_v93 (by decide)).trans (dt_s m ρ c)

/-- The prompt group's convolution state (result 4 of the layer). -/
theorem end_sconv_p : (W17 m ρ c main_v101 : Vec Ideal S1x4x3x10240 .f32)
    = convState lastP (hP m c) (m ((c : Thread nD τ).loc main_arg8)) := by
  funext i
  rw [ix4_of i]
  refine (h9_v101 (W16 m ρ c) (i 1) (i 2) (i 3)).trans ?_
  refine (congrFun ((W16_of m ρ c main_v87 (by decide +kernel)).trans ((W15_of m ρ c main_v87 (by decide)).trans
    ((W14_of m ρ c main_v87 (by decide +kernel)).trans ((W13_of m ρ c main_v87 (by decide +kernel)).trans
    (W12_of m ρ c main_v87 (by decide +kernel)))))) _).trans ?_
  refine (h5_v87 (W10 m ρ c) (i 1) (i 2) (i 3)).trans ?_
  refine (congrFun (((W10_of m ρ c main_v79_0 (by decide +kernel)).trans (W9_of m ρ c main_v79_0 (by decide))).trans
    ((W8_of m ρ c main_v79_0 (by decide +kernel)).trans (proj_a_p m ρ c))) _).trans ?_
  exact congrArg (projv _ _) (Fin.ext (Nat.zero_add _))

/-- The sample group's convolution state (result 7 of the layer). -/
theorem end_sconv_s : (W17 m ρ c main_v102 : Vec Ideal S1x128x3x10240 .f32)
    = convState lastS (hS m c) (m ((c : Thread nD τ).loc main_arg8)) := by
  funext i
  rw [ix4_of i]
  refine (h9_v102 (W16 m ρ c) (i 1) (i 2) (i 3)).trans ((congrFun (s16 m ρ c) _).trans ?_)
  exact congrArg (projv _ _) (Fin.ext (Nat.zero_add _))

theorem end_w_ssd_out : (W17 m ρ c main_v79_3 : Vec Ideal S8192x4096 .bf16) = layer (m ((c : Thread nD τ).loc main_arg10)) := by
  refine (w17_8 m ρ c main_v79_3 (by decide) (by decide +kernel) (by decide) (by decide +kernel) (by decide +kernel) (by decide +kernel) (by decide)
    (by decide +kernel) (by decide)).trans ?_
  refine ((W8_of m ρ c main_v79_3 (by decide +kernel)).trans ((W7_arr m ρ c 9).trans (arr2_9 (V6 m ρ) c))).trans ?_
  exact (W6_of m ρ c main_v72 (by decide +kernel)).trans
    (funext fun i => (h1_v72 (W4 m ρ c) i).trans (congrFun (W4_args m ρ c main_arg10 (by decide)) _))

theorem end_w_out : (W17 m ρ c main_v79_4 : Vec Ideal S4096x4096 .bf16) = layer (m ((c : Thread nD τ).loc main_arg12)) := by
  refine (w17_8 m ρ c main_v79_4 (by decide) (by decide +kernel) (by decide) (by decide +kernel) (by decide +kernel) (by decide +kernel) (by decide)
    (by decide +kernel) (by decide)).trans ?_
  refine ((W8_of m ρ c main_v79_4 (by decide +kernel)).trans ((W7_arr m ρ c 10).trans (arr2_10 (V6 m ρ) c))).trans ?_
  exact (W6_of m ρ c main_v74 (by decide +kernel)).trans
    (funext fun i => (h1_v74 (W4 m ρ c) i).trans (congrFun (W4_args m ρ c main_arg12 (by decide)) _))

theorem end_peer_u : (W17 m ρ c main_v80_1 : Vec Ideal S16384x4096 .bf16) = layer (m ((c : Thread nD τ).loc main_arg14)) := by
  refine (w17_8 m ρ c main_v80_1 (by decide) (by decide +kernel) (by decide) (by decide +kernel) (by decide +kernel) (by decide +kernel) (by decide)
    (by decide +kernel) (by decide)).trans ?_
  refine ((W8_arr m ρ c 6).trans (arr3_6 (V7 m ρ) c)).trans ?_
  exact ((W7_of m ρ c main_v76 (by decide +kernel)).trans (W6_of m ρ c main_v76 (by decide +kernel))).trans
    (funext fun i => (h1_v76 (W4 m ρ c) i).trans (congrFun (W4_args m ρ c main_arg14 (by decide)) _))

theorem end_w_conf_out : (W17 m ρ c main_v80_2 : Vec Ideal S4096x4096 .bf16) = layer (m ((c : Thread nD τ).loc main_arg11)) := by
  refine (w17_8 m ρ c main_v80_2 (by decide) (by decide +kernel) (by decide) (by decide +kernel) (by decide +kernel) (by decide +kernel) (by decide)
    (by decide +kernel) (by decide)).trans ?_
  refine ((W8_arr m ρ c 7).trans (arr3_7 (V7 m ρ) c)).trans ?_
  exact ((W7_of m ρ c main_v73 (by decide +kernel)).trans (W6_of m ρ c main_v73 (by decide +kernel))).trans
    (funext fun i => (h1_v73 (W4 m ρ c) i).trans (congrFun (W4_args m ρ c main_arg11 (by decide)) _))

theorem end_peer_wq : (W17 m ρ c main_v80_3 : Vec Ideal S4096x2048 .bf16) = layer (m ((c : Thread nD τ).loc main_arg13)) := by
  refine (w17_8 m ρ c main_v80_3 (by decide) (by decide +kernel) (by decide) (by decide +kernel) (by decide +kernel) (by decide +kernel) (by decide)
    (by decide +kernel) (by decide)).trans ?_
  refine ((W8_arr m ρ c 8).trans (arr3_8 (V7 m ρ) c)).trans ?_
  exact ((W7_of m ρ c main_v75 (by decide +kernel)).trans (W6_of m ρ c main_v75 (by decide +kernel))).trans
    (funext fun i => (h1_v75 (W4 m ρ c) i).trans (congrFun (W4_args m ρ c main_arg13 (by decide)) _))

end Cert.KernelIdeal.Vals

end
-- ==== Proof.Ref.lean ====
/-
  What the reference returns, as the same functions of the argument arrays as the kernel's result buffers.
-/
module

public import proofs.«01_k».proof.Proof.Spec
public import proofs.«01_k».proof.Proof.Gen.ReferenceIdeal.Read

@[expose] public section

set_option maxRecDepth 16384
set_option maxHeartbeats 2000000

noncomputable section

namespace Cert.ReferenceIdeal.Vals

open Idealize.ShloMosaic Idealize.ShloMosaic.TcCoe Idealize.SL.Sem
open Idealize.ShloMosaic.Pointwise
open Cert.ReferenceIdeal Cert.ReferenceIdeal.Read Cert.Spec

/-- The host's sigmoid is the logistic function. -/
theorem silu_eq (x : EReal) : x * Ideal.div 1 (1 + Ideal.exp (-x)) = x * Ideal.logistic x := rfl

/-- The host's softplus: its test for not-a-number is never true. -/
theorem softplus_eq (s : EReal) : (if s ≠ s then s else max s 0 + Ideal.log1p (Ideal.exp (-FloatOps.absf (F := Ideal) (φ := .f32) s))) = softplus s := by
  rw [if_neg (fun h => h rfl), softplus, sub_eq_add_neg, zero_add]

variable (x0 : Vec Ideal S4x2048x4096 .f32) (x1 : Vec Ideal S128x4x4096 .f32) (x2 : Vec Ideal S4x4096 .f32) (x3 : Vec Ideal S128x4096 .f32)
  (x4 : Vec Ideal S1x128x3x10240 .f32) (x5 : Vec Ideal S1x4096x24576 .f32) (x6 : Vec Ideal S1x24576 .f32) (x7 : Vec Ideal S1x4096 .f32) (x8 : Vec Ideal S1x4096x34944 .f32)
  (x9 : Vec Ideal S1x128 .f32)

/-! ### The prompt group -/

theorem silu_p (b : Fin 4) (k : Fin 4096) : val_main_v1 x2 (ix2 b k) = x2 (ix2 b k) * Ideal.logistic (x2 (ix2 b k)) := by
  pointwise [val_main_v1, val_main_call0_v5, val_main_call0_v4, val_main_call0_cst_0, val_main_call0_v3, val_main_call0_v2, val_main_call0_cst, val_main_call0_v1, val_main_call0_v0]
  exact silu_eq _

theorem mod_p (b : Fin 4) (n : Fin 24576) : val_main_v7 x2 x5 x6 (ix2 b n) = modv (fun k => x2 (ix2 b k)) x5 x6 n := by
  pointwise [val_main_v7, val_main_v6, val_main_v5, val_main_v4, val_main_v3, val_main_v2]
  simp only [silu_p, modv]

theorem norm_p (b : Fin 4) (t : Fin 2048) (d : Fin 4096) : val_main_v34 x0 x2 x5 x6 x7 (ix3 b t d)
    = row (fun k => x0 (ix3 b t k)) (fun k => x2 (ix2 b k)) x5 x6 x7 d := by
  pointwise [val_main_v34, val_main_v33, val_main_v32, val_main_v31, val_main_v30, val_main_v29, val_main_cst_3, val_main_v28, val_main_v27, val_main_v26, val_main_v25,
    val_main_v24, val_main_v23, val_main_v22, val_main_v21, val_main_cst_2, val_main_v20, val_main_v19, val_main_cst_1, val_main_v18, val_main_v17,
    val_main_cst_0, val_main_v16, val_main_v15, val_main_v10, val_main_v9, val_main_v8]
  simp only [mod_p, row, normed]

theorem proj_p (b : Fin 4) (t : Fin 2048) (n : Fin 34944) : val_main_v36 x0 x2 x5 x6 x7 x8 (ix3 b t n)
    = projv (row (fun k => x0 (ix3 b t k)) (fun k => x2 (ix2 b k)) x5 x6 x7) x8 n := by
  pointwise [val_main_v36, val_main_v35]
  simp only [norm_p, projv]

theorem dt_p (b : Fin 4) (t : Fin 2048) (n : Fin 128) : val_main_v47 x0 x2 x5 x6 x7 x8 x9 (ix3 b t n)
    = dtv (row (fun k => x0 (ix3 b t k)) (fun k => x2 (ix2 b k)) x5 x6 x7) x8 x9 n := by
  have hs : val_main_v46 x0 x2 x5 x6 x7 x8 x9 (ix3 b t n)
      = projv (row (fun k => x0 (ix3 b t k)) (fun k => x2 (ix2 b k)) x5 x6 x7) x8 ⟨18432 + n.val, by omega⟩ + x9 (ix2 0 n) := by
    pointwise [val_main_v46, val_main_v45, val_main_v44, val_main_v43, val_main_v38]
    rw [proj_p]
  pointwise [val_main_v47, val_main_call1_v11, val_main_call1_v10, val_main_call1_v9, val_main_call1_v8, val_main_call1_v7, val_main_call1_v6, val_main_call1_v5,
    val_main_call1_v4, val_main_call1_v3, val_main_call1_v2, val_main_call1_v1, val_main_call1_v0, val_main_call1_cst]
  rw [hs]
  exact softplus_eq _

theorem sconv_p : val_main_v96 x0 x2 x5 x6 x7 x8 = convState lastP (rowP x0 x2 x5 x6 x7) x8 := by
  funext i
  obtain ⟨b, j, d, rfl⟩ : ∃ (b : Fin 4) (j : Fin 3) (d : Fin 10240), i = ix4 0 b j d := ⟨i 1, i 2, i 3, ix4_of i⟩
  have hr : rowP x0 x2 x5 x6 x7 (lastP b j) = row (fun k => x0 (ix3 b ⟨2045 + j.val, by omega⟩ k)) (fun k => x2 (ix2 b k)) x5 x6 x7 := by
    unfold rowP lastP
    congr 1 <;> funext k <;> congr 2 <;> first | rfl | (apply Fin.ext; dsimp only; omega)
  refine Eq.trans ?_ (congrArg (projv · x8 ⟨8192 + d.val, by omega⟩) hr).symm
  pointwise [val_main_v96, val_main_v42, val_main_v41, val_main_v40, val_main_v37]
  rw [dif_neg (by omega), proj_p]
  congr 5
  exact funext fun k => congrArg (fun t => x0 (ix3 b t k)) (Fin.ext (by dsimp only; omega))

theorem proj_a_p : val_main_v99 x0 x2 x5 x6 x7 x8 = projs 0 (by norm_num) (rowP x0 x2 x5 x6 x7) x8 := by
  funext i
  obtain ⟨r, n, rfl⟩ : ∃ (r : Fin 8192) (n : Fin 18432), i = ix2 r n := ⟨i 0, i 1, ix2_of i⟩
  have h : val_main_v99 x0 x2 x5 x6 x7 x8 (ix2 r n) = val_main_v36 x0 x2 x5 x6 x7 x8 (ix3 ⟨r.val / 2048, by omega⟩ ⟨r.val % 2048, by omega⟩ ⟨0 + n.val, by omega⟩) := by
    pointwise [val_main_v99, val_main_v98, val_main_v37]
  exact h.trans (proj_p _ _ _ _ _ _ _ _ _)

theorem proj_b_p : val_main_v101 x0 x2 x5 x6 x7 x8 = projs 18560 (by norm_num) (rowP x0 x2 x5 x6 x7) x8 := by
  funext i
  obtain ⟨r, n, rfl⟩ : ∃ (r : Fin 8192) (n : Fin 16384), i = ix2 r n := ⟨i 0, i 1, ix2_of i⟩
  have h : val_main_v101 x0 x2 x5 x6 x7 x8 (ix2 r n) = val_main_v36 x0 x2 x5 x6 x7 x8 (ix3 ⟨r.val / 2048, by omega⟩ ⟨r.val % 2048, by omega⟩ ⟨18560 + n.val, by omega⟩) := by
    pointwise [val_main_v101, val_main_v100, val_main_v39]
  exact h.trans (proj_p _ _ _ _ _ _ _ _ _)

theorem dts_p : val_main_v102 x0 x2 x5 x6 x7 x8 x9 = dtsOf (rowP x0 x2 x5 x6 x7) x8 x9 := by
  funext i
  obtain ⟨r, n, rfl⟩ : ∃ (r : Fin 8192) (n : Fin 128), i = ix2 r n := ⟨i 0, i 1, ix2_of i⟩
  have h : val_main_v102 x0 x2 x5 x6 x7 x8 x9 (ix2 r n) = val_main_v47 x0 x2 x5 x6 x7 x8 x9 (ix3 ⟨r.val / 2048, by omega⟩ ⟨r.val % 2048, by omega⟩ n) := by
    pointwise [val_main_v102]
  exact h.trans (dt_p _ _ _ _ _ _ _ _ _ _)

/-! ### The sample group -/

theorem silu_s (b : Fin 128) (k : Fin 4096) : val_main_v49 x3 (ix2 b k) = x3 (ix2 b k) * Ideal.logistic (x3 (ix2 b k)) := by
  pointwise [val_main_v49, val_main_call2_v5, val_main_call2_v4, val_main_call2_cst_0, val_main_call2_v3, val_main_call2_v2, val_main_call2_cst, val_main_call2_v1, val_main_call2_v0]
  exact silu_eq _

theorem mod_s (b : Fin 128) (n : Fin 24576) : val_main_v55 x3 x5 x6 (ix2 b n) = modv (fun k => x3 (ix2 b k)) x5 x6 n := by
  pointwise [val_main_v55, val_main_v54, val_main_v53, val_main_v52, val_main_v51, val_main_v50]
  simp only [silu_s, modv]

theorem norm_s (b : Fin 128) (t : Fin 4) (d : Fin 4096) : val_main_v82 x1 x3 x5 x6 x7 (ix3 b t d)
    = row (fun k => x1 (ix3 b t k)) (fun k => x3 (ix2 b k)) x5 x6 x7 d := by
  pointwise [val_main_v82, val_main_v81, val_main_v80, val_main_v79, val_main_v78, val_main_v77, val_main_cst_7, val_main_v76, val_main_v75, val_main_v74, val_main_v73,
    val_main_v72, val_main_v71, val_main_v70, val_main_v69, val_main_cst_6, val_main_v68, val_main_v67, val_main_cst_5, val_main_v66, val_main_v65,
    val_main_cst_4, val_main_v64, val_main_v63, val_main_v58, val_main_v57, val_main_v56]
  simp only [mod_s, row, normed]

theorem proj_s (b : Fin 128) (t : Fin 4) (n : Fin 34944) : val_main_v84 x1 x3 x5 x6 x7 x8 (ix3 b t n)
    = projv (row (fun k => x1 (ix3 b t k)) (fun k => x3 (ix2 b k)) x5 x6 x7) x8 n := by
  pointwise [val_main_v84, val_main_v83]
  simp only [norm_s, projv]

theorem dt_s (b : Fin 128) (t : Fin 4) (n : Fin 128) : val_main_v95 x1 x3 x5 x6 x7 x8 x9 (ix3 b t n)
    = dtv (row (fun k => x1 (ix3 b t k)) (fun k => x3 (ix2 b k)) x5 x6 x7) x8 x9 n := by
  have hs : val_main_v94 x1 x3 x5 x6 x7 x8 x9 (ix3 b t n)
      = projv (row (fun k => x1 (ix3 b t k)) (fun k => x3 (ix2 b k)) x5 x6 x7) x8 ⟨18432 + n.val, by omega⟩ + x9 (ix2 0 n) := by
    pointwise [val_main_v94, val_main_v93, val_main_v92, val_main_v91, val_main_v86]
    rw [proj_s]
  pointwise [val_main_v95, val_main_call3_v11, val_main_call3_v10, val_main_call3_v9, val_main_call3_v8, val_main_call3_v7, val_main_call3_v6, val_main_call3_v5,
    val_main_call3_v4, val_main_call3_v3, val_main_call3_v2, val_main_call3_v1, val_main_call3_v0, val_main_call3_cst]
  rw [hs]
  exact softplus_eq _

theorem sconv_s : val_main_v97 x1 x3 x4 x5 x6 x7 x8 = convState lastS (rowS x1 x3 x5 x6 x7) x8 := by
  funext i
  obtain ⟨b, j, d, rfl⟩ : ∃ (b : Fin 128) (j : Fin 3) (d : Fin 10240), i = ix4 0 b j d := ⟨i 1, i 2, i 3, ix4_of i⟩
  have hr : rowS x1 x3 x5 x6 x7 (lastS b j) = row (fun k => x1 (ix3 b ⟨1 + j.val, by omega⟩ k)) (fun k => x3 (ix2 b k)) x5 x6 x7 := by
    unfold rowS lastS
    congr 1 <;> funext k <;> congr 2 <;> first | rfl | (apply Fin.ext; dsimp only; omega)
  refine Eq.trans ?_ (congrArg (projv · x8 ⟨8192 + d.val, by omega⟩) hr).symm
  pointwise [val_main_v97, val_main_v90, val_main_v89, val_main_v88, val_main_v85]
  rw [dif_neg (by omega), proj_s]
  congr 5
  exact funext fun k => congrArg (fun t => x1 (ix3 b t k)) (Fin.ext (by dsimp only; omega))

theorem proj_a_s : val_main_v105 x1 x3 x5 x6 x7 x8 = projs 0 (by norm_num) (rowS x1 x3 x5 x6 x7) x8 := by
  funext i
  obtain ⟨r, n, rfl⟩ : ∃ (r : Fin 512) (n : Fin 18432), i = ix2 r n := ⟨i 0, i 1, ix2_of i⟩
  have h : val_main_v105 x1 x3 x5 x6 x7 x8 (ix2 r n) = val_main_v84 x1 x3 x5 x6 x7 x8 (ix3 ⟨r.val % 128, by omega⟩ ⟨r.val / 128, by omega⟩ ⟨0 + n.val, by omega⟩) := by
    pointwise [val_main_v105, val_main_v104, val_main_v103, val_main_v85]
  exact h.trans (proj_s _ _ _ _ _ _ _ _ _)

theorem proj_b_s : val_main_v108 x1 x3 x5 x6 x7 x8 = projs 18560 (by norm_num) (rowS x1 x3 x5 x6 x7) x8 := by
  funext i
  obtain ⟨r, n, rfl⟩ : ∃ (r : Fin 512) (n : Fin 16384), i = ix2 r n := ⟨i 0, i 1, ix2_of i⟩
  have h : val_main_v108 x1 x3 x5 x6 x7 x8 (ix2 r n) = val_main_v84 x1 x3 x5 x6 x7 x8 (ix3 ⟨r.val % 128, by omega⟩ ⟨r.val / 128, by omega⟩ ⟨18560 + n.val, by omega⟩) := by
    pointwise [val_main_v108, val_main_v107, val_main_v106, val_main_v87]
  exact h.trans (proj_s _ _ _ _ _ _ _ _ _)

theorem dts_s : val_main_v110 x1 x3 x5 x6 x7 x8 x9 = dtsOf (rowS x1 x3 x5 x6 x7) x8 x9 := by
  funext i
  obtain ⟨r, n, rfl⟩ : ∃ (r : Fin 512) (n : Fin 128), i = ix2 r n := ⟨i 0, i 1, ix2_of i⟩
  have h : val_main_v110 x1 x3 x5 x6 x7 x8 x9 (ix2 r n) = val_main_v95 x1 x3 x5 x6 x7 x8 x9 (ix3 ⟨r.val % 128, by omega⟩ ⟨r.val / 128, by omega⟩ n) := by
    pointwise [val_main_v110, val_main_v109]
  exact h.trans (dt_s _ _ _ _ _ _ _ _ _ _)

/-! ### The weights -/

theorem layer_112 (w : Vec Ideal S1x8192x4096 .f32) : val_main_v112 w = layer w := by
  funext i
  obtain ⟨r, n, rfl⟩ : ∃ (r : Fin 8192) (n : Fin 4096), i = ix2 r n := ⟨i 0, i 1, ix2_of i⟩
  exact (by pointwise [val_main_v112, val_main_v111] : val_main_v112 w (ix2 r n) = w (ix3 0 r n))

theorem layer_114 (w : Vec Ideal S1x4096x4096 .f32) : val_main_v114 w = layer w := by
  funext i
  obtain ⟨r, n, rfl⟩ : ∃ (r : Fin 4096) (n : Fin 4096), i = ix2 r n := ⟨i 0, i 1, ix2_of i⟩
  exact (by pointwise [val_main_v114, val_main_v113] : val_main_v114 w (ix2 r n) = w (ix3 0 r n))

theorem layer_116 (w : Vec Ideal S1x16384x4096 .f32) : val_main_v116 w = layer w := by
  funext i
  obtain ⟨r, n, rfl⟩ : ∃ (r : Fin 16384) (n : Fin 4096), i = ix2 r n := ⟨i 0, i 1, ix2_of i⟩
  exact (by pointwise [val_main_v116, val_main_v115] : val_main_v116 w (ix2 r n) = w (ix3 0 r n))

theorem layer_118 (w : Vec Ideal S1x4096x4096 .f32) : val_main_v118 w = layer w := by
  funext i
  obtain ⟨r, n, rfl⟩ : ∃ (r : Fin 4096) (n : Fin 4096), i = ix2 r n := ⟨i 0, i 1, ix2_of i⟩
  exact (by pointwise [val_main_v118, val_main_v117] : val_main_v118 w (ix2 r n) = w (ix3 0 r n))

theorem layer_120 (w : Vec Ideal S1x4096x2048 .f32) : val_main_v120 w = layer w := by
  funext i
  obtain ⟨r, n, rfl⟩ : ∃ (r : Fin 4096) (n : Fin 2048), i = ix2 r n := ⟨i 0, i 1, ix2_of i⟩
  exact (by pointwise [val_main_v120, val_main_v119] : val_main_v120 w (ix2 r n) = w (ix3 0 r n))

end Cert.ReferenceIdeal.Vals

end
-- ==== Proof.Run.lean ====
/-
  The run: every buffer the TensorCore holds ends with the contents followed through the program's operations and calls.
-/
module

public import proofs.«01_k».proof.Proof.Gen.KernelIdeal.Frame

@[expose] public section

set_option maxRecDepth 16384

noncomputable section

namespace Cert.KernelIdeal.Vals

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory, and each buffer of the TensorCore ends at its contents past the last segment. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => h)

end Cert.KernelIdeal.Vals

end
-- ==== Proof.MixHost.lean ====
/-
  The operations between the mixing half's calls, read at an index: what each buffer a call or a result reads holds after
  its stretch, in terms of what the stretch found.
-/
module

public import proofs.«01_k».proof.Proof.Gen.MixerIdeal.Frame.Fold0
public import Idealize.ShloMosaic.Lib.Pointwise

@[expose] public section

set_option maxRecDepth 16384
set_option maxHeartbeats 2000000

noncomputable section

namespace Cert.MixerIdeal.Vals

open Idealize.ShloMosaic Idealize.ShloMosaic.TcCoe Idealize.SL.Sem
open Idealize.ShloMosaic.StableHlo
open Idealize.ShloMosaic.Pointwise
open Cert.MixerIdeal Cert.MixerIdeal.Gen

variable (W : Valuation τ sig (Elt Ideal))

theorem h0_v0 (r : Fin 8192) (k : Fin 4096) : (after hostOps0 W main_v0 : Vec Ideal S8192x4096 .f32) (ix2 r k)
    = (W main_arg0 : Vec Ideal S4x2048x4096 .f32) (ix3 ⟨r.val / 2048, by omega⟩ ⟨r.val % 2048, by omega⟩ k) := by
  after_results_simp
  pointwise

theorem h0_v2 (r : Fin 512) (k : Fin 4096) : (after hostOps0 W main_v2 : Vec Ideal S512x4096 .f32) (ix2 r k)
    = (W main_arg1 : Vec Ideal S128x4x4096 .f32) (ix3 ⟨r.val % 128, by omega⟩ ⟨r.val / 128, by omega⟩ k) := by
  after_results_simp
  pointwise

theorem h0_v13 (b : Fin 4) (d : Fin 4096) : (after hostOps0 W main_v13 : Vec Ideal S4x1x4096 .f32) (ix3 b 0 d)
    = (W main_arg8 : Vec Ideal S4x24576 .f32) (ix2 b ⟨8192 + d.val, by omega⟩) := by
  after_results_simp
  pointwise

theorem h0_v16 (b : Fin 4) (d : Fin 4096) : (after hostOps0 W main_v16 : Vec Ideal S4x1x4096 .f32) (ix3 b 0 d)
    = (W main_arg8 : Vec Ideal S4x24576 .f32) (ix2 b ⟨12288 + d.val, by omega⟩) := by
  after_results_simp
  pointwise

theorem h0_v19 (b : Fin 4) (d : Fin 4096) : (after hostOps0 W main_v19 : Vec Ideal S4x1x4096 .f32) (ix3 b 0 d)
    = (W main_arg8 : Vec Ideal S4x24576 .f32) (ix2 b ⟨16384 + d.val, by omega⟩) := by
  after_results_simp
  pointwise

theorem h0_v40 (r : Fin 512) (d : Fin 4096) : (after hostOps0 W main_v40 : Vec Ideal S1x512x4096 .f32) (ix3 0 r d)
    = (W main_arg9 : Vec Ideal S128x24576 .f32) (ix2 ⟨r.val % 128, by omega⟩ ⟨8192 + d.val, by omega⟩) := by
  after_results_simp
  pointwise

theorem h0_v46 (r : Fin 512) (d : Fin 4096) : (after hostOps0 W main_v46 : Vec Ideal S1x512x4096 .f32) (ix3 0 r d)
    = (W main_arg9 : Vec Ideal S128x24576 .f32) (ix2 ⟨r.val % 128, by omega⟩ ⟨12288 + d.val, by omega⟩) := by
  after_results_simp
  pointwise

theorem h0_v52 (r : Fin 512) (d : Fin 4096) : (after hostOps0 W main_v52 : Vec Ideal S1x512x4096 .f32) (ix3 0 r d)
    = (W main_arg9 : Vec Ideal S128x24576 .f32) (ix2 ⟨r.val % 128, by omega⟩ ⟨16384 + d.val, by omega⟩) := by
  after_results_simp
  pointwise

theorem h0_v59 (d : Fin 4096) : (after hostOps0 W main_v59 : Vec Ideal S4096 .f32) (ix1 d)
    = (W main_arg13 : Vec Ideal S1x4096 .f32) (ix2 0 d) := by
  after_results_simp
  pointwise

theorem h0_v60 (r : Fin 16384) (d : Fin 4096) : (after hostOps0 W main_v60 : Vec Ideal S16384x4096 .f32) (ix2 r d)
    = (W main_arg15 : Vec Ideal S1x16384x4096 .f32) (ix3 0 r d) := by
  after_results_simp
  pointwise

theorem h3_v64 (d : Fin 4096) : (after hostOps3 W main_v64 : Vec Ideal S1x4096 .f32) (ix2 0 d)
    = (W main_v59 : Vec Ideal S4096 .f32) (ix1 d) := by
  after_results_simp
  pointwise

theorem h8_v70 (d : Fin 4096) : (after hostOps8 W main_v70 : Vec Ideal S1x4096 .f32) (ix2 0 d)
    = (W main_v59 : Vec Ideal S4096 .f32) (ix1 d) := by
  after_results_simp
  pointwise

end Cert.MixerIdeal.Vals

end
-- ==== Proof.MixSpec.lean ====
/-
  What the mixing half of the layer computes, as plain functions of arrays over the extended reals: the gated output
  products of the two branches, the output projection under its gate with the residual, the second normalization and the
  expert query.
-/
module

public import proofs.«01_k».proof.Proof.Blocks

@[expose] public section

noncomputable section

namespace Cert.Spec

open Idealize.ShloMosaic Idealize.ShloMosaic.Pointwise

/-- A product under a gate: the logistic function of an array of the product's shape. -/
def gated {M K N : Nat} (x : Arr ⟨2, ![M, K]⟩) (w : Arr ⟨2, ![K, N]⟩) (s : Arr ⟨2, ![M, N]⟩) : Arr ⟨2, ![M, N]⟩ :=
  fun i => Ideal.logistic (s i) * prod x w i

theorem gated_congr {M K N M' N' : Nat} {x : Arr ⟨2, ![M, K]⟩} {w : Arr ⟨2, ![K, N]⟩} {s : Arr ⟨2, ![M, N]⟩}
    {x' : Arr ⟨2, ![M', K]⟩} {w' : Arr ⟨2, ![K, N']⟩} {s' : Arr ⟨2, ![M', N']⟩}
    {i : (⟨2, ![M, N]⟩ : Shape).Idx} {j : (⟨2, ![M', N']⟩ : Shape).Idx}
    (hx : ∀ k, x (ix2 (i 0) k) = x' (ix2 (j 0) k)) (hw : ∀ k, w (ix2 k (i 1)) = w' (ix2 k (j 1))) (hs : s i = s' j) :
    gated x w s i = gated x' w' s' j :=
  congrArg₂ (fun a b : EReal => a * b) (congrArg Ideal.logistic hs) (prod_congr hx hw)

/-- A product scaled by `g` and added to `r`. -/
def scaled {M K N : Nat} (x : Arr ⟨2, ![M, K]⟩) (w : Arr ⟨2, ![K, N]⟩) (r g : Arr ⟨2, ![M, N]⟩) : Arr ⟨2, ![M, N]⟩ :=
  fun i => r i + g i * prod x w i

theorem scaled_congr {M K N M' N' : Nat} {x : Arr ⟨2, ![M, K]⟩} {w : Arr ⟨2, ![K, N]⟩} {r g : Arr ⟨2, ![M, N]⟩}
    {x' : Arr ⟨2, ![M', K]⟩} {w' : Arr ⟨2, ![K, N']⟩} {r' g' : Arr ⟨2, ![M', N']⟩}
    {i : (⟨2, ![M, N]⟩ : Shape).Idx} {j : (⟨2, ![M', N']⟩ : Shape).Idx}
    (hx : ∀ k, x (ix2 (i 0) k) = x' (ix2 (j 0) k)) (hw : ∀ k, w (ix2 k (i 1)) = w' (ix2 k (j 1))) (hr : r i = r' j)
    (hg : g i = g' j) : scaled x w r g i = scaled x' w' r' g' j :=
  congrArg₂ (fun a b : EReal => a + b) hr (congrArg₂ (fun a b : EReal => a * b) hg (prod_congr hx hw))

/-- The two branches joined: the scan branch's gated product `s` plus the convolution branch's. -/
def joined {M K N : Nat} (x : Arr ⟨2, ![M, K]⟩) (w : Arr ⟨2, ![K, N]⟩) (s g : Arr ⟨2, ![M, N]⟩) : Arr ⟨2, ![M, N]⟩ :=
  scaled x w s fun i => Ideal.logistic (g i)

/-- Block `o` of 4096 columns of a row's modulation, as an array: `f` says which row of the modulation a row takes. -/
def modCols {M B : Nat} (f : Fin M → Fin B) (o : Nat) (h : o + 4096 ≤ 24576) (m : Arr ⟨2, ![B, 24576]⟩) : Arr ⟨2, ![M, 4096]⟩ :=
  fun i => m (ix2 (f (i 0)) ⟨o + (i 1).val, Nat.lt_of_lt_of_le (Nat.add_lt_add_left (i 1).isLt o) h⟩)

/-- The layer's state after mixing: the token rows `x` plus the gated output projection of the joined branches. -/
def mixed {M B : Nat} (f : Fin M → Fin B) (x : Arr ⟨2, ![M, 4096]⟩) (yn : Arr ⟨2, ![M, 8192]⟩) (pb : Arr ⟨2, ![M, 16384]⟩)
    (vc : Arr ⟨2, ![M, 4096]⟩) (m : Arr ⟨2, ![B, 24576]⟩) (ws : Arr ⟨2, ![8192, 4096]⟩) (wc wo : Arr ⟨2, ![4096, 4096]⟩) :
    Arr ⟨2, ![M, 4096]⟩ :=
  scaled (joined vc wc (gated yn ws (cols 8192 4096 (by norm_num) pb)) (cols 12288 4096 (by norm_num) pb)) wo x
    (modCols f 8192 (by norm_num) m)

/-- The rows of `x` normalized and modulated with the modulation's fifth block as the scale and its fourth as the shift. -/
def normedRows {M B : Nat} (f : Fin M → Fin B) (x : Arr ⟨2, ![M, 4096]⟩) (m : Arr ⟨2, ![B, 24576]⟩) (g : Arr ⟨2, ![1, 4096]⟩) :
    Arr ⟨2, ![M, 4096]⟩ :=
  fun i => normed (fun k => x (ix2 (i 0) k)) (fun d => g (ix2 0 d)) (fun d => modCols f 16384 (by norm_num) m (ix2 (i 0) d))
    (fun d => modCols f 12288 (by norm_num) m (ix2 (i 0) d)) (i 1)

/-- The sequence a prompt row belongs to. -/
def seqP (r : Fin 8192) : Fin 4 := ⟨r.val / 2048, by omega⟩

/-- The sequence a sample row belongs to. -/
def seqS (r : Fin 512) : Fin 128 := ⟨r.val % 128, by omega⟩

/-- The prompt group's tokens as rows. -/
def tokP (x : Arr ⟨3, ![4, 2048, 4096]⟩) : Arr ⟨2, ![8192, 4096]⟩ :=
  fun i => x (ix3 (seqP (i 0)) ⟨(i 0).val % 2048, Nat.mod_lt _ (by norm_num)⟩ (i 1))

/-- The sample group's tokens as rows, token by token. -/
def tokS (x : Arr ⟨3, ![128, 4, 4096]⟩) : Arr ⟨2, ![512, 4096]⟩ :=
  fun i => x (ix3 (seqS (i 0)) ⟨(i 0).val / 128, Nat.div_lt_of_lt_mul (i 0).isLt⟩ (i 1))

end Cert.Spec

end
-- ==== Proof.MixBranches.lean ====
/-
  The two branches' output products, read for both groups: the scan branch's (`cc0_ssd_out`, `cc5_ssd_out`) under its
  gate, with the rounded expert weights as a side result of the prompt group's call, and the convolution branch's
  (`cc1_conf_out`, `cc6_conf_out`) under its gate, added to the first. A gate is a window of the projection's columns.
-/
module

public import proofs.«01_k».proof.Proof.Gen.MixerIdeal.Frame.Region0
public import proofs.«01_k».proof.Proof.Gen.MixerIdeal.Frame.Region1
public import proofs.«01_k».proof.Proof.Gen.MixerIdeal.Frame.Region5
public import proofs.«01_k».proof.Proof.Gen.MixerIdeal.Frame.Region6
public import proofs.«01_k».proof.Proof.MixSpec

@[expose] public section

set_option maxRecDepth 16384
set_option maxHeartbeats 2000000

noncomputable section

namespace Cert.MixerIdeal.Vals

open Idealize.ShloMosaic Idealize.ShloMosaic.TcCoe Idealize.SL.Sem
open Idealize.ShloMosaic.Pipeline (Dat)
open Idealize.ShloMosaic.Pointwise
open Cert.MixerIdeal Cert.MixerIdeal.Gen Cert.Spec

variable (V : (c : Dev nD) → (b : Ref sig .tc) → Buf (Elt Ideal) ((c : Thread nD τ).loc b))

theorem idx0_0 : ∀ t : Fin cfg0.N, win0_0.index t = ![t.val / 8, 0] := (by decide +kernel : ∀ t : Fin grid0.N, _)
theorem idx0_1 : ∀ t : Fin cfg0.N, win0_1.index t = ![0, t.val % 8] := (by decide +kernel : ∀ t : Fin grid0.N, _)
theorem idx0_2 : ∀ t : Fin cfg0.N, win0_2.index t = ![t.val / 8, 16 + t.val % 8] := (by decide +kernel : ∀ t : Fin grid0.N, _)
theorem idx0_3 : ∀ t : Fin cfg0.N, win0_3.index t = ![min t.val 127, 0] := (by decide +kernel : ∀ t : Fin grid0.N, _)
theorem idx0_4 : ∀ t : Fin cfg0.N, win0_4.index t = ![t.val / 8, t.val % 8] := (by decide +kernel : ∀ t : Fin grid0.N, _)
theorem idx0_5 : ∀ t : Fin cfg0.N, win0_5.index t = ![min t.val 127, 0] := (by decide +kernel : ∀ t : Fin grid0.N, _)

theorem idx1_0 : ∀ t : Fin cfg1.N, win1_0.index t = ![t.val / 4, 0] := (by decide +kernel : ∀ t : Fin grid1.N, _)
theorem idx1_1 : ∀ t : Fin cfg1.N, win1_1.index t = ![0, t.val % 4] := (by decide +kernel : ∀ t : Fin grid1.N, _)
theorem idx1_2 : ∀ t : Fin cfg1.N, win1_2.index t = ![t.val / 4, t.val % 4] := (by decide +kernel : ∀ t : Fin grid1.N, _)
theorem idx1_3 : ∀ t : Fin cfg1.N, win1_3.index t = ![t.val / 4, 12 + t.val % 4] := (by decide +kernel : ∀ t : Fin grid1.N, _)
theorem idx1_4 : ∀ t : Fin cfg1.N, win1_4.index t = ![t.val / 4, t.val % 4] := (by decide +kernel : ∀ t : Fin grid1.N, _)

theorem idx5_0 : ∀ t : Fin cfg5.N, win5_0.index t = ![0, 0] := (by decide +kernel : ∀ t : Fin grid5.N, _)
theorem idx5_1 : ∀ t : Fin cfg5.N, win5_1.index t = ![0, t.val] := (by decide +kernel : ∀ t : Fin grid5.N, _)
theorem idx5_2 : ∀ t : Fin cfg5.N, win5_2.index t = ![0, 16 + t.val] := (by decide +kernel : ∀ t : Fin grid5.N, _)
theorem idx5_3 : ∀ t : Fin cfg5.N, win5_3.index t = ![0, t.val] := (by decide +kernel : ∀ t : Fin grid5.N, _)

theorem idx6_0 : ∀ t : Fin cfg6.N, win6_0.index t = ![0, 0] := (by decide +kernel : ∀ t : Fin grid6.N, _)
theorem idx6_1 : ∀ t : Fin cfg6.N, win6_1.index t = ![0, t.val] := (by decide +kernel : ∀ t : Fin grid6.N, _)
theorem idx6_2 : ∀ t : Fin cfg6.N, win6_2.index t = ![0, t.val] := (by decide +kernel : ∀ t : Fin grid6.N, _)
theorem idx6_3 : ∀ t : Fin cfg6.N, win6_3.index t = ![0, 12 + t.val] := (by decide +kernel : ∀ t : Fin grid6.N, _)
theorem idx6_4 : ∀ t : Fin cfg6.N, win6_4.index t = ![0, t.val] := (by decide +kernel : ∀ t : Fin grid6.N, _)

theorem pay0_2 (x : Vec Ideal S512x8192 .bf16) (w : Vec Ideal S8192x512 .bf16) (s : Vec Ideal S512x512 .bf16) (j : S512x512.Idx) :
    k0_pay2 x w s j = gated x w s j := by
  pointwise [k0_pay2, gated, prod]

theorem pay1_1 (x : Vec Ideal S1024x4096 .bf16) (w : Vec Ideal S4096x1024 .bf16) (s g : Vec Ideal S1024x1024 .bf16) (j : S1024x1024.Idx) :
    k1_pay1 x w s g j = joined x w s g j := by
  pointwise [k1_pay1, joined, scaled, prod]

theorem pay5_1 (x : Vec Ideal S512x8192 .bf16) (w : Vec Ideal S8192x512 .bf16) (s : Vec Ideal S512x512 .bf16) (j : S512x512.Idx) :
    k5_pay1 x w s j = gated x w s j := by
  pointwise [k5_pay1, gated, prod]

theorem pay6_1 (x : Vec Ideal S512x4096 .bf16) (w : Vec Ideal S4096x1024 .bf16) (s g : Vec Ideal S512x1024 .bf16) (j : S512x1024.Idx) :
    k6_pay1 x w s g j = joined x w s g j := by
  pointwise [k6_pay1, joined, scaled, prod]

/-- The prompt group's scan branch: its output product under its gate, the projection's columns from 8192 on. -/
theorem arr0_4 (c : Dev nD) : (dat0 V c).arrAt 4 cfg0.N
    = gated (V c (Pipeline.arrRef spec0 0)) (V c (Pipeline.arrRef spec0 1)) (cols 8192 4096 (by norm_num) (V c (Pipeline.arrRef spec0 2))) := by
  refine (dat0 V c).arrAt_eq_of_covers 4 _ (by decide +kernel) fun t hf y => ?_
  rw [after0_4]; frame_out [out0_4]
  refine (pay0_2 _ _ _ y).trans ?_
  have e0 := emb_val win0_0 (idx0_0 t) rfl
  have e1 := emb_val win0_1 (idx0_1 t) rfl
  have e2 := emb_val win0_2 (idx0_2 t) rfl
  have e4 := emb_val win0_4 (idx0_4 t) rfl y
  exact gated_congr
    (fun k => congrArg (V c (Pipeline.arrRef spec0 0)) (Shape.idx_ext₂ ((e0 _ 0).trans (e4 0).symm) (origin (e0 _ 1))))
    (fun k => congrArg (V c (Pipeline.arrRef spec0 1)) (Shape.idx_ext₂ (origin (e1 _ 0)) ((e1 _ 1).trans (e4 1).symm)))
    (congrArg (V c (Pipeline.arrRef spec0 2)) (Shape.idx_ext₂ ((e2 _ 0).trans (e4 0).symm) (ahead (q := 16) (e2 _ 1) (e4 1) rfl)))

/-- The rounded expert weights: a copy. -/
theorem arr0_5 (c : Dev nD) : (dat0 V c).arrAt 5 cfg0.N = V c (Pipeline.arrRef spec0 3) := by
  refine (dat0 V c).arrAt_eq_of_covers 5 _ (by decide +kernel) fun t hf y => ?_
  rw [after0_5]; frame_out [out0_5]
  refine (show k0_pay1 (iblk0 V c 3 t) y = iblk0 V c 3 t y by pointwise [k0_pay1]).trans ?_
  have e := emb_val win0_3 (idx0_3 t) rfl y
  have e' := emb_val win0_5 (idx0_5 t) rfl y
  exact congrArg (V c (Pipeline.arrRef spec0 3)) (Shape.idx_ext₂ ((e 0).trans (e' 0).symm) ((e 1).trans (e' 1).symm))

/-- The prompt group's joined branches. -/
theorem arr1_4 (c : Dev nD) : (dat1 V c).arrAt 4 cfg1.N
    = joined (V c (Pipeline.arrRef spec1 0)) (V c (Pipeline.arrRef spec1 1)) (V c (Pipeline.arrRef spec1 2))
      (cols 12288 4096 (by norm_num) (V c (Pipeline.arrRef spec1 3))) := by
  refine (dat1 V c).arrAt_eq_of_covers 4 _ (by decide +kernel) fun t hf y => ?_
  rw [after1_4]; frame_out [out1_4]
  refine (pay1_1 _ _ _ _ y).trans ?_
  have e0 := emb_val win1_0 (idx1_0 t) rfl
  have e1 := emb_val win1_1 (idx1_1 t) rfl
  have e2 := emb_val win1_2 (idx1_2 t) rfl
  have e3 := emb_val win1_3 (idx1_3 t) rfl
  have e4 := emb_val win1_4 (idx1_4 t) rfl y
  exact scaled_congr
    (fun k => congrArg (V c (Pipeline.arrRef spec1 0)) (Shape.idx_ext₂ ((e0 _ 0).trans (e4 0).symm) (origin (e0 _ 1))))
    (fun k => congrArg (V c (Pipeline.arrRef spec1 1)) (Shape.idx_ext₂ (origin (e1 _ 0)) ((e1 _ 1).trans (e4 1).symm)))
    (congrArg (V c (Pipeline.arrRef spec1 2)) (Shape.idx_ext₂ ((e2 _ 0).trans (e4 0).symm) ((e2 _ 1).trans (e4 1).symm)))
    (congrArg Ideal.logistic (congrArg (V c (Pipeline.arrRef spec1 3)) (Shape.idx_ext₂ ((e3 _ 0).trans (e4 0).symm) (ahead (q := 12) (e3 _ 1) (e4 1) rfl))))

/-- The sample group's scan branch. -/
theorem arr5_3 (c : Dev nD) : (dat5 V c).arrAt 3 cfg5.N
    = gated (V c (Pipeline.arrRef spec5 0)) (V c (Pipeline.arrRef spec5 1)) (cols 8192 4096 (by norm_num) (V c (Pipeline.arrRef spec5 2))) := by
  refine (dat5 V c).arrAt_eq_of_covers 3 _ (by decide +kernel) fun t hf y => ?_
  rw [after5_3]; frame_out [out5_3]
  refine (pay5_1 _ _ _ y).trans ?_
  have e0 := emb_val win5_0 (idx5_0 t) rfl
  have e1 := emb_val win5_1 (idx5_1 t) rfl
  have e2 := emb_val win5_2 (idx5_2 t) rfl
  have e3 := emb_val win5_3 (idx5_3 t) rfl y
  exact gated_congr
    (fun k => congrArg (V c (Pipeline.arrRef spec5 0)) (Shape.idx_ext₂ ((e0 _ 0).trans (e3 0).symm) (origin (e0 _ 1))))
    (fun k => congrArg (V c (Pipeline.arrRef spec5 1)) (Shape.idx_ext₂ (origin (e1 _ 0)) ((e1 _ 1).trans (e3 1).symm)))
    (congrArg (V c (Pipeline.arrRef spec5 2)) (Shape.idx_ext₂ ((e2 _ 0).trans (e3 0).symm) (ahead (q := 16) (e2 _ 1) (e3 1) rfl)))

/-- The sample group's joined branches. -/
theorem arr6_4 (c : Dev nD) : (dat6 V c).arrAt 4 cfg6.N
    = joined (V c (Pipeline.arrRef spec6 0)) (V c (Pipeline.arrRef spec6 1)) (V c (Pipeline.arrRef spec6 2))
      (cols 12288 4096 (by norm_num) (V c (Pipeline.arrRef spec6 3))) := by
  refine (dat6 V c).arrAt_eq_of_covers 4 _ (by decide +kernel) fun t hf y => ?_
  rw [after6_4]; frame_out [out6_4]
  refine (pay6_1 _ _ _ _ y).trans ?_
  have e0 := emb_val win6_0 (idx6_0 t) rfl
  have e1 := emb_val win6_1 (idx6_1 t) rfl
  have e2 := emb_val win6_2 (idx6_2 t) rfl
  have e3 := emb_val win6_3 (idx6_3 t) rfl
  have e4 := emb_val win6_4 (idx6_4 t) rfl y
  exact scaled_congr
    (fun k => congrArg (V c (Pipeline.arrRef spec6 0)) (Shape.idx_ext₂ ((e0 _ 0).trans (e4 0).symm) (origin (e0 _ 1))))
    (fun k => congrArg (V c (Pipeline.arrRef spec6 1)) (Shape.idx_ext₂ (origin (e1 _ 0)) ((e1 _ 1).trans (e4 1).symm)))
    (congrArg (V c (Pipeline.arrRef spec6 2)) (Shape.idx_ext₂ ((e2 _ 0).trans (e4 0).symm) ((e2 _ 1).trans (e4 1).symm)))
    (congrArg Ideal.logistic (congrArg (V c (Pipeline.arrRef spec6 3)) (Shape.idx_ext₂ ((e3 _ 0).trans (e4 0).symm) (ahead (q := 12) (e3 _ 1) (e4 1) rfl))))

end Cert.MixerIdeal.Vals

end
-- ==== Proof.MixOut.lean ====
/-
  The output projection under its gate with the residual (`cc2_out_proj`, `cc7_out_proj`), the second normalization
  (`cc3_modnorm`, `cc8_modnorm`) and the expert query (`cc4_peer_q`, `cc9_peer_q`), read for both groups. In the prompt
  group a row's gate, scale and shift are those of its sequence, 2048 rows each; in the sample group each row has its own.
-/
module

public import proofs.«01_k».proof.Proof.Gen.MixerIdeal.Frame.Region2
public import proofs.«01_k».proof.Proof.Gen.MixerIdeal.Frame.Region3
public import proofs.«01_k».proof.Proof.Gen.MixerIdeal.Frame.Region4
public import proofs.«01_k».proof.Proof.Gen.MixerIdeal.Frame.Region7
public import proofs.«01_k».proof.Proof.Gen.MixerIdeal.Frame.Region8
public import proofs.«01_k».proof.Proof.Gen.MixerIdeal.Frame.Region9
public import proofs.«01_k».proof.Proof.MixSpec

@[expose] public section

set_option maxRecDepth 16384
set_option maxHeartbeats 2000000

noncomputable section

namespace Cert.MixerIdeal.Vals

open Idealize.ShloMosaic Idealize.ShloMosaic.TcCoe Idealize.SL.Sem
open Idealize.ShloMosaic.Pipeline (Dat)
open Idealize.ShloMosaic.Pointwise
open Cert.MixerIdeal Cert.MixerIdeal.Gen Cert.Spec

variable (V : (c : Dev nD) → (b : Ref sig .tc) → Buf (Elt Ideal) ((c : Thread nD τ).loc b))

theorem idx2_0 : ∀ t : Fin cfg2.N, win2_0.index t = ![t.val / 8, 0] := (by decide +kernel : ∀ t : Fin grid2.N, _)
theorem idx2_1 : ∀ t : Fin cfg2.N, win2_1.index t = ![0, t.val % 8] := (by decide +kernel : ∀ t : Fin grid2.N, _)
theorem idx2_2 : ∀ t : Fin cfg2.N, win2_2.index t = ![t.val / 8, t.val % 8] := (by decide +kernel : ∀ t : Fin grid2.N, _)
theorem idx2_3 : ∀ t : Fin cfg2.N, win2_3.index t = ![t.val / 16, 0, t.val % 8] := (by decide +kernel : ∀ t : Fin grid2.N, _)
theorem idx2_4 : ∀ t : Fin cfg2.N, win2_4.index t = ![t.val / 8, t.val % 8] := (by decide +kernel : ∀ t : Fin grid2.N, _)

theorem idx3_0 : ∀ t : Fin cfg3.N, win3_0.index t = ![t.val, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![t.val / 4, 0, 0] := (by decide +kernel : ∀ t : Fin grid3.N, _)
theorem idx3_3 : ∀ t : Fin cfg3.N, win3_3.index t = ![t.val / 4, 0, 0] := (by decide +kernel : ∀ t : Fin grid3.N, _)
theorem idx3_4 : ∀ t : Fin cfg3.N, win3_4.index t = ![t.val, 0] := (by decide +kernel : ∀ t : Fin grid3.N, _)

theorem idx4_0 : ∀ t : Fin cfg4.N, win4_0.index t = ![t.val / 2, 0] := (by decide +kernel : ∀ t : Fin grid4.N, _)
theorem idx4_1 : ∀ t : Fin cfg4.N, win4_1.index t = ![0, t.val % 2] := (by decide +kernel : ∀ t : Fin grid4.N, _)
theorem idx4_2 : ∀ t : Fin cfg4.N, win4_2.index t = ![t.val / 2, t.val % 2] := (by decide +kernel : ∀ t : Fin grid4.N, _)

theorem idx7_0 : ∀ t : Fin cfg7.N, win7_0.index t = ![0, 0] := (by decide +kernel : ∀ t : Fin grid7.N, _)
theorem idx7_1 : ∀ t : Fin cfg7.N, win7_1.index t = ![0, t.val] := (by decide +kernel : ∀ t : Fin grid7.N, _)
theorem idx7_2 : ∀ t : Fin cfg7.N, win7_2.index t = ![0, t.val] := (by decide +kernel : ∀ t : Fin grid7.N, _)
theorem idx7_3 : ∀ t : Fin cfg7.N, win7_3.index t = ![0, 0, t.val] := (by decide +kernel : ∀ t : Fin grid7.N, _)
theorem idx7_4 : ∀ t : Fin cfg7.N, win7_4.index t = ![0, t.val] := (by decide +kernel : ∀ t : Fin grid7.N, _)

theorem idx8_0 : ∀ t : Fin cfg8.N, win8_0.index t = ![0, 0] := (by decide +kernel : ∀ t : Fin grid8.N, _)
theorem idx8_1 : ∀ t : Fin cfg8.N, win8_1.index t = ![0, 0] := (by decide +kernel : ∀ t : Fin grid8.N, _)
theorem idx8_2 : ∀ t : Fin cfg8.N, win8_2.index t = ![0, 0, 0] := (by decide +kernel : ∀ t : Fin grid8.N, _)
theorem idx8_3 : ∀ t : Fin cfg8.N, win8_3.index t = ![0, 0, 0] := (by decide +kernel : ∀ t : Fin grid8.N, _)
theorem idx8_4 : ∀ t : Fin cfg8.N, win8_4.index t = ![0, 0] := (by decide +kernel : ∀ t : Fin grid8.N, _)

theorem idx9_0 : ∀ t : Fin cfg9.N, win9_0.index t = ![0, 0] := (by decide +kernel : ∀ t : Fin grid9.N, _)
theorem idx9_1 : ∀ t : Fin cfg9.N, win9_1.index t = ![0, t.val] := (by decide +kernel : ∀ t : Fin grid9.N, _)
theorem idx9_2 : ∀ t : Fin cfg9.N, win9_2.index t = ![0, t.val] := (by decide +kernel : ∀ t : Fin grid9.N, _)

theorem pay2 (x : Vec Ideal S1024x4096 .bf16) (w : Vec Ideal S4096x512 .bf16) (r : Vec Ideal S1024x512 .f32) (g : Vec Ideal S1x1x512 .f32) (j : S1024x512.Idx) :
    k2_pay1 x w r g j = scaled x w r (fun i => g (ix3 0 0 (i 1))) j := by
  pointwise [k2_pay1, scaled, prod]

theorem pay7 (x : Vec Ideal S512x4096 .bf16) (w : Vec Ideal S4096x512 .bf16) (r : Vec Ideal S512x512 .f32) (g : Vec Ideal S1x512x512 .f32) (j : S512x512.Idx) :
    k7_pay1 x w r g j = scaled x w r (fun i => g (ix3 0 (i 0) (i 1))) j := by
  pointwise [k7_pay1, scaled, prod]

theorem pay3 (x : Vec Ideal S512x4096 .f32) (g : Vec Ideal S1x4096 .f32) (sc sh : Vec Ideal S1x1x4096 .f32) (j : S512x4096.Idx) :
    k3_pay1 x g sc sh j = rows (fun _ => (0, 0)) x g sc sh j := by
  pointwise [k3_pay1, rows, normed]

theorem pay8 (x : Vec Ideal S512x4096 .f32) (g : Vec Ideal S1x4096 .f32) (sc sh : Vec Ideal S1x512x4096 .f32) (j : S512x4096.Idx) :
    k8_pay1 x g sc sh j = rows (fun r => (0, r)) x g sc sh j := by
  pointwise [k8_pay1, rows, normed]

theorem pay4 (x : Vec Ideal S1024x4096 .bf16) (w : Vec Ideal S4096x1024 .bf16) (j : S1024x1024.Idx) : k4_pay1 x w j = prod x w j := by
  pointwise [k4_pay1, prod]

theorem pay9 (x : Vec Ideal S512x4096 .bf16) (w : Vec Ideal S4096x1024 .bf16) (j : S512x1024.Idx) : k9_pay1 x w j = prod x w j := by
  pointwise [k9_pay1, prod]

/-- The prompt group's state after mixing. -/
theorem arr2_4 (c : Dev nD) : (dat2 V c).arrAt 4 cfg2.N
    = scaled (V c (Pipeline.arrRef spec2 0)) (V c (Pipeline.arrRef spec2 1)) (V c (Pipeline.arrRef spec2 2))
      (fun i => (V c (Pipeline.arrRef spec2 3)) (ix3 (seqP (i 0)) 0 (i 1))) := by
  refine (dat2 V c).arrAt_eq_of_covers 4 _ (by decide +kernel) fun t hf y => ?_
  rw [after2_4]; frame_out [out2_4]
  refine (pay2 _ _ _ _ y).trans ?_
  have e0 := emb_val win2_0 (idx2_0 t) rfl
  have e1 := emb_val win2_1 (idx2_1 t) rfl
  have e2 := emb_val win2_2 (idx2_2 t) rfl
  have e3 := emb_val win2_3 (idx2_3 t) rfl
  have e4 := emb_val win2_4 (idx2_4 t) rfl y
  have hb : ∀ z : Nat, z = t.val / 16 * 1 + 0 → z = (((win2_4.rect t).emb y) 0 : Nat) / 2048 := by
    intro z hz
    have h0 : (((win2_4.rect t).emb y) 0 : Nat) = t.val / 8 * 1024 + (y 0).val := e4 0
    have hy : (y 0).val < 1024 := (y 0).isLt
    omega
  exact scaled_congr
    (fun k => congrArg (V c (Pipeline.arrRef spec2 0)) (Shape.idx_ext₂ ((e0 _ 0).trans (e4 0).symm) (origin (e0 _ 1))))
    (fun k => congrArg (V c (Pipeline.arrRef spec2 1)) (Shape.idx_ext₂ (origin (e1 _ 0)) ((e1 _ 1).trans (e4 1).symm)))
    (congrArg (V c (Pipeline.arrRef spec2 2)) (Shape.idx_ext₂ ((e2 _ 0).trans (e4 0).symm) ((e2 _ 1).trans (e4 1).symm)))
    (congrArg (V c (Pipeline.arrRef spec2 3)) (idx_ext_three (hb _ (e3 _ 0)) (origin (e3 _ 1)) ((e3 _ 2).trans (e4 1).symm)))

/-- The prompt group's second normalized rows. -/
theorem arr3_4 (c : Dev nD) : (dat3 V c).arrAt 4 cfg3.N
    = rows (fun r : Fin 8192 => (seqP r, 0)) (V c (Pipeline.arrRef spec3 0))
      (V c (Pipeline.arrRef spec3 1)) (V c (Pipeline.arrRef spec3 2)) (V c (Pipeline.arrRef spec3 3)) := by
  refine (dat3 V c).arrAt_eq_of_covers 4 _ (by decide +kernel) fun t hf y => ?_
  rw [after3_4]; frame_out [out3_4]
  refine (pay3 _ _ _ _ y).trans ?_
  have e0 := emb_val win3_0 (idx3_0 t) rfl
  have e1 := emb_val win3_1 (idx3_1 t) rfl
  have e2 := emb_val win3_2 (idx3_2 t) rfl
  have e3 := emb_val win3_3 (idx3_3 t) rfl
  have e4 := emb_val win3_4 (idx3_4 t) rfl y
  have hb : ∀ z : Nat, z = (t.val / 4) * 1 + 0 → z = (((win3_4.rect t).emb y) 0 : Nat) / 2048 := by
    intro z hz
    have h0 : (((win3_4.rect t).emb y) 0 : Nat) = t.val * 512 + (y 0).val := e4 0
    have hy : (y 0).val < 512 := (y 0).isLt
    omega
  exact rows_congr (Fin.ext (origin (e4 1)).symm)
    (fun k => congrArg (V c (Pipeline.arrRef spec3 0)) (Shape.idx_ext₂ ((e0 _ 0).trans (e4 0).symm) (origin (e0 _ 1))))
    (fun d => congrArg (V c (Pipeline.arrRef spec3 1)) (Shape.idx_ext₂ (origin (e1 _ 0)) (origin (e1 _ 1))))
    (fun d => congrArg (V c (Pipeline.arrRef spec3 2)) (idx_ext_three (hb _ (e2 _ 0)) (origin (e2 _ 1)) (origin (e2 _ 2))))
    (fun d => congrArg (V c (Pipeline.arrRef spec3 3)) (idx_ext_three (hb _ (e3 _ 0)) (origin (e3 _ 1)) (origin (e3 _ 2))))

/-- The prompt group's expert query. -/
theorem arr4_2 (c : Dev nD) : (dat4 V c).arrAt 2 cfg4.N
    = prod (V c (Pipeline.arrRef spec4 0)) (V c (Pipeline.arrRef spec4 1)) := by
  refine (dat4 V c).arrAt_eq_of_covers 2 _ (by decide +kernel) fun t hf y => ?_
  rw [after4_2]; frame_out [out4_2]
  refine (pay4 _ _ y).trans ?_
  have e0 := emb_val win4_0 (idx4_0 t) rfl
  have e1 := emb_val win4_1 (idx4_1 t) rfl
  have e2 := emb_val win4_2 (idx4_2 t) rfl y
  exact prod_congr
    (fun k => congrArg (V c (Pipeline.arrRef spec4 0)) (Shape.idx_ext₂ ((e0 _ 0).trans (e2 0).symm) (origin (e0 _ 1))))
    (fun k => congrArg (V c (Pipeline.arrRef spec4 1)) (Shape.idx_ext₂ (origin (e1 _ 0)) ((e1 _ 1).trans (e2 1).symm)))

/-- The sample group's state after mixing. -/
theorem arr7_4 (c : Dev nD) : (dat7 V c).arrAt 4 cfg7.N
    = scaled (V c (Pipeline.arrRef spec7 0)) (V c (Pipeline.arrRef spec7 1)) (V c (Pipeline.arrRef spec7 2))
      (fun i => (V c (Pipeline.arrRef spec7 3)) (ix3 0 (i 0) (i 1))) := by
  refine (dat7 V c).arrAt_eq_of_covers 4 _ (by decide +kernel) fun t hf y => ?_
  rw [after7_4]; frame_out [out7_4]
  refine (pay7 _ _ _ _ y).trans ?_
  have e0 := emb_val win7_0 (idx7_0 t) rfl
  have e1 := emb_val win7_1 (idx7_1 t) rfl
  have e2 := emb_val win7_2 (idx7_2 t) rfl
  have e3 := emb_val win7_3 (idx7_3 t) rfl
  have e4 := emb_val win7_4 (idx7_4 t) rfl y
  exact scaled_congr
    (fun k => congrArg (V c (Pipeline.arrRef spec7 0)) (Shape.idx_ext₂ ((e0 _ 0).trans (e4 0).symm) (origin (e0 _ 1))))
    (fun k => congrArg (V c (Pipeline.arrRef spec7 1)) (Shape.idx_ext₂ (origin (e1 _ 0)) ((e1 _ 1).trans (e4 1).symm)))
    (congrArg (V c (Pipeline.arrRef spec7 2)) (Shape.idx_ext₂ ((e2 _ 0).trans (e4 0).symm) ((e2 _ 1).trans (e4 1).symm)))
    (congrArg (V c (Pipeline.arrRef spec7 3)) (idx_ext_three (origin (e3 _ 0)) ((e3 _ 1).trans (e4 0).symm) ((e3 _ 2).trans (e4 1).symm)))

/-- The sample group's second normalized rows. -/
theorem arr8_4 (c : Dev nD) : (dat8 V c).arrAt 4 cfg8.N
    = rows (fun r => (0, r)) (V c (Pipeline.arrRef spec8 0)) (V c (Pipeline.arrRef spec8 1)) (V c (Pipeline.arrRef spec8 2))
      (V c (Pipeline.arrRef spec8 3)) := by
  refine (dat8 V c).arrAt_eq_of_covers 4 _ (by decide +kernel) fun t hf y => ?_
  rw [after8_4]; frame_out [out8_4]
  refine (pay8 _ _ _ _ y).trans ?_
  have e0 := emb_val win8_0 (idx8_0 t) rfl
  have e1 := emb_val win8_1 (idx8_1 t) rfl
  have e2 := emb_val win8_2 (idx8_2 t) rfl
  have e3 := emb_val win8_3 (idx8_3 t) rfl
  have e4 := emb_val win8_4 (idx8_4 t) rfl y
  have hr := (origin (e4 0)).symm
  exact rows_congr (Fin.ext (origin (e4 1)).symm)
    (fun k => congrArg (V c (Pipeline.arrRef spec8 0)) (Shape.idx_ext₂ ((origin (e0 _ 0)).trans hr) (origin (e0 _ 1))))
    (fun d => congrArg (V c (Pipeline.arrRef spec8 1)) (Shape.idx_ext₂ (origin (e1 _ 0)) (origin (e1 _ 1))))
    (fun d => congrArg (V c (Pipeline.arrRef spec8 2)) (idx_ext_three (origin (e2 _ 0)) ((origin (e2 _ 1)).trans hr) (origin (e2 _ 2))))
    (fun d => congrArg (V c (Pipeline.arrRef spec8 3)) (idx_ext_three (origin (e3 _ 0)) ((origin (e3 _ 1)).trans hr) (origin (e3 _ 2))))

/-- The sample group's expert query. -/
theorem arr9_2 (c : Dev nD) : (dat9 V c).arrAt 2 cfg9.N
    = prod (V c (Pipeline.arrRef spec9 0)) (V c (Pipeline.arrRef spec9 1)) := by
  refine (dat9 V c).arrAt_eq_of_covers 2 _ (by decide +kernel) fun t hf y => ?_
  rw [after9_2]; frame_out [out9_2]
  refine (pay9 _ _ y).trans ?_
  have e0 := emb_val win9_0 (idx9_0 t) rfl
  have e1 := emb_val win9_1 (idx9_1 t) rfl
  have e2 := emb_val win9_2 (idx9_2 t) rfl y
  exact prod_congr
    (fun k => congrArg (V c (Pipeline.arrRef spec9 0)) (Shape.idx_ext₂ ((e0 _ 0).trans (e2 0).symm) (origin (e0 _ 1))))
    (fun k => congrArg (V c (Pipeline.arrRef spec9 1)) (Shape.idx_ext₂ (origin (e1 _ 0)) ((e1 _ 1).trans (e2 1).symm)))

end Cert.MixerIdeal.Vals

end
-- ==== Proof.MixValues.lean ====
/-
  What the mixing half's result buffers hold when the program ends, as functions of the argument arrays: the contents
  followed from the launch through the operations and the calls.
-/
module

public import proofs.«01_k».proof.Proof.MixHost
public import proofs.«01_k».proof.Proof.MixBranches
public import proofs.«01_k».proof.Proof.MixOut

@[expose] public section

set_option maxRecDepth 16384
set_option maxHeartbeats 2000000

noncomputable section

namespace Cert.MixerIdeal.Vals

open Idealize.ShloMosaic Idealize.ShloMosaic.TcCoe Idealize.SL.Sem
open Idealize.ShloMosaic.StableHlo
open Idealize.ShloMosaic.Pointwise
open Cert.MixerIdeal Cert.MixerIdeal.Gen Cert.Spec

variable (m : (ℓ : Loc nD τ sig) → Buf (Elt Ideal) ℓ) (ρ : Dev nD → PrngReg) (c : Dev nD)

/-! ### The prompt group -/

/-- The prompt group's scan branch. -/
abbrev branchP : Arr ⟨2, ![8192, 4096]⟩ :=
  gated (m ((c : Thread nD τ).loc main_arg2)) (m ((c : Thread nD τ).loc main_arg10)) (cols 8192 4096 (by norm_num) (m ((c : Thread nD τ).loc main_arg4)))

/-- The prompt group's state after mixing. -/
abbrev xP : Arr ⟨2, ![8192, 4096]⟩ :=
  mixed seqP (tokP (m ((c : Thread nD τ).loc main_arg0))) (m ((c : Thread nD τ).loc main_arg2)) (m ((c : Thread nD τ).loc main_arg4))
    (m ((c : Thread nD τ).loc main_arg6)) (m ((c : Thread nD τ).loc main_arg8)) (m ((c : Thread nD τ).loc main_arg10))
    (m ((c : Thread nD τ).loc main_arg11)) (m ((c : Thread nD τ).loc main_arg12))

theorem branch_p : (W2 m ρ c main_v61_0 : Vec Ideal S8192x4096 .bf16) = branchP m c :=
  ((W2_arr m ρ c 4).trans (arr0_4 (V1 m ρ) c)).trans (funext fun i => gated_congr
    (fun k => congrFun (W1_args m ρ c main_arg2 (by decide)) _) (fun k => congrFun (W1_args m ρ c main_arg10 (by decide)) _)
    (congrFun (W1_args m ρ c main_arg4 (by decide)) _))

theorem table_p : (W2 m ρ c main_v61_1 : Vec Ideal S16384x4096 .bf16) = layer (m ((c : Thread nD τ).loc main_arg15)) :=
  ((W2_arr m ρ c 5).trans (arr0_5 (V1 m ρ) c)).trans (funext fun i =>
    (congrArg (W1 m ρ c main_v60 : Vec Ideal S16384x4096 .f32) (ix2_of i)).trans (h0_v60 (W0 m ρ c) (i 0) (i 1)))

theorem joined_p : (W3 m ρ c main_v62 : Vec Ideal S8192x4096 .bf16)
    = joined (m ((c : Thread nD τ).loc main_arg6)) (m ((c : Thread nD τ).loc main_arg11)) (branchP m c)
      (cols 12288 4096 (by norm_num) (m ((c : Thread nD τ).loc main_arg4))) :=
  ((W3_arr m ρ c 4).trans (arr1_4 (V2 m ρ) c)).trans (funext fun i => scaled_congr
    (fun k => congrFun (W2_args m ρ c main_arg6 (by decide)) _) (fun k => congrFun (W2_args m ρ c main_arg11 (by decide)) _)
    (congrFun (branch_p m ρ c) i) (congrArg Ideal.logistic (congrFun (W2_args m ρ c main_arg4 (by decide)) _)))

/-- From the first call to the prompt group's output projection, for a buffer neither branch's call writes. -/
theorem w3_1 (r : Ref sig .tc) (h2 : ∀ w : Fin cfg0.W, Pipeline.arrRef spec0 w = r → (cfg0.win w).isOut = false)
    (h3 : ∀ w : Fin cfg1.W, Pipeline.arrRef spec1 w = r → (cfg1.win w).isOut = false) :
    W3 m ρ c (Proc.devRef .tc r) = W1 m ρ c (Proc.devRef .tc r) :=
  (W3_of m ρ c r h3).trans (W2_of m ρ c r h2)

theorem w5_1 (r : Ref sig .tc) (h2 : ∀ w : Fin cfg0.W, Pipeline.arrRef spec0 w = r → (cfg0.win w).isOut = false)
    (h3 : ∀ w : Fin cfg1.W, Pipeline.arrRef spec1 w = r → (cfg1.win w).isOut = false)
    (h4 : ∀ w : Fin cfg2.W, Pipeline.arrRef spec2 w = r → (cfg2.win w).isOut = false) (h5 : r ∉ hostOps3_W) :
    W5 m ρ c (Proc.devRef .tc r) = W1 m ρ c (Proc.devRef .tc r) :=
  (W5_of m ρ c r h5).trans ((W4_of m ρ c r h4).trans (w3_1 m ρ c r h2 h3))

theorem x_p : (W4 m ρ c main_v63 : Vec Ideal S8192x4096 .f32) = xP m c :=
  ((W4_arr m ρ c 4).trans (arr2_4 (V3 m ρ) c)).trans (funext fun i => scaled_congr
    (fun k => congrFun (joined_p m ρ c) _) (fun k => congrFun (W3_args m ρ c main_arg12 (by decide)) _)
    ((congrFun (w3_1 m ρ c main_v0 (by decide +kernel) (by decide +kernel)) i).trans
      ((congrArg (W1 m ρ c main_v0 : Vec Ideal S8192x4096 .f32) (ix2_of i)).trans (h0_v0 (W0 m ρ c) (i 0) (i 1))))
    ((congrFun (w3_1 m ρ c main_v13 (by decide +kernel) (by decide +kernel)) _).trans (h0_v13 (W0 m ρ c) _ _)))

theorem x_p5 : (W5 m ρ c main_v63 : Vec Ideal S8192x4096 .f32) = xP m c :=
  (W5_of m ρ c main_v63 (by decide)).trans (x_p m ρ c)

theorem gain1 (d : Fin 4096) : (W1 m ρ c main_v59 : Vec Ideal S4096 .f32) (ix1 d)
    = (m ((c : Thread nD τ).loc main_arg13) : Vec Ideal S1x4096 .f32) (ix2 0 d) := h0_v59 (W0 m ρ c) d

/-- The prompt group's normalized rows. -/
abbrev hP : Arr ⟨2, ![8192, 4096]⟩ :=
  normedRows seqP (xP m c) (m ((c : Thread nD τ).loc main_arg8)) (m ((c : Thread nD τ).loc main_arg13))

theorem h_p : (W6 m ρ c main_v65 : Vec Ideal S8192x4096 .bf16) = hP m c :=
  ((W6_arr m ρ c 4).trans (arr3_4 (V5 m ρ) c)).trans (funext fun i => normed_congr rfl
    (fun k => congrFun (x_p5 m ρ c) _)
    (fun d => (h3_v64 (W4 m ρ c) d).trans ((congrFun ((W4_of m ρ c main_v59 (by decide +kernel)).trans
      (w3_1 m ρ c main_v59 (by decide +kernel) (by decide +kernel))) _).trans (gain1 m ρ c d)))
    (fun d => (congrFun (w5_1 m ρ c main_v19 (by decide +kernel) (by decide +kernel) (by decide +kernel) (by decide)) _).trans
      (h0_v19 (W0 m ρ c) _ d))
    (fun d => (congrFun (w5_1 m ρ c main_v16 (by decide +kernel) (by decide +kernel) (by decide +kernel) (by decide)) _).trans
      (h0_v16 (W0 m ρ c) _ d)))

theorem q_p : (W7 m ρ c main_v66 : Vec Ideal S8192x2048 .f32) = prod (hP m c) (m ((c : Thread nD τ).loc main_arg14)) :=
  ((W7_arr m ρ c 2).trans (arr4_2 (V6 m ρ) c)).trans (congrArg₂ prod (h_p m ρ c) (W6_args m ρ c main_arg14 (by decide)))

/-! ### The sample group -/

/-- The sample group's scan branch. -/
abbrev branchS : Arr ⟨2, ![512, 4096]⟩ :=
  gated (m ((c : Thread nD τ).loc main_arg3)) (m ((c : Thread nD τ).loc main_arg10)) (cols 8192 4096 (by norm_num) (m ((c : Thread nD τ).loc main_arg5)))

/-- The sample group's state after mixing. -/
abbrev xS : Arr ⟨2, ![512, 4096]⟩ :=
  mixed seqS (tokS (m ((c : Thread nD τ).loc main_arg1))) (m ((c : Thread nD τ).loc main_arg3)) (m ((c : Thread nD τ).loc main_arg5))
    (m ((c : Thread nD τ).loc main_arg7)) (m ((c : Thread nD τ).loc main_arg9)) (m ((c : Thread nD τ).loc main_arg10))
    (m ((c : Thread nD τ).loc main_arg11)) (m ((c : Thread nD τ).loc main_arg12))

theorem branch_s : (W8 m ρ c main_v67 : Vec Ideal S512x4096 .bf16) = branchS m c :=
  ((W8_arr m ρ c 3).trans (arr5_3 (V7 m ρ) c)).trans (funext fun i => gated_congr
    (fun k => congrFun (W7_args m ρ c main_arg3 (by decide)) _) (fun k => congrFun (W7_args m ρ c main_arg10 (by decide)) _)
    (congrFun (W7_args m ρ c main_arg5 (by decide)) _))

theorem joined_s : (W9 m ρ c main_v68 : Vec Ideal S512x4096 .bf16)
    = joined (m ((c : Thread nD τ).loc main_arg7)) (m ((c : Thread nD τ).loc main_arg11)) (branchS m c)
      (cols 12288 4096 (by norm_num) (m ((c : Thread nD τ).loc main_arg5))) :=
  ((W9_arr m ρ c 4).trans (arr6_4 (V8 m ρ) c)).trans (funext fun i => scaled_congr
    (fun k => congrFun (W8_args m ρ c main_arg7 (by decide)) _) (fun k => congrFun (W8_args m ρ c main_arg11 (by decide)) _)
    (congrFun (branch_s m ρ c) i) (congrArg Ideal.logistic (congrFun (W8_args m ρ c main_arg5 (by decide)) _)))

/-- From the launch's operations to the sample group's output projection. -/
theorem w9_1 (r : Ref sig .tc) (h2 : ∀ w : Fin cfg0.W, Pipeline.arrRef spec0 w = r → (cfg0.win w).isOut = false)
    (h3 : ∀ w : Fin cfg1.W, Pipeline.arrRef spec1 w = r → (cfg1.win w).isOut = false)
    (h4 : ∀ w : Fin cfg2.W, Pipeline.arrRef spec2 w = r → (cfg2.win w).isOut = false) (h5 : r ∉ hostOps3_W)
    (h6 : ∀ w : Fin cfg3.W, Pipeline.arrRef spec3 w = r → (cfg3.win w).isOut = false)
    (h7 : ∀ w : Fin cfg4.W, Pipeline.arrRef spec4 w = r → (cfg4.win w).isOut = false)
    (h8 : ∀ w : Fin cfg5.W, Pipeline.arrRef spec5 w = r → (cfg5.win w).isOut = false)
    (h9 : ∀ w : Fin cfg6.W, Pipeline.arrRef spec6 w = r → (cfg6.win w).isOut = false) :
    W9 m ρ c (Proc.devRef .tc r) = W1 m ρ c (Proc.devRef .tc r) :=
  (W9_of m ρ c r h9).trans ((W8_of m ρ c r h8).trans ((W7_of m ρ c r h7).trans ((W6_of m ρ c r h6).trans (w5_1 m ρ c r h2 h3 h4 h5))))

theorem kept_v2 : W9 m ρ c main_v2 = W1 m ρ c main_v2 :=
  w9_1 m ρ c main_v2 (by decide +kernel) (by decide +kernel) (by decide +kernel) (by decide) (by decide +kernel) (by decide +kernel)
    (by decide +kernel) (by decide +kernel)

theorem kept_v40 : W9 m ρ c main_v40 = W1 m ρ c main_v40 :=
  w9_1 m ρ c main_v40 (by decide +kernel) (by decide +kernel) (by decide +kernel) (by decide) (by decide +kernel) (by decide +kernel)
    (by decide +kernel) (by decide +kernel)

theorem kept_v46 : W9 m ρ c main_v46 = W1 m ρ c main_v46 :=
  w9_1 m ρ c main_v46 (by decide +kernel) (by decide +kernel) (by decide +kernel) (by decide) (by decide +kernel) (by decide +kernel)
    (by decide +kernel) (by decide +kernel)

theorem kept_v52 : W9 m ρ c main_v52 = W1 m ρ c main_v52 :=
  w9_1 m ρ c main_v52 (by decide +kernel) (by decide +kernel) (by decide +kernel) (by decide) (by decide +kernel) (by decide +kernel)
    (by decide +kernel) (by decide +kernel)

theorem kept_v59 : W9 m ρ c main_v59 = W1 m ρ c main_v59 :=
  w9_1 m ρ c main_v59 (by decide +kernel) (by decide +kernel) (by decide +kernel) (by decide) (by decide +kernel) (by decide +kernel)
    (by decide +kernel) (by decide +kernel)

theorem x_s : (W10 m ρ c main_v69 : Vec Ideal S512x4096 .f32) = xS m c :=
  ((W10_arr m ρ c 4).trans (arr7_4 (V9 m ρ) c)).trans (funext fun i => scaled_congr
    (fun k => congrFun (joined_s m ρ c) _) (fun k => congrFun (W9_args m ρ c main_arg12 (by decide)) _)
    ((congrFun (kept_v2 m ρ c) i).trans
      ((congrArg (W1 m ρ c main_v2 : Vec Ideal S512x4096 .f32) (ix2_of i)).trans (h0_v2 (W0 m ρ c) (i 0) (i 1))))
    ((congrFun (kept_v40 m ρ c) _).trans (h0_v40 (W0 m ρ c) _ _)))

theorem x_s11 : (W11 m ρ c main_v69 : Vec Ideal S512x4096 .f32) = xS m c :=
  (W11_of m ρ c main_v69 (by decide)).trans (x_s m ρ c)

/-- The sample group's normalized rows. -/
abbrev hS : Arr ⟨2, ![512, 4096]⟩ :=
  normedRows seqS (xS m c) (m ((c : Thread nD τ).loc main_arg9)) (m ((c : Thread nD τ).loc main_arg13))

theorem h_s : (W12 m ρ c main_v71 : Vec Ideal S512x4096 .bf16) = hS m c :=
  ((W12_arr m ρ c 4).trans (arr8_4 (V11 m ρ) c)).trans (funext fun i => normed_congr rfl
    (fun k => congrFun (x_s11 m ρ c) _)
    (fun d => (h8_v70 (W10 m ρ c) d).trans ((congrFun ((W10_of m ρ c main_v59 (by decide +kernel)).trans (kept_v59 m ρ c)) _).trans
      (gain1 m ρ c d)))
    (fun d => (congrFun ((W11_of m ρ c main_v52 (by decide)).trans ((W10_of m ρ c main_v52 (by decide +kernel)).trans (kept_v52 m ρ c))) _).trans
      (h0_v52 (W0 m ρ c) _ d))
    (fun d => (congrFun ((W11_of m ρ c main_v46 (by decide)).trans ((W10_of m ρ c main_v46 (by decide +kernel)).trans (kept_v46 m ρ c))) _).trans
      (h0_v46 (W0 m ρ c) _ d)))

/-! ### The result buffers at the end -/

/-- A buffer that nothing writes after the prompt group's last call. -/
theorem w13_7 (r : Ref sig .tc) (h8 : ∀ w : Fin cfg5.W, Pipeline.arrRef spec5 w = r → (cfg5.win w).isOut = false)
    (h9 : ∀ w : Fin cfg6.W, Pipeline.arrRef spec6 w = r → (cfg6.win w).isOut = false)
    (h10 : ∀ w : Fin cfg7.W, Pipeline.arrRef spec7 w = r → (cfg7.win w).isOut = false) (h11 : r ∉ hostOps8_W)
    (h12 : ∀ w : Fin cfg8.W, Pipeline.arrRef spec8 w = r → (cfg8.win w).isOut = false)
    (h13 : ∀ w : Fin cfg9.W, Pipeline.arrRef spec9 w = r → (cfg9.win w).isOut = false) :
    W13 m ρ c (Proc.devRef .tc r) = W7 m ρ c (Proc.devRef .tc r) :=
  (W13_of m ρ c r h13).trans ((W12_of m ρ c r h12).trans ((W11_of m ρ c r h11).trans ((W10_of m ρ c r h10).trans
    ((W9_of m ρ c r h9).trans (W8_of m ρ c r h8)))))

theorem end_x_p : (W13 m ρ c main_v63 : Vec Ideal S8192x4096 .f32) = xP m c :=
  (w13_7 m ρ c main_v63 (by decide +kernel) (by decide +kernel) (by decide +kernel) (by decide) (by decide +kernel) (by decide +kernel)).trans
    ((W7_of m ρ c main_v63 (by decide +kernel)).trans ((W6_of m ρ c main_v63 (by decide +kernel)).trans (x_p5 m ρ c)))

theorem end_h_p : (W13 m ρ c main_v65 : Vec Ideal S8192x4096 .bf16) = hP m c :=
  (w13_7 m ρ c main_v65 (by decide +kernel) (by decide +kernel) (by decide +kernel) (by decide) (by decide +kernel) (by decide +kernel)).trans
    ((W7_of m ρ c main_v65 (by decide +kernel)).trans (h_p m ρ c))

theorem end_q_p : (W13 m ρ c main_v66 : Vec Ideal S8192x2048 .f32) = prod (hP m c) (m ((c : Thread nD τ).loc main_arg14)) :=
  (w13_7 m ρ c main_v66 (by decide +kernel) (by decide +kernel) (by decide +kernel) (by decide) (by decide +kernel) (by decide +kernel)).trans
    (q_p m ρ c)

theorem end_x_s : (W13 m ρ c main_v69 : Vec Ideal S512x4096 .f32) = xS m c :=
  (W13_of m ρ c main_v69 (by decide +kernel)).trans ((W12_of m ρ c main_v69 (by decide +kernel)).trans (x_s11 m ρ c))

theorem end_h_s : (W13 m ρ c main_v71 : Vec Ideal S512x4096 .bf16) = hS m c :=
  (W13_of m ρ c main_v71 (by decide +kernel)).trans (h_s m ρ c)

theorem end_q_s : (W13 m ρ c main_v72 : Vec Ideal S512x2048 .f32) = prod (hS m c) (m ((c : Thread nD τ).loc main_arg14)) :=
  ((W13_arr m ρ c 2).trans (arr9_2 (V12 m ρ) c)).trans (congrArg₂ prod (h_s m ρ c) (W12_args m ρ c main_arg14 (by decide)))

theorem end_table : (W13 m ρ c main_v61_1 : Vec Ideal S16384x4096 .bf16) = layer (m ((c : Thread nD τ).loc main_arg15)) :=
  (w13_7 m ρ c main_v61_1 (by decide +kernel) (by decide +kernel) (by decide +kernel) (by decide) (by decide +kernel) (by decide +kernel)).trans
    ((W7_of m ρ c main_v61_1 (by decide +kernel)).trans ((W6_of m ρ c main_v61_1 (by decide +kernel)).trans
    ((W5_of m ρ c main_v61_1 (by decide)).trans ((W4_of m ρ c main_v61_1 (by decide +kernel)).trans
    ((W3_of m ρ c main_v61_1 (by decide +kernel)).trans (table_p m ρ c))))))

end Cert.MixerIdeal.Vals

end
-- ==== Proof.MixRef.lean ====
/-
  What the mixing half's reference returns, as the same functions of the argument arrays as the kernel's result buffers.
-/
module

public import proofs.«01_k».proof.Proof.MixSpec
public import proofs.«01_k».proof.Proof.Gen.MixerReferenceIdeal.Read

@[expose] public section

set_option maxRecDepth 16384
set_option maxHeartbeats 2000000

noncomputable section

namespace Cert.MixerReferenceIdeal.Vals

open Idealize.ShloMosaic Idealize.ShloMosaic.TcCoe Idealize.SL.Sem
open Idealize.ShloMosaic.Pointwise
open Cert.MixerReferenceIdeal Cert.MixerReferenceIdeal.Read Cert.Spec

/-- The host's sigmoid is the logistic function. -/
theorem sigmoid_eq (x : EReal) : Ideal.div 1 (1 + Ideal.exp (-x)) = Ideal.logistic x := rfl

variable (x0 : Vec Ideal S4x2048x4096 .f32) (x1 : Vec Ideal S128x4x4096 .f32) (x2 : Vec Ideal S8192x8192 .bf16) (x3 : Vec Ideal S512x8192 .bf16)
  (x4 : Vec Ideal S8192x16384 .bf16) (x5 : Vec Ideal S512x16384 .bf16) (x6 : Vec Ideal S8192x4096 .bf16) (x7 : Vec Ideal S512x4096 .bf16)
  (x8 : Vec Ideal S4x24576 .f32) (x9 : Vec Ideal S128x24576 .f32) (x10 : Vec Ideal S8192x4096 .bf16) (x11 x12 : Vec Ideal S4096x4096 .bf16)
  (x13 : Vec Ideal S1x4096 .f32) (x14 : Vec Ideal S4096x2048 .bf16)

/-- The row of a prompt token. -/
abbrev atP (b : Fin 4) (t : Fin 2048) : Fin 8192 := ⟨b.val * 2048 + t.val, by omega⟩

theorem atP_of (r : Fin 8192) : atP (seqP r) ⟨r.val % 2048, by omega⟩ = r := Fin.ext (by simp only [seqP]; omega)

/-- The row of a sample token. -/
abbrev atS (b : Fin 128) (t : Fin 4) : Fin 512 := ⟨t.val * 128 + b.val, by omega⟩

theorem atS_of (r : Fin 512) : atS (seqS r) ⟨r.val / 128, by omega⟩ = r := Fin.ext (by simp only [seqS]; omega)

/-! ### The prompt group -/

theorem joined_p (b : Fin 4) (t : Fin 2048) (d : Fin 4096) : val_main_v34 x2 x4 x6 x10 x11 (ix3 b t d)
    = joined x6 x11 (gated x2 x10 (cols 8192 4096 (by norm_num) x4)) (cols 12288 4096 (by norm_num) x4) (ix2 (atP b t) d) := by
  have h2 : ∀ k : Fin 8192, val_main_v1 x2 (ix3 b t k) = x2 (ix2 (atP b t) k) := fun k => by
    pointwise [val_main_v1, val_main_v0]
  have h6 : ∀ k : Fin 4096, val_main_v5 x6 (ix3 b t k) = x6 (ix2 (atP b t) k) := fun k => by
    pointwise [val_main_v5, val_main_v4]
  have ha : val_main_v14 x4 (ix3 b t d) = x4 (ix2 (atP b t) ⟨8192 + d.val, by omega⟩) := by
    pointwise [val_main_v14, val_main_v13, val_main_v3, val_main_v2]
  have hb : val_main_v15 x4 (ix3 b t d) = x4 (ix2 (atP b t) ⟨12288 + d.val, by omega⟩) := by
    pointwise [val_main_v15, val_main_v13, val_main_v3, val_main_v2]
    exact congrArg (fun n => x4 (ix2 (atP b t) n)) (Fin.ext (by dsimp only; omega))
  pointwise [val_main_v34, val_main_v33, val_main_v32, val_main_v31, val_main_v30, val_main_cst_2, val_main_v29, val_main_v28, val_main_cst_1, val_main_v27, val_main_v26, val_main_v25, val_main_v24, val_main_v23, val_main_cst_0, val_main_v22, val_main_v21, val_main_cst, val_main_v20, val_main_v19, val_main_v18, val_main_v17, val_main_v16]
  simp only [h2, h6, ha, hb, sigmoid_eq]
  rfl

theorem mixed_p (b : Fin 4) (t : Fin 2048) (d : Fin 4096) : val_main_v39 x0 x2 x4 x6 x8 x10 x11 x12 (ix3 b t d)
    = x0 (ix3 b t d) + x8 (ix2 b ⟨8192 + d.val, by omega⟩)
      * prod (joined x6 x11 (gated x2 x10 (cols 8192 4096 (by norm_num) x4)) (cols 12288 4096 (by norm_num) x4)) x12 (ix2 (atP b t) d) := by
  pointwise [val_main_v39, val_main_v38, val_main_v37, val_main_v36, val_main_v35, val_main_v9, val_main_v6]
  simp only [joined_p]
  rfl

theorem normed_p (b : Fin 4) (t : Fin 2048) (d : Fin 4096) : val_main_v59 x0 x2 x4 x6 x8 x10 x11 x12 x13 (ix3 b t d)
    = normed (fun k => val_main_v39 x0 x2 x4 x6 x8 x10 x11 x12 (ix3 b t k)) (fun k => x13 (ix2 0 k))
      (fun k => x8 (ix2 b ⟨16384 + k.val, by omega⟩)) (fun k => x8 (ix2 b ⟨12288 + k.val, by omega⟩)) d := by
  pointwise [val_main_v59, val_main_v58, val_main_v57, val_main_v56, val_main_v55, val_main_v54, val_main_cst_6, val_main_v53, val_main_v52, val_main_v51, val_main_v50, val_main_v49, val_main_v48, val_main_v47, val_main_v46, val_main_v45, val_main_cst_5, val_main_v44, val_main_v43, val_main_cst_4, val_main_v42, val_main_v41, val_main_cst_3, val_main_v40, val_main_v10, val_main_v11, val_main_v6]
  simp only [normed]

theorem x1_p : val_main_v127 x0 x2 x4 x6 x8 x10 x11 x12
    = mixed seqP (tokP x0) x2 x4 x6 x8 x10 x11 x12 := by
  funext i
  obtain ⟨r, n, rfl⟩ : ∃ (r : Fin 8192) (n : Fin 4096), i = ix2 r n := ⟨i 0, i 1, ix2_of i⟩
  have h : val_main_v127 x0 x2 x4 x6 x8 x10 x11 x12 (ix2 r n)
      = val_main_v39 x0 x2 x4 x6 x8 x10 x11 x12 (ix3 (seqP r) ⟨r.val % 2048, by omega⟩ n) := by
    pointwise [val_main_v127, seqP]
  rw [h, mixed_p, atP_of]
  rfl

theorem h2_p : val_main_v129 x0 x2 x4 x6 x8 x10 x11 x12 x13
    = normedRows seqP (mixed seqP (tokP x0) x2 x4 x6 x8 x10 x11 x12) x8 x13 := by
  funext i
  obtain ⟨r, n, rfl⟩ : ∃ (r : Fin 8192) (n : Fin 4096), i = ix2 r n := ⟨i 0, i 1, ix2_of i⟩
  have h : val_main_v129 x0 x2 x4 x6 x8 x10 x11 x12 x13 (ix2 r n)
      = val_main_v59 x0 x2 x4 x6 x8 x10 x11 x12 x13 (ix3 (seqP r) ⟨r.val % 2048, by omega⟩ n) := by
    pointwise [val_main_v129, val_main_v128, seqP]
  rw [h, normed_p]
  simp only [mixed_p, atP_of]
  rfl

theorem qv_p : val_main_v130 x0 x2 x4 x6 x8 x10 x11 x12 x13 x14
    = prod (normedRows seqP (mixed seqP (tokP x0) x2 x4 x6 x8 x10 x11 x12) x8 x13) x14 := by
  funext i
  obtain ⟨r, n, rfl⟩ : ∃ (r : Fin 8192) (n : Fin 2048), i = ix2 r n := ⟨i 0, i 1, ix2_of i⟩
  have h : val_main_v130 x0 x2 x4 x6 x8 x10 x11 x12 x13 x14 (ix2 r n)
      = ∑ k : Fin 4096, val_main_v59 x0 x2 x4 x6 x8 x10 x11 x12 x13 (ix3 (seqP r) ⟨r.val % 2048, by omega⟩ k) * x14 (ix2 k n) := by
    pointwise [val_main_v130, val_main_v61, val_main_v60, seqP]
  rw [h]
  simp only [normed_p, mixed_p, atP_of]
  rfl

/-! ### The sample group -/

theorem joined_s (b : Fin 128) (t : Fin 4) (d : Fin 4096) : val_main_v99 x3 x5 x7 x10 x11 (ix3 b t d)
    = joined x7 x11 (gated x3 x10 (cols 8192 4096 (by norm_num) x5)) (cols 12288 4096 (by norm_num) x5) (ix2 (atS b t) d) := by
  have h2 : ∀ k : Fin 8192, val_main_v64 x3 (ix3 b t k) = x3 (ix2 (atS b t) k) := fun k => by
    pointwise [val_main_v64, val_main_v63, val_main_v62]
  have h6 : ∀ k : Fin 4096, val_main_v70 x7 (ix3 b t k) = x7 (ix2 (atS b t) k) := fun k => by
    pointwise [val_main_v70, val_main_v69, val_main_v68]
  have ha : val_main_v79 x5 (ix3 b t d) = x5 (ix2 (atS b t) ⟨8192 + d.val, by omega⟩) := by
    pointwise [val_main_v79, val_main_v78, val_main_v67, val_main_v66, val_main_v65]
  have hb : val_main_v80 x5 (ix3 b t d) = x5 (ix2 (atS b t) ⟨12288 + d.val, by omega⟩) := by
    pointwise [val_main_v80, val_main_v78, val_main_v67, val_main_v66, val_main_v65]
    exact congrArg (fun n => x5 (ix2 (atS b t) n)) (Fin.ext (by dsimp only; omega))
  pointwise [val_main_v99, val_main_v98, val_main_v97, val_main_v96, val_main_v95, val_main_cst_10, val_main_v94, val_main_v93, val_main_cst_9, val_main_v92, val_main_v91, val_main_v90, val_main_v89, val_main_v88, val_main_cst_8, val_main_v87, val_main_v86, val_main_cst_7, val_main_v85, val_main_v84, val_main_v83, val_main_v82, val_main_v81]
  simp only [h2, h6, ha, hb, sigmoid_eq]
  rfl

theorem mixed_s (b : Fin 128) (t : Fin 4) (d : Fin 4096) : val_main_v104 x1 x3 x5 x7 x9 x10 x11 x12 (ix3 b t d)
    = x1 (ix3 b t d) + x9 (ix2 b ⟨8192 + d.val, by omega⟩)
      * prod (joined x7 x11 (gated x3 x10 (cols 8192 4096 (by norm_num) x5)) (cols 12288 4096 (by norm_num) x5)) x12 (ix2 (atS b t) d) := by
  pointwise [val_main_v104, val_main_v103, val_main_v102, val_main_v101, val_main_v100, val_main_v74, val_main_v71]
  simp only [joined_s]
  rfl

theorem normed_s (b : Fin 128) (t : Fin 4) (d : Fin 4096) : val_main_v124 x1 x3 x5 x7 x9 x10 x11 x12 x13 (ix3 b t d)
    = normed (fun k => val_main_v104 x1 x3 x5 x7 x9 x10 x11 x12 (ix3 b t k)) (fun k => x13 (ix2 0 k))
      (fun k => x9 (ix2 b ⟨16384 + k.val, by omega⟩)) (fun k => x9 (ix2 b ⟨12288 + k.val, by omega⟩)) d := by
  pointwise [val_main_v124, val_main_v123, val_main_v122, val_main_v121, val_main_v120, val_main_v119, val_main_cst_14, val_main_v118, val_main_v117, val_main_v116, val_main_v115, val_main_v114, val_main_v113, val_main_v112, val_main_v111, val_main_v110, val_main_cst_13, val_main_v109, val_main_v108, val_main_cst_12, val_main_v107, val_main_v106, val_main_cst_11, val_main_v105, val_main_v75, val_main_v76, val_main_v71]
  simp only [normed]

theorem x1_s : val_main_v132 x1 x3 x5 x7 x9 x10 x11 x12
    = mixed seqS (tokS x1) x3 x5 x7 x9 x10 x11 x12 := by
  funext i
  obtain ⟨r, n, rfl⟩ : ∃ (r : Fin 512) (n : Fin 4096), i = ix2 r n := ⟨i 0, i 1, ix2_of i⟩
  have h : val_main_v132 x1 x3 x5 x7 x9 x10 x11 x12 (ix2 r n)
      = val_main_v104 x1 x3 x5 x7 x9 x10 x11 x12 (ix3 (seqS r) ⟨r.val / 128, by omega⟩ n) := by
    pointwise [val_main_v132, val_main_v131, seqS]
  rw [h, mixed_s, atS_of]
  rfl

theorem h2_s : val_main_v135 x1 x3 x5 x7 x9 x10 x11 x12 x13
    = normedRows seqS (mixed seqS (tokS x1) x3 x5 x7 x9 x10 x11 x12) x9 x13 := by
  funext i
  obtain ⟨r, n, rfl⟩ : ∃ (r : Fin 512) (n : Fin 4096), i = ix2 r n := ⟨i 0, i 1, ix2_of i⟩
  have h : val_main_v135 x1 x3 x5 x7 x9 x10 x11 x12 x13 (ix2 r n)
      = val_main_v124 x1 x3 x5 x7 x9 x10 x11 x12 x13 (ix3 (seqS r) ⟨r.val / 128, by omega⟩ n) := by
    pointwise [val_main_v135, val_main_v134, val_main_v133, seqS]
  rw [h, normed_s]
  simp only [mixed_s, atS_of]
  rfl

theorem qv_s : val_main_v137 x1 x3 x5 x7 x9 x10 x11 x12 x13 x14
    = prod (normedRows seqS (mixed seqS (tokS x1) x3 x5 x7 x9 x10 x11 x12) x9 x13) x14 := by
  funext i
  obtain ⟨r, n, rfl⟩ : ∃ (r : Fin 512) (n : Fin 2048), i = ix2 r n := ⟨i 0, i 1, ix2_of i⟩
  have h : val_main_v137 x1 x3 x5 x7 x9 x10 x11 x12 x13 x14 (ix2 r n)
      = ∑ k : Fin 4096, val_main_v124 x1 x3 x5 x7 x9 x10 x11 x12 x13 (ix3 (seqS r) ⟨r.val / 128, by omega⟩ k) * x14 (ix2 k n) := by
    pointwise [val_main_v137, val_main_v136, val_main_v126, val_main_v125, seqS]
  rw [h]
  simp only [normed_s, mixed_s, atS_of]
  rfl

/-! ### The retrieval table -/

theorem layer_139 (w : Vec Ideal S1x16384x4096 .f32) : val_main_v139 w = layer w := by
  funext i
  obtain ⟨r, n, rfl⟩ : ∃ (r : Fin 16384) (n : Fin 4096), i = ix2 r n := ⟨i 0, i 1, ix2_of i⟩
  exact (by pointwise [val_main_v139, val_main_v138] : val_main_v139 w (ix2 r n) = w (ix3 0 r n))

end Cert.MixerReferenceIdeal.Vals

end
-- ==== Proof.MixRun.lean ====
/-
  The mixing half's run: every buffer the TensorCore holds ends with the contents followed through the program's operations and calls.
-/
module

public import proofs.«01_k».proof.Proof.Gen.MixerIdeal.Frame

@[expose] public section

set_option maxRecDepth 16384

noncomputable section

namespace Cert.MixerIdeal.Vals

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerIdeal Cert.MixerIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory, and each buffer of the TensorCore ends at its contents past the last segment. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

end Cert.MixerIdeal.Vals

end
-- ==== Proof.MixProof.lean ====
/-
  The mixing half's two runs, their results named by the functions of `MixSpec.lean`, and that they return the same arrays.
-/
module

public import proofs.«01_k».proof.Defs
public import proofs.«01_k».proof.Proof.Gen.MixerIdeal
public import proofs.«01_k».proof.Proof.Gen.MixerReferenceIdeal
public import proofs.«01_k».proof.Proof.Gen.MixerReferenceIdeal.Run
public import proofs.«01_k».proof.Proof.MixValues
public import proofs.«01_k».proof.Proof.MixRef
public import proofs.«01_k».proof.Proof.MixRun

@[expose] public section

set_option maxHeartbeats 2000000

noncomputable section

namespace Cert.MixerReferenceIdeal.Vals

open Idealize.ShloMosaic Idealize.ShloMosaic.TcCoe Idealize.SL.Sem
open Cert.MixerReferenceIdeal Cert.MixerReferenceIdeal.Read Cert.Spec

variable (m' : (ℓ : Loc nD τ sig) → Buf (Elt Ideal) ℓ) (ρ : Dev nD → PrngReg)

/-- The prompt group's state after mixing. -/
abbrev xP (c : Dev nD) :=
  mixed seqP (tokP (m' ((c : Thread nD τ).loc main_arg0))) (m' ((c : Thread nD τ).loc main_arg2)) (m' ((c : Thread nD τ).loc main_arg4))
    (m' ((c : Thread nD τ).loc main_arg6)) (m' ((c : Thread nD τ).loc main_arg8)) (m' ((c : Thread nD τ).loc main_arg10))
    (m' ((c : Thread nD τ).loc main_arg11)) (m' ((c : Thread nD τ).loc main_arg12))

/-- The prompt group's normalized rows. -/
abbrev hP (c : Dev nD) :=
  normedRows seqP (xP m' c) (m' ((c : Thread nD τ).loc main_arg8)) (m' ((c : Thread nD τ).loc main_arg13))

/-- The sample group's state after mixing. -/
abbrev xS (c : Dev nD) :=
  mixed seqS (tokS (m' ((c : Thread nD τ).loc main_arg1))) (m' ((c : Thread nD τ).loc main_arg3)) (m' ((c : Thread nD τ).loc main_arg5))
    (m' ((c : Thread nD τ).loc main_arg7)) (m' ((c : Thread nD τ).loc main_arg9)) (m' ((c : Thread nD τ).loc main_arg10))
    (m' ((c : Thread nD τ).loc main_arg11)) (m' ((c : Thread nD τ).loc main_arg12))

/-- The sample group's normalized rows. -/
abbrev hS (c : Dev nD) :=
  normedRows seqS (xS m' c) (m' ((c : Thread nD τ).loc main_arg9)) (m' ((c : Thread nD τ).loc main_arg13))

/-- The reference's run. -/
theorem run_spec : θ_run (defs (F := Ideal)) (onTc (τ := τ) (main (F := Ideal))) ⟨m', fun _ => 0, ρ⟩ fun r => ∀ c : Dev nD,
      r.2.mem ((c : Thread nD τ).loc main_v127) = xP m' c
      ∧ r.2.mem ((c : Thread nD τ).loc main_v129) = hP m' c
      ∧ r.2.mem ((c : Thread nD τ).loc main_v130) = prod (hP m' c) (m' ((c : Thread nD τ).loc main_arg14))
      ∧ r.2.mem ((c : Thread nD τ).loc main_v132) = xS m' c
      ∧ r.2.mem ((c : Thread nD τ).loc main_v135) = hS m' c
      ∧ r.2.mem ((c : Thread nD τ).loc main_v137) = prod (hS m' c) (m' ((c : Thread nD τ).loc main_arg14))
      ∧ r.2.mem ((c : Thread nD τ).loc main_v139) = layer (m' ((c : Thread nD τ).loc main_arg15))
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3)
      ∧ r.2.mem ((c : Thread nD τ).loc main_arg4) = m' ((c : Thread nD τ).loc main_arg4)
      ∧ r.2.mem ((c : Thread nD τ).loc main_arg5) = m' ((c : Thread nD τ).loc main_arg5)
      ∧ r.2.mem ((c : Thread nD τ).loc main_arg6) = m' ((c : Thread nD τ).loc main_arg6)
      ∧ r.2.mem ((c : Thread nD τ).loc main_arg7) = m' ((c : Thread nD τ).loc main_arg7)
      ∧ r.2.mem ((c : Thread nD τ).loc main_arg8) = m' ((c : Thread nD τ).loc main_arg8)
      ∧ r.2.mem ((c : Thread nD τ).loc main_arg9) = m' ((c : Thread nD τ).loc main_arg9)
      ∧ r.2.mem ((c : Thread nD τ).loc main_arg10) = m' ((c : Thread nD τ).loc main_arg10)
      ∧ r.2.mem ((c : Thread nD τ).loc main_arg11) = m' ((c : Thread nD τ).loc main_arg11)
      ∧ r.2.mem ((c : Thread nD τ).loc main_arg12) = m' ((c : Thread nD τ).loc main_arg12)
      ∧ r.2.mem ((c : Thread nD τ).loc main_arg13) = m' ((c : Thread nD τ).loc main_arg13)
      ∧ r.2.mem ((c : Thread nD τ).loc main_arg14) = m' ((c : Thread nD τ).loc main_arg14)
      ∧ r.2.mem ((c : Thread nD τ).loc main_arg15) = m' ((c : Thread nD τ).loc main_arg15) :=
  (θ_run (defs (F := Ideal)) _ _).mono (fun r h c => by
    obtain ⟨h0, h1, h2, h3, h4, h5, h6, ha⟩ := h c
    exact ⟨h0.trans (x1_p _ _ _ _ _ _ _ _),
      h1.trans ((val_main_v129_eq m' c).trans (h2_p _ _ _ _ _ _ _ _ _)),
      h2.trans ((val_main_v130_eq m' c).trans (qv_p _ _ _ _ _ _ _ _ _ _)),
      h3.trans (x1_s _ _ _ _ _ _ _ _),
      h4.trans ((val_main_v135_eq m' c).trans (h2_s _ _ _ _ _ _ _ _ _)),
      h5.trans ((val_main_v137_eq m' c).trans (qv_s _ _ _ _ _ _ _ _ _ _)),
      h6.trans (layer_139 _), ha⟩)
    (Cert.MixerReferenceIdeal.Value.run (F := Ideal) m' ρ)

end Cert.MixerReferenceIdeal.Vals

namespace Cert.MixerIdeal.Vals

open Idealize.ShloMosaic Idealize.ShloMosaic.TcCoe Idealize.SL.Sem
open Cert.MixerIdeal Cert.MixerIdeal.Gen Cert.Spec

/-- The kernel's run. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v63) = xP m c
      ∧ r.2.mem ((c : Thread nD τ).loc main_v65) = hP m c
      ∧ r.2.mem ((c : Thread nD τ).loc main_v66) = prod (hP m c) (m ((c : Thread nD τ).loc main_arg14))
      ∧ r.2.mem ((c : Thread nD τ).loc main_v69) = xS m c
      ∧ r.2.mem ((c : Thread nD τ).loc main_v71) = hS m c
      ∧ r.2.mem ((c : Thread nD τ).loc main_v72) = prod (hS m c) (m ((c : Thread nD τ).loc main_arg14))
      ∧ r.2.mem ((c : Thread nD τ).loc main_v61_1) = layer (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run (defs (F := Ideal)) _ _).mono (fun r h c => ⟨
      (h c _ (mem_uc main_v63 (by decide))).trans (end_x_p m ρ c),
      (h c _ (mem_uc main_v65 (by decide))).trans (end_h_p m ρ c),
      (h c _ (mem_uc main_v66 (by decide))).trans (end_q_p m ρ c),
      (h c _ (mem_uc main_v69 (by decide))).trans (end_x_s m ρ c),
      (h c _ (mem_uc main_v71 (by decide))).trans (end_h_s m ρ c),
      (h c _ (mem_uc main_v72 (by decide))).trans (end_q_s m ρ c),
      (h c _ (mem_uc main_v61_1 (by decide))).trans (end_table m ρ c),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c),
      (h c _ (mem_uc main_arg12 (by decide))).trans (W13_main_arg12 m ρ c),
      (h c _ (mem_uc main_arg13 (by decide))).trans (W13_main_arg13 m ρ c),
      (h c _ (mem_uc main_arg14 (by decide))).trans (W13_main_arg14 m ρ c),
      (h c _ (mem_uc main_arg15 (by decide))).trans (W13_main_arg15 m ρ c)⟩)
    (run_all m ρ)

end Cert.MixerIdeal.Vals

namespace Cert.Proof

open Idealize.ShloMosaic Idealize.SL.Sem
open Cert.Spec

/-- The mixing half's idealized kernel and its reference return the same arrays. -/
theorem mixer_algebraic : Cert.algebraic_MixerIdeal_MixerReferenceIdeal := by
  intro m ρ m' ρ' _ hagree
  refine ⟨MixerIdeal.Vals.xP m, MixerIdeal.Vals.hP m, fun c => prod (MixerIdeal.Vals.hP m c) (m ((c.tc : Thread MixerIdeal.nD MixerIdeal.τ).loc MixerIdeal.main_arg14)),
    MixerIdeal.Vals.xS m, MixerIdeal.Vals.hS m, fun c => prod (MixerIdeal.Vals.hS m c) (m ((c.tc : Thread MixerIdeal.nD MixerIdeal.τ).loc MixerIdeal.main_arg14)),
    fun c => layer (m ((c.tc : Thread MixerIdeal.nD MixerIdeal.τ).loc MixerIdeal.main_arg15)), MixerIdeal.Vals.run_spec m ρ, ?_⟩
  refine (θ_run (Cert.MixerReferenceIdeal.defs (F := Ideal)) _ _).mono (fun r h c => ?_) (MixerReferenceIdeal.Vals.run_spec m' ρ')
  obtain ⟨e0, e1, e2, e3, e4, e5, e6, e7, e8, e9, e10, e11, e12, e13, e14, e15⟩ := hagree c
  obtain ⟨h0, h1, h2, h3, h4, h5, h6, ha⟩ := h c
  refine ⟨h0.trans ?_, h1.trans ?_, h2.trans ?_, h3.trans ?_, h4.trans ?_, h5.trans ?_, h6.trans ?_, ha⟩ <;>
    simp only [MixerReferenceIdeal.Vals.xP, MixerReferenceIdeal.Vals.hP, MixerReferenceIdeal.Vals.xS, MixerReferenceIdeal.Vals.hS,
      MixerIdeal.Vals.xP, MixerIdeal.Vals.hP, MixerIdeal.Vals.xS, MixerIdeal.Vals.hS, e0, e1, e2, e3, e4, e5, e6, e7, e8, e9, e10, e11, e12, e13, e14, e15]

end Cert.Proof

end
-- ==== Proof.ScanStart.lean ====
/-
  The sums of the sample group's scan that need no state (`cc1_ssd_sample_a`), read.
-/
module

public import proofs.«01_k».proof.Proof.Gen.ScanIdeal.Frame
public import proofs.«01_k».proof.Proof.Blocks

@[expose] public section

set_option maxRecDepth 16384
set_option maxHeartbeats 2000000

noncomputable section

namespace Cert.ScanIdeal.Vals

open Idealize.ShloMosaic Idealize.ShloMosaic.TcCoe Idealize.SL.Sem
open Idealize.ShloMosaic.Pipeline (Dat)
open Idealize.ShloMosaic.Pointwise
open Cert.ScanIdeal Cert.ScanIdeal.Gen

open Cert.Spec

/-- A row of 16 against a 16-row array in three parts: the row, what its rounding leaves, and what is left of that. -/
def spread (v e : Fin 16 → EReal) : EReal :=
  ∑ k, v k * e k + ∑ k, (v k - v k) * e k + ∑ k, (v k - v k - (v k - v k)) * e k

/-- The running sums of `d t * a`. -/
def cum (d : Fin 4 → EReal) (a : EReal) : Fin 4 → EReal
  | 0 => d 0 * a
  | 1 => d 0 * a + d 1 * a
  | 2 => d 0 * a + d 1 * a + d 2 * a
  | 3 => d 0 * a + d 1 * a + d 2 * a + d 3 * a

/-- What step `j` adds to step `t`. -/
def pair (x : Fin 4 → EReal) (b c : Fin 4 → Fin 128 → EReal) (d : Fin 4 → Fin 16 → EReal) (a e : Fin 16 → EReal) (t j : Fin 4) : EReal :=
  spread (fun k => (∑ n, c t n * b j n) * Ideal.exp (cum (fun s => d s k) (a k) t - cum (fun s => d s k) (a k) j) * d j k) e * x j

/-- The output of a step but for the state's part. -/
def within (s : EReal) (x : Fin 4 → EReal) (b c : Fin 4 → Fin 128 → EReal) (d : Fin 4 → Fin 16 → EReal) (a e : Fin 16 → EReal) :
    Fin 4 → EReal
  | 0 => s * x 0 + pair x b c d a e 0 0
  | 1 => s * x 1 + pair x b c d a e 1 0 + pair x b c d a e 1 1
  | 2 => s * x 2 + pair x b c d a e 2 0 + pair x b c d a e 2 1 + pair x b c d a e 2 2
  | 3 => s * x 3 + pair x b c d a e 3 0 + pair x b c d a e 3 1 + pair x b c d a e 3 2 + pair x b c d a e 3 3

/-- The decay of the state up to a step. -/
def decay (d : Fin 4 → Fin 16 → EReal) (a e : Fin 16 → EReal) (t : Fin 4) : EReal :=
  spread (fun k => Ideal.exp (cum (fun s => d s k) (a k) t)) e

/-- A step's weight in the last state. -/
def carry (x : EReal) (d : Fin 4 → Fin 16 → EReal) (a e : Fin 16 → EReal) (t : Fin 4) : EReal :=
  spread (fun k => d t k * Ideal.exp (cum (fun s => d s k) (a k) 3 - cum (fun s => d s k) (a k) t)) e * x

variable (x : Vec Ideal S4x128x1024 .bf16) (b c : Vec Ideal S4x128x128 .bf16) (d : Vec Ideal S1x4x128x16 .f32) (a : Vec Ideal S1x1x16 .f32)
  (s : Vec Ideal S1x1x1024 .f32) (e : Vec Ideal S16x1024 .bf16)

theorem out1_yp (y : S4x128x1024.Idx) : out1_7 x b c d a s e y
    = within (s (ix3 0 0 (y 2))) (fun m => x (ix3 m (y 1) (y 2))) (fun m n => b (ix3 m (y 1) n)) (fun m n => c (ix3 m (y 1) n))
      (fun m k => d (ix4 0 m (y 1) k)) (fun k => a (ix3 0 0 k)) (fun k => e (ix2 k (y 2))) (y 0) := by
  unfold_out out1_7
  canon_tiles u hu
  · obtain rfl : y = ix3 3 (u 1) (u 2) := idx_ext_three (show (y 0 : Nat) = 3 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay44, k1_pay45, k1_pay46, k1_pay47, k1_pay48, k1_pay49, k1_pay50, k1_pay51, k1_pay52, within, pair, cum, spread]
  · obtain rfl : y = ix3 2 (u 1) (u 2) := idx_ext_three (show (y 0 : Nat) = 2 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay35, k1_pay36, k1_pay37, within, pair, cum, spread]
  · obtain rfl : y = ix3 1 (u 1) (u 2) := idx_ext_three (show (y 0 : Nat) = 1 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay29, k1_pay30, within, pair, cum, spread]
  · obtain rfl : y = ix3 0 (u 1) (u 2) := idx_ext_three (show (y 0 : Nat) = 0 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, within, pair, cum, spread]

theorem out1_ea (y : S4x128x1024.Idx) : out1_8 x b c d a s e y
    = decay (fun m k => d (ix4 0 m (y 1) k)) (fun k => a (ix3 0 0 k)) (fun k => e (ix2 k (y 2))) (y 0) := by
  unfold_out out1_8
  canon_tiles u hu
  · obtain rfl : y = ix3 3 (u 1) (u 2) := idx_ext_three (show (y 0 : Nat) = 3 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay1, k1_pay53, decay, cum, spread]
  · obtain rfl : y = ix3 2 (u 1) (u 2) := idx_ext_three (show (y 0 : Nat) = 2 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay38, k1_pay39, k1_pay40, k1_pay41, k1_pay42, decay, cum, spread]
  · obtain rfl : y = ix3 1 (u 1) (u 2) := idx_ext_three (show (y 0 : Nat) = 1 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay31, decay, cum, spread]
  · obtain rfl : y = ix3 0 (u 1) (u 2) := idx_ext_three (show (y 0 : Nat) = 0 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay27, decay, cum, spread]

theorem out1_xw (y : S4x128x1024.Idx) : out1_9 x b c d a s e y
    = carry (x y) (fun m k => d (ix4 0 m (y 1) k)) (fun k => a (ix3 0 0 k)) (fun k => e (ix2 k (y 2))) (y 0) := by
  unfold_out out1_9
  canon_tiles u hu
  · obtain rfl : y = ix3 3 (u 1) (u 2) := idx_ext_three (show (y 0 : Nat) = 3 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay2, carry, cum, spread]
  · obtain rfl : y = ix3 2 (u 1) (u 2) := idx_ext_three (show (y 0 : Nat) = 2 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay43, carry, cum, spread]
  · obtain rfl : y = ix3 1 (u 1) (u 2) := idx_ext_three (show (y 0 : Nat) = 1 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay32, k1_pay33, k1_pay34, carry, cum, spread]
  · obtain rfl : y = ix3 0 (u 1) (u 2) := idx_ext_three (show (y 0 : Nat) = 0 by omega) hu1 hu2
    pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay28, carry, cum, spread]

theorem out1_cd (p : Fin 128) (k : Fin 16) : out1_10 x b c d a s e (ix3 0 p k)
    = Ideal.exp (cum (fun m => d (ix4 0 m p k)) (a (ix3 0 0 k)) 3) := by
  frame_out [out1_10]
  pointwise [k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay62, k1_pay3, cum]

/-- Group `g`'s column `n` of the 1024 columns from column `o` on. -/
def gat (o : Nat) (h : o + 1024 ≤ 10240) (q : Fin 8192) (n : Fin 128) : Fin 10240 := ⟨o + q.val / 1024 * 128 + n.val, by omega⟩

/-- The group column `q` belongs to, and the column within the group. -/
def grp (q : Fin 8192) : Fin 8 := ⟨q.val / 1024, by omega⟩
def col (q : Fin 8192) : Fin 1024 := ⟨q.val % 1024, by omega⟩

/-- The four calls' values over whole arrays, at step `t`, sequence `p` and column `q`. -/
def withinAt (X Y Z : (⟨3, ![4, 128, 10240]⟩ : Shape).Idx → EReal) (D : (⟨4, ![8, 4, 128, 16]⟩ : Shape).Idx → EReal)
    (A : (⟨3, ![8, 1, 16]⟩ : Shape).Idx → EReal) (S : (⟨3, ![8, 1, 1024]⟩ : Shape).Idx → EReal)
    (E : (⟨2, ![16, 1024]⟩ : Shape).Idx → EReal) (t : Fin 4) (p : Fin 128) (q : Fin 8192) : EReal :=
  within (S (ix3 (grp q) 0 (col q))) (fun m => X (ix3 m p ⟨q.val, by omega⟩)) (fun m n => Y (ix3 m p (gat 8192 (by decide) q n)))
    (fun m n => Z (ix3 m p (gat 9216 (by decide) q n))) (fun m k => D (ix4 (grp q) m p k)) (fun k => A (ix3 (grp q) 0 k))
    (fun k => E (ix2 k (col q))) t

def decayAt (D : (⟨4, ![8, 4, 128, 16]⟩ : Shape).Idx → EReal)
    (A : (⟨3, ![8, 1, 16]⟩ : Shape).Idx → EReal)
    (E : (⟨2, ![16, 1024]⟩ : Shape).Idx → EReal) (t : Fin 4) (p : Fin 128) (q : Fin 8192) : EReal :=
  decay (fun m k => D (ix4 (grp q) m p k)) (fun k => A (ix3 (grp q) 0 k)) (fun k => E (ix2 k (col q))) t

def carryAt (X : (⟨3, ![4, 128, 10240]⟩ : Shape).Idx → EReal) (D : (⟨4, ![8, 4, 128, 16]⟩ : Shape).Idx → EReal)
    (A : (⟨3, ![8, 1, 16]⟩ : Shape).Idx → EReal)
    (E : (⟨2, ![16, 1024]⟩ : Shape).Idx → EReal) (t : Fin 4) (p : Fin 128) (q : Fin 8192) : EReal :=
  carry (X (ix3 t p ⟨q.val, by omega⟩)) (fun m k => D (ix4 (grp q) m p k)) (fun k => A (ix3 (grp q) 0 k))
    (fun k => E (ix2 k (col q))) t

theorem within_congr {s s' : EReal} {x x' : Fin 4 → EReal} {b b' c c' : Fin 4 → Fin 128 → EReal} {d d' : Fin 4 → Fin 16 → EReal}
    {a a' e e' : Fin 16 → EReal} {t t' : Fin 4} (hs : s = s') (hx : ∀ m, x m = x' m) (hb : ∀ m n, b m n = b' m n)
    (hc : ∀ m n, c m n = c' m n) (hd : ∀ m k, d m k = d' m k) (ha : ∀ k, a k = a' k) (he : ∀ k, e k = e' k) (ht : t = t') :
    within s x b c d a e t = within s' x' b' c' d' a' e' t' := by
  obtain rfl := funext hx
  obtain rfl := funext fun m => funext (hb m)
  obtain rfl := funext fun m => funext (hc m)
  obtain rfl := funext fun m => funext (hd m)
  obtain rfl := funext ha
  obtain rfl := funext he
  rw [hs, ht]

theorem decay_congr {d d' : Fin 4 → Fin 16 → EReal} {a a' e e' : Fin 16 → EReal} {t t' : Fin 4}
    (hd : ∀ m k, d m k = d' m k) (ha : ∀ k, a k = a' k) (he : ∀ k, e k = e' k) (ht : t = t') :
    decay d a e t = decay d' a' e' t' := by
  obtain rfl := funext fun m => funext (hd m)
  obtain rfl := funext ha
  obtain rfl := funext he
  rw [ht]

theorem carry_congr {x x' : EReal} {d d' : Fin 4 → Fin 16 → EReal} {a a' e e' : Fin 16 → EReal} {t t' : Fin 4} (hx : x = x')
    (hd : ∀ m k, d m k = d' m k) (ha : ∀ k, a k = a' k) (he : ∀ k, e k = e' k) (ht : t = t') :
    carry x d a e t = carry x' d' a' e' t' := by
  obtain rfl := funext fun m => funext (hd m)
  obtain rfl := funext ha
  obtain rfl := funext he
  rw [ht, hx]

/-- Two indices of a rank-four array agree when their coordinates do. -/
theorem idx_ext_four {n : Fin 4 → Nat} {x y : (a : Fin 4) → Fin (n a)} (h0 : (x 0 : Nat) = y 0) (h1 : (x 1 : Nat) = y 1)
    (h2 : (x 2 : Nat) = y 2) (h3 : (x 3 : Nat) = y 3) : x = y := by
  funext a
  match a with
  | 0 => exact Fin.ext h0
  | 1 => exact Fin.ext h1
  | 2 => exact Fin.ext h2
  | 3 => exact Fin.ext h3

variable (V : (c : Dev nD) → (b : Ref sig .tc) → Buf (Elt Ideal) ((c : Thread nD τ).loc b))

theorem idx1_0 : ∀ t : Fin cfg1.N, win1_0.index t = ![0, 0, t.val] := (by decide +kernel : ∀ t : Fin grid1.N, _)
theorem idx1_1 : ∀ t : Fin cfg1.N, win1_1.index t = ![0, 0, 64 + t.val] := (by decide +kernel : ∀ t : Fin grid1.N, _)
theorem idx1_2 : ∀ t : Fin cfg1.N, win1_2.index t = ![0, 0, 72 + t.val] := (by decide +kernel : ∀ t : Fin grid1.N, _)
theorem idx1_3 : ∀ t : Fin cfg1.N, win1_3.index t = ![t.val, 0, 0, 0] := (by decide +kernel : ∀ t : Fin grid1.N, _)
theorem idx1_4 : ∀ t : Fin cfg1.N, win1_4.index t = ![t.val, 0, 0] := (by decide +kernel : ∀ t : Fin grid1.N, _)
theorem idx1_5 : ∀ t : Fin cfg1.N, win1_5.index t = ![t.val, 0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![0, 0, t.val] := (by decide +kernel : ∀ t : Fin grid1.N, _)
theorem idx1_8 : ∀ t : Fin cfg1.N, win1_8.index t = ![0, 0, t.val] := (by decide +kernel : ∀ t : Fin grid1.N, _)
theorem idx1_9 : ∀ t : Fin cfg1.N, win1_9.index t = ![0, 0, t.val] := (by decide +kernel : ∀ t : Fin grid1.N, _)
theorem idx1_10 : ∀ t : Fin cfg1.N, win1_10.index t = ![t.val, 0, 0] := (by decide +kernel : ∀ t : Fin grid1.N, _)

section Reads

variable (c : Dev nD) (t : Fin cfg1.N) (q : Fin 8192) (j : Fin 1024) (h : q.val = t.val * 1024 + j.val)
include h

theorem read_x (m : Fin 4) (p p' : Fin 128) (hp : p'.val = p.val) : iblk1 V c 0 t (ix3 m p j)
    = V c (Pipeline.arrRef spec1 0) (ix3 m p' ⟨q.val, by omega⟩) :=
  have e := emb_val win1_0 (idx1_0 t) rfl (ix3 m p j)
  congrArg (V c (Pipeline.arrRef spec1 0)) (idx_ext_three (origin (e 0)) ((origin (e 1)).trans hp.symm) ((e 2).trans h.symm))

theorem read_b (m : Fin 4) (p p' : Fin 128) (hp : p'.val = p.val) (n : Fin 128) : iblk1 V c 1 t (ix3 m p n)
    = V c (Pipeline.arrRef spec1 1) (ix3 m p' (gat 8192 (by decide) q n)) :=
  have e := emb_val win1_1 (idx1_1 t) rfl (ix3 m p n)
  congrArg (V c (Pipeline.arrRef spec1 1)) (idx_ext_three (origin (e 0)) ((origin (e 1)).trans hp.symm)
    ((e 2).trans (show (64 + t.val) * 128 + n.val = 8192 + q.val / 1024 * 128 + n.val by omega)))

theorem read_c (m : Fin 4) (p p' : Fin 128) (hp : p'.val = p.val) (n : Fin 128) : iblk1 V c 2 t (ix3 m p n)
    = V c (Pipeline.arrRef spec1 2) (ix3 m p' (gat 9216 (by decide) q n)) :=
  have e := emb_val win1_2 (idx1_2 t) rfl (ix3 m p n)
  congrArg (V c (Pipeline.arrRef spec1 2)) (idx_ext_three (origin (e 0)) ((origin (e 1)).trans hp.symm)
    ((e 2).trans (show (72 + t.val) * 128 + n.val = 9216 + q.val / 1024 * 128 + n.val by omega)))

theorem read_d (m : Fin 4) (p p' : Fin 128) (hp : p'.val = p.val) (k : Fin 16) : iblk1 V c 3 t (ix4 0 m p k)
    = V c (Pipeline.arrRef spec1 3) (ix4 (grp q) m p' k) :=
  have e := emb_val win1_3 (idx1_3 t) rfl (ix4 0 m p k)
  congrArg (V c (Pipeline.arrRef spec1 3)) (idx_ext_four ((e 0).trans (show t.val * 1 + 0 = q.val / 1024 by omega))
    (origin (e 1)) ((origin (e 2)).trans hp.symm) (origin (e 3)))

theorem read_a (k : Fin 16) : iblk1 V c 4 t (ix3 0 0 k) = V c (Pipeline.arrRef spec1 4) (ix3 (grp q) 0 k) :=
  have e := emb_val win1_4 (idx1_4 t) rfl (ix3 0 0 k)
  congrArg (V c (Pipeline.arrRef spec1 4)) (idx_ext_three ((e 0).trans (show t.val * 1 + 0 = q.val / 1024 by omega))
    (origin (e 1)) (origin (e 2)))

theorem read_s : iblk1 V c 5 t (ix3 0 0 j) = V c (Pipeline.arrRef spec1 5) (ix3 (grp q) 0 (col q)) :=
  have e := emb_val win1_5 (idx1_5 t) rfl (ix3 0 0 j)
  congrArg (V c (Pipeline.arrRef spec1 5)) (idx_ext_three ((e 0).trans (show t.val * 1 + 0 = q.val / 1024 by omega))
    (origin (e 1)) ((origin (e 2)).trans (show j.val = q.val % 1024 by omega)))

theorem read_e (k : Fin 16) : iblk1 V c 6 t (ix2 k j) = V c (Pipeline.arrRef spec1 6) (ix2 k (col q)) :=
  have e := emb_val win1_6 (idx1_6 t) rfl (ix2 k j)
  congrArg (V c (Pipeline.arrRef spec1 6)) (Shape.idx_ext₂ (origin (e 0)) ((origin (e 1)).trans (show j.val = q.val % 1024 by omega)))

end Reads

end Cert.ScanIdeal.Vals

end
-- ==== Proof.ScanConv.lean ====
/-
  The short convolution of the sample group (`cc0_ssdconv_sample`), read: four taps and a bias, then `silu`.
-/
module

public import proofs.«01_k».proof.Proof.Gen.ScanIdeal.Frame
public import proofs.«01_k».proof.Proof.Blocks

@[expose] public section

set_option maxRecDepth 16384
set_option maxHeartbeats 2000000

noncomputable section

namespace Cert.ScanIdeal.Vals

open Idealize.ShloMosaic Idealize.ShloMosaic.TcCoe Idealize.SL.Sem
open Idealize.ShloMosaic.Pipeline (Dat)
open Idealize.ShloMosaic.Pointwise
open Cert.ScanIdeal Cert.ScanIdeal.Gen

open Cert.Spec

/-- Four taps against the seven steps at hand (three kept from before, four new), plus a bias. -/
def taps (h : Fin 3 → EReal) (x : Fin 4 → EReal) (w : Fin 4 → EReal) (b : EReal) : Fin 4 → EReal
  | 0 => b + w 0 * h 0 + w 1 * h 1 + w 2 * h 2 + w 3 * x 0
  | 1 => b + w 0 * h 1 + w 1 * h 2 + w 2 * x 0 + w 3 * x 1
  | 2 => b + w 0 * h 2 + w 1 * x 0 + w 2 * x 1 + w 3 * x 2
  | 3 => b + w 0 * x 0 + w 1 * x 1 + w 2 * x 2 + w 3 * x 3

def silu (v : EReal) : EReal := v * Ideal.logistic v

/-- The convolution of an array of four steps, as a function of the index. -/
def convd {N : Nat} (x : (⟨3, ![4, 128, N]⟩ : Shape).Idx → EReal) (h : (⟨3, ![3, 128, N]⟩ : Shape).Idx → EReal)
    (w : (⟨2, ![4, N]⟩ : Shape).Idx → EReal) (b : (⟨2, ![1, N]⟩ : Shape).Idx → EReal) :
    (⟨3, ![4, 128, N]⟩ : Shape).Idx → EReal :=
  fun i => silu (taps (fun m => h (ix3 m (i 1) (i 2))) (fun m => x (ix3 m (i 1) (i 2))) (fun k => w (ix2 k (i 2)))
    (b (ix2 0 (i 2))) (i 0))

theorem out0 (x : Vec Ideal S4x128x512 .bf16) (h : Vec Ideal S3x128x512 .f32) (w : Vec Ideal S4x512 .f32) (b : Vec Ideal S1x512 .f32)
    (y : S4x128x512.Idx) : out0_4 x h w b y = convd x h w b y := by
  unfold_out out0_4
  canon_tiles u hu
  · obtain rfl : y = ix3 3 (u 1) (u 2) := idx_ext_three (show (y 0 : Nat) = 3 by omega) hu1 hu2
    pointwise [k0_pay1, k0_pay4, k0_pay5, k0_pay6, k0_pay7, k0_pay13, k0_pay14, convd, taps, silu]
  · obtain rfl : y = ix3 2 (u 1) (u 2) := idx_ext_three (show (y 0 : Nat) = 2 by omega) hu1 hu2
    pointwise [k0_pay3, k0_pay4, k0_pay5, k0_pay6, k0_pay12, convd, taps, silu]
  · obtain rfl : y = ix3 1 (u 1) (u 2) := idx_ext_three (show (y 0 : Nat) = 1 by omega) hu1 hu2
    pointwise [k0_pay2, k0_pay3, k0_pay4, k0_pay5, k0_pay10, k0_pay11, convd, taps, silu]
  · obtain rfl : y = ix3 0 (u 1) (u 2) := idx_ext_three (show (y 0 : Nat) = 0 by omega) hu1 hu2
    pointwise [k0_pay2, k0_pay3, k0_pay4, k0_pay8, k0_pay9, convd, taps, silu]

theorem convd_congr {N M : Nat} {x : (⟨3, ![4, 128, N]⟩ : Shape).Idx → EReal} {h : (⟨3, ![3, 128, N]⟩ : Shape).Idx → EReal}
    {w : (⟨2, ![4, N]⟩ : Shape).Idx → EReal} {b : (⟨2, ![1, N]⟩ : Shape).Idx → EReal}
    {x' : (⟨3, ![4, 128, M]⟩ : Shape).Idx → EReal} {h' : (⟨3, ![3, 128, M]⟩ : Shape).Idx → EReal}
    {w' : (⟨2, ![4, M]⟩ : Shape).Idx → EReal} {b' : (⟨2, ![1, M]⟩ : Shape).Idx → EReal}
    {i : (⟨3, ![4, 128, N]⟩ : Shape).Idx} {j : (⟨3, ![4, 128, M]⟩ : Shape).Idx} (e : i 0 = j 0)
    (hx : ∀ m, x (ix3 m (i 1) (i 2)) = x' (ix3 m (j 1) (j 2))) (hh : ∀ m, h (ix3 m (i 1) (i 2)) = h' (ix3 m (j 1) (j 2)))
    (hw : ∀ k, w (ix2 k (i 2)) = w' (ix2 k (j 2))) (hb : b (ix2 0 (i 2)) = b' (ix2 0 (j 2))) :
    convd x h w b i = convd x' h' w' b' j := by
  simp only [convd, hx, hh, hw, hb, e]

variable (V : (c : Dev nD) → (b : Ref sig .tc) → Buf (Elt Ideal) ((c : Thread nD τ).loc b))

theorem idx0_0 : ∀ t : Fin cfg0.N, win0_0.index t = ![0, 0, 16 + t.val] := (by decide +kernel : ∀ t : Fin grid0.N, _)
theorem idx0_1 : ∀ t : Fin cfg0.N, win0_1.index t = ![0, 0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, t.val] := (by decide +kernel : ∀ t : Fin grid0.N, _)
theorem idx0_4 : ∀ t : Fin cfg0.N, win0_4.index t = ![0, 0, t.val] := (by decide +kernel : ∀ t : Fin grid0.N, _)

/-- The last `N` columns of an array of four steps. -/
def right {N C : Nat} (o : Nat) (h : o + N ≤ C) (x : (⟨3, ![4, 128, C]⟩ : Shape).Idx → EReal) :
    (⟨3, ![4, 128, N]⟩ : Shape).Idx → EReal :=
  fun i => x (ix3 (i 0) (i 1) ⟨o + (i 2).val, Nat.lt_of_lt_of_le (Nat.add_lt_add_left (i 2).isLt o) h⟩)

theorem at0_4 (c : Dev nD) (t : Fin cfg0.N) (y : S4x128x512.Idx) (i : S4x128x10240.Idx) (h0 : (i 0).val = (y 0).val)
    (h1 : (i 1).val = (y 1).val) (h : (i 2).val = t.val * 512 + (y 2).val) :
    out0_4 (iblk0 V c 0 t) (iblk0 V c 1 t) (iblk0 V c 2 t) (iblk0 V c 3 t) y
    = convd (right 8192 (by decide : 8192 + 10240 ≤ 18432) (V c (Pipeline.arrRef spec0 0))) (V c (Pipeline.arrRef spec0 1))
        (V c (Pipeline.arrRef spec0 2)) (V c (Pipeline.arrRef spec0 3)) i := by
  have e0 := emb_val win0_0 (idx0_0 t) rfl
  have e1 := emb_val win0_1 (idx0_1 t) rfl
  have e2 := emb_val win0_2 (idx0_2 t) rfl
  have e3 := emb_val win0_3 (idx0_3 t) rfl
  exact (out0 (iblk0 V c 0 t) (iblk0 V c 1 t) (iblk0 V c 2 t) (iblk0 V c 3 t) y).trans (convd_congr (Fin.ext h0.symm)
    (fun m => congrArg (V c (Pipeline.arrRef spec0 0)) (idx_ext_three (origin (e0 _ 0)) ((origin (e0 _ 1)).trans h1.symm)
      (ahead (e0 _ 2) h rfl)))
    (fun m => congrArg (V c (Pipeline.arrRef spec0 1)) (idx_ext_three (origin (e1 _ 0)) ((origin (e1 _ 1)).trans h1.symm)
      ((e1 _ 2).trans h.symm)))
    (fun k => congrArg (V c (Pipeline.arrRef spec0 2)) (Shape.idx_ext₂ (origin (e2 _ 0)) ((e2 _ 1).trans h.symm)))
    (congrArg (V c (Pipeline.arrRef spec0 3)) (Shape.idx_ext₂ (origin (e3 _ 0)) ((e3 _ 1).trans h.symm))))

attribute [local irreducible] out0_4 convd

/-- The convolved rows of the sample group. -/
theorem arr0_4 (c : Dev nD) : (dat0 V c).arrAt 4 cfg0.N
    = convd (right 8192 (by decide : 8192 + 10240 ≤ 18432) (V c (Pipeline.arrRef spec0 0))) (V c (Pipeline.arrRef spec0 1))
        (V c (Pipeline.arrRef spec0 2)) (V c (Pipeline.arrRef spec0 3)) := by
  refine (dat0 V c).arrAt_eq_of_covers 4 _ (by decide +kernel) fun t hf y => ?_
  rw [after0_4]
  have e := emb_val win0_4 (idx0_4 t) rfl y
  exact at0_4 V c t y _ (origin (e 0)) (origin (e 1)) (e 2)

end Cert.ScanIdeal.Vals

end
-- ==== Proof.ScanAlgebra.lean ====
/-
  The scan's algebra: over finite steps, the weighted sums the kernel forms at once are what the reference reaches step by step.
-/
module

public import proofs.«01_k».proof.Proof.ScanStart
public import proofs.«01_k».proof.Proof.ScanConv

@[expose] public section

set_option maxHeartbeats 1000000

noncomputable section

namespace Cert.ScanIdeal.Vals

open Idealize.ShloMosaic

/-- The state after each step, from the state before the first. -/
def upto (s : EReal) (x d b : Fin 4 → EReal) (a : EReal) : Fin 4 → EReal
  | 0 => Ideal.exp (d 0 * a) * s + d 0 * x 0 * b 0
  | 1 => Ideal.exp (d 1 * a) * (Ideal.exp (d 0 * a) * s + d 0 * x 0 * b 0) + d 1 * x 1 * b 1
  | 2 => Ideal.exp (d 2 * a) * (Ideal.exp (d 1 * a) * (Ideal.exp (d 0 * a) * s + d 0 * x 0 * b 0) + d 1 * x 1 * b 1)
    + d 2 * x 2 * b 2
  | 3 => Ideal.exp (d 3 * a) * (Ideal.exp (d 2 * a) * (Ideal.exp (d 1 * a) * (Ideal.exp (d 0 * a) * s + d 0 * x 0 * b 0)
    + d 1 * x 1 * b 1) + d 2 * x 2 * b 2) + d 3 * x 3 * b 3

/-! ### Over the reals -/

/-- `cum` over the reals. -/
def cumR (d : Fin 4 → ℝ) (a : ℝ) : Fin 4 → ℝ
  | 0 => d 0 * a
  | 1 => d 0 * a + d 1 * a
  | 2 => d 0 * a + d 1 * a + d 2 * a
  | 3 => d 0 * a + d 1 * a + d 2 * a + d 3 * a

/-- Step `j`'s weight in the state after step `t`. -/
def weight (x d : Fin 4 → ℝ) (a : ℝ) (t j : Fin 4) : ℝ := Real.exp (cumR d a t - cumR d a j) * d j * x j

/-- What the steps so far have put into the state after step `t`. -/
def added (x d b : Fin 4 → ℝ) (a : ℝ) : Fin 4 → ℝ
  | 0 => weight x d a 0 0 * b 0
  | 1 => weight x d a 1 0 * b 0 + weight x d a 1 1 * b 1
  | 2 => weight x d a 2 0 * b 0 + weight x d a 2 1 * b 1 + weight x d a 2 2 * b 2
  | 3 => weight x d a 3 0 * b 0 + weight x d a 3 1 * b 1 + weight x d a 3 2 * b 2 + weight x d a 3 3 * b 3

variable (x d : Fin 4 → ℝ) (a : ℝ)

theorem weight_self (t : Fin 4) : weight x d a t t = d t * x t := by
  simp only [weight, sub_self, Real.exp_zero, one_mul]

theorem exp_next {u v w : ℝ} {t : Fin 4} (h : v = u + d t * a) : Real.exp (d t * a) * Real.exp (u - w) = Real.exp (v - w) := by
  rw [← Real.exp_add, h]; congr 1; ring

theorem weight_next {s t : Fin 4} (h : cumR d a t = cumR d a s + d t * a) (j : Fin 4) :
    Real.exp (d t * a) * weight x d a s j = weight x d a t j := by
  simp only [weight, ← exp_next d a h, mul_assoc]

theorem coe_cum (t : Fin 4) : cum (fun s => (d s : EReal)) (a : EReal) t = (cumR d a t : EReal) := by
  fin_cases t <;> simp only [cum, cumR, EReal.coe_add, EReal.coe_mul]

/-- One step from a state of the form `e * s + u`. -/
theorem step_of (s : EReal) {e f u v : ℝ} (he : 0 ≤ e) :
    (e : EReal) * ((f : EReal) * s + (u : EReal)) + (v : EReal) = ((e * f : ℝ) : EReal) * s + ((e * u + v : ℝ) : EReal) := by
  rw [EReal.left_distrib_of_nonneg_of_ne_top (EReal.coe_nonneg.mpr he) (EReal.coe_ne_top e), EReal.coe_add, EReal.coe_mul,
    EReal.coe_mul, mul_assoc, add_assoc]

theorem upto_eq (s : EReal) (b : Fin 4 → ℝ) (t : Fin 4) :
    upto s (fun m => (x m : EReal)) (fun m => (d m : EReal)) (fun m => (b m : EReal)) (a : EReal) t
      = (Real.exp (cumR d a t) : EReal) * s + (added x d b a t : EReal) := by
  have h1 := weight_next x d a (s := 0) (t := 1) rfl
  have h2 := weight_next x d a (s := 1) (t := 2) rfl
  have h3 := weight_next x d a (s := 2) (t := 3) rfl
  have e0 : ∀ t : Fin 4, Ideal.exp ((d t : EReal) * (a : EReal)) = (Real.exp (d t * a) : EReal) := fun t => by
    rw [← EReal.coe_mul, Ideal.exp_coe]
  have e1 : ∀ t : Fin 4, (d t : EReal) * (x t : EReal) * (b t : EReal) = ((d t * x t * b t : ℝ) : EReal) := fun t => by
    rw [EReal.coe_mul, EReal.coe_mul]
  fin_cases t <;>
    simp only [upto, e0, e1, step_of _ (Real.exp_nonneg _), ← Real.exp_add] <;>
    refine congrArg₂ (fun p q : ℝ => (p : EReal) * s + (q : EReal)) (congrArg Real.exp ?_) ?_ <;>
    simp only [cumR, added, weight_self, ← h3, ← h2, ← h1] <;> ring

/-- The steps' contribution to an output. -/
theorem added_sum (b : Fin 4 → Fin 128 → ℝ) (c : Fin 128 → ℝ) (t : Fin 4) :
    ∑ n, c n * added x d (fun m => b m n) a t
      = match t with
        | 0 => (∑ n, c n * b 0 n) * weight x d a 0 0
        | 1 => (∑ n, c n * b 0 n) * weight x d a 1 0 + (∑ n, c n * b 1 n) * weight x d a 1 1
        | 2 => (∑ n, c n * b 0 n) * weight x d a 2 0 + (∑ n, c n * b 1 n) * weight x d a 2 1 + (∑ n, c n * b 2 n) * weight x d a 2 2
        | 3 => (∑ n, c n * b 0 n) * weight x d a 3 0 + (∑ n, c n * b 1 n) * weight x d a 3 1 + (∑ n, c n * b 2 n) * weight x d a 3 2
          + (∑ n, c n * b 3 n) * weight x d a 3 3 := by
  fin_cases t <;> simp only [added, Finset.sum_mul, ← Finset.sum_add_distrib] <;>
    exact Finset.sum_congr rfl fun n _ => by ring

/-! ### Over the extended reals -/

theorem coe_sum {ι : Type} (u : Finset ι) (f : ι → ℝ) : ∑ n ∈ u, (f n : EReal) = ((∑ n ∈ u, f n : ℝ) : EReal) := by
  classical
  induction u using Finset.induction_on with
  | empty => simp
  | insert i u hi ih => rw [Finset.sum_insert hi, Finset.sum_insert hi, ih, EReal.coe_add]

theorem mul_sum_of_nonneg {ι : Type} (u : Finset ι) {e : ℝ} (he : 0 ≤ e) (f : ι → EReal) :
    (e : EReal) * ∑ n ∈ u, f n = ∑ n ∈ u, (e : EReal) * f n := by
  classical
  induction u using Finset.induction_on with
  | empty => simp
  | insert i u hi ih =>
    rw [Finset.sum_insert hi, Finset.sum_insert hi, ← ih,
      EReal.left_distrib_of_nonneg_of_ne_top (EReal.coe_nonneg.mpr he) (EReal.coe_ne_top e)]

/-- A real factor distributes over a positive multiple of a state plus a real. -/
theorem mul_affine (s : EReal) {c e u : ℝ} (he : 0 < e) :
    (c : EReal) * ((e : EReal) * s + (u : EReal)) = (e : EReal) * ((c : EReal) * s) + ((c * u : ℝ) : EReal) := by
  rcases lt_trichotomy c 0 with hc | rfl | hc
  · induction s with
    | bot => simp [EReal.coe_mul_bot_of_pos he, EReal.coe_mul_bot_of_neg hc, EReal.coe_mul_top_of_pos he, -EReal.coe_mul]
    | top => simp [EReal.coe_mul_bot_of_pos he, EReal.coe_mul_top_of_neg hc, EReal.coe_mul_top_of_pos he]
    | coe s => norm_cast; ring
  · simp
  · induction s with
    | bot => simp [EReal.coe_mul_bot_of_pos he, EReal.coe_mul_bot_of_pos hc]
    | top => simp [EReal.coe_mul_top_of_pos hc, EReal.coe_mul_top_of_pos he, -EReal.coe_mul]
    | coe s => norm_cast; ring

/-- Against a row that is 1 at one column and 0 elsewhere, a finite row's three parts add up to its value at that column. -/
theorem spread_eq (v : Fin 16 → ℝ) (k : Fin 16) : spread (fun i => (v i : EReal)) (fun i => if i = k then 1 else 0) = (v k : EReal) := by
  have h : ∀ i : Fin 16, (v i : EReal) - (v i : EReal) = 0 := fun i => by rw [← EReal.coe_sub, sub_self, EReal.coe_zero]
  simp only [spread, h, sub_zero, zero_mul, Finset.sum_const_zero, add_zero, mul_ite, mul_one, mul_zero, Finset.sum_ite_eq',
    Finset.mem_univ, if_true]

section Kernel

variable (x : Fin 4 → ℝ) (d : Fin 4 → Fin 16 → ℝ) (a : Fin 16 → ℝ) (k : Fin 16)

theorem decay_eq (t : Fin 4) : decay (fun m i => (d m i : EReal)) (fun i => (a i : EReal)) (fun i => if i = k then 1 else 0) t
    = (Real.exp (cumR (fun m => d m k) (a k) t) : EReal) := by
  simp only [decay, coe_cum, Ideal.exp_coe]
  exact spread_eq (fun i => Real.exp (cumR (fun m => d m i) (a i) t)) k

theorem carry_eq (t : Fin 4) : carry (x t : EReal) (fun m i => (d m i : EReal)) (fun i => (a i : EReal)) (fun i => if i = k then 1 else 0) t
    = (weight x (fun m => d m k) (a k) 3 t : EReal) := by
  simp only [carry, coe_cum, ← EReal.coe_sub, Ideal.exp_coe, ← EReal.coe_mul]
  rw [spread_eq (fun i => d t i * Real.exp (cumR (fun m => d m i) (a i) 3 - cumR (fun m => d m i) (a i) t)) k, ← EReal.coe_mul, weight]
  exact congrArg _ (by ring)

theorem pair_eq (b c : Fin 4 → Fin 128 → ℝ) (t j : Fin 4) :
    pair (fun m => (x m : EReal)) (fun m n => (b m n : EReal)) (fun m n => (c m n : EReal)) (fun m i => (d m i : EReal))
      (fun i => (a i : EReal)) (fun i => if i = k then 1 else 0) t j
      = (((∑ n, c t n * b j n) * weight x (fun m => d m k) (a k) t j : ℝ) : EReal) := by
  simp only [pair, coe_cum, ← EReal.coe_sub, Ideal.exp_coe, ← EReal.coe_mul, coe_sum]
  rw [spread_eq (fun i => (∑ n, c t n * b j n) * Real.exp (cumR (fun m => d m i) (a i) t - cumR (fun m => d m i) (a i) j) * d j i) k,
    ← EReal.coe_mul, weight]
  exact congrArg _ (by ring)

theorem within_eq (s : EReal) (b c : Fin 4 → Fin 128 → ℝ) (t : Fin 4) :
    within s (fun m => (x m : EReal)) (fun m n => (b m n : EReal)) (fun m n => (c m n : EReal)) (fun m i => (d m i : EReal))
      (fun i => (a i : EReal)) (fun i => if i = k then 1 else 0) t
      = s * (x t : EReal) + ((∑ n, c t n * added x (fun m => d m k) (fun m => b m n) (a k) t : ℝ) : EReal) := by
  rw [added_sum x (fun m => d m k) (a k) b (c t) t]
  fin_cases t <;> simp only [within, pair_eq, EReal.coe_add, add_assoc] <;> rfl

/-- A step's output. -/
theorem output_eq (sk : EReal) (b c : Fin 4 → Fin 128 → ℝ) (s : Fin 128 → EReal) (t : Fin 4) :
    within sk (fun m => (x m : EReal)) (fun m n => (b m n : EReal)) (fun m n => (c m n : EReal)) (fun m i => (d m i : EReal))
        (fun i => (a i : EReal)) (fun i => if i = k then 1 else 0) t
      + decay (fun m i => (d m i : EReal)) (fun i => (a i : EReal)) (fun i => if i = k then 1 else 0) t * ∑ n, (c t n : EReal) * s n
      = ∑ n, (c t n : EReal) * upto (s n) (fun m => (x m : EReal)) (fun m => (d m k : EReal)) (fun m => (b m n : EReal)) (a k : EReal) t
        + sk * (x t : EReal) := by
  simp only [upto_eq x (fun m => d m k) (a k), mul_affine _ (Real.exp_pos _), Finset.sum_add_distrib]
  rw [within_eq, decay_eq, mul_sum_of_nonneg _ (Real.exp_nonneg _), coe_sum, add_comm, add_comm (sk * _), add_assoc]

/-- The last state. -/
theorem state_eq (s : EReal) (b : Fin 4 → ℝ) :
    Ideal.exp (cum (fun m => (d m k : EReal)) (a k : EReal) 3) * s
      + ∑ m : Fin 16, (if h : m.val < 4 then carry (x ⟨m.val, h⟩ : EReal) (fun m i => (d m i : EReal)) (fun i => (a i : EReal))
          (fun i => if i = k then 1 else 0) ⟨m.val, h⟩ else (0 : EReal)) * (if h : m.val < 4 then (b ⟨m.val, h⟩ : EReal) else (0 : EReal))
      = upto s (fun m => (x m : EReal)) (fun m => (d m k : EReal)) (fun m => (b m : EReal)) (a k : EReal) 3 := by
  rw [upto_eq x (fun m => d m k) (a k), coe_cum (fun m => d m k), Ideal.exp_coe]
  refine congrArg _ ?_
  have h : ∀ m : Fin 16, (if h : m.val < 4 then carry (x ⟨m.val, h⟩ : EReal) (fun m i => (d m i : EReal)) (fun i => (a i : EReal))
          (fun i => if i = k then 1 else 0) ⟨m.val, h⟩ else (0 : EReal)) * (if h : m.val < 4 then (b ⟨m.val, h⟩ : EReal) else (0 : EReal))
      = ((if h : m.val < 4 then weight x (fun m => d m k) (a k) 3 ⟨m.val, h⟩ * b ⟨m.val, h⟩ else 0 : ℝ) : EReal) := fun m => by
    by_cases hm : m.val < 4
    · simp only [dif_pos hm, carry_eq, EReal.coe_mul]
    · simp only [dif_neg hm, mul_zero, EReal.coe_zero]
  rw [Finset.sum_congr rfl fun m _ => h m, coe_sum]
  refine congrArg _ ?_
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_castSucc, Fin.sum_univ_castSucc, Fin.sum_univ_four]
  simp [added, Fin.ext_iff]

end Kernel

/-! ### Finite values -/

theorem silu_real {v : EReal} (h : ∃ r : ℝ, v = r) : ∃ r : ℝ, silu v = r := by
  obtain ⟨r, rfl⟩ := h
  exact ⟨r * (1 + Real.exp (-r))⁻¹, by rw [silu, Ideal.logistic_coe, EReal.coe_mul]⟩

theorem real_add {u v : EReal} (hu : ∃ r : ℝ, u = r) (hv : ∃ r : ℝ, v = r) : ∃ r : ℝ, u + v = r := by
  obtain ⟨p, rfl⟩ := hu
  obtain ⟨q, rfl⟩ := hv
  exact ⟨p + q, (EReal.coe_add p q).symm⟩

theorem real_mul {u v : EReal} (hu : ∃ r : ℝ, u = r) (hv : ∃ r : ℝ, v = r) : ∃ r : ℝ, u * v = r := by
  obtain ⟨p, rfl⟩ := hu
  obtain ⟨q, rfl⟩ := hv
  exact ⟨p * q, (EReal.coe_mul p q).symm⟩

theorem taps_real {h : Fin 3 → EReal} {x w : Fin 4 → EReal} {b : EReal} (hh : ∀ m, ∃ r : ℝ, h m = r) (hx : ∀ m, ∃ r : ℝ, x m = r)
    (hw : ∀ m, ∃ r : ℝ, w m = r) (hb : ∃ r : ℝ, b = r) (t : Fin 4) : ∃ r : ℝ, taps h x w b t = r := by
  have four : ∀ p q r s : EReal, (∃ v : ℝ, p = v) → (∃ v : ℝ, q = v) → (∃ v : ℝ, r = v) → (∃ v : ℝ, s = v) →
      ∃ v : ℝ, b + w 0 * p + w 1 * q + w 2 * r + w 3 * s = v := fun _ _ _ _ h0 h1 h2 h3 =>
    real_add (real_add (real_add (real_add hb (real_mul (hw 0) h0)) (real_mul (hw 1) h1)) (real_mul (hw 2) h2)) (real_mul (hw 3) h3)
  fin_cases t
  · exact four _ _ _ _ (hh 0) (hh 1) (hh 2) (hx 0)
  · exact four _ _ _ _ (hh 1) (hh 2) (hx 0) (hx 1)
  · exact four _ _ _ _ (hh 2) (hx 0) (hx 1) (hx 2)
  · exact four _ _ _ _ (hx 0) (hx 1) (hx 2) (hx 3)

end Cert.ScanIdeal.Vals

end
-- ==== Proof.ScanFinite.lean ====
/-
  What the scan's precondition says: the argument arrays it names hold real numbers.
-/
module

public import proofs.«01_k».proof.Defs
public import proofs.«01_k».proof.Proof.Gen.Pre_finite
public import Idealize.ShloMosaic.Lib.ReduceAll
public import Idealize.ShloMosaic.Lib.Pointwise
public import Idealize.ShloMosaic.PureOps.Ideal.Laws

@[expose] public section

set_option maxHeartbeats 1000000

noncomputable section

namespace Cert.Pre_finite.Vals

open Idealize.ShloMosaic Idealize.ShloMosaic.Pointwise
open Cert.Pre_finite Cert.Pre_finite.Gen

/-- A number below the infinity in absolute value is real. -/
theorem real_of_abs {v : EReal} (h : Ideal.cmp .olt (max v (-v)) ⊤ = 1#1) : ∃ r : ℝ, v = r := by
  induction v using EReal.rec with
  | bot => simp [Ideal.cmp] at h
  | top => simp [Ideal.cmp] at h
  | coe r => exact ⟨r, rfl⟩

instance : Subsingleton S_.Idx := ⟨fun _ _ => funext fun k => k.elim0⟩

/-- An array whose absolute values are all below the infinity holds real numbers. -/
theorem real_of_all {s : Shape} {axes : List (Fin s.rank)} {d : Fin 0 → Fin s.rank} (x : FVec Ideal s .f32) (hb : S_.BroadcastsInDim s d) (hr : s.ReducesTo axes S_) (hu : 0 < S_.numel)
    (v : IVec S_ 1) (j : S_.Idx)
    (e : Host.reduce IntOp.andi (cmpf .olt (Host.absf x) (broadcastInDim s d hb (constant S_ .f32 0x7F800000#32))) v hr hu j = 1#1)
    (i : s.Idx) : ∃ r : ℝ, x i = r := by
  refine real_of_abs ((?_ : _ = _).trans (Host.reduce_andi_all _ _ _ _ j e i))
  have top : Ideal.ofBits .f32 0x7F800000#32 = ⊤ := by simp [Ideal.ofBits, Ideal.ieee]
  pointwise []
  rw [top]
  rfl

variable {x0 : FVec Ideal S512x18432 .bf16} {x1 : FVec Ideal S512x128 .f32} {x2 : FVec Ideal S1x128x128x64x128 .f32} {x3 : FVec Ideal S1x128x3x10240 .f32}
  {x4 : FVec Ideal S1x4x10240 .f32} {x5 : FVec Ideal S1x10240 .f32} {x6 x7 : FVec Ideal S1x128 .f32}

/-- The arrays the scan reads hold real numbers, but for the state and the skip weights. -/
theorem reals (h : fn (F := Ideal) x0 x1 x2 x3 x4 x5 x6 x7 = fun _ => 1#1) :
    (∀ (k : Fin 512) (q : Fin 10240), ∃ r : ℝ, x0 (ix2 k ⟨8192 + q.val, by omega⟩) = r) ∧ (∀ i, ∃ r : ℝ, x1 i = r) ∧ (∀ i, ∃ r : ℝ, x3 i = r)
      ∧ (∀ i, ∃ r : ℝ, x4 i = r) ∧ (∀ i, ∃ r : ℝ, x5 i = r) ∧ (∀ i, ∃ r : ℝ, x6 i = r) := by
  have e := congrFun h (fun k => k.elim0)
  simp only [fn, fn_part1, andi, IntOp.andi_eq_one] at e
  obtain ⟨⟨⟨⟨⟨e0, e1⟩, e3⟩, e4⟩, e5⟩, e6⟩ := e
  refine ⟨fun k q => ?_, real_of_all x1 _ _ _ _ _ e1, real_of_all x3 _ _ _ _ _ e3, real_of_all x4 _ _ _ _ _ e4, real_of_all x5 _ _ _ _ _ e5,
    real_of_all x6 _ _ _ _ _ e6⟩
  obtain ⟨r, hr⟩ := real_of_all _ _ _ _ _ _ e0 (ix2 k q)
  refine ⟨r, hr.symm.trans ?_ |>.symm⟩
  pointwise []

end Cert.Pre_finite.Vals

end
-- ==== Proof.ScanHost.lean ====
/-
  The operations between the sample group's scan calls, read at an index: what each buffer a call or a result reads holds
  after its stretch, in terms of what the stretch found.
-/
module

public import proofs.«01_k».proof.Proof.Gen.ScanIdeal.Launch
public import Idealize.ShloMosaic.Lib.Pointwise

@[expose] public section

set_option maxRecDepth 16384
set_option maxHeartbeats 2000000

noncomputable section

namespace Cert.ScanIdeal.Vals

open Idealize.ShloMosaic Idealize.ShloMosaic.TcCoe Idealize.SL.Sem
open Idealize.ShloMosaic.StableHlo
open Idealize.ShloMosaic.Pointwise
open Cert.ScanIdeal Cert.ScanIdeal.Gen

variable (W : Valuation τ sig (Elt Ideal))

theorem h0_v3 (t : Fin 4) (p : Fin 128) (q : Fin 18432) : (after hostOps0 W main_v3 : Vec Ideal S4x128x18432 .bf16) (ix3 t p q)
    = (W main_arg0 : Vec Ideal S512x18432 .bf16) (ix2 ⟨t.val * 128 + p.val, by omega⟩ q) := by
  after_results_simp
  pointwise

theorem h0_v4 (t : Fin 3) (p : Fin 128) (q : Fin 10240) : (after hostOps0 W main_v4 : Vec Ideal S3x128x10240 .f32) (ix3 t p q)
    = (W main_arg3 : Vec Ideal S1x128x3x10240 .f32) (ix4 0 p t q) := by
  after_results_simp
  pointwise

theorem h0_v5 (k : Fin 4) (q : Fin 10240) : (after hostOps0 W main_v5 : Vec Ideal S4x10240 .f32) (ix2 k q)
    = (W main_arg4 : Vec Ideal S1x4x10240 .f32) (ix3 0 k q) := by
  after_results_simp
  pointwise

theorem h0_v7 (q : Fin 10240) : (after hostOps0 W main_v7 : Vec Ideal S1x10240 .f32) (ix2 0 q)
    = (W main_arg5 : Vec Ideal S1x10240 .f32) (ix2 0 q) := by
  after_results_simp
  pointwise

theorem h0_v2 (p : Fin 128) (q : Fin 8192) (n : Fin 128) : (after hostOps0 W main_v2 : Vec Ideal S128x8192x128 .f32) (ix3 p q n)
    = (W main_arg2 : Vec Ideal S1x128x128x64x128 .f32) (ix5 0 p ⟨q.val / 64, by omega⟩ ⟨q.val % 64, by omega⟩ n) := by
  after_results_simp
  pointwise

theorem h1_v10 (t : Fin 4) (p : Fin 128) (q : Fin 10240) : (after hostOps1 W main_v10 : Vec Ideal S4x128x10240 .bf16) (ix3 t p q)
    = (W main_v8 : Vec Ideal S4x128x10240 .bf16) (ix3 t p q) := by
  after_results_simp
  pointwise

theorem h1_v15 (g : Fin 8) (k : Fin 16) : (after hostOps1 W main_v15 : Vec Ideal S8x1x16 .f32) (ix3 g 0 k)
    = -Ideal.exp ((W main_arg6 : Vec Ideal S1x128 .f32) (ix2 0 ⟨g.val * 16 + k.val, by omega⟩)) := by
  after_results_simp
  pointwise

theorem h1_v17 (g : Fin 8) (t : Fin 4) (p : Fin 128) (k : Fin 16) : (after hostOps1 W main_v17 : Vec Ideal S8x4x128x16 .f32) (ix4 g t p k)
    = (W main_arg1 : Vec Ideal S512x128 .f32) (ix2 ⟨t.val * 128 + p.val, by omega⟩ ⟨g.val * 16 + k.val, by omega⟩) := by
  after_results_simp
  pointwise

theorem h1_v20 (g : Fin 8) (j : Fin 1024) : (after hostOps1 W main_v20 : Vec Ideal S8x1x1024 .f32) (ix3 g 0 j)
    = (W main_arg7 : Vec Ideal S1x128 .f32) (ix2 0 ⟨g.val * 16 + j.val / 64, by omega⟩) := by
  after_results_simp
  pointwise

theorem h1_v22 (j : Fin 1024) : (after hostOps1 W main_v22 : Vec Ideal S1x1024 .i32) (ix2 0 j) = BitVec.ofNat 32 j.val := by
  after_results_simp
  pointwise

theorem h1_c (i : S_.Idx) : (after hostOps1 W main_c : Vec Ideal S_ .i32) i = 64#32 := by
  after_results_simp
  pointwise

/-- A one-bit comparison as a number. -/
theorem flag_eq (a b : BitVec 32) : (FloatOps.uitofp (F := Ideal) FTy.bf16 (IntOp.cmpi CmpIPredicate.eq a b) : EReal)
    = if a = b then (1 : EReal) else (0 : EReal) := by
  by_cases h : a = b
  · subst h
    simp [FloatOps.uitofp, IntOp.cmpi]
  · simp [FloatOps.uitofp, IntOp.cmpi, h]

/-- The rounded-down quotient by 64 of a column. -/
theorem quotient_eq : ∀ j : Fin 1024, Scalar.select
      (IntOp.andi
        (IntOp.cmpi CmpIPredicate.ne
          (if BitVec.ofNat 32 j.val = 0 then 0 else if BitVec.msb (BitVec.ofNat 32 j.val) = true then -1 else 1)
          (if 64#32 = 0 then 0 else if BitVec.msb 64#32 = true then -1 else 1 : BitVec 32))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  decide +kernel

theorem h12_v29 (k : Fin 16) (j : Fin 1024) : (after hostOps1_2 W main_v29 : Vec Ideal S16x1024 .bf16) (ix2 k j)
    = if (W main_v23 : Vec Ideal S1x1024 .i32) (ix2 0 j) = BitVec.ofNat 32 k.val then (1 : EReal) else (0 : EReal) := by
  after_results_simp
  pointwise
  exact flag_eq _ _

theorem h11_v23 (h : ∀ i, (W main_c : Vec Ideal S_ .i32) i = 64#32)
    (g : ∀ j : Fin 1024, (W main_v22 : Vec Ideal S1x1024 .i32) (ix2 0 j) = BitVec.ofNat 32 j.val)
    (j : Fin 1024) : (after hostOps1_1 W main_v23 : Vec Ideal S1x1024 .i32) (ix2 0 j) = BitVec.ofNat 32 (j.val / 64) := by
  simp only [hostOps1_1, TRef.unary, TRef.binary, TRef.nullary, TRef.ternary, TRef.toBuf, TRef.ofBuf, cast_eq]
  after_results_simp
  pointwise
  have h' : id (W (Proc.tc.devRef main_c)) ix0 = 64#32 := h ix0
  have g' : W (Proc.tc.devRef main_v22) (ix2 0 j) = BitVec.ofNat 32 j.val := g j
  rw [h', g']
  exact quotient_eq j

theorem h2_v32 (p : Fin 128) (t : Fin 4) (q : Fin 1024) : (after hostOps2 W main_v32 : Vec Ideal S128x4x1024 .bf16) (ix3 p t q)
    = (W main_v10 : Vec Ideal S4x128x10240 .bf16) (ix3 t p ⟨8192 + q.val, by omega⟩) := by
  after_results_simp
  pointwise

theorem h2_c (i : S_.Idx) : (after hostOps2 W main_c_0 : Vec Ideal S_ .i32) i = 0#32 := by
  after_results_simp
  pointwise

theorem h22_c (i : S_.Idx) : (after hostOps2_2 W main_c_1 : Vec Ideal S_ .i32) i = 0#32 := by
  after_results_simp
  pointwise

theorem h24_c (i : S_.Idx) : (after hostOps2_4 W main_c_2 : Vec Ideal S_ .i32) i = 0#32 := by
  after_results_simp
  pointwise

theorem h26_c (i : S_.Idx) : (after hostOps2_6 W main_c_3 : Vec Ideal S_ .i32) i = 0#32 := by
  after_results_simp
  pointwise

theorem h28_c (i : S_.Idx) : (after hostOps2_8 W main_c_4 : Vec Ideal S_ .i32) i = 0#32 := by
  after_results_simp
  pointwise

theorem h22_v35 (p : Fin 128) (t : Fin 4) (q : Fin 1024) : (after hostOps2_2 W main_v35 : Vec Ideal S128x4x1024 .bf16) (ix3 p t q)
    = (W main_v10 : Vec Ideal S4x128x10240 .bf16) (ix3 t p ⟨9216 + q.val, by omega⟩) := by
  after_results_simp
  pointwise

theorem h24_v39 (p : Fin 128) (t : Fin 4) (q : Fin 8192) : (after hostOps2_4 W main_v39 : Vec Ideal S128x4x8192 .bf16) (ix3 p t q)
    = (W main_v30_2 : Vec Ideal S4x128x8192 .bf16) (ix3 t p q) := by
  after_results_simp
  pointwise

theorem h26_v41 (p : Fin 128) (t : Fin 4) (q : Fin 8192) : (after hostOps2_6 W main_v41 : Vec Ideal S128x4x8192 .f32) (ix3 p t q)
    = (W main_v30_1 : Vec Ideal S4x128x8192 .f32) (ix3 t p q) := by
  after_results_simp
  pointwise

theorem h28_v43 (p : Fin 128) (t : Fin 4) (q : Fin 8192) : (after hostOps2_8 W main_v43 : Vec Ideal S128x4x8192 .f32) (ix3 p t q)
    = (W main_v30_0 : Vec Ideal S4x128x8192 .f32) (ix3 t p q) := by
  after_results_simp
  pointwise

/-- A zero converted. -/
theorem zero_bf16 {c : BitVec 32} (h : c = 0#32) : (FloatOps.sitofp (F := Ideal) FTy.bf16 c : EReal) = 0 := by
  subst h; simp [FloatOps.sitofp]

theorem zero_f32 {c : BitVec 32} (h : c = 0#32) : (FloatOps.sitofp (F := Ideal) FTy.f32 c : EReal) = 0 := by
  subst h; simp [FloatOps.sitofp]

theorem h21_v33 (h : ∀ i, (W main_c_0 : Vec Ideal S_ .i32) i = 0#32) (p : Fin 128) (t : Fin 16) (q : Fin 1024) :
    (after hostOps2_1 W main_v33 : Vec Ideal S128x16x1024 .bf16) (ix3 p t q)
    = if ht : t.val < 4 then (W main_v32 : Vec Ideal S128x4x1024 .bf16) (ix3 p ⟨t.val, ht⟩ q) else (0 : EReal) := by
  simp only [hostOps2_1, TRef.unary, TRef.binary, TRef.toBuf, TRef.ofBuf, cast_eq]
  after_results_simp
  pointwise
  exact dite_congr rfl (fun _ => rfl) (fun _ => zero_bf16 (h _))

theorem h23_v36 (h : ∀ i, (W main_c_1 : Vec Ideal S_ .i32) i = 0#32) (p : Fin 128) (t : Fin 16) (q : Fin 1024) :
    (after hostOps2_3 W main_v36 : Vec Ideal S128x16x1024 .bf16) (ix3 p t q)
    = if ht : t.val < 4 then (W main_v35 : Vec Ideal S128x4x1024 .bf16) (ix3 p ⟨t.val, ht⟩ q) else (0 : EReal) := by
  simp only [hostOps2_3, TRef.unary, TRef.binary, TRef.toBuf, TRef.ofBuf, cast_eq]
  after_results_simp
  pointwise
  exact dite_congr rfl (fun _ => rfl) (fun _ => zero_bf16 (h _))

theorem h25_v40 (h : ∀ i, (W main_c_2 : Vec Ideal S_ .i32) i = 0#32) (p : Fin 128) (t : Fin 16) (q : Fin 8192) :
    (after hostOps2_5 W main_v40 : Vec Ideal S128x16x8192 .bf16) (ix3 p t q)
    = if ht : t.val < 4 then (W main_v39 : Vec Ideal S128x4x8192 .bf16) (ix3 p ⟨t.val, ht⟩ q) else (0 : EReal) := by
  simp only [hostOps2_5, TRef.unary, TRef.binary, TRef.toBuf, TRef.ofBuf, cast_eq]
  after_results_simp
  pointwise
  exact dite_congr rfl (fun _ => rfl) (fun _ => zero_bf16 (h _))

theorem h27_v42 (h : ∀ i, (W main_c_3 : Vec Ideal S_ .i32) i = 0#32) (p : Fin 128) (t : Fin 8) (q : Fin 8192) :
    (after hostOps2_7 W main_v42 : Vec Ideal S128x8x8192 .f32) (ix3 p t q)
    = if ht : t.val < 4 then (W main_v41 : Vec Ideal S128x4x8192 .f32) (ix3 p ⟨t.val, ht⟩ q) else (0 : EReal) := by
  simp only [hostOps2_7, TRef.unary, TRef.binary, TRef.toBuf, TRef.ofBuf, cast_eq]
  after_results_simp
  pointwise
  exact dite_congr rfl (fun _ => rfl) (fun _ => zero_f32 (h _))

theorem h29_v44 (h : ∀ i, (W main_c_4 : Vec Ideal S_ .i32) i = 0#32) (p : Fin 128) (t : Fin 8) (q : Fin 8192) :
    (after hostOps2_9 W main_v44 : Vec Ideal S128x8x8192 .f32) (ix3 p t q)
    = if ht : t.val < 4 then (W main_v43 : Vec Ideal S128x4x8192 .f32) (ix3 p ⟨t.val, ht⟩ q) else (0 : EReal) := by
  simp only [hostOps2_9, TRef.unary, TRef.binary, TRef.toBuf, TRef.ofBuf, cast_eq]
  after_results_simp
  pointwise
  exact dite_congr rfl (fun _ => rfl) (fun _ => zero_f32 (h _))

theorem h24_v38 (p : Fin 128) (r : Fin 128) : (after hostOps2_4 W main_v38 : Vec Ideal S128x128x1 .f32) (ix3 p r 0)
    = (W main_v30_3 : Vec Ideal S8x128x16 .f32) (ix3 ⟨r.val / 16, by omega⟩ p ⟨r.val % 16, by omega⟩) := by
  after_results_simp
  pointwise

theorem h3_v49 (r : Fin 512) (q : Fin 8192) : (after hostOps3 W main_v49 : Vec Ideal S512x8192 .bf16) (ix2 r q)
    = (W main_v45_0 : Vec Ideal S128x8x8192 .f32) (ix3 ⟨r.val % 128, by omega⟩ ⟨r.val / 128, by omega⟩ q) := by
  after_results_simp
  pointwise

theorem h3_v51 (p h : Fin 128) (d : Fin 64) (n : Fin 128) : (after hostOps3 W main_v51 : Vec Ideal S1x128x128x64x128 .f32) (ix5 0 p h d n)
    = (W main_v45_1 : Vec Ideal S128x8192x128 .f32) (ix3 p ⟨h.val * 64 + d.val, by omega⟩ n) := by
  after_results_simp
  pointwise

end Cert.ScanIdeal.Vals

end
-- ==== Proof.ScanState.lean ====
/-
  The part of the sample group's scan that reads the state (`cc2_ssd_sample_b`), read.
-/
module

public import proofs.«01_k».proof.Proof.Gen.ScanIdeal.Frame
public import proofs.«01_k».proof.Proof.Blocks

@[expose] public section

set_option maxRecDepth 16384
set_option maxHeartbeats 2000000

noncomputable section

namespace Cert.ScanIdeal.Vals

open Idealize.ShloMosaic Idealize.ShloMosaic.TcCoe Idealize.SL.Sem
open Idealize.ShloMosaic.Pipeline (Dat)
open Idealize.ShloMosaic.Pointwise
open Cert.ScanIdeal Cert.ScanIdeal.Gen

open Cert.Spec

/-- Column `n` of the group that row `q` of the state belongs to. -/
def gcol (q : Fin 8192) (n : Fin 128) : Fin 1024 := ⟨q.val / 1024 * 128 + n.val, by omega⟩

/-- Row `q` of the state belongs to head `q / 64`. -/
def hrow (q : Fin 8192) : Fin 128 := ⟨q.val / 64, by omega⟩

/-- Row `j` of the 1024 rows from row `o` on. -/
abbrev part (o : Nat) (h : o + 1024 ≤ 8192) (j : Fin 1024) : Fin 8192 := ⟨o + j.val, by omega⟩

variable (s : Vec Ideal S1x8192x128 .f32) (c b : Vec Ideal S1x16x1024 .bf16) (xw : Vec Ideal S1x16x8192 .bf16)
  (ea yp : Vec Ideal S1x8x8192 .f32) (cd : Vec Ideal S1x128x1 .f32)

/-- A choice is a value that both its branches are. -/
theorem dite_either {p : Prop} [Decidable p] {u v w : EReal} (h : p → u = w) (h' : ¬ p → v = w) : (if _h : p then u else v) = w := by
  by_cases e : p
  · rw [dif_pos e, h e]
  · rw [dif_neg e, h' e]

/-- The output: what the steps add to each other, plus the decayed state against the group's columns. -/
theorem out2_y (r : Fin 8) (q : Fin 8192) : out2_7 s c b xw ea yp cd (ix3 0 r q)
    = yp (ix3 0 r q) + ea (ix3 0 r q) * ∑ n, c (ix3 0 ⟨r.val, by omega⟩ (gcol q n)) * s (ix3 0 q n) := by
  unfold_out out2_7
  canon_tiles u hu
  all_goals obtain rfl : r = u 1 := Fin.ext hu1
  case' piece0 =>
    obtain rfl : q = part 7168 (by decide) (u 2) := Fin.ext hu2
    pointwise [k2_pay83, k2_pay82]
  case' piece1 =>
    obtain rfl : q = part 6144 (by decide) (u 2) := Fin.ext hu2
    pointwise [k2_pay78, k2_pay77, k2_pay75]
  case' piece2 =>
    obtain rfl : q = part 5120 (by decide) (u 2) := Fin.ext hu2
    pointwise [k2_pay61, k2_pay58, k2_pay60, k2_pay57]
  case' piece3 =>
    obtain rfl : q = part 4096 (by decide) (u 2) := Fin.ext hu2
    pointwise [k2_pay49, k2_pay48]
  case' piece4 =>
    obtain rfl : q = part 3072 (by decide) (u 2) := Fin.ext hu2
    pointwise [k2_pay45, k2_pay43]
  case' piece5 =>
    obtain rfl : q = part 2048 (by decide) (u 2) := Fin.ext hu2
    pointwise [k2_pay26, k2_pay24, k2_pay25, k2_pay22]
  case' piece6 =>
    obtain rfl : q = part 1024 (by decide) (u 2) := Fin.ext hu2
    pointwise [k2_pay11, k2_pay89, k2_pay10]
  case' piece7 =>
    obtain rfl : q = part 0 (by decide) (u 2) := Fin.ext (hu2.trans (Nat.zero_add _).symm)
    pointwise [k2_pay4, k2_pay3]
  all_goals
    refine congrArg₂ (· + ·) (congrArg (fun j => yp (ix3 0 (u 1) j)) (Fin.ext ?_)) (congrArg₂ (· * ·)
      (congrArg (fun j => ea (ix3 0 (u 1) j)) (Fin.ext ?_)) (Finset.sum_congr rfl fun n _ => congrArg₂ (· * ·)
      (congrArg (fun j => c (ix3 0 _ j)) (Fin.ext ?_)) (congrArg (fun j => s (ix3 0 j n)) (Fin.ext ?_))))
    all_goals first | rfl | (simp only [gcol, part]; omega)

/-- The next state: the decayed state plus the steps' weights against the group's columns. -/
theorem out2_s (q : Fin 8192) (n : Fin 128) : out2_8 s c b xw ea yp cd (ix3 0 q n)
    = cd (ix3 0 (hrow q) 0) * s (ix3 0 q n) + ∑ m, xw (ix3 0 m q) * b (ix3 0 m (gcol q n)) := by
  unfold_out out2_8
  canon_tiles u hu
  all_goals obtain rfl : n = u 2 := Fin.ext hu2
  case' piece0 =>
    obtain rfl : q = part 7168 (by decide) (u 1) := Fin.ext hu1
    pointwise [k2_pay1, k2_pay2, k2_pay82, k2_pay83, k2_pay84, k2_pay85, k2_pay86, k2_pay87]
  case' piece1 =>
    obtain rfl : q = part 6144 (by decide) (u 1) := Fin.ext hu1
    pointwise [k2_pay81, k2_pay2, k2_pay75, k2_pay76, k2_pay77, k2_pay78, k2_pay79, k2_pay80, k2_pay81]
  case' piece2 =>
    obtain rfl : q = part 5120 (by decide) (u 1) := Fin.ext hu1
    pointwise [k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay2]
  case' piece3 =>
    obtain rfl : q = part 4096 (by decide) (u 1) := Fin.ext hu1
    pointwise [k2_pay48, k2_pay49, k2_pay50, k2_pay51, k2_pay52, k2_pay53, k2_pay54, k2_pay55, k2_pay56, k2_pay2]
  case' piece4 =>
    obtain rfl : q = part 3072 (by decide) (u 1) := Fin.ext hu1
    pointwise [k2_pay47, k2_pay43, k2_pay44, k2_pay46, k2_pay2]
  case' piece5 =>
    obtain rfl : q = part 2048 (by decide) (u 1) := Fin.ext hu1
    pointwise [k2_pay42, k2_pay2, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41]
  case' piece6 =>
    obtain rfl : q = part 1024 (by decide) (u 1) := Fin.ext hu1
    pointwise [k2_pay21, k2_pay2, k2_pay89, k2_pay10, k2_pay12, k2_pay13, k2_pay14, k2_pay15, k2_pay16, k2_pay17, k2_pay18, k2_pay19, k2_pay20]
  case' piece7 =>
    obtain rfl : q = part 0 (by decide) (u 1) := Fin.ext (hu1.trans (Nat.zero_add _).symm)
    pointwise [k2_pay9, k2_pay2, k2_pay3, k2_pay5, k2_pay6, k2_pay7, k2_pay8]
  all_goals
    refine congrArg₂ (· + ·) (congrArg₂ (· * ·) ?_ (congrArg (fun j => s (ix3 0 j (u 2))) (Fin.ext ?_)))
      (Finset.sum_congr rfl fun m _ => congrArg₂ (· * ·) (congrArg (fun j => xw (ix3 0 m j)) (Fin.ext ?_))
        (congrArg (fun j => b (ix3 0 m j)) (Fin.ext ?_)))
    · repeat' refine dite_either (fun _ => ?_) (fun _ => ?_)
      all_goals exact congrArg (fun r => cd (ix3 0 r 0)) (Fin.ext (by simp only [hrow, part, Fin.coe_ofNat_eq_mod]; omega))
    all_goals first | rfl | (simp only [gcol, part]; omega)

end Cert.ScanIdeal.Vals

end
-- ==== Proof.ScanArr.lean ====
/-
  The arrays the sample group's scan leaves: the sums that need no state (`cc1_ssd_sample_a`), then the outputs and the last
  state (`cc2_ssd_sample_b`).
-/
module

public import proofs.«01_k».proof.Proof.Gen.ScanIdeal.Frame
public import proofs.«01_k».proof.Proof.ScanStart
public import proofs.«01_k».proof.Proof.ScanState

@[expose] public section

set_option maxRecDepth 16384
set_option maxHeartbeats 400000

noncomputable section

namespace Cert.ScanIdeal.Vals

open Idealize.ShloMosaic Idealize.ShloMosaic.TcCoe Idealize.SL.Sem
open Idealize.ShloMosaic.Pipeline (Dat)
open Idealize.ShloMosaic.Pointwise
open Cert.ScanIdeal Cert.ScanIdeal.Gen

open Cert.Spec

/-- The four results of the first call, over the arrays. -/
def withins (X Y Z : (⟨3, ![4, 128, 10240]⟩ : Shape).Idx → EReal) (D : (⟨4, ![8, 4, 128, 16]⟩ : Shape).Idx → EReal) (A : (⟨3, ![8, 1, 16]⟩ : Shape).Idx → EReal) (S : (⟨3, ![8, 1, 1024]⟩ : Shape).Idx → EReal)
    (E : (⟨2, ![16, 1024]⟩ : Shape).Idx → EReal) : (⟨3, ![4, 128, 8192]⟩ : Shape).Idx → EReal := fun i => withinAt X Y Z D A S E (i 0) (i 1) (i 2)

def decays (D : (⟨4, ![8, 4, 128, 16]⟩ : Shape).Idx → EReal) (A : (⟨3, ![8, 1, 16]⟩ : Shape).Idx → EReal) (E : (⟨2, ![16, 1024]⟩ : Shape).Idx → EReal) :
    (⟨3, ![4, 128, 8192]⟩ : Shape).Idx → EReal := fun i => decayAt D A E (i 0) (i 1) (i 2)

def carries (X : (⟨3, ![4, 128, 10240]⟩ : Shape).Idx → EReal) (D : (⟨4, ![8, 4, 128, 16]⟩ : Shape).Idx → EReal) (A : (⟨3, ![8, 1, 16]⟩ : Shape).Idx → EReal)
    (E : (⟨2, ![16, 1024]⟩ : Shape).Idx → EReal) : (⟨3, ![4, 128, 8192]⟩ : Shape).Idx → EReal := fun i => carryAt X D A E (i 0) (i 1) (i 2)

def lasts (D : (⟨4, ![8, 4, 128, 16]⟩ : Shape).Idx → EReal) (A : (⟨3, ![8, 1, 16]⟩ : Shape).Idx → EReal) : (⟨3, ![8, 128, 16]⟩ : Shape).Idx → EReal :=
  fun i => Ideal.exp (cum (fun m => D (ix4 (i 0) m (i 1) (i 2))) (A (ix3 (i 0) 0 (i 2))) 3)

variable (V : (c : Dev nD) → (b : Ref sig .tc) → Buf (Elt Ideal) ((c : Thread nD τ).loc b))

attribute [local irreducible] out1_7 out1_8 out1_9 out1_10 out2_7 out2_8 within decay carry spread

section Blocks

variable (c : Dev nD) (t : Fin cfg1.N) (y : S4x128x1024.Idx) (i : S4x128x8192.Idx) (h0 : (i 0).val = (y 0).val)
  (h1 : (i 1).val = (y 1).val) (h : (i 2).val = t.val * 1024 + (y 2).val)
include h0 h1 h

theorem at1_7 : out1_7 (iblk1 V c 0 t) (iblk1 V c 1 t) (iblk1 V c 2 t) (iblk1 V c 3 t) (iblk1 V c 4 t) (iblk1 V c 5 t) (iblk1 V c 6 t) y
    = withins (V c (Pipeline.arrRef spec1 0)) (V c (Pipeline.arrRef spec1 1)) (V c (Pipeline.arrRef spec1 2)) (V c (Pipeline.arrRef spec1 3))
      (V c (Pipeline.arrRef spec1 4)) (V c (Pipeline.arrRef spec1 5)) (V c (Pipeline.arrRef spec1 6)) i :=
  (out1_yp (iblk1 V c 0 t) (iblk1 V c 1 t) (iblk1 V c 2 t) (iblk1 V c 3 t) (iblk1 V c 4 t) (iblk1 V c 5 t) (iblk1 V c 6 t) y).trans
    (within_congr (read_s V c t (i 2) (y 2) h) (fun m => read_x V c t (i 2) (y 2) h m _ _ h1)
      (fun m n => read_b V c t (i 2) (y 2) h m _ _ h1 n) (fun m n => read_c V c t (i 2) (y 2) h m _ _ h1 n)
      (fun m k => read_d V c t (i 2) (y 2) h m _ _ h1 k) (fun k => read_a V c t (i 2) (y 2) h k)
      (fun k => read_e V c t (i 2) (y 2) h k) (Fin.ext h0.symm))

theorem at1_8 : out1_8 (iblk1 V c 0 t) (iblk1 V c 1 t) (iblk1 V c 2 t) (iblk1 V c 3 t) (iblk1 V c 4 t) (iblk1 V c 5 t) (iblk1 V c 6 t) y
    = decays (V c (Pipeline.arrRef spec1 3)) (V c (Pipeline.arrRef spec1 4)) (V c (Pipeline.arrRef spec1 6)) i :=
  (out1_ea (iblk1 V c 0 t) (iblk1 V c 1 t) (iblk1 V c 2 t) (iblk1 V c 3 t) (iblk1 V c 4 t) (iblk1 V c 5 t) (iblk1 V c 6 t) y).trans
    (decay_congr (fun m k => read_d V c t (i 2) (y 2) h m _ _ h1 k) (fun k => read_a V c t (i 2) (y 2) h k)
      (fun k => read_e V c t (i 2) (y 2) h k) (Fin.ext h0.symm))

theorem at1_9 : out1_9 (iblk1 V c 0 t) (iblk1 V c 1 t) (iblk1 V c 2 t) (iblk1 V c 3 t) (iblk1 V c 4 t) (iblk1 V c 5 t) (iblk1 V c 6 t) y
    = carries (V c (Pipeline.arrRef spec1 0)) (V c (Pipeline.arrRef spec1 3)) (V c (Pipeline.arrRef spec1 4)) (V c (Pipeline.arrRef spec1 6)) i := by
  obtain ⟨y0, y1, y2, rfl⟩ : ∃ a b c, y = ix3 a b c := ⟨y 0, y 1, y 2, idx_ext_three rfl rfl rfl⟩
  obtain ⟨i0, i1, i2, rfl⟩ : ∃ a b c, i = ix3 a b c := ⟨i 0, i 1, i 2, idx_ext_three rfl rfl rfl⟩
  obtain rfl : i0 = y0 := Fin.ext h0
  exact (out1_xw (iblk1 V c 0 t) (iblk1 V c 1 t) (iblk1 V c 2 t) (iblk1 V c 3 t) (iblk1 V c 4 t) (iblk1 V c 5 t) (iblk1 V c 6 t) (ix3 i0 y1 y2)).trans
    (show carry (iblk1 V c 0 t (ix3 i0 y1 y2)) (fun m k => iblk1 V c 3 t (ix4 0 m y1 k)) (fun k => iblk1 V c 4 t (ix3 0 0 k))
        (fun k => iblk1 V c 6 t (ix2 k y2)) i0 = carryAt (V c (Pipeline.arrRef spec1 0)) (V c (Pipeline.arrRef spec1 3)) (V c (Pipeline.arrRef spec1 4)) (V c (Pipeline.arrRef spec1 6)) i0 i1 i2 from
      carry_congr (read_x V c t i2 y2 h i0 y1 i1 h1) (fun m k => read_d V c t i2 y2 h m _ _ h1 k) (fun k => read_a V c t i2 y2 h k)
        (fun k => read_e V c t i2 y2 h k) rfl)

end Blocks

theorem at1_10 (c : Dev nD) (t : Fin cfg1.N) (y : S1x128x16.Idx) (i : S8x128x16.Idx) (h0 : (i 0).val = t.val)
    (h1 : (i 1).val = (y 1).val) (h2 : (i 2).val = (y 2).val) : out1_10 (iblk1 V c 0 t) (iblk1 V c 1 t) (iblk1 V c 2 t) (iblk1 V c 3 t) (iblk1 V c 4 t) (iblk1 V c 5 t) (iblk1 V c 6 t) y
    = lasts (V c (Pipeline.arrRef spec1 3)) (V c (Pipeline.arrRef spec1 4)) i := by
  have hy : y = ix3 0 (y 1) (y 2) := idx_ext_three (Nat.lt_one_iff.mp (y 0).isLt) rfl rfl
  refine (congrArg (out1_10 (iblk1 V c 0 t) (iblk1 V c 1 t) (iblk1 V c 2 t) (iblk1 V c 3 t) (iblk1 V c 4 t) (iblk1 V c 5 t) (iblk1 V c 6 t)) hy).trans
    ((out1_cd (iblk1 V c 0 t) (iblk1 V c 1 t) (iblk1 V c 2 t) (iblk1 V c 3 t) (iblk1 V c 4 t) (iblk1 V c 5 t) (iblk1 V c 6 t) (y 1) (y 2)).trans ?_)
  refine congrArg Ideal.exp (congrArg₂ (fun d a => cum d a 3) (funext fun m => ?_) ?_)
  · have e' := emb_val win1_3 (idx1_3 t) rfl (ix4 0 m (y 1) (y 2))
    exact congrArg (V c (Pipeline.arrRef spec1 3)) (idx_ext_four ((e' 0).trans (show t.val * 1 + 0 = (i 0).val by omega)) (origin (e' 1))
      ((origin (e' 2)).trans h1.symm) ((origin (e' 3)).trans h2.symm))
  · have e' := emb_val win1_4 (idx1_4 t) rfl (ix3 0 0 (y 2))
    exact congrArg (V c (Pipeline.arrRef spec1 4)) (idx_ext_three ((e' 0).trans (show t.val * 1 + 0 = (i 0).val by omega)) (origin (e' 1))
      ((origin (e' 2)).trans h2.symm))

/-- The outputs of the second call, over the arrays: the state's part of each step's output added to the rest. -/
def outputs (S : (⟨3, ![128, 8192, 128]⟩ : Shape).Idx → EReal) (C : (⟨3, ![128, 16, 1024]⟩ : Shape).Idx → EReal)
    (W P : (⟨3, ![128, 8, 8192]⟩ : Shape).Idx → EReal) : (⟨3, ![128, 8, 8192]⟩ : Shape).Idx → EReal :=
  fun i => P i + W i * ∑ n, C (ix3 (i 0) ⟨(i 1).val, Nat.lt_of_lt_of_le (i 1).isLt (show 8 ≤ 16 by decide)⟩ (gcol (i 2) n)) * S (ix3 (i 0) (i 2) n)

/-- The last state, over the arrays. -/
def states (S : (⟨3, ![128, 8192, 128]⟩ : Shape).Idx → EReal) (B : (⟨3, ![128, 16, 1024]⟩ : Shape).Idx → EReal)
    (X : (⟨3, ![128, 16, 8192]⟩ : Shape).Idx → EReal) (D : (⟨3, ![128, 128, 1]⟩ : Shape).Idx → EReal) :
    (⟨3, ![128, 8192, 128]⟩ : Shape).Idx → EReal :=
  fun i => D (ix3 (i 0) (hrow (i 1)) 0) * S i + ∑ m, X (ix3 (i 0) m (i 1)) * B (ix3 (i 0) m (gcol (i 1) (i 2)))

theorem idx2_0 : ∀ t : Fin cfg2.N, win2_0.index t = ![t.val, 0, 0] := (by decide +kernel : ∀ t : Fin grid2.N, _)
theorem idx2_1 : ∀ t : Fin cfg2.N, win2_1.index t = ![t.val, 0, 0] := (by decide +kernel : ∀ t : Fin grid2.N, _)
theorem idx2_2 : ∀ t : Fin cfg2.N, win2_2.index t = ![t.val, 0, 0] := (by decide +kernel : ∀ t : Fin grid2.N, _)
theorem idx2_3 : ∀ t : Fin cfg2.N, win2_3.index t = ![t.val, 0, 0] := (by decide +kernel : ∀ t : Fin grid2.N, _)
theorem idx2_4 : ∀ t : Fin cfg2.N, win2_4.index t = ![t.val, 0, 0] := (by decide +kernel : ∀ t : Fin grid2.N, _)
theorem idx2_5 : ∀ t : Fin cfg2.N, win2_5.index t = ![t.val, 0, 0] := (by decide +kernel : ∀ t : Fin grid2.N, _)
theorem idx2_6 : ∀ t : Fin cfg2.N, win2_6.index t = ![t.val, 0, 0] := (by decide +kernel : ∀ t : Fin grid2.N, _)
theorem idx2_7 : ∀ t : Fin cfg2.N, win2_7.index t = ![t.val, 0, 0] := (by decide +kernel : ∀ t : Fin grid2.N, _)
theorem idx2_8 : ∀ t : Fin cfg2.N, win2_8.index t = ![t.val, 0, 0] := (by decide +kernel : ∀ t : Fin grid2.N, _)

theorem row2_0 (c : Dev nD) (t : Fin cfg2.N) (i : Fin 128) (h : i.val = t.val) (p : Fin 8192) (q : Fin 128) :
    iblk2 V c 0 t (ix3 0 p q) = V c (Pipeline.arrRef spec2 0) (ix3 i p q) :=
  have e := emb_val win2_0 (idx2_0 t) rfl (ix3 0 p q)
  congrArg (V c (Pipeline.arrRef spec2 0)) (idx_ext_three ((e 0).trans (show t.val * 1 + 0 = i.val by omega)) (origin (e 1)) (origin (e 2)))

theorem row2_1 (c : Dev nD) (t : Fin cfg2.N) (i : Fin 128) (h : i.val = t.val) (p : Fin 16) (q : Fin 1024) :
    iblk2 V c 1 t (ix3 0 p q) = V c (Pipeline.arrRef spec2 1) (ix3 i p q) :=
  have e := emb_val win2_1 (idx2_1 t) rfl (ix3 0 p q)
  congrArg (V c (Pipeline.arrRef spec2 1)) (idx_ext_three ((e 0).trans (show t.val * 1 + 0 = i.val by omega)) (origin (e 1)) (origin (e 2)))

theorem row2_2 (c : Dev nD) (t : Fin cfg2.N) (i : Fin 128) (h : i.val = t.val) (p : Fin 16) (q : Fin 1024) :
    iblk2 V c 2 t (ix3 0 p q) = V c (Pipeline.arrRef spec2 2) (ix3 i p q) :=
  have e := emb_val win2_2 (idx2_2 t) rfl (ix3 0 p q)
  congrArg (V c (Pipeline.arrRef spec2 2)) (idx_ext_three ((e 0).trans (show t.val * 1 + 0 = i.val by omega)) (origin (e 1)) (origin (e 2)))

theorem row2_3 (c : Dev nD) (t : Fin cfg2.N) (i : Fin 128) (h : i.val = t.val) (p : Fin 16) (q : Fin 8192) :
    iblk2 V c 3 t (ix3 0 p q) = V c (Pipeline.arrRef spec2 3) (ix3 i p q) :=
  have e := emb_val win2_3 (idx2_3 t) rfl (ix3 0 p q)
  congrArg (V c (Pipeline.arrRef spec2 3)) (idx_ext_three ((e 0).trans (show t.val * 1 + 0 = i.val by omega)) (origin (e 1)) (origin (e 2)))

theorem row2_4 (c : Dev nD) (t : Fin cfg2.N) (i : Fin 128) (h : i.val = t.val) (p : Fin 8) (q : Fin 8192) :
    iblk2 V c 4 t (ix3 0 p q) = V c (Pipeline.arrRef spec2 4) (ix3 i p q) :=
  have e := emb_val win2_4 (idx2_4 t) rfl (ix3 0 p q)
  congrArg (V c (Pipeline.arrRef spec2 4)) (idx_ext_three ((e 0).trans (show t.val * 1 + 0 = i.val by omega)) (origin (e 1)) (origin (e 2)))

theorem row2_5 (c : Dev nD) (t : Fin cfg2.N) (i : Fin 128) (h : i.val = t.val) (p : Fin 8) (q : Fin 8192) :
    iblk2 V c 5 t (ix3 0 p q) = V c (Pipeline.arrRef spec2 5) (ix3 i p q) :=
  have e := emb_val win2_5 (idx2_5 t) rfl (ix3 0 p q)
  congrArg (V c (Pipeline.arrRef spec2 5)) (idx_ext_three ((e 0).trans (show t.val * 1 + 0 = i.val by omega)) (origin (e 1)) (origin (e 2)))

theorem row2_6 (c : Dev nD) (t : Fin cfg2.N) (i : Fin 128) (h : i.val = t.val) (p : Fin 128) (q : Fin 1) :
    iblk2 V c 6 t (ix3 0 p q) = V c (Pipeline.arrRef spec2 6) (ix3 i p q) :=
  have e := emb_val win2_6 (idx2_6 t) rfl (ix3 0 p q)
  congrArg (V c (Pipeline.arrRef spec2 6)) (idx_ext_three ((e 0).trans (show t.val * 1 + 0 = i.val by omega)) (origin (e 1)) (origin (e 2)))

theorem at2_7 (c : Dev nD) (t : Fin cfg2.N) (y : S1x8x8192.Idx) (i : S128x8x8192.Idx) (h0 : (i 0).val = t.val)
    (h1 : (i 1).val = (y 1).val) (h2 : (i 2).val = (y 2).val) : out2_7 (iblk2 V c 0 t) (iblk2 V c 1 t) (iblk2 V c 2 t) (iblk2 V c 3 t) (iblk2 V c 4 t) (iblk2 V c 5 t) (iblk2 V c 6 t) y
    = outputs (V c (Pipeline.arrRef spec2 0)) (V c (Pipeline.arrRef spec2 1)) (V c (Pipeline.arrRef spec2 4)) (V c (Pipeline.arrRef spec2 5)) i := by
  obtain rfl : y = ix3 0 (i 1) (i 2) := idx_ext_three (Nat.lt_one_iff.mp (y 0).isLt) h1.symm h2.symm
  obtain ⟨i0, i1, i2, rfl⟩ : ∃ a b c, i = ix3 a b c := ⟨i 0, i 1, i 2, idx_ext_three rfl rfl rfl⟩
  refine (out2_y (iblk2 V c 0 t) (iblk2 V c 1 t) (iblk2 V c 2 t) (iblk2 V c 3 t) (iblk2 V c 4 t) (iblk2 V c 5 t) (iblk2 V c 6 t) i1 i2).trans ?_
  exact congrArg₂ (· + ·) (row2_5 V c t i0 h0 i1 i2) (congrArg₂ (· * ·) (row2_4 V c t i0 h0 i1 i2)
    (Finset.sum_congr rfl fun n _ => congrArg₂ (· * ·) (row2_1 V c t i0 h0 _ _) (row2_0 V c t i0 h0 i2 n)))

theorem at2_8 (c : Dev nD) (t : Fin cfg2.N) (y : S1x8192x128.Idx) (i : S128x8192x128.Idx) (h0 : (i 0).val = t.val)
    (h1 : (i 1).val = (y 1).val) (h2 : (i 2).val = (y 2).val) : out2_8 (iblk2 V c 0 t) (iblk2 V c 1 t) (iblk2 V c 2 t) (iblk2 V c 3 t) (iblk2 V c 4 t) (iblk2 V c 5 t) (iblk2 V c 6 t) y
    = states (V c (Pipeline.arrRef spec2 0)) (V c (Pipeline.arrRef spec2 2)) (V c (Pipeline.arrRef spec2 3)) (V c (Pipeline.arrRef spec2 6)) i := by
  obtain rfl : y = ix3 0 (i 1) (i 2) := idx_ext_three (Nat.lt_one_iff.mp (y 0).isLt) h1.symm h2.symm
  obtain ⟨i0, i1, i2, rfl⟩ : ∃ a b c, i = ix3 a b c := ⟨i 0, i 1, i 2, idx_ext_three rfl rfl rfl⟩
  refine (out2_s (iblk2 V c 0 t) (iblk2 V c 1 t) (iblk2 V c 2 t) (iblk2 V c 3 t) (iblk2 V c 4 t) (iblk2 V c 5 t) (iblk2 V c 6 t) i1 i2).trans ?_
  exact congrArg₂ (· + ·) (congrArg₂ (· * ·) (row2_6 V c t i0 h0 _ _) (row2_0 V c t i0 h0 i1 i2))
    (Finset.sum_congr rfl fun m _ => congrArg₂ (· * ·) (row2_3 V c t i0 h0 m i1) (row2_2 V c t i0 h0 m _))

attribute [local irreducible] withins decays carries lasts outputs states

/-- What the steps add to each other, with the skip. -/
theorem arr1_7 (c : Dev nD) : (dat1 V c).arrAt 7 cfg1.N
    = withins (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) := by
  refine (dat1 V c).arrAt_eq_of_covers 7 _ (by decide +kernel) fun t hf y => ?_
  rw [after1_7]
  have e := emb_val win1_7 (idx1_7 t) rfl y
  exact at1_7 V c t y _ (origin (e 0)) (origin (e 1)) (e 2)

/-- The decay of the state up to each step. -/
theorem arr1_8 (c : Dev nD) : (dat1 V c).arrAt 8 cfg1.N
    = decays (V c (Pipeline.arrRef spec1 3)) (V c (Pipeline.arrRef spec1 4)) (V c (Pipeline.arrRef spec1 6)) := by
  refine (dat1 V c).arrAt_eq_of_covers 8 _ (by decide +kernel) fun t hf y => ?_
  rw [after1_8]
  have e := emb_val win1_8 (idx1_8 t) rfl y
  exact at1_8 V c t y _ (origin (e 0)) (origin (e 1)) (e 2)

/-- The weight of each step in the last state. -/
theorem arr1_9 (c : Dev nD) : (dat1 V c).arrAt 9 cfg1.N
    = carries (V c (Pipeline.arrRef spec1 0)) (V c (Pipeline.arrRef spec1 3)) (V c (Pipeline.arrRef spec1 4)) (V c (Pipeline.arrRef spec1 6)) := by
  refine (dat1 V c).arrAt_eq_of_covers 9 _ (by decide +kernel) fun t hf y => ?_
  rw [after1_9]
  have e := emb_val win1_9 (idx1_9 t) rfl y
  exact at1_9 V c t y _ (origin (e 0)) (origin (e 1)) (e 2)

/-- The decay of the state over the four steps. -/
theorem arr1_10 (c : Dev nD) : (dat1 V c).arrAt 10 cfg1.N
    = lasts (V c (Pipeline.arrRef spec1 3)) (V c (Pipeline.arrRef spec1 4)) := by
  refine (dat1 V c).arrAt_eq_of_covers 10 _ (by decide +kernel) fun t hf y => ?_
  rw [after1_10]
  have e := emb_val win1_10 (idx1_10 t) rfl y
  have h0 := Nat.lt_one_iff.mp (y 0).isLt
  exact at1_10 V c t y _ ((e 0).trans ((congrArg (t.val * 1 + ·) h0).trans (Nat.mul_one _))) (origin (e 1)) (origin (e 2))

/-- The outputs. -/
theorem arr2_7 (c : Dev nD) : (dat2 V c).arrAt 7 cfg2.N
    = outputs (V c (Pipeline.arrRef spec2 0)) (V c (Pipeline.arrRef spec2 1)) (V c (Pipeline.arrRef spec2 4)) (V c (Pipeline.arrRef spec2 5)) := by
  refine (dat2 V c).arrAt_eq_of_covers 7 _ (by decide +kernel) fun t hf y => ?_
  rw [after2_7]
  have e := emb_val win2_7 (idx2_7 t) rfl y
  have h0 := Nat.lt_one_iff.mp (y 0).isLt
  exact at2_7 V c t y _ ((e 0).trans ((congrArg (t.val * 1 + ·) h0).trans (Nat.mul_one _))) (origin (e 1)) (origin (e 2))

/-- The last state. -/
theorem arr2_8 (c : Dev nD) : (dat2 V c).arrAt 8 cfg2.N
    = states (V c (Pipeline.arrRef spec2 0)) (V c (Pipeline.arrRef spec2 2)) (V c (Pipeline.arrRef spec2 3)) (V c (Pipeline.arrRef spec2 6)) := by
  refine (dat2 V c).arrAt_eq_of_covers 8 _ (by decide +kernel) fun t hf y => ?_
  rw [after2_8]
  have e := emb_val win2_8 (idx2_8 t) rfl y
  have h0 := Nat.lt_one_iff.mp (y 0).isLt
  exact at2_8 V c t y _ ((e 0).trans ((congrArg (t.val * 1 + ·) h0).trans (Nat.mul_one _))) (origin (e 1)) (origin (e 2))

end Cert.ScanIdeal.Vals

end
-- ==== Proof.ScanRef.lean ====
/-
  What the scan's reference returns: each step's state and output, as functions of the argument arrays.
-/
module

public import proofs.«01_k».proof.Proof.ScanAlgebra
public import proofs.«01_k».proof.Proof.Gen.ScanReferenceIdeal.Read

@[expose] public section

set_option maxRecDepth 16384
set_option maxHeartbeats 2000000

noncomputable section

namespace Cert.Spec

open Idealize.ShloMosaic Idealize.ShloMosaic.Pointwise
open Cert.ScanIdeal.Vals (silu taps upto)

/-- A sample token's row. -/
abbrev row512 (t : Fin 4) (p : Fin 128) : Fin 512 := ⟨t.val * 128 + p.val, by omega⟩

section Scan

variable (x0 : (⟨2, ![512, 18432]⟩ : Shape).Idx → EReal) (x1 : (⟨2, ![512, 128]⟩ : Shape).Idx → EReal)
  (x2 : (⟨5, ![1, 128, 128, 64, 128]⟩ : Shape).Idx → EReal) (x3 : (⟨4, ![1, 128, 3, 10240]⟩ : Shape).Idx → EReal)
  (x4 : (⟨3, ![1, 4, 10240]⟩ : Shape).Idx → EReal) (x5 : (⟨2, ![1, 10240]⟩ : Shape).Idx → EReal) (x6 x7 : (⟨2, ![1, 128]⟩ : Shape).Idx → EReal)

/-- The convolved value of column `q` at step `t` of sequence `p`. -/
def convAt (t : Fin 4) (p : Fin 128) (q : Fin 10240) : EReal :=
  silu (taps (fun m => x3 (ix4 0 p m q)) (fun m => x0 (ix2 (row512 m p) ⟨8192 + q.val, by omega⟩)) (fun k => x4 (ix3 0 k q)) (x5 (ix2 0 q)) t)

/-- The scan's input, and the two projections of a head's group. -/
def inAt (p : Fin 128) (h : Fin 128) (e : Fin 64) (t : Fin 4) : EReal := convAt x0 x3 x4 x5 t p ⟨h.val * 64 + e.val, by omega⟩
def bAt (p : Fin 128) (g : Fin 8) (n : Fin 128) (t : Fin 4) : EReal := convAt x0 x3 x4 x5 t p ⟨8192 + g.val * 128 + n.val, by omega⟩
def cAt (p : Fin 128) (g : Fin 8) (n : Fin 128) (t : Fin 4) : EReal := convAt x0 x3 x4 x5 t p ⟨9216 + g.val * 128 + n.val, by omega⟩

/-- The state after step `t`. -/
def stateAt (p : Fin 128) (h : Fin 128) (e : Fin 64) (n : Fin 128) (t : Fin 4) : EReal :=
  upto (x2 (ix5 0 p h e n)) (inAt x0 x3 x4 x5 p h e) (fun m => x1 (ix2 (row512 m p) h)) (bAt x0 x3 x4 x5 p ⟨h.val / 16, by omega⟩ n)
    (-Ideal.exp (x6 (ix2 0 h))) t

/-- The output of step `t`. -/
def outAt (p : Fin 128) (h : Fin 128) (e : Fin 64) (t : Fin 4) : EReal :=
  ∑ n, cAt x0 x3 x4 x5 p ⟨h.val / 16, by omega⟩ n t * stateAt x0 x1 x2 x3 x4 x5 x6 p h e n t + x7 (ix2 0 h) * inAt x0 x3 x4 x5 p h e t

end Scan

end Cert.Spec

namespace Cert.ScanReferenceIdeal.Vals

open Idealize.ShloMosaic Idealize.ShloMosaic.TcCoe Idealize.SL.Sem
open Idealize.ShloMosaic.Pointwise
open Cert.ScanReferenceIdeal Cert.ScanReferenceIdeal.Read Cert.Spec
open Cert.ScanIdeal.Vals (silu taps upto)

variable (x0 : Vec Ideal S512x18432 .bf16) (x1 : Vec Ideal S512x128 .f32) (x2 : Vec Ideal S1x128x128x64x128 .f32)
  (x3 : Vec Ideal S1x128x3x10240 .f32) (x4 : Vec Ideal S1x4x10240 .f32) (x5 : Vec Ideal S1x10240 .f32) (x6 x7 : Vec Ideal S1x128 .f32)

/-- A group's head. -/
abbrev hd (g : Fin 8) (r : Fin 16) : Fin 128 := ⟨g.val * 16 + r.val, by omega⟩

/-! ### The convolution -/

theorem window (p : Fin 128) (j : Fin 7) (q : Fin 10240) : val_main_v5 x0 x3 (ix3 p j q)
    = if h : j.val < 3 then x3 (ix4 0 p ⟨j.val, h⟩ q) else x0 (ix2 (row512 ⟨j.val - 3, by omega⟩ p) ⟨8192 + q.val, by omega⟩) := by
  have h0 : ∀ m : Fin 3, val_main_v0 x3 (ix3 p m q) = x3 (ix4 0 p m q) := fun m => by pointwise [val_main_v0]
  have h4 : ∀ m : Fin 4, val_main_v4 x0 (ix3 p m q) = x0 (ix2 (row512 m p) ⟨8192 + q.val, by omega⟩) := fun m => by
    pointwise [val_main_v4, val_main_v3, val_main_v2, val_main_v1]
  pointwise [val_main_v5]
  simp only [h0, h4]

theorem taps_order (h0 h1 h2 h3 w0 w1 w2 w3 b : EReal) :
    h0 * w0 + h1 * w1 + h2 * w2 + h3 * w3 + b = b + w0 * h0 + w1 * h1 + w2 * h2 + w3 * h3 := by
  rw [add_comm _ b, ← add_assoc, ← add_assoc, ← add_assoc, mul_comm h0, mul_comm h1, mul_comm h2, mul_comm h3]

theorem conv_at (p : Fin 128) (t : Fin 4) (q : Fin 10240) : val_main_v39 x0 x3 x4 x5 (ix3 p t q) = convAt x0 x3 x4 x5 t p q := by
  have hw : val_main_v38 x0 x3 x4 x5 (ix3 p t q)
      = taps (fun m => x3 (ix4 0 p m q)) (fun m => x0 (ix2 (row512 m p) ⟨8192 + q.val, by omega⟩)) (fun k => x4 (ix3 0 k q)) (x5 (ix2 0 q)) t := by
    pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst, val_main_v12, val_main_v11, val_main_v10, val_main_v9, val_main_v8, val_main_v7, val_main_v6]
    simp only [window, zero_add]
    rw [taps_order]
    fin_cases t <;> rfl
  pointwise [val_main_v39, val_main_call0_v5, val_main_call0_v4, val_main_call0_cst_0, val_main_call0_v3, val_main_call0_v2, val_main_call0_cst, val_main_call0_v1, val_main_call0_v0]
  rw [hw]
  rfl

theorem in_at (p : Fin 128) (t : Fin 4) (g : Fin 8) (r : Fin 16) (e : Fin 64) :
    val_main_v52 x0 x3 x4 x5 (ix5 p t g r e) = inAt x0 x3 x4 x5 p (hd g r) e t := by
  pointwise [val_main_v52, val_main_v43, val_main_v40]
  exact conv_at x0 x3 x4 x5 p t _

theorem in_at' (p : Fin 128) (t : Fin 4) (h : Fin 128) (e : Fin 64) :
    val_main_v43 x0 x3 x4 x5 (ix4 p t h e) = inAt x0 x3 x4 x5 p h e t := by
  pointwise [val_main_v43, val_main_v40]
  exact conv_at x0 x3 x4 x5 p t _

theorem b_at (p : Fin 128) (t : Fin 4) (g : Fin 8) (n : Fin 128) : val_main_v44 x0 x3 x4 x5 (ix4 p t g n) = bAt x0 x3 x4 x5 p g n t := by
  pointwise [val_main_v44, val_main_v41]
  rw [conv_at]
  exact congrArg (convAt x0 x3 x4 x5 t p) (Fin.ext (by dsimp only; omega))

theorem c_at (p : Fin 128) (t : Fin 4) (g : Fin 8) (n : Fin 128) : val_main_v45 x0 x3 x4 x5 (ix4 p t g n) = cAt x0 x3 x4 x5 p g n t := by
  pointwise [val_main_v45, val_main_v42]
  rw [conv_at]
  exact congrArg (convAt x0 x3 x4 x5 t p) (Fin.ext (by dsimp only; omega))

theorem dt_at (p : Fin 128) (t : Fin 4) (g : Fin 8) (r : Fin 16) : val_main_v53 x1 (ix4 p t g r) = x1 (ix2 (row512 t p) (hd g r)) := by
  pointwise [val_main_v53, val_main_v50, val_main_v49]

theorem a_at (g : Fin 8) (r : Fin 16) : val_main_v54 x6 (ix2 g r) = -Ideal.exp (x6 (ix2 0 (hd g r))) := by
  pointwise [val_main_v54, val_main_v48, val_main_v47, val_main_v46]

theorem s_at (p : Fin 128) (g : Fin 8) (r : Fin 16) (e : Fin 64) (n : Fin 128) :
    val_main_v55 x2 (ix5 p g r e n) = x2 (ix5 0 p (hd g r) e n) := by
  pointwise [val_main_v55, val_main_v51]

/-! ### The steps -/

variable (p : Fin 128) (g : Fin 8) (r : Fin 16) (e : Fin 64)

/-- A head's group. -/
theorem grp_hd : (⟨(g.val * 16 + r.val) / 16, by omega⟩ : Fin 8) = g := Fin.ext (by dsimp only; omega)

theorem hd_of (h : Fin 128) : hd ⟨h.val / 16, by omega⟩ ⟨h.val % 16, by omega⟩ = h := Fin.ext (by dsimp only; omega)

theorem state_0 (n : Fin 128) : val_main_v79 x0 x1 x2 x3 x4 x5 x6 (ix5 p g r e n) = stateAt x0 x1 x2 x3 x4 x5 x6 p (hd g r) e n 0 := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56]
  simp only [s_at, in_at, b_at, dt_at, a_at, stateAt, upto, grp_hd]

theorem out_0 : val_main_v85 x0 x1 x2 x3 x4 x5 x6 (ix4 p g r e)
    = ∑ n, cAt x0 x3 x4 x5 p g n 0 * stateAt x0 x1 x2 x3 x4 x5 x6 p (hd g r) e n 0 := by
  pointwise [val_main_v85, val_main_cst_0, val_main_v84, val_main_v83, val_main_v82, val_main_v81, val_main_v80]
  simp only [state_0, c_at]

theorem state_1 (n : Fin 128) : val_main_v109 x0 x1 x2 x3 x4 x5 x6 (ix5 p g r e n) = stateAt x0 x1 x2 x3 x4 x5 x6 p (hd g r) e n 1 := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86]
  simp only [state_0, in_at, b_at, dt_at, a_at, stateAt, upto, grp_hd]

theorem out_1 : val_main_v115 x0 x1 x2 x3 x4 x5 x6 (ix4 p g r e)
    = ∑ n, cAt x0 x3 x4 x5 p g n 1 * stateAt x0 x1 x2 x3 x4 x5 x6 p (hd g r) e n 1 := by
  pointwise [val_main_v115, val_main_cst_1, val_main_v114, val_main_v113, val_main_v112, val_main_v111, val_main_v110]
  simp only [state_1, c_at]

theorem state_2 (n : Fin 128) : val_main_v139 x0 x1 x2 x3 x4 x5 x6 (ix5 p g r e n) = stateAt x0 x1 x2 x3 x4 x5 x6 p (hd g r) e n 2 := by
  pointwise [val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116]
  simp only [state_1, in_at, b_at, dt_at, a_at, stateAt, upto, grp_hd]

theorem out_2 : val_main_v145 x0 x1 x2 x3 x4 x5 x6 (ix4 p g r e)
    = ∑ n, cAt x0 x3 x4 x5 p g n 2 * stateAt x0 x1 x2 x3 x4 x5 x6 p (hd g r) e n 2 := by
  pointwise [val_main_v145, val_main_cst_2, val_main_v144, val_main_v143, val_main_v142, val_main_v141, val_main_v140]
  simp only [state_2, c_at]

theorem state_3 (n : Fin 128) : val_main_v169 x0 x1 x2 x3 x4 x5 x6 (ix5 p g r e n) = stateAt x0 x1 x2 x3 x4 x5 x6 p (hd g r) e n 3 := by
  pointwise [val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146]
  simp only [state_2, in_at, b_at, dt_at, a_at, stateAt, upto, grp_hd]

theorem out_3 : val_main_v175 x0 x1 x2 x3 x4 x5 x6 (ix4 p g r e)
    = ∑ n, cAt x0 x3 x4 x5 p g n 3 * stateAt x0 x1 x2 x3 x4 x5 x6 p (hd g r) e n 3 := by
  pointwise [val_main_v175, val_main_cst_3, val_main_v174, val_main_v173, val_main_v172, val_main_v171, val_main_v170]
  simp only [state_3, c_at]

/-! ### The results -/

theorem y_at (t : Fin 4) (h : Fin 128) : val_main_v181 x0 x1 x2 x3 x4 x5 x6 (ix4 p t h e)
    = ∑ n, cAt x0 x3 x4 x5 p ⟨h.val / 16, by omega⟩ n t * stateAt x0 x1 x2 x3 x4 x5 x6 p h e n t := by
  pointwise [val_main_v181, val_main_v180, val_main_v179, val_main_v178, val_main_v177, val_main_v176]
  simp only [out_0, out_1, out_2, out_3, hd_of]
  fin_cases t <;> rfl

theorem ref_y (k : Fin 512) (q : Fin 8192) : val_main_v192 x0 x1 x2 x3 x4 x5 x6 x7 (ix2 k q)
    = outAt x0 x1 x2 x3 x4 x5 x6 x7 ⟨k.val % 128, by omega⟩ ⟨q.val / 64, by omega⟩ ⟨q.val % 64, by omega⟩ ⟨k.val / 128, by omega⟩ := by
  pointwise [val_main_v192, val_main_v191, val_main_v190, val_main_v189, val_main_v188, val_main_v187, val_main_v186, val_main_v185, val_main_v184, val_main_v183]
  simp only [y_at, in_at', outAt]

theorem ref_s (h : Fin 128) (n : Fin 128) : val_main_v193 x0 x1 x2 x3 x4 x5 x6 (ix5 0 p h e n) = stateAt x0 x1 x2 x3 x4 x5 x6 p h e n 3 := by
  pointwise [val_main_v193, val_main_v182]
  simp only [state_3, hd_of]

end Cert.ScanReferenceIdeal.Vals

end
-- ==== Proof.ScanValues.lean ====
/-
  What the scan's result buffers hold when the program ends, as functions of the argument arrays: the contents followed from
  the launch through the operations and the three calls.
-/
module

public import proofs.«01_k».proof.Proof.ScanHost
public import proofs.«01_k».proof.Proof.ScanArr
public import proofs.«01_k».proof.Proof.ScanRef

@[expose] public section

set_option maxRecDepth 16384
set_option maxHeartbeats 1000000

noncomputable section

namespace Cert.ScanIdeal.Vals

open Idealize.ShloMosaic Idealize.ShloMosaic.TcCoe Idealize.SL.Sem
open Idealize.ShloMosaic.StableHlo
open Idealize.ShloMosaic.Pointwise
open Cert.ScanIdeal Cert.ScanIdeal.Gen Cert.Spec

variable (m : (ℓ : Loc nD τ sig) → Buf (Elt Ideal) ℓ) (ρ : Dev nD → PrngReg) (c : Dev nD)

/-- The argument arrays. -/
abbrev A0 : Vec Ideal S512x18432 .bf16 := m ((c : Thread nD τ).loc main_arg0)
abbrev A1 : Vec Ideal S512x128 .f32 := m ((c : Thread nD τ).loc main_arg1)
abbrev A2 : Vec Ideal S1x128x128x64x128 .f32 := m ((c : Thread nD τ).loc main_arg2)
abbrev A3 : Vec Ideal S1x128x3x10240 .f32 := m ((c : Thread nD τ).loc main_arg3)
abbrev A4 : Vec Ideal S1x4x10240 .f32 := m ((c : Thread nD τ).loc main_arg4)
abbrev A5 : Vec Ideal S1x10240 .f32 := m ((c : Thread nD τ).loc main_arg5)
abbrev A6 : Vec Ideal S1x128 .f32 := m ((c : Thread nD τ).loc main_arg6)
abbrev A7 : Vec Ideal S1x128 .f32 := m ((c : Thread nD τ).loc main_arg7)

/-! ### The convolution -/

theorem taps_congr {h h' : Fin 3 → EReal} {x x' w w' : Fin 4 → EReal} {b b' : EReal} (hh : ∀ k, h k = h' k) (hx : ∀ k, x k = x' k)
    (hw : ∀ k, w k = w' k) (hb : b = b') (t : Fin 4) : taps h x w b t = taps h' x' w' b' t := by
  obtain rfl : h = h' := funext hh
  obtain rfl : x = x' := funext hx
  obtain rfl : w = w' := funext hw
  rw [hb]

theorem conv_w (t : Fin 4) (p : Fin 128) (q : Fin 10240) : (W2 m ρ c main_v8 : Vec Ideal S4x128x10240 .bf16) (ix3 t p q)
    = convAt (A0 m c) (A3 m c) (A4 m c) (A5 m c) t p q :=
  (congrFun ((W2_arr m ρ c 4).trans (arr0_4 (V1 m ρ) c)) (ix3 t p q)).trans (congrArg silu (taps_congr
    (fun k => h0_v4 (W0 m ρ c) k p q) (fun k => h0_v3 (W0 m ρ c) k p _) (fun k => h0_v5 (W0 m ρ c) k q) (h0_v7 (W0 m ρ c) q) t))

/-! ### What the second call takes -/

theorem x_5 (t : Fin 4) (p : Fin 128) (q : Fin 10240) : (W5 m ρ c main_v10 : Vec Ideal S4x128x10240 .bf16) (ix3 t p q)
    = convAt (A0 m c) (A3 m c) (A4 m c) (A5 m c) t p q :=
  (congrFun ((W5_of m ρ c main_v10 (by decide)).trans (W4_of m ρ c main_v10 (by decide))) _).trans
    ((h1_v10 (W2 m ρ c) t p q).trans (conv_w m ρ c t p q))

theorem d_5 (g : Fin 8) (t : Fin 4) (p : Fin 128) (k : Fin 16) : (W5 m ρ c main_v17 : Vec Ideal S8x4x128x16 .f32) (ix4 g t p k)
    = A1 m c (ix2 (row512 t p) ⟨g.val * 16 + k.val, by omega⟩) :=
  (congrFun ((W5_of m ρ c main_v17 (by decide)).trans (W4_of m ρ c main_v17 (by decide))) _).trans
    ((h1_v17 (W2 m ρ c) g t p k).trans (congrFun (W2_args m ρ c main_arg1 (by decide)) _))

theorem a_5 (g : Fin 8) (k : Fin 16) : (W5 m ρ c main_v15 : Vec Ideal S8x1x16 .f32) (ix3 g 0 k)
    = -Ideal.exp (A6 m c (ix2 0 ⟨g.val * 16 + k.val, by omega⟩)) :=
  (congrFun ((W5_of m ρ c main_v15 (by decide)).trans (W4_of m ρ c main_v15 (by decide))) _).trans
    ((h1_v15 (W2 m ρ c) g k).trans (congrArg (fun v : EReal => -Ideal.exp v) (congrFun (W2_args m ρ c main_arg6 (by decide)) _)))

theorem s_5 (g : Fin 8) (j : Fin 1024) : (W5 m ρ c main_v20 : Vec Ideal S8x1x1024 .f32) (ix3 g 0 j)
    = A7 m c (ix2 0 ⟨g.val * 16 + j.val / 64, by omega⟩) :=
  (congrFun ((W5_of m ρ c main_v20 (by decide)).trans (W4_of m ρ c main_v20 (by decide))) _).trans
    ((h1_v20 (W2 m ρ c) g j).trans (congrFun (W2_args m ρ c main_arg7 (by decide)) _))

theorem quotient_iff (j : Fin 1024) (k : Fin 16) : BitVec.ofNat 32 (j.val / 64) = BitVec.ofNat 32 k.val ↔ k.val = j.val / 64 := by
  rw [← BitVec.toNat_inj, BitVec.toNat_ofNat, BitVec.toNat_ofNat]
  omega

theorem e_5 (k : Fin 16) (j : Fin 1024) : (W5 m ρ c main_v29 : Vec Ideal S16x1024 .bf16) (ix2 k j)
    = if k.val = j.val / 64 then (1 : EReal) else (0 : EReal) :=
  (h12_v29 (W4 m ρ c) k j).trans (if_congr ((iff_of_eq (congrArg (· = BitVec.ofNat 32 k.val)
    (h11_v23 (W3 m ρ c) (h1_c (W2 m ρ c)) (h1_v22 (W2 m ρ c)) j))).trans (quotient_iff j k)) rfl rfl)

/-! ### What it leaves -/

variable (p h : Fin 128) (e : Fin 64)

/-- The column of a head's entry, the head's group, and its place there. -/
abbrev at64 : Fin 8192 := ⟨h.val * 64 + e.val, by omega⟩
abbrev gof : Fin 8 := ⟨h.val / 16, by omega⟩
abbrev rof : Fin 16 := ⟨h.val % 16, by omega⟩

/-- The steps' inputs to the scan, for the heads of one group. -/
abbrev dts (s : Fin 4) (k : Fin 16) : EReal := A1 m c (ix2 (row512 s p) ⟨h.val / 16 * 16 + k.val, by omega⟩)
abbrev rates (k : Fin 16) : EReal := -Ideal.exp (A6 m c (ix2 0 ⟨h.val / 16 * 16 + k.val, by omega⟩))
abbrev pick (k : Fin 16) : EReal := if k = rof h then 1 else 0

theorem grp_at : grp (at64 h e) = gof h := Fin.ext (by dsimp only [grp]; omega)

theorem dts_5 (s : Fin 4) (k : Fin 16) : (W5 m ρ c main_v17 : Vec Ideal S8x4x128x16 .f32) (ix4 (grp (at64 h e)) s p k) = dts m c p h s k := by
  rw [grp_at]; exact d_5 m ρ c (gof h) s p k

theorem rates_5 (k : Fin 16) : (W5 m ρ c main_v15 : Vec Ideal S8x1x16 .f32) (ix3 (grp (at64 h e)) 0 k) = rates m c h k := by
  rw [grp_at]; exact a_5 m ρ c (gof h) k

theorem pick_5 (k : Fin 16) : (W5 m ρ c main_v29 : Vec Ideal S16x1024 .bf16) (ix2 k (col (at64 h e))) = pick h k :=
  (e_5 m ρ c k _).trans (if_congr (by rw [Fin.ext_iff]; dsimp only [col]; omega) rfl rfl)

theorem skip_5 : (W5 m ρ c main_v20 : Vec Ideal S8x1x1024 .f32) (ix3 (grp (at64 h e)) 0 (col (at64 h e))) = A7 m c (ix2 0 h) :=
  (s_5 m ρ c _ _).trans (congrArg (fun k => A7 m c (ix2 0 k)) (Fin.ext (by dsimp only [grp, col]; omega)))

theorem in_5 (t : Fin 4) : (W5 m ρ c main_v10 : Vec Ideal S4x128x10240 .bf16) (ix3 t p ⟨h.val * 64 + e.val, by omega⟩)
    = inAt (A0 m c) (A3 m c) (A4 m c) (A5 m c) p h e t := x_5 m ρ c t p _

theorem gat_at (o : Nat) (ho : o + 1024 ≤ 10240) (n : Fin 128) : gat o ho (at64 h e) n = ⟨o + h.val / 16 * 128 + n.val, by omega⟩ :=
  Fin.ext (by dsimp only [gat]; omega)

theorem b_5 (t : Fin 4) (n : Fin 128) : (W5 m ρ c main_v10 : Vec Ideal S4x128x10240 .bf16) (ix3 t p (gat 8192 (by decide) (at64 h e) n))
    = bAt (A0 m c) (A3 m c) (A4 m c) (A5 m c) p (gof h) n t := by
  rw [gat_at]; exact x_5 m ρ c t p _

theorem c_5 (t : Fin 4) (n : Fin 128) : (W5 m ρ c main_v10 : Vec Ideal S4x128x10240 .bf16) (ix3 t p (gat 9216 (by decide) (at64 h e) n))
    = cAt (A0 m c) (A3 m c) (A4 m c) (A5 m c) p (gof h) n t := by
  rw [gat_at]; exact x_5 m ρ c t p _

attribute [local irreducible] within decay carry spread

theorem within_6 (t : Fin 4) : (W6 m ρ c main_v30_0 : Vec Ideal S4x128x8192 .f32) (ix3 t p (at64 h e))
    = within (A7 m c (ix2 0 h)) (inAt (A0 m c) (A3 m c) (A4 m c) (A5 m c) p h e)
      (fun s n => bAt (A0 m c) (A3 m c) (A4 m c) (A5 m c) p (gof h) n s) (fun s n => cAt (A0 m c) (A3 m c) (A4 m c) (A5 m c) p (gof h) n s)
      (dts m c p h) (rates m c h) (pick h) t :=
  (congrFun ((W6_arr m ρ c 7).trans (arr1_7 (V5 m ρ) c)) (ix3 t p (at64 h e))).trans
    (within_congr (skip_5 m ρ c h e) (in_5 m ρ c p h e) (b_5 m ρ c p h e) (c_5 m ρ c p h e) (dts_5 m ρ c p h e) (rates_5 m ρ c h e)
      (pick_5 m ρ c h e) rfl)

theorem decay_6 (t : Fin 4) : (W6 m ρ c main_v30_1 : Vec Ideal S4x128x8192 .f32) (ix3 t p (at64 h e))
    = decay (dts m c p h) (rates m c h) (pick h) t :=
  (congrFun ((W6_arr m ρ c 8).trans (arr1_8 (V5 m ρ) c)) (ix3 t p (at64 h e))).trans
    (decay_congr (dts_5 m ρ c p h e) (rates_5 m ρ c h e) (pick_5 m ρ c h e) rfl)

theorem carry_6 (t : Fin 4) : (W6 m ρ c main_v30_2 : Vec Ideal S4x128x8192 .bf16) (ix3 t p (at64 h e))
    = carry (inAt (A0 m c) (A3 m c) (A4 m c) (A5 m c) p h e t) (dts m c p h) (rates m c h) (pick h) t :=
  (congrFun ((W6_arr m ρ c 9).trans (arr1_9 (V5 m ρ) c)) (ix3 t p (at64 h e))).trans
    (carry_congr (in_5 m ρ c p h e t) (dts_5 m ρ c p h e) (rates_5 m ρ c h e) (pick_5 m ρ c h e) rfl)

theorem last_6 : (W6 m ρ c main_v30_3 : Vec Ideal S8x128x16 .f32) (ix3 (gof h) p (rof h))
    = Ideal.exp (cum (fun s => dts m c p h s (rof h)) (rates m c h (rof h)) 3) :=
  (congrFun ((W6_arr m ρ c 10).trans (arr1_10 (V5 m ρ) c)) (ix3 (gof h) p (rof h))).trans
    (congrArg Ideal.exp (congrArg₂ (fun d a => cum d a 3) (funext fun s => d_5 m ρ c (gof h) s p (rof h)) (a_5 m ρ c (gof h) (rof h))))

/-! ### What the last call takes -/

section Keep

variable (r : Ref sig .tc)

theorem w16_14 (h9 : r ∉ hostOps2_9_W) (h8 : r ∉ hostOps2_8_W) : W16 m ρ c (Proc.devRef .tc r) = W14 m ρ c (Proc.devRef .tc r) :=
  (W16_of m ρ c r h9).trans (W15_of m ρ c r h8)

theorem w16_12 (h9 : r ∉ hostOps2_9_W) (h8 : r ∉ hostOps2_8_W) (h7 : r ∉ hostOps2_7_W) (h6 : r ∉ hostOps2_6_W) :
    W16 m ρ c (Proc.devRef .tc r) = W12 m ρ c (Proc.devRef .tc r) :=
  (w16_14 m ρ c r h9 h8).trans ((W14_of m ρ c r h7).trans (W13_of m ρ c r h6))

theorem w16_11 (h9 : r ∉ hostOps2_9_W) (h8 : r ∉ hostOps2_8_W) (h7 : r ∉ hostOps2_7_W) (h6 : r ∉ hostOps2_6_W) (h5 : r ∉ hostOps2_5_W) :
    W16 m ρ c (Proc.devRef .tc r) = W11 m ρ c (Proc.devRef .tc r) :=
  (w16_12 m ρ c r h9 h8 h7 h6).trans (W12_of m ρ c r h5)

theorem w16_10 (h9 : r ∉ hostOps2_9_W) (h8 : r ∉ hostOps2_8_W) (h7 : r ∉ hostOps2_7_W) (h6 : r ∉ hostOps2_6_W) (h5 : r ∉ hostOps2_5_W)
    (h4 : r ∉ hostOps2_4_W) : W16 m ρ c (Proc.devRef .tc r) = W10 m ρ c (Proc.devRef .tc r) :=
  (w16_11 m ρ c r h9 h8 h7 h6 h5).trans (W11_of m ρ c r h4)

theorem w16_8 (h9 : r ∉ hostOps2_9_W) (h8 : r ∉ hostOps2_8_W) (h7 : r ∉ hostOps2_7_W) (h6 : r ∉ hostOps2_6_W) (h5 : r ∉ hostOps2_5_W)
    (h4 : r ∉ hostOps2_4_W) (h3 : r ∉ hostOps2_3_W) (h2 : r ∉ hostOps2_2_W) :
    W16 m ρ c (Proc.devRef .tc r) = W8 m ρ c (Proc.devRef .tc r) :=
  (w16_10 m ρ c r h9 h8 h7 h6 h5 h4).trans ((W10_of m ρ c r h3).trans (W9_of m ρ c r h2))

theorem w8_6 (h1 : r ∉ hostOps2_1_W) (h0 : r ∉ hostOps2_W) : W8 m ρ c (Proc.devRef .tc r) = W6 m ρ c (Proc.devRef .tc r) :=
  (W8_of m ρ c r h1).trans (W7_of m ρ c r h0)

theorem w10_6 (h3 : r ∉ hostOps2_3_W) (h2 : r ∉ hostOps2_2_W) (h1 : r ∉ hostOps2_1_W) (h0 : r ∉ hostOps2_W) :
    W10 m ρ c (Proc.devRef .tc r) = W6 m ρ c (Proc.devRef .tc r) :=
  (W10_of m ρ c r h3).trans ((W9_of m ρ c r h2).trans (w8_6 m ρ c r h1 h0))

theorem w12_6 (h5 : r ∉ hostOps2_5_W) (h4 : r ∉ hostOps2_4_W) (h3 : r ∉ hostOps2_3_W) (h2 : r ∉ hostOps2_2_W) (h1 : r ∉ hostOps2_1_W)
    (h0 : r ∉ hostOps2_W) : W12 m ρ c (Proc.devRef .tc r) = W6 m ρ c (Proc.devRef .tc r) :=
  (W12_of m ρ c r h5).trans ((W11_of m ρ c r h4).trans (w10_6 m ρ c r h3 h2 h1 h0))

theorem w14_6 (h7 : r ∉ hostOps2_7_W) (h6 : r ∉ hostOps2_6_W) (h5 : r ∉ hostOps2_5_W) (h4 : r ∉ hostOps2_4_W) (h3 : r ∉ hostOps2_3_W)
    (h2 : r ∉ hostOps2_2_W) (h1 : r ∉ hostOps2_1_W) (h0 : r ∉ hostOps2_W) :
    W14 m ρ c (Proc.devRef .tc r) = W6 m ρ c (Proc.devRef .tc r) :=
  (W14_of m ρ c r h7).trans ((W13_of m ρ c r h6).trans (w12_6 m ρ c r h5 h4 h3 h2 h1 h0))

end Keep

theorem x_6 (t : Fin 4) (q : Fin 10240) : (W6 m ρ c main_v10 : Vec Ideal S4x128x10240 .bf16) (ix3 t p q)
    = convAt (A0 m c) (A3 m c) (A4 m c) (A5 m c) t p q :=
  (congrFun (W6_of m ρ c main_v10 (by decide +kernel)) _).trans (x_5 m ρ c t p q)

theorem s_16 (n : Fin 128) : (W16 m ρ c main_v2 : Vec Ideal S128x8192x128 .f32) (ix3 p (at64 h e) n) = A2 m c (ix5 0 p h e n) :=
  (congrFun ((w16_8 m ρ c main_v2 (by decide) (by decide) (by decide) (by decide) (by decide) (by decide) (by decide) (by decide)).trans
    ((w8_6 m ρ c main_v2 (by decide) (by decide)).trans ((W6_of m ρ c main_v2 (by decide +kernel)).trans
      ((W5_of m ρ c main_v2 (by decide)).trans ((W4_of m ρ c main_v2 (by decide)).trans ((W3_of m ρ c main_v2 (by decide)).trans
        (W2_of m ρ c main_v2 (by decide +kernel)))))))) _).trans
    ((h0_v2 (W0 m ρ c) p (at64 h e) n).trans (congrArg₂ (fun k d => A2 m c (ix5 0 p k d n)) (Fin.ext (by dsimp only; omega))
      (Fin.ext (by dsimp only; omega))))

theorem b_16 (t : Fin 16) (n : Fin 128) : (W16 m ρ c main_v33 : Vec Ideal S128x16x1024 .bf16) (ix3 p t (gcol (at64 h e) n))
    = if ht : t.val < 4 then bAt (A0 m c) (A3 m c) (A4 m c) (A5 m c) p (gof h) n ⟨t.val, ht⟩ else (0 : EReal) :=
  (congrFun (w16_8 m ρ c main_v33 (by decide) (by decide) (by decide) (by decide) (by decide) (by decide) (by decide) (by decide)) _).trans
    ((h21_v33 (W7 m ρ c) (h2_c (W6 m ρ c)) p t _).trans (dite_congr rfl (fun ht => (h2_v32 (W6 m ρ c) p ⟨t.val, ht⟩ _).trans
      ((x_6 m ρ c p _ _).trans (congrArg (convAt _ _ _ _ _ p) (Fin.ext (by dsimp only [gcol]; omega))))) fun _ => rfl))

theorem c_16 (t : Fin 16) (n : Fin 128) : (W16 m ρ c main_v36 : Vec Ideal S128x16x1024 .bf16) (ix3 p t (gcol (at64 h e) n))
    = if ht : t.val < 4 then cAt (A0 m c) (A3 m c) (A4 m c) (A5 m c) p (gof h) n ⟨t.val, ht⟩ else (0 : EReal) :=
  (congrFun (w16_10 m ρ c main_v36 (by decide) (by decide) (by decide) (by decide) (by decide) (by decide)) _).trans
    ((h23_v36 (W9 m ρ c) (h22_c (W8 m ρ c)) p t _).trans (dite_congr rfl (fun ht => (h22_v35 (W8 m ρ c) p ⟨t.val, ht⟩ _).trans
      ((congrFun (w8_6 m ρ c main_v10 (by decide) (by decide)) _).trans
        ((x_6 m ρ c p _ _).trans (congrArg (convAt _ _ _ _ _ p) (Fin.ext (by dsimp only [gcol]; omega)))))) fun _ => rfl))

theorem last_16 : (W16 m ρ c main_v38 : Vec Ideal S128x128x1 .f32) (ix3 p (hrow (at64 h e)) 0)
    = Ideal.exp (cum (fun s => dts m c p h s (rof h)) (rates m c h (rof h)) 3) := by
  rw [show hrow (at64 h e) = h from Fin.ext (by dsimp only [hrow]; omega)]
  exact (congrFun (w16_11 m ρ c main_v38 (by decide) (by decide) (by decide) (by decide) (by decide)) _).trans
    ((h24_v38 (W10 m ρ c) p h).trans
      ((congrFun (w10_6 m ρ c main_v30_3 (by decide) (by decide) (by decide) (by decide)) _).trans (last_6 m ρ c p h)))

theorem carry_16 (t : Fin 16) : (W16 m ρ c main_v40 : Vec Ideal S128x16x8192 .bf16) (ix3 p t (at64 h e))
    = if ht : t.val < 4 then carry (inAt (A0 m c) (A3 m c) (A4 m c) (A5 m c) p h e ⟨t.val, ht⟩) (dts m c p h) (rates m c h) (pick h) ⟨t.val, ht⟩
      else (0 : EReal) :=
  (congrFun (w16_12 m ρ c main_v40 (by decide) (by decide) (by decide) (by decide)) _).trans
    ((h25_v40 (W11 m ρ c) (h24_c (W10 m ρ c)) p t _).trans (dite_congr rfl (fun ht => (h24_v39 (W10 m ρ c) p ⟨t.val, ht⟩ _).trans
      ((congrFun (w10_6 m ρ c main_v30_2 (by decide) (by decide) (by decide) (by decide)) _).trans (carry_6 m ρ c p h e _))) fun _ => rfl))

theorem decay_16 (t : Fin 4) : (W16 m ρ c main_v42 : Vec Ideal S128x8x8192 .f32) (ix3 p ⟨t.val, by omega⟩ (at64 h e))
    = decay (dts m c p h) (rates m c h) (pick h) t :=
  (congrFun (w16_14 m ρ c main_v42 (by decide) (by decide)) _).trans
    ((h27_v42 (W13 m ρ c) (h26_c (W12 m ρ c)) p _ _).trans ((dif_pos t.isLt).trans ((h26_v41 (W12 m ρ c) p t _).trans
      ((congrFun (w12_6 m ρ c main_v30_1 (by decide) (by decide) (by decide) (by decide) (by decide) (by decide)) _).trans
        (decay_6 m ρ c p h e t)))))

theorem within_16 (t : Fin 4) : (W16 m ρ c main_v44 : Vec Ideal S128x8x8192 .f32) (ix3 p ⟨t.val, by omega⟩ (at64 h e))
    = within (A7 m c (ix2 0 h)) (inAt (A0 m c) (A3 m c) (A4 m c) (A5 m c) p h e)
      (fun s n => bAt (A0 m c) (A3 m c) (A4 m c) (A5 m c) p (gof h) n s) (fun s n => cAt (A0 m c) (A3 m c) (A4 m c) (A5 m c) p (gof h) n s)
      (dts m c p h) (rates m c h) (pick h) t :=
  (h29_v44 (W15 m ρ c) (h28_c (W14 m ρ c)) p _ _).trans ((dif_pos t.isLt).trans ((h28_v43 (W14 m ρ c) p t _).trans
    ((congrFun (w14_6 m ρ c main_v30_0 (by decide) (by decide) (by decide) (by decide) (by decide) (by decide) (by decide) (by decide)) _).trans
      (within_6 m ρ c p h e t))))

/-! ### The results -/

theorem end_out (t : Fin 4) : (W17 m ρ c main_v45_0 : Vec Ideal S128x8x8192 .f32) (ix3 p ⟨t.val, by omega⟩ (at64 h e))
    = within (A7 m c (ix2 0 h)) (inAt (A0 m c) (A3 m c) (A4 m c) (A5 m c) p h e)
        (fun s n => bAt (A0 m c) (A3 m c) (A4 m c) (A5 m c) p (gof h) n s) (fun s n => cAt (A0 m c) (A3 m c) (A4 m c) (A5 m c) p (gof h) n s)
        (dts m c p h) (rates m c h) (pick h) t
      + decay (dts m c p h) (rates m c h) (pick h) t
        * ∑ n, cAt (A0 m c) (A3 m c) (A4 m c) (A5 m c) p (gof h) n t * A2 m c (ix5 0 p h e n) :=
  (congrFun ((W17_arr m ρ c 7).trans (arr2_7 (V16 m ρ) c)) _).trans (congrArg₂ (· + ·) (within_16 m ρ c p h e t)
    (congrArg₂ (· * ·) (decay_16 m ρ c p h e t) (Finset.sum_congr rfl fun n _ => congrArg₂ (· * ·)
      ((c_16 m ρ c p h e _ n).trans (dif_pos t.isLt)) (s_16 m ρ c p h e n))))

theorem end_state (n : Fin 128) : (W17 m ρ c main_v45_1 : Vec Ideal S128x8192x128 .f32) (ix3 p (at64 h e) n)
    = Ideal.exp (cum (fun s => dts m c p h s (rof h)) (rates m c h (rof h)) 3) * A2 m c (ix5 0 p h e n)
      + ∑ k : Fin 16, (if hk : k.val < 4 then carry (inAt (A0 m c) (A3 m c) (A4 m c) (A5 m c) p h e ⟨k.val, hk⟩) (dts m c p h) (rates m c h)
            (pick h) ⟨k.val, hk⟩ else (0 : EReal))
          * (if hk : k.val < 4 then bAt (A0 m c) (A3 m c) (A4 m c) (A5 m c) p (gof h) n ⟨k.val, hk⟩ else (0 : EReal)) :=
  (congrFun ((W17_arr m ρ c 8).trans (arr2_8 (V16 m ρ) c)) _).trans (congrArg₂ (· + ·)
    (congrArg₂ (· * ·) (last_16 m ρ c p h e) (s_16 m ρ c p h e n))
    (Finset.sum_congr rfl fun k _ => congrArg₂ (· * ·) (carry_16 m ρ c p h e k) (b_16 m ρ c p h e k n)))

end Cert.ScanIdeal.Vals

end
-- ==== Proof.ScanRun.lean ====
/-
  The sample group's scan's run: every buffer the TensorCore holds ends with the contents followed through the program's operations and calls.
-/
module

public import proofs.«01_k».proof.Proof.Gen.ScanIdeal.Frame

@[expose] public section

set_option maxRecDepth 16384

noncomputable section

namespace Cert.ScanIdeal.Vals

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ScanIdeal Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory, and each buffer of the TensorCore ends at its contents past the last segment. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W18 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => h)

end Cert.ScanIdeal.Vals

end
-- ==== Proof.ScanProof.lean ====
/-
  The scan's two runs, their results named by the functions of `ScanRef.lean`, and that they return the same arrays when the
  arguments hold real numbers.
-/
module

public import proofs.«01_k».proof.Defs
public import proofs.«01_k».proof.Proof.Gen.ScanIdeal
public import proofs.«01_k».proof.Proof.Gen.ScanReferenceIdeal
public import proofs.«01_k».proof.Proof.Gen.ScanReferenceIdeal.Run
public import proofs.«01_k».proof.Proof.ScanAlgebra
public import proofs.«01_k».proof.Proof.ScanFinite
public import proofs.«01_k».proof.Proof.ScanValues
public import proofs.«01_k».proof.Proof.ScanRef
public import proofs.«01_k».proof.Proof.ScanRun

@[expose] public section

set_option maxRecDepth 16384
set_option maxHeartbeats 400000

noncomputable section

namespace Cert.ScanIdeal.Vals

open Idealize.ShloMosaic

section Agree
variable {x : Fin 4 → EReal} {d : Fin 4 → Fin 16 → EReal} {a : Fin 16 → EReal} (hx : ∀ m, ∃ r : ℝ, x m = r)
  (hd : ∀ m i, ∃ r : ℝ, d m i = r) (ha : ∀ i, ∃ r : ℝ, a i = r)
include hx hd ha

/-- The kernel's output of a step is the recurrence's, on real numbers. -/
theorem output_of {b c : Fin 4 → Fin 128 → EReal} (hb : ∀ m n, ∃ r : ℝ, b m n = r) (hc : ∀ m n, ∃ r : ℝ, c m n = r) (k : Fin 16)
    (sk : EReal) (s : Fin 128 → EReal) (t : Fin 4) :
    within sk x b c d a (fun i => if i = k then 1 else 0) t + decay d a (fun i => if i = k then 1 else 0) t * ∑ n, c t n * s n
      = ∑ n, c t n * upto (s n) x (fun m => d m k) (fun m => b m n) (a k) t + sk * x t := by
  choose x' ex using hx
  choose d' ed using hd
  choose a' ea using ha
  choose b' eb using hb
  choose c' ec using hc
  obtain rfl : x = fun m => (x' m : EReal) := funext ex
  obtain rfl : d = fun m i => (d' m i : EReal) := funext fun m => funext (ed m)
  obtain rfl : a = fun i => (a' i : EReal) := funext ea
  obtain rfl : b = fun m n => (b' m n : EReal) := funext fun m => funext (eb m)
  obtain rfl : c = fun m n => (c' m n : EReal) := funext fun m => funext (ec m)
  exact output_eq x' d' a' k sk b' c' s t

/-- The kernel's last state is the recurrence's, on real numbers. -/
theorem state_of {b : Fin 4 → EReal} (hb : ∀ m, ∃ r : ℝ, b m = r) (k : Fin 16) (s : EReal) :
    Ideal.exp (cum (fun m => d m k) (a k) 3) * s
      + ∑ m : Fin 16, (if h : m.val < 4 then carry (x ⟨m.val, h⟩) d a (fun i => if i = k then 1 else 0) ⟨m.val, h⟩ else (0 : EReal))
          * (if h : m.val < 4 then b ⟨m.val, h⟩ else (0 : EReal))
      = upto s x (fun m => d m k) b (a k) 3 := by
  choose x' ex using hx
  choose d' ed using hd
  choose a' ea using ha
  choose b' eb using hb
  obtain rfl : x = fun m => (x' m : EReal) := funext ex
  obtain rfl : d = fun m i => (d' m i : EReal) := funext fun m => funext (ed m)
  obtain rfl : a = fun i => (a' i : EReal) := funext ea
  obtain rfl : b = fun m => (b' m : EReal) := funext eb
  exact state_eq x' d' a' k s b'

end Agree

/-- The scan's rates are real. -/
theorem rate_real {v : EReal} (h : ∃ r : ℝ, v = r) : ∃ r : ℝ, -Ideal.exp v = r := by
  obtain ⟨r, rfl⟩ := h
  exact ⟨-Real.exp r, by rw [Ideal.exp_coe, EReal.coe_neg]⟩

end Cert.ScanIdeal.Vals

namespace Cert.Spec

open Idealize.ShloMosaic Idealize.ShloMosaic.Pointwise

/-- The output's array. -/
abbrev outs (x0 : (⟨2, ![512, 18432]⟩ : Shape).Idx → EReal) (x1 : (⟨2, ![512, 128]⟩ : Shape).Idx → EReal)
    (x2 : (⟨5, ![1, 128, 128, 64, 128]⟩ : Shape).Idx → EReal) (x3 : (⟨4, ![1, 128, 3, 10240]⟩ : Shape).Idx → EReal)
    (x4 : (⟨3, ![1, 4, 10240]⟩ : Shape).Idx → EReal) (x5 : (⟨2, ![1, 10240]⟩ : Shape).Idx → EReal) (x6 x7 : (⟨2, ![1, 128]⟩ : Shape).Idx → EReal) :
    (⟨2, ![512, 8192]⟩ : Shape).Idx → EReal := fun i =>
  let k : Fin 512 := i 0
  let q : Fin 8192 := i 1
  outAt x0 x1 x2 x3 x4 x5 x6 x7 ⟨k.val % 128, by omega⟩ ⟨q.val / 64, by omega⟩ ⟨q.val % 64, by omega⟩ ⟨k.val / 128, by omega⟩

/-- The last state's array. -/
abbrev lastStates (x0 : (⟨2, ![512, 18432]⟩ : Shape).Idx → EReal) (x1 : (⟨2, ![512, 128]⟩ : Shape).Idx → EReal)
    (x2 : (⟨5, ![1, 128, 128, 64, 128]⟩ : Shape).Idx → EReal) (x3 : (⟨4, ![1, 128, 3, 10240]⟩ : Shape).Idx → EReal)
    (x4 : (⟨3, ![1, 4, 10240]⟩ : Shape).Idx → EReal) (x5 : (⟨2, ![1, 10240]⟩ : Shape).Idx → EReal) (x6 : (⟨2, ![1, 128]⟩ : Shape).Idx → EReal) :
    (⟨5, ![1, 128, 128, 64, 128]⟩ : Shape).Idx → EReal := fun i => stateAt x0 x1 x2 x3 x4 x5 x6 (i 1) (i 2) (i 3) (i 4) 3

/-- An index of the state's array. -/
theorem ix5_of (i : (⟨5, ![1, 128, 128, 64, 128]⟩ : Shape).Idx) : i = ix5 (0 : Fin 1) (i 1 : Fin 128) (i 2 : Fin 128) (i 3 : Fin 64) (i 4 : Fin 128) := by
  have h : @Eq (Fin 1) (i 0) 0 := Subsingleton.elim (α := Fin 1) _ _
  exact (eq_ix5 i).trans (congrArg (fun k : Fin 1 => ix5 k (i 1 : Fin 128) (i 2 : Fin 128) (i 3 : Fin 64) (i 4 : Fin 128)) h)

end Cert.Spec

namespace Cert.ScanReferenceIdeal.Vals

open Idealize.ShloMosaic Idealize.ShloMosaic.TcCoe Idealize.SL.Sem Idealize.ShloMosaic.Pointwise
open Cert.ScanReferenceIdeal Cert.ScanReferenceIdeal.Read Cert.Spec

/-- The reference's run. -/
theorem run_spec (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c : Thread nD τ).loc main_v192) = outs (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6)) (m' ((c : Thread nD τ).loc main_arg7))
      ∧ r.2.mem ((c : Thread nD τ).loc main_v193) = lastStates (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6))
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3)
      ∧ r.2.mem ((c : Thread nD τ).loc main_arg4) = m' ((c : Thread nD τ).loc main_arg4)
      ∧ r.2.mem ((c : Thread nD τ).loc main_arg5) = m' ((c : Thread nD τ).loc main_arg5)
      ∧ r.2.mem ((c : Thread nD τ).loc main_arg6) = m' ((c : Thread nD τ).loc main_arg6)
      ∧ r.2.mem ((c : Thread nD τ).loc main_arg7) = m' ((c : Thread nD τ).loc main_arg7) :=
  (θ_run (defs (F := Ideal)) _ _).mono (fun r h c => by
    obtain ⟨h0, h1, ha⟩ := h c
    refine ⟨h0.trans ((val_main_v192_eq (StableHlo.launchContents m' c)).trans (funext fun (i : S512x8192.Idx) => ?_)), h1.trans ((val_main_v193_eq (StableHlo.launchContents m' c)).trans (funext fun (i : S1x128x128x64x128.Idx) => ?_)), ha⟩
    · exact (congrArg _ (ix2_of i)).trans (ref_y _ _ _ _ _ _ _ _ (i 0) (i 1))
    · exact (congrArg _ (ix5_of i)).trans (ref_s _ _ _ _ _ _ _ (i 1) (i 3) (i 2) (i 4)))
    (Cert.ScanReferenceIdeal.Value.run (F := Ideal) m' ρ)

end Cert.ScanReferenceIdeal.Vals

namespace Cert.ScanIdeal.Vals

open Idealize.ShloMosaic Idealize.ShloMosaic.TcCoe Idealize.SL.Sem Idealize.ShloMosaic.Pointwise
open Idealize.ShloMosaic.StableHlo
open Cert.ScanIdeal Cert.ScanIdeal.Gen Cert.Spec

section Reals
variable (m : (ℓ : Loc nD τ sig) → Buf (Elt Ideal) ℓ) (ρ : Dev nD → PrngReg) (c : Dev nD)
  (hm : Cert.Pre_finite.fn (F := Ideal) (A0 m c) (A1 m c) (A2 m c) (A3 m c) (A4 m c) (A5 m c) (A6 m c) (A7 m c) = fun _ => 1#1)
include hm

theorem conv_real (t : Fin 4) (p : Fin 128) (q : Fin 10240) : ∃ r : ℝ, convAt (A0 m c) (A3 m c) (A4 m c) (A5 m c) t p q = r := by
  obtain ⟨h0, -, h3, h4, h5, -⟩ := Cert.Pre_finite.Vals.reals hm
  exact silu_real (taps_real (fun _ => h3 _) (fun _ => h0 _ _) (fun _ => h4 _) (h5 _) t)

theorem dts_real (p h : Fin 128) (s : Fin 4) (k : Fin 16) : ∃ r : ℝ, dts m c p h s k = r :=
  (Cert.Pre_finite.Vals.reals hm).2.1 _

theorem rates_real (h : Fin 128) (k : Fin 16) : ∃ r : ℝ, rates m c h k = r :=
  rate_real ((Cert.Pre_finite.Vals.reals hm).2.2.2.2.2 _)

omit hm in
theorem head_of (h : Fin 128) : (⟨h.val / 16 * 16 + h.val % 16, by omega⟩ : Fin 128) = h := Fin.ext (by dsimp only; omega)

omit hm in
theorem dts_rof (p h : Fin 128) : (fun s => dts m c p h s (rof h)) = fun s => A1 m c (ix2 (row512 s p) h) :=
  funext fun s => congrArg (fun k => A1 m c (ix2 (row512 s p) k)) (head_of h)

omit hm in
theorem rates_rof (h : Fin 128) : rates m c h (rof h) = -Ideal.exp (A6 m c (ix2 0 h)) :=
  congrArg (fun k => -Ideal.exp (A6 m c (ix2 0 k) : EReal)) (head_of h)

theorem out_eq (p h : Fin 128) (e : Fin 64) (t : Fin 4) : (W17 m ρ c main_v45_0 : Vec Ideal S128x8x8192 .f32) (ix3 p ⟨t.val, by omega⟩ (at64 h e))
    = outAt (A0 m c) (A1 m c) (A2 m c) (A3 m c) (A4 m c) (A5 m c) (A6 m c) (A7 m c) p h e t := by
  refine (end_out m ρ c p h e t).trans ((output_of (fun s => conv_real m c hm s p _) (dts_real m c hm p h) (rates_real m c hm h)
    (fun s n => conv_real m c hm s p _) (fun s n => conv_real m c hm s p _) (rof h) _ _ t).trans ?_)
  rw [dts_rof, rates_rof]
  rfl

theorem state_eq' (p h : Fin 128) (e : Fin 64) (n : Fin 128) : (W17 m ρ c main_v45_1 : Vec Ideal S128x8192x128 .f32) (ix3 p (at64 h e) n)
    = stateAt (A0 m c) (A1 m c) (A2 m c) (A3 m c) (A4 m c) (A5 m c) (A6 m c) p h e n 3 := by
  refine (end_state m ρ c p h e n).trans ((state_of (fun s => conv_real m c hm s p _) (dts_real m c hm p h) (rates_real m c hm h)
    (fun s => conv_real m c hm s p _) (rof h) _).trans ?_)
  rw [dts_rof, rates_rof]
  rfl

theorem end_y : (W18 m ρ c main_v49 : Vec Ideal S512x8192 .bf16)
    = outs (A0 m c) (A1 m c) (A2 m c) (A3 m c) (A4 m c) (A5 m c) (A6 m c) (A7 m c) := by
  refine funext fun (i : S512x8192.Idx) => ?_
  obtain ⟨k, q, rfl⟩ : ∃ (k : Fin 512) (q : Fin 8192), i = ix2 k q := ⟨i 0, i 1, ix2_of i⟩
  have hq : q = at64 ⟨q.val / 64, by omega⟩ ⟨q.val % 64, by omega⟩ := Fin.ext (by dsimp only; omega)
  exact (h3_v49 (W17 m ρ c) k q).trans ((congrArg (fun q => (W17 m ρ c main_v45_0 : Vec Ideal S128x8x8192 .f32)
    (ix3 ⟨k.val % 128, by omega⟩ ⟨k.val / 128, by omega⟩ q)) hq).trans (out_eq m ρ c hm _ _ _ ⟨k.val / 128, by omega⟩))

theorem end_s : (W18 m ρ c main_v51 : Vec Ideal S1x128x128x64x128 .f32)
    = lastStates (A0 m c) (A1 m c) (A2 m c) (A3 m c) (A4 m c) (A5 m c) (A6 m c) := by
  refine funext fun (i : S1x128x128x64x128.Idx) => ?_
  exact (congrArg (W18 m ρ c main_v51 : Vec Ideal S1x128x128x64x128 .f32) (ix5_of i)).trans
    ((h3_v51 (W17 m ρ c) (i 1) (i 2) (i 3) (i 4)).trans (state_eq' m ρ c hm (i 1) (i 2) (i 3) (i 4)))

end Reals

/-- The kernel's run, on real numbers. -/
theorem run_spec (m : (ℓ : Loc nD τ sig) → Buf (Elt Ideal) ℓ) (ρ : Dev nD → PrngReg) (hm : Cert.Pre_ScanIdeal_finite m) :
    θ_run (defs (F := Ideal)) (onTc (τ := τ) (main (F := Ideal))) ⟨m, fun _ => 0, ρ⟩ fun r => ∀ c : Dev nD,
      r.2.mem ((c : Thread nD τ).loc main_v49) = outs (A0 m c) (A1 m c) (A2 m c) (A3 m c) (A4 m c) (A5 m c) (A6 m c) (A7 m c)
      ∧ r.2.mem ((c : Thread nD τ).loc main_v51) = lastStates (A0 m c) (A1 m c) (A2 m c) (A3 m c) (A4 m c) (A5 m c) (A6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run (defs (F := Ideal)) _ _).mono (fun r h c => ⟨
      (h c _ (mem_uc main_v49 (by decide))).trans (end_y m ρ c (hm c)),
      (h c _ (mem_uc main_v51 (by decide))).trans (end_s m ρ c (hm c)),
      (h c _ (mem_uc main_arg0 (by decide))).trans (W18_main_arg0 m ρ c),
      (h c _ (mem_uc main_arg1 (by decide))).trans (W18_main_arg1 m ρ c),
      (h c _ (mem_uc main_arg2 (by decide))).trans (W18_main_arg2 m ρ c),
      (h c _ (mem_uc main_arg3 (by decide))).trans (W18_main_arg3 m ρ c),
      (h c _ (mem_uc main_arg4 (by decide))).trans (W18_main_arg4 m ρ c),
      (h c _ (mem_uc main_arg5 (by decide))).trans (W18_main_arg5 m ρ c),
      (h c _ (mem_uc main_arg6 (by decide))).trans (W18_main_arg6 m ρ c),
      (h c _ (mem_uc main_arg7 (by decide))).trans (W18_main_arg7 m ρ c)⟩)
    (run_all m ρ)

end Cert.ScanIdeal.Vals

namespace Cert.Proof

open Idealize.ShloMosaic Idealize.SL.Sem
open Cert.Spec

/-- The scan's idealized kernel and its reference return the same arrays, on real numbers. -/
theorem scan_algebraic : Cert.algebraic_ScanIdeal_ScanReferenceIdeal_pre_finite := by
  intro m ρ m' ρ' hpre hagree
  refine ⟨_, _, ScanIdeal.Vals.run_spec m ρ hpre, ?_⟩
  refine (θ_run (Cert.ScanReferenceIdeal.defs (F := Ideal)) _ _).mono (fun r h c => ?_) (ScanReferenceIdeal.Vals.run_spec m' ρ')
  obtain ⟨e0, e1, e2, e3, e4, e5, e6, e7⟩ := hagree c
  obtain ⟨h0, h1, ha⟩ := h c
  refine ⟨h0.trans ?_, h1.trans ?_, ha⟩ <;> simp only [e0, e1, e2, e3, e4, e5, e6, e7]

end Cert.Proof

end
-- ==== Proof.GateSpec.lean ====
/-
  What the gated norm returns, in plain formulas: a row of the scan's output times the gate's swish, normalized by the root
  of its mean square.
-/
module

public import proofs.«01_k».proof.Proof.Spec

@[expose] public section

noncomputable section

namespace Cert.Spec

open Idealize.ShloMosaic Idealize.ShloMosaic.Pointwise

/-- A value times the swish of its gate. -/
def swished (y z : EReal) : EReal := y * (z * Ideal.logistic z)

/-- A row normalized by the root of its mean square (8192 columns, epsilon 1e-6), times the gain. -/
def rmsWide (v g : Fin 8192 → EReal) (d : Fin 8192) : EReal :=
  v d * Ideal.rsqrt (Ideal.div (∑ k, v k * v k) (Ideal.ofBits FTy.f32 1174405120#32) + Ideal.ofBits FTy.f32 897988541#32) * g d

theorem rmsWide_congr {v g v' g' : Fin 8192 → EReal} {d d' : Fin 8192} (hd : d = d') (hv : ∀ k, v k = v' k)
    (hg : ∀ k, g k = g' k) : rmsWide v g d = rmsWide v' g' d' := by
  rw [funext hv, funext hg, hd]

/-- The rows of `y`, gated by the first 8192 columns of `z` and normalized. -/
def gatedRows {M K : Nat} (hK : 8192 ≤ K) (y : Arr ⟨2, ![M, 8192]⟩) (z : Arr ⟨2, ![M, K]⟩) (g : Arr ⟨2, ![1, 8192]⟩) :
    Arr ⟨2, ![M, 8192]⟩ :=
  fun i => rmsWide (fun k => swished (y (ix2 (i 0) k)) (z (ix2 (i 0) ⟨k.val, by omega⟩))) (fun k => g (ix2 0 k)) (i 1)

theorem gatedRows_congr {M K M' K' : Nat} {hK : 8192 ≤ K} {hK' : 8192 ≤ K'} {y : Arr ⟨2, ![M, 8192]⟩} {z : Arr ⟨2, ![M, K]⟩}
    {y' : Arr ⟨2, ![M', 8192]⟩} {z' : Arr ⟨2, ![M', K']⟩} {g g' : Arr ⟨2, ![1, 8192]⟩}
    {i : (⟨2, ![M, 8192]⟩ : Shape).Idx} {j : (⟨2, ![M', 8192]⟩ : Shape).Idx} (h : i 1 = j 1)
    (hy : ∀ k, y (ix2 (i 0) k) = y' (ix2 (j 0) k))
    (hz : ∀ k : Fin 8192, z (ix2 (i 0) ⟨k.val, by omega⟩) = z' (ix2 (j 0) ⟨k.val, by omega⟩))
    (hg : ∀ k, g (ix2 0 k) = g' (ix2 0 k)) : gatedRows hK y z g i = gatedRows hK' y' z' g' j :=
  rmsWide_congr h (fun k => by rw [hy, hz]) hg

end Cert.Spec

end
-- ==== Proof.GateArr.lean ====
/-
  The gated norm of the sample group, read: what the result buffer holds when the program ends.
-/
module

public import proofs.«01_k».proof.Proof.Gen.GateIdeal.Frame
public import proofs.«01_k».proof.Proof.GateSpec
public import proofs.«01_k».proof.Proof.Blocks

@[expose] public section

set_option maxRecDepth 16384
set_option maxHeartbeats 2000000

noncomputable section

namespace Cert.GateIdeal.Vals

open Idealize.ShloMosaic Idealize.ShloMosaic.TcCoe Idealize.SL.Sem
open Idealize.ShloMosaic.Pipeline (Dat)
open Idealize.ShloMosaic.StableHlo
open Idealize.ShloMosaic.Pointwise
open Cert.GateIdeal Cert.GateIdeal.Gen Cert.Spec

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![t.val, 0] := (by decide +kernel : ∀ t : Fin grid0.N, _)

theorem pay (y z : Vec Ideal S256x8192 .bf16) (g : Vec Ideal S1x8192 .f32) (j : S256x8192.Idx) :
    k0_pay1 y z g j = gatedRows le_rfl y z g j := by
  pointwise [k0_pay1, gatedRows, rmsWide, swished]

theorem host_g (W : Valuation τ sig (Elt Ideal)) (d : Fin 8192) : (after hostOps0 W main_v1 : Vec Ideal S1x8192 .f32) (ix2 0 d)
    = (W main_arg2 : Vec Ideal S1x8192 .f32) (ix2 0 d) := by
  after_results_simp
  pointwise

variable (m : (ℓ : Loc nD τ sig) → Buf (Elt Ideal) ℓ) (ρ : Dev nD → PrngReg) (c : Dev nD)

/-- The gate's block, read where it sits. -/
theorem gate_block (t : Fin cfg0.N) (j : S256x8192.Idx) (i : S512x18432.Idx) (h0 : (i 0 : Nat) = t.val * 256 + (j 0).val)
    (h1 : (i 1 : Nat) = (j 1).val) : X0_1 m c t j = (m ((c : Thread nD τ).loc main_arg1) : Vec Ideal S512x18432 .bf16) i := by
  unfold X0_1 Pipeline.Window.fill
  rw [dif_pos (moved0_1 t j)]
  have e := emb_val win0_1 (idx0_1 t) rfl (fun a => ⟨(j a).val, ((cfg0.win 1).moved_iff _ j).mp (moved0_1 t j) a⟩)
  refine Eq.trans ?_ (congrFun (V_main_arg1 m c) i)
  exact congrArg (V m c main_arg1) (Shape.idx_ext₂ ((e 0).trans h0.symm) ((origin (e 1)).trans h1.symm))

/-- The gated norm of the argument arrays. -/
abbrev out : Arr ⟨2, ![512, 8192]⟩ :=
  gatedRows (by norm_num) (m ((c : Thread nD τ).loc main_arg0)) (m ((c : Thread nD τ).loc main_arg1)) (m ((c : Thread nD τ).loc main_arg2))

theorem arr0_3 : (dats m 0 c).arrAt 3 cfg0.N = out m c := by
  refine (dats m 0 c).arrAt_eq_of_covers 3 _ (by decide +kernel) fun t hf y => ?_
  rw [after0_3]; unfold outsAt0; frame_out [out0_A_3]
  refine (pay _ _ _ y).trans ?_
  have e0 := emb_val win0_0 (idx0_0 t) rfl
  have e2 := emb_val win0_2 (idx0_2 t) rfl
  have e3 := emb_val win0_3 (idx0_3 t) rfl y
  refine gatedRows_congr (Fin.ext (origin (e3 1)).symm) (fun k => ?_) (fun k => ?_) fun k => ?_
  · refine Eq.trans ?_ (congrFun (V_main_arg0 m c) _)
    exact congrArg (V m c main_arg0) (Shape.idx_ext₂ ((e0 _ 0).trans (e3 0).symm) (origin (e0 _ 1)))
  · exact gate_block m c t _ _ (e3 0) rfl
  · refine Eq.trans ?_ (host_g (fun b => m (c, b)) k)
    exact congrArg (V m c main_v1) (Shape.idx_ext₂ (origin (e2 _ 0)) (origin (e2 _ 1)))

/-- The kernel's run. -/
theorem run_spec : θ_run (defs (F := Ideal)) (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run (defs (F := Ideal)) _ _).mono (fun r h c => ⟨((h c).1 3).trans (arr0_3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.GateIdeal.Vals

end
-- ==== Proof.GateProof.lean ====
/-
  The gated norm of the sample group: the reference's run, its result named by the same function, and the claim that the
  kernel agrees with it.
-/
module

public import proofs.«01_k».proof.Defs
public import proofs.«01_k».proof.Proof.Gen.GateReferenceIdeal.Run
public import proofs.«01_k».proof.Proof.Gen.GateReferenceIdeal.Read
public import proofs.«01_k».proof.Proof.GateArr

@[expose] public section

set_option maxRecDepth 16384
set_option maxHeartbeats 2000000

noncomputable section

namespace Cert.GateReferenceIdeal.Vals

open Idealize.ShloMosaic Idealize.ShloMosaic.TcCoe Idealize.SL.Sem
open Idealize.ShloMosaic.Pointwise
open Cert.GateReferenceIdeal Cert.GateReferenceIdeal.Read Cert.Spec

variable (x0 : Vec Ideal S512x8192 .bf16) (x1 : Vec Ideal S512x18432 .bf16) (x2 : Vec Ideal S1x8192 .f32)

/-- A sigmoid spelled out is the logistic function. -/
theorem sigmoid (x : EReal) : Ideal.div 1 (1 + Ideal.exp (-x)) = Ideal.logistic x := rfl

theorem gated_at (r : Fin 512) (k : Fin 8192) : val_main_v4 x0 x1 (ix2 r k) = swished (x0 (ix2 r k)) (x1 (ix2 r ⟨k.val, by omega⟩)) := by
  pointwise [val_main_v4, val_main_v3, val_main_v2, val_main_v1, val_main_v0, val_main_call0_v5, val_main_call0_v4,
    val_main_call0_v3, val_main_call0_v2, val_main_call0_v1, val_main_call0_v0, val_main_call0_cst, val_main_call0_cst_0, swished, sigmoid]

theorem out_eq : val_main_v19 x0 x1 x2 = gatedRows (by norm_num) x0 x1 x2 := by
  funext i
  obtain ⟨r, d, rfl⟩ : ∃ (r : Fin 512) (d : Fin 8192), i = ix2 r d := ⟨i 0, i 1, ix2_of i⟩
  have h : val_main_v19 x0 x1 x2 (ix2 r d) = rmsWide (fun k => val_main_v4 x0 x1 (ix2 r k)) (fun k => x2 (ix2 0 k)) d := by
    pointwise [val_main_v19, val_main_v18, val_main_v17, val_main_v16, val_main_v15, val_main_v14, val_main_v13, val_main_v12,
      val_main_v11, val_main_cst_1, val_main_v10, val_main_v9, val_main_cst_0, val_main_v8, val_main_v7, val_main_cst, val_main_v6,
      val_main_v5, rmsWide]
  rw [h]
  exact rmsWide_congr rfl (fun k => gated_at x0 x1 r k) fun _ => rfl

/-- The gated norm of the argument arrays. -/
abbrev out (m' : (ℓ : Loc nD τ sig) → Buf (Elt Ideal) ℓ) (c : Dev nD) : Arr ⟨2, ![512, 8192]⟩ :=
  gatedRows (by norm_num) (m' ((c : Thread nD τ).loc main_arg0)) (m' ((c : Thread nD τ).loc main_arg1)) (m' ((c : Thread nD τ).loc main_arg2))

/-- The reference's run. -/
theorem run_spec (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c : Thread nD τ).loc main_v19) = out m' c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2) :=
  (θ_run (defs (F := Ideal)) _ _).mono (fun r h c => by
    obtain ⟨h0, ha⟩ := h c
    exact ⟨h0.trans ((val_main_v19_eq _ _ _).trans (out_eq _ _ _)), ha⟩)
    (Cert.GateReferenceIdeal.Value.run (F := Ideal) m' ρ)

end Cert.GateReferenceIdeal.Vals

namespace Cert.Proof

open Idealize.ShloMosaic Idealize.SL.Sem
open Cert.Spec

/-- The idealized kernel and its reference return the same rows. -/
theorem gate_algebraic : Cert.algebraic_GateIdeal_GateReferenceIdeal := by
  intro m ρ m' ρ' _ hagree
  refine ⟨GateIdeal.Vals.out m, GateIdeal.Vals.run_spec m ρ, ?_⟩
  refine (θ_run (Cert.GateReferenceIdeal.defs (F := Ideal)) _ _).mono (fun r h c => ?_) (GateReferenceIdeal.Vals.run_spec m' ρ')
  obtain ⟨e0, e1, e2⟩ := hagree c
  obtain ⟨h0, ha⟩ := h c
  refine ⟨h0.trans ?_, ha⟩
  simp only [GateReferenceIdeal.Vals.out, GateIdeal.Vals.out, e0, e1, e2]

end Cert.Proof

end
-- ==== Proof.ClosingSpec.lean ====
/-
  What the last call returns, in plain formulas: a token's residual sum, normalized by the root of its mean square.
-/
module

public import proofs.«01_k».proof.Proof.Spec

@[expose] public section

noncomputable section

namespace Cert.Spec

open Idealize.ShloMosaic Idealize.ShloMosaic.Pointwise

/-- A row normalized by the root of its mean square (4096 columns, epsilon 1e-6), times the gain. -/
def rmsRow (v g : Fin 4096 → EReal) (d : Fin 4096) : EReal :=
  v d * Ideal.rsqrt (Ideal.div (∑ k, v k * v k) (Ideal.ofBits FTy.f32 1166016512#32) + Ideal.ofBits FTy.f32 897988541#32) * g d

theorem rmsRow_congr {v g v' g' : Fin 4096 → EReal} {d d' : Fin 4096} (hd : d = d') (hv : ∀ k, v k = v' k)
    (hg : ∀ k, g k = g' k) : rmsRow v g d = rmsRow v' g' d' := by
  rw [funext hv, funext hg, hd]

/-- The residual sum of the rows of `x` and `p`, normalized: `f` says which row of the gates a row takes. -/
def closed {M A B : Nat} (f : Fin M → Fin A × Fin B) (x p : Arr ⟨2, ![M, 4096]⟩) (gate : Arr ⟨3, ![A, B, 4096]⟩)
    (g : Arr ⟨2, ![1, 4096]⟩) : Arr ⟨2, ![M, 4096]⟩ :=
  fun i => rmsRow (fun k => x (ix2 (i 0) k) + gate (ix3 (f (i 0)).1 (f (i 0)).2 k) * p (ix2 (i 0) k)) (fun k => g (ix2 0 k)) (i 1)

theorem closed_congr {M A B M' A' B' : Nat} {f : Fin M → Fin A × Fin B} {x p : Arr ⟨2, ![M, 4096]⟩}
    {gate : Arr ⟨3, ![A, B, 4096]⟩} {g g' : Arr ⟨2, ![1, 4096]⟩} {f' : Fin M' → Fin A' × Fin B'}
    {x' p' : Arr ⟨2, ![M', 4096]⟩} {gate' : Arr ⟨3, ![A', B', 4096]⟩}
    {i : (⟨2, ![M, 4096]⟩ : Shape).Idx} {j : (⟨2, ![M', 4096]⟩ : Shape).Idx} (h : i 1 = j 1)
    (hx : ∀ k, x (ix2 (i 0) k) = x' (ix2 (j 0) k)) (hp : ∀ k, p (ix2 (i 0) k) = p' (ix2 (j 0) k))
    (hc : ∀ k, gate (ix3 (f (i 0)).1 (f (i 0)).2 k) = gate' (ix3 (f' (j 0)).1 (f' (j 0)).2 k))
    (hg : ∀ k, g (ix2 0 k) = g' (ix2 0 k)) : closed f x p gate g i = closed f' x' p' gate' g' j :=
  rmsRow_congr h (fun k => by rw [hx, hp, hc]) hg

/-- A group's last activations, `B` sequences of `T` tokens: `row` says where a token of a sequence is in `x` and `p`, and
    the gate is the last 4096 columns of the sequence's modulation. -/
def lastRows {M B T : Nat} (row : Fin B → Fin T → Fin M) (x p : Arr ⟨2, ![M, 4096]⟩) (mod : Arr ⟨2, ![B, 24576]⟩)
    (g : Arr ⟨1, ![4096]⟩) : Arr ⟨3, ![B, T, 4096]⟩ :=
  fun i => rmsRow (fun k => x (ix2 (row (i 0) (i 1)) k) + mod (ix2 (i 0) ⟨20480 + k.val, by omega⟩) * p (ix2 (row (i 0) (i 1)) k))
    (fun k => g (ix1 k)) (i 2)

/-- The row of a prompt token: the sequences one after the other. -/
def tokenP (b : Fin 4) (t : Fin 2048) : Fin 8192 := ⟨b.val * 2048 + t.val, by omega⟩

/-- The row of a sample token: the sequences side by side. -/
def tokenS (b : Fin 128) (t : Fin 4) : Fin 512 := ⟨t.val * 128 + b.val, by omega⟩

theorem ix3_of {a b n : Nat} (i : (⟨3, ![a, b, n]⟩ : Shape).Idx) : i = ix3 (i 0) (i 1) (i 2) := by
  funext x
  match x with
  | 0 => rfl
  | 1 => rfl
  | 2 => rfl

end Cert.Spec

end
-- ==== Proof.ClosingArr.lean ====
/-
  The residual call of the prompt group (region 0) and of the sample group (region 1), and the operations around them,
  read: what the two result buffers hold when the program ends.
-/
module

public import proofs.«01_k».proof.Proof.Gen.ClosingIdeal.Frame
public import proofs.«01_k».proof.Proof.ClosingSpec
public import proofs.«01_k».proof.Proof.Blocks

@[expose] public section

set_option maxRecDepth 16384
set_option maxHeartbeats 2000000

noncomputable section

namespace Cert.ClosingIdeal.Vals

open Idealize.ShloMosaic Idealize.ShloMosaic.TcCoe Idealize.SL.Sem
open Idealize.ShloMosaic.Pipeline (Dat)
open Idealize.ShloMosaic.StableHlo
open Idealize.ShloMosaic.Pointwise
open Cert.ClosingIdeal Cert.ClosingIdeal.Gen Cert.Spec

/-! ### The calls -/

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![t.val / 8, 0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![t.val, 0] := (by decide +kernel : ∀ t : Fin grid1.N, _)

theorem pay0 (x : Vec Ideal S256x4096 .f32) (gate : Vec Ideal S1x1x4096 .f32) (p : Vec Ideal S256x4096 .f32) (g : Vec Ideal S1x4096 .f32)
    (j : S256x4096.Idx) : k0_pay1 x gate p g j = closed (fun _ => (0, 0)) x p gate g j := by
  pointwise [k0_pay1, closed, rmsRow]

theorem pay1 (x : Vec Ideal S256x4096 .f32) (gate : Vec Ideal S1x256x4096 .f32) (p : Vec Ideal S256x4096 .f32) (g : Vec Ideal S1x4096 .f32)
    (j : S256x4096.Idx) : k1_pay1 x gate p g j = closed (fun r => (0, r)) x p gate g j := by
  pointwise [k1_pay1, closed, rmsRow]

section Regions

variable (V : (c : Dev nD) → (b : Ref sig .tc) → Buf (Elt Ideal) ((c : Thread nD τ).loc b))

/-- The prompt group's rows: a row's gate is its sequence's. -/
theorem arr0_4 (c : Dev nD) : (dat0 V c).arrAt 4 cfg0.N
    = closed (fun r : Fin 8192 => (⟨r.val / 2048, Nat.div_lt_of_lt_mul r.isLt⟩, 0)) (V c (Pipeline.arrRef spec0 0))
      (V c (Pipeline.arrRef spec0 1)) (V c (Pipeline.arrRef spec0 2)) (V c (Pipeline.arrRef spec0 3)) := by
  refine (dat0 V c).arrAt_eq_of_covers 4 _ (by decide +kernel) fun t hf y => ?_
  rw [after0_4]; frame_out [out0_4]
  refine (pay0 _ _ _ _ y).trans ?_
  have e0 := emb_val win0_0 (idx0_0 t) rfl
  have e1 := emb_val win0_1 (idx0_1 t) rfl
  have e2 := emb_val win0_2 (idx0_2 t) rfl
  have e3 := emb_val win0_3 (idx0_3 t) rfl
  have e4 := emb_val win0_4 (idx0_4 t) rfl y
  have hb : ∀ z : Nat, z = (t.val / 8) * 1 + 0 → z = (((win0_4.rect t).emb y) 0 : Nat) / 2048 := by
    intro z hz
    have h0 : (((win0_4.rect t).emb y) 0 : Nat) = t.val * 256 + (y 0).val := e4 0
    have hy : (y 0).val < 256 := (y 0).isLt
    omega
  exact closed_congr (Fin.ext (origin (e4 1)).symm)
    (fun k => congrArg (V c (Pipeline.arrRef spec0 0)) (Shape.idx_ext₂ ((e0 _ 0).trans (e4 0).symm) (origin (e0 _ 1))))
    (fun k => congrArg (V c (Pipeline.arrRef spec0 1)) (Shape.idx_ext₂ ((e1 _ 0).trans (e4 0).symm) (origin (e1 _ 1))))
    (fun k => congrArg (V c (Pipeline.arrRef spec0 2)) (idx_ext_three (hb _ (e2 _ 0)) (origin (e2 _ 1)) (origin (e2 _ 2))))
    (fun k => congrArg (V c (Pipeline.arrRef spec0 3)) (Shape.idx_ext₂ (origin (e3 _ 0)) (origin (e3 _ 1))))

/-- The sample group's rows: each row has its own gate. -/
theorem arr1_4 (c : Dev nD) : (dat1 V c).arrAt 4 cfg1.N
    = closed (fun r => (0, r)) (V c (Pipeline.arrRef spec1 0)) (V c (Pipeline.arrRef spec1 1)) (V c (Pipeline.arrRef spec1 2))
      (V c (Pipeline.arrRef spec1 3)) := by
  refine (dat1 V c).arrAt_eq_of_covers 4 _ (by decide +kernel) fun t hf y => ?_
  rw [after1_4]; frame_out [out1_4]
  refine (pay1 _ _ _ _ y).trans ?_
  have e0 := emb_val win1_0 (idx1_0 t) rfl
  have e1 := emb_val win1_1 (idx1_1 t) rfl
  have e2 := emb_val win1_2 (idx1_2 t) rfl
  have e3 := emb_val win1_3 (idx1_3 t) rfl
  have e4 := emb_val win1_4 (idx1_4 t) rfl y
  exact closed_congr (Fin.ext (origin (e4 1)).symm)
    (fun k => congrArg (V c (Pipeline.arrRef spec1 0)) (Shape.idx_ext₂ ((e0 _ 0).trans (e4 0).symm) (origin (e0 _ 1))))
    (fun k => congrArg (V c (Pipeline.arrRef spec1 1)) (Shape.idx_ext₂ ((e1 _ 0).trans (e4 0).symm) (origin (e1 _ 1))))
    (fun k => congrArg (V c (Pipeline.arrRef spec1 2)) (idx_ext_three (origin (e2 _ 0)) ((e2 _ 1).trans (e4 0).symm) (origin (e2 _ 2))))
    (fun k => congrArg (V c (Pipeline.arrRef spec1 3)) (Shape.idx_ext₂ (origin (e3 _ 0)) (origin (e3 _ 1))))

end Regions

/-! ### The operations around the calls -/

section Host

variable (W : Valuation τ sig (Elt Ideal))

theorem h0_v19 (b : Fin 4) (d : Fin 4096) : (after hostOps0 W main_v19 : Vec Ideal S4x1x4096 .f32) (ix3 b 0 d)
    = (W main_arg4 : Vec Ideal S4x24576 .f32) (ix2 b ⟨20480 + d.val, by omega⟩) := by
  after_results_simp
  pointwise

theorem h0_v55 (r : Fin 512) (d : Fin 4096) : (after hostOps0 W main_v55 : Vec Ideal S1x512x4096 .f32) (ix3 0 r d)
    = (W main_arg5 : Vec Ideal S128x24576 .f32) (ix2 ⟨r.val % 128, by omega⟩ ⟨20480 + d.val, by omega⟩) := by
  after_results_simp
  pointwise

theorem h0_v56 (d : Fin 4096) : (after hostOps0 W main_v56 : Vec Ideal S1x4096 .f32) (ix2 0 d)
    = (W main_arg6 : Vec Ideal S4096 .f32) (ix1 d) := by
  after_results_simp
  pointwise

theorem h1_v58 (d : Fin 4096) : (after hostOps1 W main_v58 : Vec Ideal S1x4096 .f32) (ix2 0 d)
    = (W main_arg6 : Vec Ideal S4096 .f32) (ix1 d) := by
  after_results_simp
  pointwise

theorem h2_v60 (b : Fin 4) (t : Fin 2048) (d : Fin 4096) : (after hostOps2 W main_v60 : Vec Ideal S4x2048x4096 .f32) (ix3 b t d)
    = (W main_v57 : Vec Ideal S8192x4096 .f32) (ix2 (tokenP b t) d) := by
  after_results_simp
  pointwise [tokenP]

theorem h2_v62 (b : Fin 128) (t : Fin 4) (d : Fin 4096) : (after hostOps2 W main_v62 : Vec Ideal S128x4x4096 .f32) (ix3 b t d)
    = (W main_v59 : Vec Ideal S512x4096 .f32) (ix2 (tokenS b t) d) := by
  after_results_simp
  pointwise [tokenS]

end Host

/-! ### The results -/

variable (m : (ℓ : Loc nD τ sig) → Buf (Elt Ideal) ℓ) (ρ : Dev nD → PrngReg) (c : Dev nD)

/-- The prompt group's last activations. -/
abbrev yP : Arr ⟨3, ![4, 2048, 4096]⟩ :=
  lastRows tokenP (m ((c : Thread nD τ).loc main_arg0)) (m ((c : Thread nD τ).loc main_arg2)) (m ((c : Thread nD τ).loc main_arg4))
    (m ((c : Thread nD τ).loc main_arg6))

/-- The sample group's last activations. -/
abbrev yS : Arr ⟨3, ![128, 4, 4096]⟩ :=
  lastRows tokenS (m ((c : Thread nD τ).loc main_arg1)) (m ((c : Thread nD τ).loc main_arg3)) (m ((c : Thread nD τ).loc main_arg5))
    (m ((c : Thread nD τ).loc main_arg6))

theorem end_y_p : (W5 m ρ c main_v60 : Vec Ideal S4x2048x4096 .f32) = yP m c := by
  funext i
  obtain ⟨b, t, d, rfl⟩ : ∃ (b : Fin 4) (t : Fin 2048) (d : Fin 4096), i = ix3 b t d := ⟨i 0, i 1, i 2, ix3_of i⟩
  refine (h2_v60 _ b t d).trans ?_
  rw [W4_of m ρ c main_v57 (by decide), W3_of m ρ c main_v57 (by decide)]
  refine (congrFun ((W2_arr m ρ c 4).trans (arr0_4 (V1 m ρ) c)) _).trans ?_
  refine rmsRow_congr rfl (fun k => congrArg₂ _ (congrFun (W1_args m ρ c main_arg0 (by decide)) _) (congrArg₂ _ ?_
    (congrFun (W1_args m ρ c main_arg2 (by decide)) _))) fun k => h0_v56 _ k
  exact (h0_v19 _ _ k).trans (congrArg (m ((c : Thread nD τ).loc main_arg4)) (Shape.idx_ext₂
    (by show (b.val * 2048 + t.val) / 2048 = b.val; omega) rfl))

theorem end_y_s : (W5 m ρ c main_v62 : Vec Ideal S128x4x4096 .f32) = yS m c := by
  funext i
  obtain ⟨b, t, d, rfl⟩ : ∃ (b : Fin 128) (t : Fin 4) (d : Fin 4096), i = ix3 b t d := ⟨i 0, i 1, i 2, ix3_of i⟩
  refine (h2_v62 _ b t d).trans ?_
  refine (congrFun ((W4_arr m ρ c 4).trans (arr1_4 (V3 m ρ) c)) _).trans ?_
  refine rmsRow_congr rfl (fun k => congrArg₂ _ (congrFun (W3_args m ρ c main_arg1 (by decide)) _) (congrArg₂ _ ?_
    (congrFun (W3_args m ρ c main_arg3 (by decide)) _)))
    fun k => (h1_v58 _ k).trans (congrFun (W2_args m ρ c main_arg6 (by decide)) _)
  refine (congrFun ((W3_of m ρ c main_v55 (by decide)).trans (W2_of m ρ c main_v55 (by decide))) _).trans ?_
  exact (h0_v55 _ _ k).trans (congrArg (m ((c : Thread nD τ).loc main_arg5)) (Shape.idx_ext₂
    (by show (t.val * 128 + b.val) % 128 = b.val; omega) rfl))

end Cert.ClosingIdeal.Vals

end
-- ==== Proof.ClosingRef.lean ====
/-
  What the last call's reference returns, as the same functions of the argument arrays.
-/
module

public import proofs.«01_k».proof.Proof.ClosingSpec
public import proofs.«01_k».proof.Proof.Gen.ClosingReferenceIdeal.Read

@[expose] public section

set_option maxRecDepth 16384
set_option maxHeartbeats 2000000

noncomputable section

namespace Cert.ClosingReferenceIdeal.Vals

open Idealize.ShloMosaic Idealize.ShloMosaic.TcCoe Idealize.SL.Sem
open Idealize.ShloMosaic.Pointwise
open Cert.ClosingReferenceIdeal Cert.ClosingReferenceIdeal.Read Cert.Spec

variable (x0 x2 : Vec Ideal S8192x4096 .f32) (x1 x3 : Vec Ideal S512x4096 .f32) (x4 : Vec Ideal S4x24576 .f32)
  (x5 : Vec Ideal S128x24576 .f32) (x6 : Vec Ideal S4096 .f32)

theorem sum_p (b : Fin 4) (t : Fin 2048) (k : Fin 4096) : val_main_v11 x0 x2 x4 (ix3 b t k)
    = x0 (ix2 (tokenP b t) k) + x4 (ix2 b ⟨20480 + k.val, by omega⟩) * x2 (ix2 (tokenP b t) k) := by
  pointwise [val_main_v11, val_main_v10, val_main_v9, val_main_v8, val_main_v2, val_main_v1, val_main_v0, tokenP]

theorem sum_s (b : Fin 128) (t : Fin 4) (k : Fin 4096) : val_main_v38 x1 x3 x5 (ix3 b t k)
    = x1 (ix2 (tokenS b t) k) + x5 (ix2 b ⟨20480 + k.val, by omega⟩) * x3 (ix2 (tokenS b t) k) := by
  pointwise [val_main_v38, val_main_v37, val_main_v36, val_main_v35, val_main_v29, val_main_v28, val_main_v27, val_main_v26, val_main_v25, tokenS]

theorem y_p : val_main_v24 x0 x2 x4 x6 = lastRows tokenP x0 x2 x4 x6 := by
  funext i
  obtain ⟨b, t, d, rfl⟩ : ∃ (b : Fin 4) (t : Fin 2048) (d : Fin 4096), i = ix3 b t d := ⟨i 0, i 1, i 2, ix3_of i⟩
  have h : val_main_v24 x0 x2 x4 x6 (ix3 b t d) = rmsRow (fun k => val_main_v11 x0 x2 x4 (ix3 b t k)) (fun k => x6 (ix1 k)) d := by
    pointwise [val_main_v24, val_main_v23, val_main_v22, val_main_v21, val_main_v20, val_main_v19, val_main_v18, val_main_v17,
      val_main_cst_1, val_main_v16, val_main_v15, val_main_cst_0, val_main_v14, val_main_v13, val_main_cst, val_main_v12, rmsRow]
  rw [h]
  exact rmsRow_congr rfl (fun k => sum_p x0 x2 x4 b t k) fun _ => rfl

theorem y_s : val_main_v51 x1 x3 x5 x6 = lastRows tokenS x1 x3 x5 x6 := by
  funext i
  obtain ⟨b, t, d, rfl⟩ : ∃ (b : Fin 128) (t : Fin 4) (d : Fin 4096), i = ix3 b t d := ⟨i 0, i 1, i 2, ix3_of i⟩
  have h : val_main_v51 x1 x3 x5 x6 (ix3 b t d) = rmsRow (fun k => val_main_v38 x1 x3 x5 (ix3 b t k)) (fun k => x6 (ix1 k)) d := by
    pointwise [val_main_v51, val_main_v50, val_main_v49, val_main_v48, val_main_v47, val_main_v46, val_main_v45, val_main_v44,
      val_main_cst_4, val_main_v43, val_main_v42, val_main_cst_3, val_main_v41, val_main_v40, val_main_cst_2, val_main_v39, rmsRow]
  rw [h]
  exact rmsRow_congr rfl (fun k => sum_s x1 x3 x5 b t k) fun _ => rfl

end Cert.ClosingReferenceIdeal.Vals

end
-- ==== Proof.ClosingRun.lean ====
/-
  The last call's run: every buffer the TensorCore holds ends with the contents followed through the program's operations and
  calls.
-/
module

public import proofs.«01_k».proof.Proof.Gen.ClosingIdeal.Frame

@[expose] public section

set_option maxRecDepth 16384

noncomputable section

namespace Cert.ClosingIdeal.Vals

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ClosingIdeal Cert.ClosingIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory, and each buffer of the TensorCore ends at its contents past the last segment. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.ClosingIdeal.Vals

end
-- ==== Proof.ClosingProof.lean ====
/-
  The residual call of both groups: the run of the kernel and of the reference, their results named by the same functions,
  and the claim that they agree.
-/
module

public import proofs.«01_k».proof.Defs
public import proofs.«01_k».proof.Proof.Gen.ClosingReferenceIdeal.Run
public import proofs.«01_k».proof.Proof.ClosingArr
public import proofs.«01_k».proof.Proof.ClosingRef
public import proofs.«01_k».proof.Proof.ClosingRun

@[expose] public section

set_option maxRecDepth 16384
set_option maxHeartbeats 2000000

noncomputable section

namespace Cert.ClosingReferenceIdeal.Vals

open Idealize.ShloMosaic Idealize.ShloMosaic.TcCoe Idealize.SL.Sem
open Cert.ClosingReferenceIdeal Cert.ClosingReferenceIdeal.Read Cert.Spec

/-- The prompt group's last activations. -/
abbrev yP (m' : (ℓ : Loc nD τ sig) → Buf (Elt Ideal) ℓ) (c : Dev nD) : Arr ⟨3, ![4, 2048, 4096]⟩ :=
  lastRows tokenP (m' ((c : Thread nD τ).loc main_arg0)) (m' ((c : Thread nD τ).loc main_arg2)) (m' ((c : Thread nD τ).loc main_arg4))
    (m' ((c : Thread nD τ).loc main_arg6))

/-- The sample group's last activations. -/
abbrev yS (m' : (ℓ : Loc nD τ sig) → Buf (Elt Ideal) ℓ) (c : Dev nD) : Arr ⟨3, ![128, 4, 4096]⟩ :=
  lastRows tokenS (m' ((c : Thread nD τ).loc main_arg1)) (m' ((c : Thread nD τ).loc main_arg3)) (m' ((c : Thread nD τ).loc main_arg5))
    (m' ((c : Thread nD τ).loc main_arg6))

/-- The reference's run. -/
theorem run_spec (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c : Thread nD τ).loc main_v24) = yP m' c
      ∧ r.2.mem ((c : Thread nD τ).loc main_v51) = yS m' c
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3)
      ∧ r.2.mem ((c : Thread nD τ).loc main_arg4) = m' ((c : Thread nD τ).loc main_arg4)
      ∧ r.2.mem ((c : Thread nD τ).loc main_arg5) = m' ((c : Thread nD τ).loc main_arg5)
      ∧ r.2.mem ((c : Thread nD τ).loc main_arg6) = m' ((c : Thread nD τ).loc main_arg6) :=
  (θ_run (defs (F := Ideal)) _ _).mono (fun r h c => by
    obtain ⟨h0, h1, ha⟩ := h c
    exact ⟨h0.trans ((val_main_v24_eq _ _ _ _).trans (y_p _ _ _ _)), h1.trans ((val_main_v51_eq _ _ _ _).trans (y_s _ _ _ _)), ha⟩)
    (Cert.ClosingReferenceIdeal.Value.run (F := Ideal) m' ρ)

end Cert.ClosingReferenceIdeal.Vals

namespace Cert.ClosingIdeal.Vals

open Idealize.ShloMosaic Idealize.ShloMosaic.TcCoe Idealize.SL.Sem
open Cert.ClosingIdeal Cert.ClosingIdeal.Gen Cert.Spec

/-- The kernel's run. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v60) = yP m c
      ∧ r.2.mem ((c : Thread nD τ).loc main_v62) = yS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run (defs (F := Ideal)) _ _).mono (fun r h c => ⟨
      (h c _ (mem_uc main_v60 (by decide))).trans (end_y_p m ρ c),
      (h c _ (mem_uc main_v62 (by decide))).trans (end_y_s m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c)⟩)
    (run_all m ρ)

end Cert.ClosingIdeal.Vals

namespace Cert.Proof

open Idealize.ShloMosaic Idealize.SL.Sem
open Cert.Spec

/-- The idealized kernel and its reference return the same activations. -/
theorem closing_algebraic : Cert.algebraic_ClosingIdeal_ClosingReferenceIdeal := by
  intro m ρ m' ρ' _ hagree
  refine ⟨ClosingIdeal.Vals.yP m, ClosingIdeal.Vals.yS m, ClosingIdeal.Vals.run_spec m ρ, ?_⟩
  refine (θ_run (Cert.ClosingReferenceIdeal.defs (F := Ideal)) _ _).mono (fun r h c => ?_) (ClosingReferenceIdeal.Vals.run_spec m' ρ')
  obtain ⟨e0, e1, e2, e3, e4, e5, e6⟩ := hagree c
  obtain ⟨h0, h1, ha⟩ := h c
  refine ⟨h0.trans ?_, h1.trans ?_, ha⟩ <;>
    simp only [ClosingReferenceIdeal.Vals.yP, ClosingReferenceIdeal.Vals.yS, ClosingIdeal.Vals.yP, ClosingIdeal.Vals.yS, e0, e1, e2, e3, e4, e5, e6]

end Cert.Proof

end
-- ==== Proof.lean ====
/-
  The twenty-five claims, five each of the projections, the mixing half, the sample group's scan, its gated norm and the
  residual calls. What a run of a program leaves is named by functions of the argument arrays, in `Spec.lean`, that its
  reference's results are too. The mixing half's are in `MixProof.lean`, the scan's in `ScanProof.lean`, the gated norm's
  in `GateProof.lean`, the residual's in `ClosingProof.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerReferenceIdeal
public import proofs.«01_k».proof.Proof.Gen.MixerReferenceIdeal.Run
public import proofs.«01_k».proof.Proof.Gen.MixerReferenceIdeal.Read
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanReferenceIdeal
public import proofs.«01_k».proof.Proof.Gen.ScanReferenceIdeal.Run
public import proofs.«01_k».proof.Proof.Gen.ScanReferenceIdeal.Read
public import proofs.«01_k».proof.Proof.Gen.Pre_finite
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Closing
public import proofs.«01_k».proof.Proof.Gen.Closing.Skeleton
public import proofs.«01_k».proof.Proof.Gen.Closing.Launch
public import proofs.«01_k».proof.Proof.Gen.Closing.Points
public import proofs.«01_k».proof.Proof.Gen.Closing.Frame
public import proofs.«01_k».proof.Proof.Gen.ClosingIdeal
public import proofs.«01_k».proof.Proof.Gen.ClosingIdeal.Skeleton
public import proofs.«01_k».proof.Proof.Gen.ClosingIdeal.Launch
public import proofs.«01_k».proof.Proof.Gen.ClosingIdeal.Points
public import proofs.«01_k».proof.Proof.Gen.ClosingIdeal.Frame
public import proofs.«01_k».proof.Proof.Gen.ClosingReferenceIdeal
public import proofs.«01_k».proof.Proof.Gen.ClosingReferenceIdeal.Run
public import proofs.«01_k».proof.Proof.Gen.ClosingReferenceIdeal.Read
public import proofs.«01_k».proof.Proof.Values
public import proofs.«01_k».proof.Proof.Ref
public import proofs.«01_k».proof.Proof.Run
public import proofs.«01_k».proof.Proof.MixProof
public import proofs.«01_k».proof.Proof.ScanProof
public import proofs.«01_k».proof.Proof.GateProof
public import proofs.«01_k».proof.Proof.ClosingProof
public import Idealize.ShloMosaic.Adequacy
public import Idealize.ShloMosaic.Init

@[expose] public section

set_option maxHeartbeats 2000000

noncomputable section

namespace Cert.ReferenceIdeal.Vals

open Idealize.ShloMosaic Idealize.ShloMosaic.TcCoe Idealize.SL.Sem
open Cert.ReferenceIdeal Cert.ReferenceIdeal.Read Cert.Spec

/-- The prompt group's rows. -/
abbrev hP (m' : (ℓ : Loc nD τ sig) → Buf (Elt Ideal) ℓ) (c : Dev nD) : Fin 8192 → Fin 4096 → EReal :=
  rowP (m' ((c : Thread nD τ).loc main_arg0)) (m' ((c : Thread nD τ).loc main_arg2)) (m' ((c : Thread nD τ).loc main_arg5))
    (m' ((c : Thread nD τ).loc main_arg6)) (m' ((c : Thread nD τ).loc main_arg7))

/-- The sample group's rows. -/
abbrev hS (m' : (ℓ : Loc nD τ sig) → Buf (Elt Ideal) ℓ) (c : Dev nD) : Fin 512 → Fin 4096 → EReal :=
  rowS (m' ((c : Thread nD τ).loc main_arg1)) (m' ((c : Thread nD τ).loc main_arg3)) (m' ((c : Thread nD τ).loc main_arg5))
    (m' ((c : Thread nD τ).loc main_arg6)) (m' ((c : Thread nD τ).loc main_arg7))

/-- The reference's run, its results named by the functions of `Spec.lean`. -/
theorem run_spec (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c : Thread nD τ).loc main_v96) = convState lastP (hP m' c) (m' ((c : Thread nD τ).loc main_arg8))
      ∧ r.2.mem ((c : Thread nD τ).loc main_v97) = convState lastS (hS m' c) (m' ((c : Thread nD τ).loc main_arg8))
      ∧ r.2.mem ((c : Thread nD τ).loc main_v99) = projs 0 (by norm_num) (hP m' c) (m' ((c : Thread nD τ).loc main_arg8))
      ∧ r.2.mem ((c : Thread nD τ).loc main_v101) = projs 18560 (by norm_num) (hP m' c) (m' ((c : Thread nD τ).loc main_arg8))
      ∧ r.2.mem ((c : Thread nD τ).loc main_v102) = dtsOf (hP m' c) (m' ((c : Thread nD τ).loc main_arg8)) (m' ((c : Thread nD τ).loc main_arg9))
      ∧ r.2.mem ((c : Thread nD τ).loc main_v105) = projs 0 (by norm_num) (hS m' c) (m' ((c : Thread nD τ).loc main_arg8))
      ∧ r.2.mem ((c : Thread nD τ).loc main_v108) = projs 18560 (by norm_num) (hS m' c) (m' ((c : Thread nD τ).loc main_arg8))
      ∧ r.2.mem ((c : Thread nD τ).loc main_v110) = dtsOf (hS m' c) (m' ((c : Thread nD τ).loc main_arg8)) (m' ((c : Thread nD τ).loc main_arg9))
      ∧ r.2.mem ((c : Thread nD τ).loc main_v112) = layer (m' ((c : Thread nD τ).loc main_arg10))
      ∧ r.2.mem ((c : Thread nD τ).loc main_v114) = layer (m' ((c : Thread nD τ).loc main_arg12))
      ∧ r.2.mem ((c : Thread nD τ).loc main_v116) = layer (m' ((c : Thread nD τ).loc main_arg14))
      ∧ r.2.mem ((c : Thread nD τ).loc main_v118) = layer (m' ((c : Thread nD τ).loc main_arg11))
      ∧ r.2.mem ((c : Thread nD τ).loc main_v120) = layer (m' ((c : Thread nD τ).loc main_arg13))
      ∧ r.2.mem ((c : Thread nD τ).loc main_arg0) = m' ((c : Thread nD τ).loc main_arg0)
      ∧ r.2.mem ((c : Thread nD τ).loc main_arg1) = m' ((c : Thread nD τ).loc main_arg1)
      ∧ r.2.mem ((c : Thread nD τ).loc main_arg2) = m' ((c : Thread nD τ).loc main_arg2)
      ∧ r.2.mem ((c : Thread nD τ).loc main_arg3) = m' ((c : Thread nD τ).loc main_arg3)
      ∧ r.2.mem ((c : Thread nD τ).loc main_arg4) = m' ((c : Thread nD τ).loc main_arg4)
      ∧ r.2.mem ((c : Thread nD τ).loc main_arg5) = m' ((c : Thread nD τ).loc main_arg5)
      ∧ r.2.mem ((c : Thread nD τ).loc main_arg6) = m' ((c : Thread nD τ).loc main_arg6)
      ∧ r.2.mem ((c : Thread nD τ).loc main_arg7) = m' ((c : Thread nD τ).loc main_arg7)
      ∧ r.2.mem ((c : Thread nD τ).loc main_arg8) = m' ((c : Thread nD τ).loc main_arg8)
      ∧ r.2.mem ((c : Thread nD τ).loc main_arg9) = m' ((c : Thread nD τ).loc main_arg9)
      ∧ r.2.mem ((c : Thread nD τ).loc main_arg10) = m' ((c : Thread nD τ).loc main_arg10)
      ∧ r.2.mem ((c : Thread nD τ).loc main_arg11) = m' ((c : Thread nD τ).loc main_arg11)
      ∧ r.2.mem ((c : Thread nD τ).loc main_arg12) = m' ((c : Thread nD τ).loc main_arg12)
      ∧ r.2.mem ((c : Thread nD τ).loc main_arg13) = m' ((c : Thread nD τ).loc main_arg13)
      ∧ r.2.mem ((c : Thread nD τ).loc main_arg14) = m' ((c : Thread nD τ).loc main_arg14) :=
  (θ_run (defs (F := Ideal)) _ _).mono (fun r h c => by
    obtain ⟨h0, h1, h2, h3, h4, h5, h6, h7, h8, h9, h10, h11, h12, ha⟩ := h c
    exact ⟨h0.trans (sconv_p _ _ _ _ _ _),
      h1.trans (sconv_s _ _ _ _ _ _ _),
      h2.trans (proj_a_p _ _ _ _ _ _),
      h3.trans (proj_b_p _ _ _ _ _ _),
      h4.trans ((val_main_v102_eq m' c).trans (dts_p _ _ _ _ _ _ _)),
      h5.trans (proj_a_s _ _ _ _ _ _),
      h6.trans (proj_b_s _ _ _ _ _ _),
      h7.trans ((val_main_v110_eq m' c).trans (dts_s _ _ _ _ _ _ _)),
      h8.trans (layer_112 _),
      h9.trans (layer_114 _),
      h10.trans (layer_116 _),
      h11.trans (layer_118 _),
      h12.trans (layer_120 _), ha⟩)
    (Cert.ReferenceIdeal.Value.run (F := Ideal) m' ρ)

end Cert.ReferenceIdeal.Vals

namespace Cert.KernelIdeal.Vals

open Idealize.ShloMosaic Idealize.ShloMosaic.TcCoe Idealize.SL.Sem
open Cert.KernelIdeal Cert.KernelIdeal.Gen Cert.Spec

/-- The kernel's run, its results named by the same functions. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v101) = convState lastP (hP m c) (m ((c : Thread nD τ).loc main_arg8))
      ∧ r.2.mem ((c : Thread nD τ).loc main_v102) = convState lastS (hS m c) (m ((c : Thread nD τ).loc main_arg8))
      ∧ r.2.mem ((c : Thread nD τ).loc main_v79_0) = projs 0 (by norm_num) (hP m c) (m ((c : Thread nD τ).loc main_arg8))
      ∧ r.2.mem ((c : Thread nD τ).loc main_v80_0) = projs 18560 (by norm_num) (hP m c) (m ((c : Thread nD τ).loc main_arg8))
      ∧ r.2.mem ((c : Thread nD τ).loc main_v82) = dtsOf (hP m c) (m ((c : Thread nD τ).loc main_arg8)) (m ((c : Thread nD τ).loc main_arg9))
      ∧ r.2.mem ((c : Thread nD τ).loc main_v90) = projs 0 (by norm_num) (hS m c) (m ((c : Thread nD τ).loc main_arg8))
      ∧ r.2.mem ((c : Thread nD τ).loc main_v91) = projs 18560 (by norm_num) (hS m c) (m ((c : Thread nD τ).loc main_arg8))
      ∧ r.2.mem ((c : Thread nD τ).loc main_v93) = dtsOf (hS m c) (m ((c : Thread nD τ).loc main_arg8)) (m ((c : Thread nD τ).loc main_arg9))
      ∧ r.2.mem ((c : Thread nD τ).loc main_v79_3) = layer (m ((c : Thread nD τ).loc main_arg10))
      ∧ r.2.mem ((c : Thread nD τ).loc main_v79_4) = layer (m ((c : Thread nD τ).loc main_arg12))
      ∧ r.2.mem ((c : Thread nD τ).loc main_v80_1) = layer (m ((c : Thread nD τ).loc main_arg14))
      ∧ r.2.mem ((c : Thread nD τ).loc main_v80_2) = layer (m ((c : Thread nD τ).loc main_arg11))
      ∧ r.2.mem ((c : Thread nD τ).loc main_v80_3) = layer (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run (defs (F := Ideal)) _ _).mono (fun r h c => ⟨(h c _ (mem_uc main_v101 (by decide))).trans (end_sconv_p m ρ c),
      (h c _ (mem_uc main_v102 (by decide))).trans (end_sconv_s m ρ c),
      (h c _ (mem_uc main_v79_0 (by decide))).trans (end_proj_a_p m ρ c),
      (h c _ (mem_uc main_v80_0 (by decide))).trans (end_proj_b_p m ρ c),
      (h c _ (mem_uc main_v82 (by decide))).trans (end_dt_p m ρ c),
      (h c _ (mem_uc main_v90 (by decide))).trans (end_proj_a_s m ρ c),
      (h c _ (mem_uc main_v91 (by decide))).trans (end_proj_b_s m ρ c),
      (h c _ (mem_uc main_v93 (by decide))).trans (end_dt_s m ρ c),
      (h c _ (mem_uc main_v79_3 (by decide))).trans (end_w_ssd_out m ρ c),
      (h c _ (mem_uc main_v79_4 (by decide))).trans (end_w_out m ρ c),
      (h c _ (mem_uc main_v80_1 (by decide))).trans (end_peer_u m ρ c),
      (h c _ (mem_uc main_v80_2 (by decide))).trans (end_w_conf_out m ρ c),
      (h c _ (mem_uc main_v80_3 (by decide))).trans (end_peer_wq m ρ c),
      (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c),
      (h c _ (mem_uc main_arg7 (by decide))).trans (W17_main_arg7 m ρ c),
      (h c _ (mem_uc main_arg8 (by decide))).trans (W17_main_arg8 m ρ c),
      (h c _ (mem_uc main_arg9 (by decide))).trans (W17_main_arg9 m ρ c),
      (h c _ (mem_uc main_arg10 (by decide))).trans (W17_main_arg10 m ρ c),
      (h c _ (mem_uc main_arg11 (by decide))).trans (W17_main_arg11 m ρ c),
      (h c _ (mem_uc main_arg12 (by decide))).trans (W17_main_arg12 m ρ c),
      (h c _ (mem_uc main_arg13 (by decide))).trans (W17_main_arg13 m ρ c),
      (h c _ (mem_uc main_arg14 (by decide))).trans (W17_main_arg14 m ρ c)⟩)
    (run_all m ρ)

end Cert.KernelIdeal.Vals

namespace Cert.Proof

open Idealize.ShloMosaic Idealize.SL.Sem
open Cert.Spec

/-- The idealized kernel and the reference return the same arrays. -/
theorem algebraic : Cert.algebraic_KernelIdeal_ReferenceIdeal := by
  intro m ρ m' ρ' _ hagree
  refine ⟨fun c => convState lastP (KernelIdeal.Vals.hP m c) (m ((c.tc : Thread KernelIdeal.nD KernelIdeal.τ).loc KernelIdeal.main_arg8)),
    fun c => convState lastS (KernelIdeal.Vals.hS m c) (m ((c.tc : Thread KernelIdeal.nD KernelIdeal.τ).loc KernelIdeal.main_arg8)),
    fun c => projs 0 (by norm_num) (KernelIdeal.Vals.hP m c) (m ((c.tc : Thread KernelIdeal.nD KernelIdeal.τ).loc KernelIdeal.main_arg8)),
    fun c => projs 18560 (by norm_num) (KernelIdeal.Vals.hP m c) (m ((c.tc : Thread KernelIdeal.nD KernelIdeal.τ).loc KernelIdeal.main_arg8)),
    fun c => dtsOf (KernelIdeal.Vals.hP m c) (m ((c.tc : Thread KernelIdeal.nD KernelIdeal.τ).loc KernelIdeal.main_arg8)) (m ((c.tc : Thread KernelIdeal.nD KernelIdeal.τ).loc KernelIdeal.main_arg9)),
    fun c => projs 0 (by norm_num) (KernelIdeal.Vals.hS m c) (m ((c.tc : Thread KernelIdeal.nD KernelIdeal.τ).loc KernelIdeal.main_arg8)),
    fun c => projs 18560 (by norm_num) (KernelIdeal.Vals.hS m c) (m ((c.tc : Thread KernelIdeal.nD KernelIdeal.τ).loc KernelIdeal.main_arg8)),
    fun c => dtsOf (KernelIdeal.Vals.hS m c) (m ((c.tc : Thread KernelIdeal.nD KernelIdeal.τ).loc KernelIdeal.main_arg8)) (m ((c.tc : Thread KernelIdeal.nD KernelIdeal.τ).loc KernelIdeal.main_arg9)),
    fun c => layer (m ((c.tc : Thread KernelIdeal.nD KernelIdeal.τ).loc KernelIdeal.main_arg10)),
    fun c => layer (m ((c.tc : Thread KernelIdeal.nD KernelIdeal.τ).loc KernelIdeal.main_arg12)),
    fun c => layer (m ((c.tc : Thread KernelIdeal.nD KernelIdeal.τ).loc KernelIdeal.main_arg14)),
    fun c => layer (m ((c.tc : Thread KernelIdeal.nD KernelIdeal.τ).loc KernelIdeal.main_arg11)),
    fun c => layer (m ((c.tc : Thread KernelIdeal.nD KernelIdeal.τ).loc KernelIdeal.main_arg13)),
    KernelIdeal.Vals.run_spec m ρ, ?_⟩
  refine (θ_run (Cert.ReferenceIdeal.defs (F := Ideal)) _ _).mono (fun r h c => ?_) (ReferenceIdeal.Vals.run_spec m' ρ')
  obtain ⟨e0, e1, e2, e3, e4, e5, e6, e7, e8, e9, e10, e11, e12, e13, e14⟩ := hagree c
  obtain ⟨h0, h1, h2, h3, h4, h5, h6, h7, h8, h9, h10, h11, h12, ha⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, ha⟩ <;>
    simp only [ReferenceIdeal.Vals.hP, ReferenceIdeal.Vals.hS, KernelIdeal.Vals.hP, KernelIdeal.Vals.hS, e0, e1, e2, e3, e4, e5, e6, e7, e8, e9, e10, e11, e12, e13, e14]

/-- The scan's reference ends, keeps its arguments and signals nothing. -/
theorem scan_reference_frame : Cert.quiescent_ScanReferenceIdeal :=
  fun m ρ _ => (θ_run Cert.ScanReferenceIdeal.defs _ _).mono (fun r h => ⟨fun c => by
    obtain ⟨_, _, ha⟩ := h c
    exact ha, Idealize.ShloMosaic.sem_eq_zero_of_no_sems (by decide) r.2⟩) (Cert.ScanReferenceIdeal.Value.run (F := Ideal) m ρ)

theorem claim : Cert.Claim :=
  ⟨Cert.Kernel.Gen.facts, Cert.KernelIdeal.Gen.facts, Cert.ReferenceIdeal.Gen.facts,
    Cert.Mixer.Gen.facts, Cert.MixerIdeal.Gen.facts, Cert.MixerReferenceIdeal.Gen.facts,
    Cert.Scan.Gen.facts, Cert.ScanIdeal.Gen.facts, Cert.ScanReferenceIdeal.Gen.facts,
    Cert.Gate.Gen.facts, Cert.GateIdeal.Gen.facts, Cert.GateReferenceIdeal.Gen.facts,
    Cert.Closing.Gen.facts, Cert.ClosingIdeal.Gen.facts, Cert.ClosingReferenceIdeal.Gen.facts, Cert.Pre_finite.Gen.facts,
    fun m ρ _ => Cert.Kernel.Gen.frame m ρ, fun m ρ _ => Cert.KernelIdeal.Gen.frame m ρ,
    fun m ρ _ => (θ_run Cert.ReferenceIdeal.defs _ _).mono (fun r h => ⟨fun c => by
      obtain ⟨_, _, _, _, _, _, _, _, _, _, _, _, _, ha⟩ := h c
      exact ha, Idealize.ShloMosaic.sem_eq_zero_of_no_sems (by decide) r.2⟩) (Cert.ReferenceIdeal.Value.run (F := Ideal) m ρ),
    fun m ρ _ => Cert.Mixer.Gen.frame m ρ, fun m ρ _ => Cert.MixerIdeal.Gen.frame m ρ,
    fun m ρ _ => (θ_run Cert.MixerReferenceIdeal.defs _ _).mono (fun r h => ⟨fun c => by
      obtain ⟨_, _, _, _, _, _, _, ha⟩ := h c
      exact ha, Idealize.ShloMosaic.sem_eq_zero_of_no_sems (by decide) r.2⟩) (Cert.MixerReferenceIdeal.Value.run (F := Ideal) m ρ),
    fun m ρ _ => Cert.Scan.Gen.frame m ρ, fun m ρ _ => Cert.ScanIdeal.Gen.frame m ρ, fun m ρ _ => Cert.ScanIdeal.Gen.frame m ρ,
    scan_reference_frame, fun m ρ _ => scan_reference_frame m ρ trivial,
    fun m ρ _ => Cert.Gate.Gen.frame m ρ, fun m ρ _ => Cert.GateIdeal.Gen.frame m ρ,
    fun m ρ _ => (θ_run Cert.GateReferenceIdeal.defs _ _).mono (fun r h => ⟨fun c => by
      obtain ⟨_, ha⟩ := h c
      exact ha, Idealize.ShloMosaic.sem_eq_zero_of_no_sems (by decide) r.2⟩) (Cert.GateReferenceIdeal.Value.run (F := Ideal) m ρ),
    fun m ρ _ => Cert.Closing.Gen.frame m ρ, fun m ρ _ => Cert.ClosingIdeal.Gen.frame m ρ,
    fun m ρ _ => (θ_run Cert.ClosingReferenceIdeal.defs _ _).mono (fun r h => ⟨fun c => by
      obtain ⟨_, _, ha⟩ := h c
      exact ha, Idealize.ShloMosaic.sem_eq_zero_of_no_sems (by decide) r.2⟩) (Cert.ClosingReferenceIdeal.Value.run (F := Ideal) m ρ),
    trivial, algebraic, trivial, mixer_algebraic, trivial, scan_algebraic, trivial, gate_algebraic, trivial, closing_algebraic⟩

end Cert.Proof

end
